-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x4096 : Shape := ⟨2, ![8192, 4096]⟩
abbrev S8192x2048 : Shape := ⟨2, ![8192, 2048]⟩
abbrev S8192x6144 : Shape := ⟨2, ![8192, 6144]⟩
abbrev S4x2048 : Shape := ⟨2, ![4, 2048]⟩
abbrev S2048 : Shape := ⟨1, ![2048]⟩
abbrev S16x128x128 : Shape := ⟨3, ![16, 128, 128]⟩
abbrev S1x2048 : Shape := ⟨2, ![1, 2048]⟩
abbrev S2048x256 : Shape := ⟨2, ![2048, 256]⟩
abbrev S4x256 : Shape := ⟨2, ![4, 256]⟩
abbrev S1x256 : Shape := ⟨2, ![1, 256]⟩
abbrev S2x128x128 : Shape := ⟨3, ![2, 128, 128]⟩
abbrev S2048x128 : Shape := ⟨2, ![2048, 128]⟩
abbrev S1x128x128 : Shape := ⟨3, ![1, 128, 128]⟩
abbrev S128x128 : Shape := ⟨2, ![128, 128]⟩
abbrev S256x8x256 : Shape := ⟨3, ![256, 8, 256]⟩
abbrev S8x256 : Shape := ⟨2, ![8, 256]⟩

abbrev nBuf : Space → Nat
  | .hbm => 17
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x6144, .bf16⟩
  | .hbm, ⟨3, _⟩ => ⟨S4x2048, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S16x128x128, .f32⟩
  | .hbm, ⟨8, _⟩ => ⟨S2048, .f32⟩
  | .hbm, ⟨9, _⟩ => ⟨S2048, .f32⟩
  | .hbm, ⟨10, _⟩ => ⟨S16x128x128, .bf16⟩
  | .hbm, ⟨11, _⟩ => ⟨S16x128x128, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8192x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S2x128x128, .bf16⟩
  | .local _ .vmem, ⟨11, _⟩ => ⟨S2x128x128, .bf16⟩
  | .local _ .vmem, ⟨12, _⟩ => ⟨S1x256, .f32⟩
  | .local _ .vmem, ⟨13, _⟩ => ⟨S1x256, .f32⟩
  | .local _ .vmem, ⟨14, _⟩ => ⟨S2x128x128, .bf16⟩
  | .local _ .vmem, ⟨15, _⟩ => ⟨S2x128x128, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .f32⟩
  | .local _ .vmem, ⟨23, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c256_i32 : BitVec 32 := 256#32
  let v145 : BitVec 32 := Scalar.addi c0_i32 c256_i32
  let c1_i32_66 : BitVec 32 := 1#32
  ⟨c0_i32, v145, c1_i32_66⟩
def k0_mult1 (k0_t1 : Fin k0_t1_loop.trips) : BitVec 32 :=
  let c0_i32 : BitVec 32 := 0#32
  let c1_i32_66 : BitVec 32 := 1#32
  let arg15 : BitVec 32 := Scf.iv c0_i32 c1_i32_66 k0_t1
  let c8_i32 : BitVec 32 := 8#32
  let v156 : BitVec 32 := Scalar.muli arg15 c8_i32
  v156
def k0_off1 (k0_t1 : Fin k0_t1_loop.trips) : Fin 2 → Nat :=
  let c0_i32 : BitVec 32 := 0#32
  let c1_i32_66 : BitVec 32 := 1#32
  let arg15 : BitVec 32 := Scf.iv c0_i32 c1_i32_66 k0_t1
  let c8_i32 : BitVec 32 := 8#32
  let v156 : BitVec 32 := Scalar.muli arg15 c8_i32
  let v157 : BitVec 32 := v156
  let v158 : Index := Scalar.indexCast v157
  let c0_76 : Index := 0#32
  ![v158.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x4096 : Shape := ⟨2, ![8192, 4096]⟩
abbrev S8192x2048 : Shape := ⟨2, ![8192, 2048]⟩
abbrev S8192x6144 : Shape := ⟨2, ![8192, 6144]⟩
abbrev S4x2048 : Shape := ⟨2, ![4, 2048]⟩
abbrev S2048 : Shape := ⟨1, ![2048]⟩
abbrev S16x128x128 : Shape := ⟨3, ![16, 128, 128]⟩
abbrev S4x2048x2048 : Shape := ⟨3, ![4, 2048, 2048]⟩
abbrev S_ : Shape := ⟨0, ![]⟩
abbrev S4x2051x2048 : Shape := ⟨3, ![4, 2051, 2048]⟩
abbrev S1x2048 : Shape := ⟨2, ![1, 2048]⟩
abbrev S1x1x2048 : Shape := ⟨3, ![1, 1, 2048]⟩
abbrev S4x2048x16x128 : Shape := ⟨4, ![4, 2048, 16, 128]⟩
abbrev S16x128x4x2048 : Shape := ⟨4, ![16, 128, 4, 2048]⟩
abbrev S2048x4x2048 : Shape := ⟨3, ![2048, 4, 2048]⟩
abbrev S1x4x2048 : Shape := ⟨3, ![1, 4, 2048]⟩

abbrev nBuf : Space → Nat
  | .hbm => 144
  | .vmem => 0
  | .smem => 0
  | _ => 0

abbrev hbmTy0_0 (i : Nat) : BufTy := match i % 128 with
  | 0 => ⟨S8192x4096, .f32⟩
  | 1 => ⟨S8192x2048, .bf16⟩
  | 2 => ⟨S8192x6144, .bf16⟩
  | 3 => ⟨S4x2048, .f32⟩
  | 4 => ⟨S2048, .f32⟩
  | 5 => ⟨S16x128x128, .f32⟩
  | 6 => ⟨S2048, .f32⟩
  | 7 => ⟨S16x128x128, .f32⟩
  | 8 => ⟨S2048, .f32⟩
  | 9 => ⟨S2048, .f32⟩
  | 10 => ⟨S8192x2048, .f32⟩
  | 11 => ⟨S4x2048x2048, .f32⟩
  | 12 => ⟨S8192x2048, .f32⟩
  | 13 => ⟨S4x2048x2048, .f32⟩
  | 14 => ⟨S8192x6144, .f32⟩
  | 15 => ⟨S8192x2048, .f32⟩
  | 16 => ⟨S4x2048x2048, .f32⟩
  | 17 => ⟨S_, .i32⟩
  | 18 => ⟨S_, .f32⟩
  | 19 => ⟨S4x2051x2048, .f32⟩
  | 20 => ⟨S4x2048x2048, .f32⟩
  | 21 => ⟨S1x2048, .f32⟩
  | 22 => ⟨S2048, .f32⟩
  | 23 => ⟨S1x1x2048, .f32⟩
  | 24 => ⟨S4x2048x2048, .f32⟩
  | 25 => ⟨S4x2048x2048, .f32⟩
  | 26 => ⟨S1x1x2048, .f32⟩
  | 27 => ⟨S4x2048x2048, .f32⟩
  | 28 => ⟨S4x2048x2048, .f32⟩
  | 29 => ⟨S4x2048x2048, .f32⟩
  | 30 => ⟨S1x2048, .f32⟩
  | 31 => ⟨S2048, .f32⟩
  | 32 => ⟨S1x1x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S1x2048, .f32⟩
  | 38 => ⟨S2048, .f32⟩
  | 39 => ⟨S1x1x2048, .f32⟩
  | 40 => ⟨S4x2048x2048, .f32⟩
  | 41 => ⟨S4x2048x2048, .f32⟩
  | 42 => ⟨S4x2048x2048, .f32⟩
  | 43 => ⟨S4x2048x2048, .f32⟩
  | 44 => ⟨S1x2048, .f32⟩
  | 45 => ⟨S2048, .f32⟩
  | 46 => ⟨S1x1x2048, .f32⟩
  | 47 => ⟨S4x2048x2048, .f32⟩
  | 48 => ⟨S4x2048x2048, .f32⟩
  | 49 => ⟨S4x2048x2048, .f32⟩
  | 50 => ⟨S4x2048x16x128, .f32⟩
  | 51 => ⟨S16x128x4x2048, .f32⟩
  | 52 => ⟨S4x2048x16x128, .f32⟩
  | 53 => ⟨S4x2048x2048, .f32⟩
  | 54 => ⟨S1x1x2048, .f32⟩
  | 55 => ⟨S4x2048x2048, .f32⟩
  | 56 => ⟨S4x2048x2048, .f32⟩
  | 57 => ⟨S4x2048x2048, .f32⟩
  | 58 => ⟨S4x2048x2048, .f32⟩
  | 59 => ⟨S_, .f32⟩
  | 60 => ⟨S4x2048x2048, .f32⟩
  | 61 => ⟨S4x2048x2048, .f32⟩
  | 62 => ⟨S_, .f32⟩
  | 63 => ⟨S4x2048x2048, .f32⟩
  | 64 => ⟨S4x2048x2048, .f32⟩
  | 65 => ⟨S16x128x4x2048, .f32⟩
  | 66 => ⟨S4x2048x16x128, .f32⟩
  | 67 => ⟨S4x2048x2048, .f32⟩
  | 68 => ⟨S1x1x2048, .f32⟩
  | 69 => ⟨S4x2048x2048, .f32⟩
  | 70 => ⟨S4x2048x2048, .f32⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S_, .f32⟩
  | 80 => ⟨S4x2048x2048, .f32⟩
  | 81 => ⟨S4x2048x2048, .f32⟩
  | 82 => ⟨S2048, .f32⟩
  | 83 => ⟨S_, .f32⟩
  | 84 => ⟨S2048, .f32⟩
  | 85 => ⟨S2048, .f32⟩
  | 86 => ⟨S2048, .f32⟩
  | 87 => ⟨S2048, .f32⟩
  | 88 => ⟨S2048, .i1⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S1x1x2048, .f32⟩
  | 98 => ⟨S4x2048x2048, .f32⟩
  | 99 => ⟨S4x2048x2048, .f32⟩
  | 100 => ⟨S4x2048x2048, .f32⟩
  | 101 => ⟨S_, .f32⟩
  | 102 => ⟨S4x2048x2048, .f32⟩
  | 103 => ⟨S4x2048x2048, .f32⟩
  | 104 => ⟨S4x2048x2048, .f32⟩
  | 105 => ⟨S4x2048x2048, .f32⟩
  | 106 => ⟨S4x2048x2048, .f32⟩
  | 107 => ⟨S4x2048x2048, .f32⟩
  | 108 => ⟨S4x2048x2048, .f32⟩
  | 109 => ⟨S_, .f32⟩
  | 110 => ⟨S4x2048, .f32⟩
  | 111 => ⟨S2048x4x2048, .f32⟩
  | 112 => ⟨S2048x4x2048, .f32⟩
  | 113 => ⟨S_, .f32⟩
  | 114 => ⟨S2048x4x2048, .f32⟩
  | 115 => ⟨S_, .i32⟩
  | 116 => ⟨S2048x4x2048, .f32⟩
  | 117 => ⟨S2048x4x2048, .f32⟩
  | 118 => ⟨S_, .i32⟩
  | 119 => ⟨S4x2048, .f32⟩
  | 120 => ⟨S2048x4x2048, .f32⟩
  | 121 => ⟨S_, .i32⟩
  | 122 => ⟨S_, .i1⟩
  | 123 => ⟨S_, .i32⟩
  | 124 => ⟨S_, .i32⟩
  | 125 => ⟨S1x4x2048, .f32⟩
  | 126 => ⟨S4x2048, .f32⟩
  | 127 => ⟨S_, .i32⟩
  | _ => ⟨S8192x4096, .f32⟩

abbrev hbmTy0_1 (i : Nat) : BufTy := match i % 128 with
  | 0 => ⟨S_, .i32⟩
  | 1 => ⟨S1x4x2048, .f32⟩
  | 2 => ⟨S4x2048, .f32⟩
  | 3 => ⟨S4x2048, .f32⟩
  | 4 => ⟨S4x2048, .f32⟩
  | 5 => ⟨S1x4x2048, .f32⟩
  | 6 => ⟨S_, .i32⟩
  | 7 => ⟨S_, .i32⟩
  | 8 => ⟨S2048x4x2048, .f32⟩
  | 9 => ⟨S_, .i32⟩
  | 10 => ⟨S_, .i32⟩
  | 11 => ⟨S4x2048x2048, .f32⟩
  | 12 => ⟨S4x2048x2048, .f32⟩
  | 13 => ⟨S4x2048x2048, .f32⟩
  | 14 => ⟨S8192x2048, .f32⟩
  | 15 => ⟨S8192x2048, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_v47 : Ref sig .tc := ⟨.hbm, 60, rfl⟩
abbrev main_v48 : Ref sig .tc := ⟨.hbm, 61, rfl⟩
abbrev main_cst_0 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_1 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_5 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_6 : Ref sig .tc := ⟨.hbm, 113, rfl⟩
abbrev main_v81 : Ref sig .tc := ⟨.hbm, 114, rfl⟩
abbrev main_c_7 : Ref sig .tc := ⟨.hbm, 115, rfl⟩
abbrev main_v82_0 : Ref sig .tc := ⟨.hbm, 116, rfl⟩
abbrev main_v82_1 : Ref sig .tc := ⟨.hbm, 117, rfl⟩
abbrev main_v82_2 : Ref sig .tc := ⟨.hbm, 118, rfl⟩
abbrev main_v82_3 : Ref sig .tc := ⟨.hbm, 119, rfl⟩
abbrev main_v82_4 : Ref sig .tc := ⟨.hbm, 120, rfl⟩
abbrev main_while0c_c_12 : Ref sig .tc := ⟨.hbm, 121, rfl⟩
abbrev main_while0c_v88 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_v0 : Ref sig .tc := ⟨.hbm, 125, rfl⟩
abbrev main_while0b_v88 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_v0 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_call4_v0 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_v92 : Ref sig .tc := ⟨.hbm, 136, rfl⟩
abbrev main_while0b_c_12 : Ref sig .tc := ⟨.hbm, 137, rfl⟩
abbrev main_while0b_v93 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x2048 : Shape := ⟨2, ![8192, 2048]⟩
abbrev S6144x2048 : Shape := ⟨2, ![6144, 2048]⟩
abbrev S2048 : Shape := ⟨1, ![2048]⟩
abbrev S3x2048x2048 : Shape := ⟨3, ![3, 2048, 2048]⟩
abbrev S1x2048 : Shape := ⟨2, ![1, 2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S6144x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S6144x2048, .bf16⟩
  | .hbm, ⟨8, _⟩ => ⟨S3x2048x2048, .bf16⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S3x2048x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x2048 : Shape := ⟨2, ![8192, 2048]⟩
abbrev S6144x2048 : Shape := ⟨2, ![6144, 2048]⟩
abbrev S2048 : Shape := ⟨1, ![2048]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S6144x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x6144, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5504x2048 : Shape := ⟨2, ![5504, 2048]⟩
abbrev S2048 : Shape := ⟨1, ![2048]⟩
abbrev S1x2048 : Shape := ⟨2, ![1, 2048]⟩
abbrev S256x5504 : Shape := ⟨2, ![256, 5504]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S5504x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S256x5504, .bf16⟩
  | .local _ .vmem, ⟨1, _⟩ => ⟨S256x5504, .bf16⟩
  | .local _ .vmem, ⟨2, _⟩ => ⟨S5504x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5504x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x5632 : Shape := ⟨2, ![8192, 5632]⟩
abbrev S8192x2048 : Shape := ⟨2, ![8192, 2048]⟩
abbrev S5504x2048 : Shape := ⟨2, ![5504, 2048]⟩
abbrev S2048 : Shape := ⟨1, ![2048]⟩
abbrev S8192x5504 : Shape := ⟨2, ![8192, 5504]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S8192x5504, .bf16⟩
  | .hbm, ⟨6, _⟩ => ⟨S8192x5504, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S8192x6144 : Shape := ⟨2, ![8192, 6144]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S2x16464x2048, .f32⟩
  | .hbm, ⟨3, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S2x1024x2048, .f32⟩
  | .local _ .vmem, ⟨5, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_13 : BitVec 32 := 0#32
  let v26 : BitVec 1 := Scalar.cmpi .eq arg0 c0_i32_13
  let v27 : BitVec 32 := Scalar.extui v26
  let c0_i32_14 : BitVec 32 := 0#32
  let v28 : BitVec 1 := Scalar.cmpi .ne v27 c0_i32_14
  v28

def k0_mult1 : BitVec 32 :=
  let c10320_i32_25 : BitVec 32 := 10320#32
  c10320_i32_25
def k0_cond3 (i : grid0.Coords) : BitVec 1 :=
  let arg0 : BitVec 32 := BitVec.ofNat 32 (i 0).val
  let c1_i32_15 : BitVec 32 := 1#32
  let v29 : BitVec 32 := Scalar.addi arg0 c1_i32_15
  let c6_i32 : BitVec 32 := 6#32
  let v30 : BitVec 1 := Scalar.cmpi .slt v29 c6_i32
  let v31 : BitVec 32 := Scalar.extui v30
  let c0_i32_16 : BitVec 32 := 0#32
  let v32 : BitVec 1 := Scalar.cmpi .ne v31 c0_i32_16
  v32

def k0_mult2 (i : grid0.Coords) : BitVec 32 :=
  let c10320_i32_28 : BitVec 32 := 10320#32
  let arg0 : BitVec 32 := BitVec.ofNat 32 (i 0).val
  let c1_i32_25 : BitVec 32 := 1#32
  let v49 : BitVec 32 := Scalar.addi arg0 c1_i32_25
  let c1024_i32_27 : BitVec 32 := 1024#32
  let v51 : BitVec 32 := Scalar.muli v49 c1024_i32_27
  let v52 : BitVec 32 := Scalar.addi c10320_i32_28 v51
  v52
def k0_off1 (i : grid0.Coords) : Fin 1 → Nat :=
  let c1_i32_26 : BitVec 32 := 1#32
  let arg0 : BitVec 32 := BitVec.ofNat 32 (i 0).val
  let c2_i32 : BitVec 32 := 2#32
  let c0_i32_9 : BitVec 32 := 0#32
  let v16 : BitVec 1 := Scalar.cmpi .eq c2_i32 c0_i32_9
  let c1_i32 : BitVec 32 := 1#32
  let v17 : BitVec 32 := Scalar.select v16 c1_i32 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let v50 : BitVec 32 := Scalar.subi c1_i32_26 v25
  ![v50.toNat]
def k0_off2 (i : grid0.Coords) : Fin 3 → Nat :=
  let c1_i32_26 : BitVec 32 := 1#32
  let arg0 : BitVec 32 := BitVec.ofNat 32 (i 0).val
  let c2_i32 : BitVec 32 := 2#32
  let c0_i32_9 : BitVec 32 := 0#32
  let v16 : BitVec 1 := Scalar.cmpi .eq c2_i32 c0_i32_9
  let c1_i32 : BitVec 32 := 1#32
  let v17 : BitVec 32 := Scalar.select v16 c1_i32 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let v50 : BitVec 32 := Scalar.subi c1_i32_26 v25
  let c0_i32_30 : BitVec 32 := 0#32
  let c0_i32_31 : BitVec 32 := 0#32
  ![v50.toNat, 0, 0]
def k0_off3 (i : grid0.Coords) : Fin 3 → Nat :=
  let c0_i32_29 : BitVec 32 := 0#32
  let c10320_i32_28 : BitVec 32 := 10320#32
  let arg0 : BitVec 32 := BitVec.ofNat 32 (i 0).val
  let c1_i32_25 : BitVec 32 := 1#32
  let v49 : BitVec 32 := Scalar.addi arg0 c1_i32_25
  let c1024_i32_27 : BitVec 32 := 1024#32
  let v51 : BitVec 32 := Scalar.muli v49 c1024_i32_27
  let v52 : BitVec 32 := Scalar.addi c10320_i32_28 v51
  let v53 : BitVec 32 := v52
  let c0_i32_32 : BitVec 32 := 0#32
  ![0, v53.toNat, 0]
def k0_mult3 (i : grid0.Coords) : BitVec 32 :=
  let c10320_i32 : BitVec 32 := 10320#32
  let arg0 : BitVec 32 := BitVec.ofNat 32 (i 0).val
  let c1024_i32 : BitVec 32 := 1024#32
  let v33 : BitVec 32 := Scalar.muli arg0 c1024_i32
  let v34 : BitVec 32 := Scalar.addi c10320_i32 v33
  v34
def k0_off4 (i : grid0.Coords) : Fin 1 → Nat :=
  let arg0 : BitVec 32 := BitVec.ofNat 32 (i 0).val
  let c2_i32 : BitVec 32 := 2#32
  let c0_i32_9 : BitVec 32 := 0#32
  let v16 : BitVec 1 := Scalar.cmpi .eq c2_i32 c0_i32_9
  let c1_i32 : BitVec 32 := 1#32
  let v17 : BitVec 32 := Scalar.select v16 c1_i32 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  ![v25.toNat]
def k0_off5 (i : grid0.Coords) : Fin 3 → Nat :=
  let arg0 : BitVec 32 := BitVec.ofNat 32 (i 0).val
  let c2_i32 : BitVec 32 := 2#32
  let c0_i32_9 : BitVec 32 := 0#32
  let v16 : BitVec 1 := Scalar.cmpi .eq c2_i32 c0_i32_9
  let c1_i32 : BitVec 32 := 1#32
  let v17 : BitVec 32 := Scalar.select v16 c1_i32 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c0_i32_18 : BitVec 32 := 0#32
  let c0_i32_19 : BitVec 32 := 0#32
  ![v25.toNat, 0, 0]
def k0_off6 (i : grid0.Coords) : Fin 3 → Nat :=
  let c0_i32_17 : BitVec 32 := 0#32
  let c10320_i32 : BitVec 32 := 10320#32
  let arg0 : BitVec 32 := BitVec.ofNat 32 (i 0).val
  let c1024_i32 : BitVec 32 := 1024#32
  let v33 : BitVec 32 := Scalar.muli arg0 c1024_i32
  let v34 : BitVec 32 := Scalar.addi c10320_i32 v33
  let v35 : BitVec 32 := v34
  let c0_i32_20 : BitVec 32 := 0#32
  ![0, v35.toNat, 0]
def k0_off7 (i : grid0.Coords) : Fin 3 → Nat :=
  let arg0 : BitVec 32 := BitVec.ofNat 32 (i 0).val
  let c2_i32 : BitVec 32 := 2#32
  let c0_i32_9 : BitVec 32 := 0#32
  let v16 : BitVec 1 := Scalar.cmpi .eq c2_i32 c0_i32_9
  let c1_i32 : BitVec 32 := 1#32
  let v17 : BitVec 32 := Scalar.select v16 c1_i32 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let v42 : Index := Scalar.indexCast v25
  let c0_21 : Index := 0#32
  let c0_22 : Index := 0#32
  ![v42.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference4Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S8192x6144 : Shape := ⟨2, ![8192, 6144]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S1x2048x16464, .f32⟩
  | .hbm, ⟨3, _⟩ => ⟨S2048x16464, .f32⟩
  | .hbm, ⟨4, _⟩ => ⟨S8192x16464, .f32⟩
  | .hbm, ⟨5, _⟩ => ⟨S8192x6144, .f32⟩
  | .hbm, ⟨6, _⟩ => ⟨S8192x6144, .f32⟩
  | .hbm, ⟨7, _⟩ => ⟨S8192x6144, .f32⟩
  | .hbm, ⟨8, _⟩ => ⟨S_, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S8192x4096 : Shape := ⟨2, ![8192, 4096]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S2x16464x2048, .f32⟩
  | .hbm, ⟨3, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S2x1024x2048, .f32⟩
  | .local _ .vmem, ⟨5, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v18 : BitVec 1 := Scalar.cmpi .eq arg0 c0_i32_10
  let v19 : BitVec 32 := Scalar.extui v18
  let c0_i32_11 : BitVec 32 := 0#32
  let v20 : BitVec 1 := Scalar.cmpi .ne v19 c0_i32_11
  v20

def k0_mult1 : BitVec 32 :=
  let c4176_i32_22 : BitVec 32 := 4176#32
  c4176_i32_22
def k0_cond3 (i : grid0.Coords) : BitVec 1 :=
  let arg0 : BitVec 32 := BitVec.ofNat 32 (i 0).val
  let c1_i32_12 : BitVec 32 := 1#32
  let v21 : BitVec 32 := Scalar.addi arg0 c1_i32_12
  let c4_i32 : BitVec 32 := 4#32
  let v22 : BitVec 1 := Scalar.cmpi .slt v21 c4_i32
  let v23 : BitVec 32 := Scalar.extui v22
  let c0_i32_13 : BitVec 32 := 0#32
  let v24 : BitVec 1 := Scalar.cmpi .ne v23 c0_i32_13
  v24

def k0_mult2 (i : grid0.Coords) : BitVec 32 :=
  let c4176_i32_25 : BitVec 32 := 4176#32
  let arg0 : BitVec 32 := BitVec.ofNat 32 (i 0).val
  let c1_i32_22 : BitVec 32 := 1#32
  let v41 : BitVec 32 := Scalar.addi arg0 c1_i32_22
  let c1024_i32_24 : BitVec 32 := 1024#32
  let v43 : BitVec 32 := Scalar.muli v41 c1024_i32_24
  let v44 : BitVec 32 := Scalar.addi c4176_i32_25 v43
  v44
def k0_off1 (i : grid0.Coords) : Fin 1 → Nat :=
  let c1_i32_23 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v42 : BitVec 32 := Scalar.subi c1_i32_23 v17
  ![v42.toNat]
def k0_off2 (i : grid0.Coords) : Fin 3 → Nat :=
  let c1_i32_23 : BitVec 32 := 1#32
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v42 : BitVec 32 := Scalar.subi c1_i32_23 v17
  let c0_i32_27 : BitVec 32 := 0#32
  let c0_i32_28 : BitVec 32 := 0#32
  ![v42.toNat, 0, 0]
def k0_off3 (i : grid0.Coords) : Fin 3 → Nat :=
  let c0_i32_26 : BitVec 32 := 0#32
  let c4176_i32_25 : BitVec 32 := 4176#32
  let arg0 : BitVec 32 := BitVec.ofNat 32 (i 0).val
  let c1_i32_22 : BitVec 32 := 1#32
  let v41 : BitVec 32 := Scalar.addi arg0 c1_i32_22
  let c1024_i32_24 : BitVec 32 := 1024#32
  let v43 : BitVec 32 := Scalar.muli v41 c1024_i32_24
  let v44 : BitVec 32 := Scalar.addi c4176_i32_25 v43
  let v45 : BitVec 32 := v44
  let c0_i32_29 : BitVec 32 := 0#32
  ![0, v45.toNat, 0]
def k0_mult3 (i : grid0.Coords) : BitVec 32 :=
  let c4176_i32 : BitVec 32 := 4176#32
  let arg0 : BitVec 32 := BitVec.ofNat 32 (i 0).val
  let c1024_i32 : BitVec 32 := 1024#32
  let v25 : BitVec 32 := Scalar.muli arg0 c1024_i32
  let v26 : BitVec 32 := Scalar.addi c4176_i32 v25
  v26
def k0_off4 (i : grid0.Coords) : Fin 1 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c0_i32_15 : BitVec 32 := 0#32
  let c0_i32_16 : BitVec 32 := 0#32
  ![v17.toNat, 0, 0]
def k0_off6 (i : grid0.Coords) : Fin 3 → Nat :=
  let c0_i32_14 : BitVec 32 := 0#32
  let c4176_i32 : BitVec 32 := 4176#32
  let arg0 : BitVec 32 := BitVec.ofNat 32 (i 0).val
  let c1024_i32 : BitVec 32 := 1024#32
  let v25 : BitVec 32 := Scalar.muli arg0 c1024_i32
  let v26 : BitVec 32 := Scalar.addi c4176_i32 v25
  let v27 : BitVec 32 := v26
  let c0_i32_17 : BitVec 32 := 0#32
  ![0, v27.toNat, 0]
def k0_off7 (i : grid0.Coords) : Fin 3 → Nat :=
  let arg0 : BitVec 32 := BitVec.ofNat 32 (i 0).val
  let c2_i32 : BitVec 32 := 2#32
  let c0_i32_6 : BitVec 32 := 0#32
  let v8 : BitVec 1 := Scalar.cmpi .eq c2_i32 c0_i32_6
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let v34 : Index := Scalar.indexCast v17
  let c0_18 : Index := 0#32
  let c0_19 : Index := 0#32
  ![v34.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference5Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S1x2048x16464, .f32⟩
  | .hbm, ⟨3, _⟩ => ⟨S2048x16464, .f32⟩
  | .hbm, ⟨4, _⟩ => ⟨S8192x16464, .f32⟩
  | .hbm, ⟨5, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S2x16464x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S2x1024x2048, .f32⟩
  | .local _ .vmem, ⟨5, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_14 : BitVec 32 := 0#32
  let v32 : BitVec 1 := Scalar.cmpi .eq arg0 c0_i32_14
  let v33 : BitVec 32 := Scalar.extui v32
  let c0_i32_15 : BitVec 32 := 0#32
  let v34 : BitVec 1 := Scalar.cmpi .ne v33 c0_i32_15
  v34

def k0_mult1 : BitVec 32 :=
  let c8272_i32_27 : BitVec 32 := 8272#32
  c8272_i32_27
def k0_cond3 (i : grid0.Coords) : BitVec 1 :=
  let arg0 : BitVec 32 := BitVec.ofNat 32 (i 0).val
  let c1_i32_16 : BitVec 32 := 1#32
  let v35 : BitVec 32 := Scalar.addi arg0 c1_i32_16
  let c2_i32_17 : BitVec 32 := 2#32
  let v36 : BitVec 1 := Scalar.cmpi .slt v35 c2_i32_17
  let v37 : BitVec 32 := Scalar.extui v36
  let c0_i32_18 : BitVec 32 := 0#32
  let v38 : BitVec 1 := Scalar.cmpi .ne v37 c0_i32_18
  v38

def k0_mult2 (i : grid0.Coords) : BitVec 32 :=
  let c8272_i32_30 : BitVec 32 := 8272#32
  let arg0 : BitVec 32 := BitVec.ofNat 32 (i 0).val
  let c1_i32_27 : BitVec 32 := 1#32
  let v55 : BitVec 32 := Scalar.addi arg0 c1_i32_27
  let c1024_i32_29 : BitVec 32 := 1024#32
  let v57 : BitVec 32 := Scalar.muli v55 c1024_i32_29
  let v58 : BitVec 32 := Scalar.addi c8272_i32_30 v57
  v58
def k0_off1 (i : grid0.Coords) : Fin 1 → Nat :=
  let c1_i32_28 : BitVec 32 := 1#32
  let arg0 : BitVec 32 := BitVec.ofNat 32 (i 0).val
  let c2_i32 : BitVec 32 := 2#32
  let c0_i32_10 : BitVec 32 := 0#32
  let v22 : BitVec 1 := Scalar.cmpi .eq c2_i32 c0_i32_10
  let c1_i32 : BitVec 32 := 1#32
  let v23 : BitVec 32 := Scalar.select v22 c1_i32 c2_i32
  let v24 : BitVec 32 := Scalar.remsi arg0 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v56 : BitVec 32 := Scalar.subi c1_i32_28 v31
  ![v56.toNat]
def k0_off2 (i : grid0.Coords) : Fin 3 → Nat :=
  let c1_i32_28 : BitVec 32 := 1#32
  let arg0 : BitVec 32 := BitVec.ofNat 32 (i 0).val
  let c2_i32 : BitVec 32 := 2#32
  let c0_i32_10 : BitVec 32 := 0#32
  let v22 : BitVec 1 := Scalar.cmpi .eq c2_i32 c0_i32_10
  let c1_i32 : BitVec 32 := 1#32
  let v23 : BitVec 32 := Scalar.select v22 c1_i32 c2_i32
  let v24 : BitVec 32 := Scalar.remsi arg0 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v56 : BitVec 32 := Scalar.subi c1_i32_28 v31
  let c0_i32_32 : BitVec 32 := 0#32
  let c0_i32_33 : BitVec 32 := 0#32
  ![v56.toNat, 0, 0]
def k0_off3 (i : grid0.Coords) : Fin 3 → Nat :=
  let c0_i32_31 : BitVec 32 := 0#32
  let c8272_i32_30 : BitVec 32 := 8272#32
  let arg0 : BitVec 32 := BitVec.ofNat 32 (i 0).val
  let c1_i32_27 : BitVec 32 := 1#32
  let v55 : BitVec 32 := Scalar.addi arg0 c1_i32_27
  let c1024_i32_29 : BitVec 32 := 1024#32
  let v57 : BitVec 32 := Scalar.muli v55 c1024_i32_29
  let v58 : BitVec 32 := Scalar.addi c8272_i32_30 v57
  let v59 : BitVec 32 := v58
  let c0_i32_34 : BitVec 32 := 0#32
  ![0, v59.toNat, 0]
def k0_mult3 (i : grid0.Coords) : BitVec 32 :=
  let c8272_i32 : BitVec 32 := 8272#32
  let arg0 : BitVec 32 := BitVec.ofNat 32 (i 0).val
  let c1024_i32 : BitVec 32 := 1024#32
  let v39 : BitVec 32 := Scalar.muli arg0 c1024_i32
  let v40 : BitVec 32 := Scalar.addi c8272_i32 v39
  v40
def k0_off4 (i : grid0.Coords) : Fin 1 → Nat :=
  let arg0 : BitVec 32 := BitVec.ofNat 32 (i 0).val
  let c2_i32 : BitVec 32 := 2#32
  let c0_i32_10 : BitVec 32 := 0#32
  let v22 : BitVec 1 := Scalar.cmpi .eq c2_i32 c0_i32_10
  let c1_i32 : BitVec 32 := 1#32
  let v23 : BitVec 32 := Scalar.select v22 c1_i32 c2_i32
  let v24 : BitVec 32 := Scalar.remsi arg0 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  ![v31.toNat]
def k0_off5 (i : grid0.Coords) : Fin 3 → Nat :=
  let arg0 : BitVec 32 := BitVec.ofNat 32 (i 0).val
  let c2_i32 : BitVec 32 := 2#32
  let c0_i32_10 : BitVec 32 := 0#32
  let v22 : BitVec 1 := Scalar.cmpi .eq c2_i32 c0_i32_10
  let c1_i32 : BitVec 32 := 1#32
  let v23 : BitVec 32 := Scalar.select v22 c1_i32 c2_i32
  let v24 : BitVec 32 := Scalar.remsi arg0 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c0_i32_20 : BitVec 32 := 0#32
  let c0_i32_21 : BitVec 32 := 0#32
  ![v31.toNat, 0, 0]
def k0_off6 (i : grid0.Coords) : Fin 3 → Nat :=
  let c0_i32_19 : BitVec 32 := 0#32
  let c8272_i32 : BitVec 32 := 8272#32
  let arg0 : BitVec 32 := BitVec.ofNat 32 (i 0).val
  let c1024_i32 : BitVec 32 := 1024#32
  let v39 : BitVec 32 := Scalar.muli arg0 c1024_i32
  let v40 : BitVec 32 := Scalar.addi c8272_i32 v39
  let v41 : BitVec 32 := v40
  let c0_i32_22 : BitVec 32 := 0#32
  ![0, v41.toNat, 0]
def k0_off7 (i : grid0.Coords) : Fin 3 → Nat :=
  let arg0 : BitVec 32 := BitVec.ofNat 32 (i 0).val
  let c2_i32 : BitVec 32 := 2#32
  let c0_i32_10 : BitVec 32 := 0#32
  let v22 : BitVec 1 := Scalar.cmpi .eq c2_i32 c0_i32_10
  let c1_i32 : BitVec 32 := 1#32
  let v23 : BitVec 32 := Scalar.select v22 c1_i32 c2_i32
  let v24 : BitVec 32 := Scalar.remsi arg0 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v48 : Index := Scalar.indexCast v31
  let c0_23 : Index := 0#32
  let c0_24 : Index := 0#32
  ![v48.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S1x2048x16464, .f32⟩
  | .hbm, ⟨3, _⟩ => ⟨S2048x16464, .f32⟩
  | .hbm, ⟨4, _⟩ => ⟨S8192x16464, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S8192x6144 : Shape := ⟨2, ![8192, 6144]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S2x16464x2048, .f32⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x2048, .f32⟩
  | .local _ .vmem, ⟨5, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_13 : BitVec 32 := 0#32
  let v25 : BitVec 1 := Scalar.cmpi .eq arg0 c0_i32_13
  let v26 : BitVec 32 := Scalar.extui v25
  let c0_i32_14 : BitVec 32 := 0#32
  let v27 : BitVec 1 := Scalar.cmpi .ne v26 c0_i32_14
  v27

def k0_mult1 : BitVec 32 :=
  let c10320_i32_25 : BitVec 32 := 10320#32
  c10320_i32_25
def k0_cond3 (i : grid0.Coords) : BitVec 1 :=
  let arg0 : BitVec 32 := BitVec.ofNat 32 (i 0).val
  let c1_i32_15 : BitVec 32 := 1#32
  let v28 : BitVec 32 := Scalar.addi arg0 c1_i32_15
  let c6_i32 : BitVec 32 := 6#32
  let v29 : BitVec 1 := Scalar.cmpi .slt v28 c6_i32
  let v30 : BitVec 32 := Scalar.extui v29
  let c0_i32_16 : BitVec 32 := 0#32
  let v31 : BitVec 1 := Scalar.cmpi .ne v30 c0_i32_16
  v31

def k0_mult2 (i : grid0.Coords) : BitVec 32 :=
  let c10320_i32_28 : BitVec 32 := 10320#32
  let arg0 : BitVec 32 := BitVec.ofNat 32 (i 0).val
  let c1_i32_25 : BitVec 32 := 1#32
  let v48 : BitVec 32 := Scalar.addi arg0 c1_i32_25
  let c1024_i32_27 : BitVec 32 := 1024#32
  let v50 : BitVec 32 := Scalar.muli v48 c1024_i32_27
  let v51 : BitVec 32 := Scalar.addi c10320_i32_28 v50
  v51
def k0_off1 (i : grid0.Coords) : Fin 1 → Nat :=
  let c1_i32_26 : BitVec 32 := 1#32
  let arg0 : BitVec 32 := BitVec.ofNat 32 (i 0).val
  let c2_i32 : BitVec 32 := 2#32
  let c0_i32_9 : BitVec 32 := 0#32
  let v15 : BitVec 1 := Scalar.cmpi .eq c2_i32 c0_i32_9
  let c1_i32 : BitVec 32 := 1#32
  let v16 : BitVec 32 := Scalar.select v15 c1_i32 c2_i32
  let v17 : BitVec 32 := Scalar.remsi arg0 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v49 : BitVec 32 := Scalar.subi c1_i32_26 v24
  ![v49.toNat]
def k0_off2 (i : grid0.Coords) : Fin 3 → Nat :=
  let c1_i32_26 : BitVec 32 := 1#32
  let arg0 : BitVec 32 := BitVec.ofNat 32 (i 0).val
  let c2_i32 : BitVec 32 := 2#32
  let c0_i32_9 : BitVec 32 := 0#32
  let v15 : BitVec 1 := Scalar.cmpi .eq c2_i32 c0_i32_9
  let c1_i32 : BitVec 32 := 1#32
  let v16 : BitVec 32 := Scalar.select v15 c1_i32 c2_i32
  let v17 : BitVec 32 := Scalar.remsi arg0 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v49 : BitVec 32 := Scalar.subi c1_i32_26 v24
  let c0_i32_30 : BitVec 32 := 0#32
  let c0_i32_31 : BitVec 32 := 0#32
  ![v49.toNat, 0, 0]
def k0_off3 (i : grid0.Coords) : Fin 3 → Nat :=
  let c1_i32_29 : BitVec 32 := 1#32
  let c10320_i32_28 : BitVec 32 := 10320#32
  let arg0 : BitVec 32 := BitVec.ofNat 32 (i 0).val
  let c1_i32_25 : BitVec 32 := 1#32
  let v48 : BitVec 32 := Scalar.addi arg0 c1_i32_25
  let c1024_i32_27 : BitVec 32 := 1024#32
  let v50 : BitVec 32 := Scalar.muli v48 c1024_i32_27
  let v51 : BitVec 32 := Scalar.addi c10320_i32_28 v50
  let v52 : BitVec 32 := v51
  let c0_i32_32 : BitVec 32 := 0#32
  ![1, v52.toNat, 0]
def k0_mult3 (i : grid0.Coords) : BitVec 32 :=
  let c10320_i32 : BitVec 32 := 10320#32
  let arg0 : BitVec 32 := BitVec.ofNat 32 (i 0).val
  let c1024_i32 : BitVec 32 := 1024#32
  let v32 : BitVec 32 := Scalar.muli arg0 c1024_i32
  let v33 : BitVec 32 := Scalar.addi c10320_i32 v32
  v33
def k0_off4 (i : grid0.Coords) : Fin 1 → Nat :=
  let arg0 : BitVec 32 := BitVec.ofNat 32 (i 0).val
  let c2_i32 : BitVec 32 := 2#32
  let c0_i32_9 : BitVec 32 := 0#32
  let v15 : BitVec 1 := Scalar.cmpi .eq c2_i32 c0_i32_9
  let c1_i32 : BitVec 32 := 1#32
  let v16 : BitVec 32 := Scalar.select v15 c1_i32 c2_i32
  let v17 : BitVec 32 := Scalar.remsi arg0 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  ![v24.toNat]
def k0_off5 (i : grid0.Coords) : Fin 3 → Nat :=
  let arg0 : BitVec 32 := BitVec.ofNat 32 (i 0).val
  let c2_i32 : BitVec 32 := 2#32
  let c0_i32_9 : BitVec 32 := 0#32
  let v15 : BitVec 1 := Scalar.cmpi .eq c2_i32 c0_i32_9
  let c1_i32 : BitVec 32 := 1#32
  let v16 : BitVec 32 := Scalar.select v15 c1_i32 c2_i32
  let v17 : BitVec 32 := Scalar.remsi arg0 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_18 : BitVec 32 := 0#32
  let c0_i32_19 : BitVec 32 := 0#32
  ![v24.toNat, 0, 0]
def k0_off6 (i : grid0.Coords) : Fin 3 → Nat :=
  let c1_i32_17 : BitVec 32 := 1#32
  let c10320_i32 : BitVec 32 := 10320#32
  let arg0 : BitVec 32 := BitVec.ofNat 32 (i 0).val
  let c1024_i32 : BitVec 32 := 1024#32
  let v32 : BitVec 32 := Scalar.muli arg0 c1024_i32
  let v33 : BitVec 32 := Scalar.addi c10320_i32 v32
  let v34 : BitVec 32 := v33
  let c0_i32_20 : BitVec 32 := 0#32
  ![1, v34.toNat, 0]
def k0_off7 (i : grid0.Coords) : Fin 3 → Nat :=
  let arg0 : BitVec 32 := BitVec.ofNat 32 (i 0).val
  let c2_i32 : BitVec 32 := 2#32
  let c0_i32_9 : BitVec 32 := 0#32
  let v15 : BitVec 1 := Scalar.cmpi .eq c2_i32 c0_i32_9
  let c1_i32 : BitVec 32 := 1#32
  let v16 : BitVec 32 := Scalar.select v15 c1_i32 c2_i32
  let v17 : BitVec 32 := Scalar.remsi arg0 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v41 : Index := Scalar.indexCast v24
  let c0_21 : Index := 0#32
  let c0_22 : Index := 0#32
  ![v41.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference7Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S8192x6144 : Shape := ⟨2, ![8192, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S8192x2048, .f32⟩
  | .hbm, ⟨3, _⟩ => ⟨S1x2048x16464, .f32⟩
  | .hbm, ⟨4, _⟩ => ⟨S2048x16464, .f32⟩
  | .hbm, ⟨5, _⟩ => ⟨S8192x16464, .f32⟩
  | .hbm, ⟨6, _⟩ => ⟨S8192x6144, .f32⟩
  | .hbm, ⟨7, _⟩ => ⟨S8192x6144, .f32⟩
  | .hbm, ⟨8, _⟩ => ⟨S8192x6144, .f32⟩
  | .hbm, ⟨9, _⟩ => ⟨S_, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel8.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S8192x4096 : Shape := ⟨2, ![8192, 4096]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S2x16464x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2x1024x2048, .f32⟩
  | .local _ .vmem, ⟨5, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_10 : BitVec 32 := 0#32
  let v17 : BitVec 1 := Scalar.cmpi .eq arg0 c0_i32_10
  let v18 : BitVec 32 := Scalar.extui v17
  let c0_i32_11 : BitVec 32 := 0#32
  let v19 : BitVec 1 := Scalar.cmpi .ne v18 c0_i32_11
  v19

def k0_mult1 : BitVec 32 :=
  let c4176_i32_22 : BitVec 32 := 4176#32
  c4176_i32_22
def k0_cond3 (i : grid0.Coords) : BitVec 1 :=
  let arg0 : BitVec 32 := BitVec.ofNat 32 (i 0).val
  let c1_i32_12 : BitVec 32 := 1#32
  let v20 : BitVec 32 := Scalar.addi arg0 c1_i32_12
  let c4_i32 : BitVec 32 := 4#32
  let v21 : BitVec 1 := Scalar.cmpi .slt v20 c4_i32
  let v22 : BitVec 32 := Scalar.extui v21
  let c0_i32_13 : BitVec 32 := 0#32
  let v23 : BitVec 1 := Scalar.cmpi .ne v22 c0_i32_13
  v23

def k0_mult2 (i : grid0.Coords) : BitVec 32 :=
  let c4176_i32_25 : BitVec 32 := 4176#32
  let arg0 : BitVec 32 := BitVec.ofNat 32 (i 0).val
  let c1_i32_22 : BitVec 32 := 1#32
  let v40 : BitVec 32 := Scalar.addi arg0 c1_i32_22
  let c1024_i32_24 : BitVec 32 := 1024#32
  let v42 : BitVec 32 := Scalar.muli v40 c1024_i32_24
  let v43 : BitVec 32 := Scalar.addi c4176_i32_25 v42
  v43
def k0_off1 (i : grid0.Coords) : Fin 1 → Nat :=
  let c1_i32_23 : BitVec 32 := 1#32
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v41 : BitVec 32 := Scalar.subi c1_i32_23 v16
  ![v41.toNat]
def k0_off2 (i : grid0.Coords) : Fin 3 → Nat :=
  let c1_i32_23 : BitVec 32 := 1#32
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v41 : BitVec 32 := Scalar.subi c1_i32_23 v16
  let c0_i32_27 : BitVec 32 := 0#32
  let c0_i32_28 : BitVec 32 := 0#32
  ![v41.toNat, 0, 0]
def k0_off3 (i : grid0.Coords) : Fin 3 → Nat :=
  let c1_i32_26 : BitVec 32 := 1#32
  let c4176_i32_25 : BitVec 32 := 4176#32
  let arg0 : BitVec 32 := BitVec.ofNat 32 (i 0).val
  let c1_i32_22 : BitVec 32 := 1#32
  let v40 : BitVec 32 := Scalar.addi arg0 c1_i32_22
  let c1024_i32_24 : BitVec 32 := 1024#32
  let v42 : BitVec 32 := Scalar.muli v40 c1024_i32_24
  let v43 : BitVec 32 := Scalar.addi c4176_i32_25 v42
  let v44 : BitVec 32 := v43
  let c0_i32_29 : BitVec 32 := 0#32
  ![1, v44.toNat, 0]
def k0_mult3 (i : grid0.Coords) : BitVec 32 :=
  let c4176_i32 : BitVec 32 := 4176#32
  let arg0 : BitVec 32 := BitVec.ofNat 32 (i 0).val
  let c1024_i32 : BitVec 32 := 1024#32
  let v24 : BitVec 32 := Scalar.muli arg0 c1024_i32
  let v25 : BitVec 32 := Scalar.addi c4176_i32 v24
  v25
def k0_off4 (i : grid0.Coords) : Fin 1 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c0_i32_15 : BitVec 32 := 0#32
  let c0_i32_16 : BitVec 32 := 0#32
  ![v16.toNat, 0, 0]
def k0_off6 (i : grid0.Coords) : Fin 3 → Nat :=
  let c1_i32_14 : BitVec 32 := 1#32
  let c4176_i32 : BitVec 32 := 4176#32
  let arg0 : BitVec 32 := BitVec.ofNat 32 (i 0).val
  let c1024_i32 : BitVec 32 := 1024#32
  let v24 : BitVec 32 := Scalar.muli arg0 c1024_i32
  let v25 : BitVec 32 := Scalar.addi c4176_i32 v24
  let v26 : BitVec 32 := v25
  let c0_i32_17 : BitVec 32 := 0#32
  ![1, v26.toNat, 0]
def k0_off7 (i : grid0.Coords) : Fin 3 → Nat :=
  let arg0 : BitVec 32 := BitVec.ofNat 32 (i 0).val
  let c2_i32 : BitVec 32 := 2#32
  let c0_i32_6 : BitVec 32 := 0#32
  let v7 : BitVec 1 := Scalar.cmpi .eq c2_i32 c0_i32_6
  let c1_i32 : BitVec 32 := 1#32
  let v8 : BitVec 32 := Scalar.select v7 c1_i32 c2_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let v33 : Index := Scalar.indexCast v16
  let c0_18 : Index := 0#32
  let c0_19 : Index := 0#32
  ![v33.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference8Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S8192x2048, .f32⟩
  | .hbm, ⟨3, _⟩ => ⟨S1x2048x16464, .f32⟩
  | .hbm, ⟨4, _⟩ => ⟨S2048x16464, .f32⟩
  | .hbm, ⟨5, _⟩ => ⟨S8192x16464, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2x2048x16464 : Shape := ⟨3, ![2, 2048, 16464]⟩
abbrev S2x16464x2048 : Shape := ⟨3, ![2, 16464, 2048]⟩
abbrev S1024x2048 : Shape := ⟨2, ![1024, 2048]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S2x16464x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x2048, .f32⟩
  | .local _ .vmem, ⟨5, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_14 : BitVec 32 := 0#32
  let v31 : BitVec 1 := Scalar.cmpi .eq arg0 c0_i32_14
  let v32 : BitVec 32 := Scalar.extui v31
  let c0_i32_15 : BitVec 32 := 0#32
  let v33 : BitVec 1 := Scalar.cmpi .ne v32 c0_i32_15
  v33

def k0_mult1 : BitVec 32 :=
  let c8272_i32_27 : BitVec 32 := 8272#32
  c8272_i32_27
def k0_cond3 (i : grid0.Coords) : BitVec 1 :=
  let arg0 : BitVec 32 := BitVec.ofNat 32 (i 0).val
  let c1_i32_16 : BitVec 32 := 1#32
  let v34 : BitVec 32 := Scalar.addi arg0 c1_i32_16
  let c2_i32_17 : BitVec 32 := 2#32
  let v35 : BitVec 1 := Scalar.cmpi .slt v34 c2_i32_17
  let v36 : BitVec 32 := Scalar.extui v35
  let c0_i32_18 : BitVec 32 := 0#32
  let v37 : BitVec 1 := Scalar.cmpi .ne v36 c0_i32_18
  v37

def k0_mult2 (i : grid0.Coords) : BitVec 32 :=
  let c8272_i32_30 : BitVec 32 := 8272#32
  let arg0 : BitVec 32 := BitVec.ofNat 32 (i 0).val
  let c1_i32_27 : BitVec 32 := 1#32
  let v54 : BitVec 32 := Scalar.addi arg0 c1_i32_27
  let c1024_i32_29 : BitVec 32 := 1024#32
  let v56 : BitVec 32 := Scalar.muli v54 c1024_i32_29
  let v57 : BitVec 32 := Scalar.addi c8272_i32_30 v56
  v57
def k0_off1 (i : grid0.Coords) : Fin 1 → Nat :=
  let c1_i32_28 : BitVec 32 := 1#32
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let v55 : BitVec 32 := Scalar.subi c1_i32_28 v30
  ![v55.toNat]
def k0_off2 (i : grid0.Coords) : Fin 3 → Nat :=
  let c1_i32_28 : BitVec 32 := 1#32
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let v55 : BitVec 32 := Scalar.subi c1_i32_28 v30
  let c0_i32_32 : BitVec 32 := 0#32
  let c0_i32_33 : BitVec 32 := 0#32
  ![v55.toNat, 0, 0]
def k0_off3 (i : grid0.Coords) : Fin 3 → Nat :=
  let c1_i32_31 : BitVec 32 := 1#32
  let c8272_i32_30 : BitVec 32 := 8272#32
  let arg0 : BitVec 32 := BitVec.ofNat 32 (i 0).val
  let c1_i32_27 : BitVec 32 := 1#32
  let v54 : BitVec 32 := Scalar.addi arg0 c1_i32_27
  let c1024_i32_29 : BitVec 32 := 1024#32
  let v56 : BitVec 32 := Scalar.muli v54 c1024_i32_29
  let v57 : BitVec 32 := Scalar.addi c8272_i32_30 v56
  let v58 : BitVec 32 := v57
  let c0_i32_34 : BitVec 32 := 0#32
  ![1, v58.toNat, 0]
def k0_mult3 (i : grid0.Coords) : BitVec 32 :=
  let c8272_i32 : BitVec 32 := 8272#32
  let arg0 : BitVec 32 := BitVec.ofNat 32 (i 0).val
  let c1024_i32 : BitVec 32 := 1024#32
  let v38 : BitVec 32 := Scalar.muli arg0 c1024_i32
  let v39 : BitVec 32 := Scalar.addi c8272_i32 v38
  v39
def k0_off4 (i : grid0.Coords) : Fin 1 → Nat :=
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  ![v30.toNat]
def k0_off5 (i : grid0.Coords) : Fin 3 → Nat :=
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_20 : BitVec 32 := 0#32
  let c0_i32_21 : BitVec 32 := 0#32
  ![v30.toNat, 0, 0]
def k0_off6 (i : grid0.Coords) : Fin 3 → Nat :=
  let c1_i32_19 : BitVec 32 := 1#32
  let c8272_i32 : BitVec 32 := 8272#32
  let arg0 : BitVec 32 := BitVec.ofNat 32 (i 0).val
  let c1024_i32 : BitVec 32 := 1024#32
  let v38 : BitVec 32 := Scalar.muli arg0 c1024_i32
  let v39 : BitVec 32 := Scalar.addi c8272_i32 v38
  let v40 : BitVec 32 := v39
  let c0_i32_22 : BitVec 32 := 0#32
  ![1, v40.toNat, 0]
def k0_off7 (i : grid0.Coords) : Fin 3 → Nat :=
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let v47 : Index := Scalar.indexCast v30
  let c0_23 : Index := 0#32
  let c0_24 : Index := 0#32
  ![v47.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S8192x2048 : Shape := ⟨2, ![8192, 2048]⟩
abbrev S2x2048x16464 : Shape := ⟨3, ![2, 2048, 16464]⟩
abbrev S1x2048x16464 : Shape := ⟨3, ![1, 2048, 16464]⟩
abbrev S2048x16464 : Shape := ⟨2, ![2048, 16464]⟩
abbrev S8192x16464 : Shape := ⟨2, ![8192, 16464]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S8192x2048, .f32⟩
  | .hbm, ⟨3, _⟩ => ⟨S1x2048x16464, .f32⟩
  | .hbm, ⟨4, _⟩ => ⟨S2048x16464, .f32⟩
  | .hbm, ⟨5, _⟩ => ⟨S8192x16464, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel10.lean ====
abbrev S8192x2048 : Shape := ⟨2, ![8192, 2048]⟩
abbrev S1x2048x5504 : Shape := ⟨3, ![1, 2048, 5504]⟩
abbrev S8192x5632 : Shape := ⟨2, ![8192, 5632]⟩
abbrev S1024x2048 : Shape := ⟨2, ![1024, 2048]⟩
abbrev S1024x512 : Shape := ⟨2, ![1024, 512]⟩
abbrev S2x2048x512 : Shape := ⟨3, ![2, 2048, 512]⟩
abbrev S2048x512 : Shape := ⟨2, ![2048, 512]⟩
abbrev S2x2 : Shape := ⟨2, ![2, 2]⟩
abbrev S1x1 : Shape := ⟨2, ![1, 1]⟩
abbrev S_ : Shape := ⟨0, ![]⟩
abbrev S1x2048x512 : Shape := ⟨3, ![1, 2048, 512]⟩
abbrev S1x2048x384 : Shape := ⟨3, ![1, 2048, 384]⟩
abbrev S2048x384 : Shape := ⟨2, ![2048, 384]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x5504, .f32⟩
  | .hbm, ⟨2, _⟩ => ⟨S1x2048x5504, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S2x2048x512, .f32⟩
  | .local _ .vmem, ⟨5, _⟩ => ⟨S2x2048x512, .f32⟩
  | .local _ .vmem, ⟨6, _⟩ => ⟨S2048x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_16 : BitVec 32 := 0#32
  let v29 : BitVec 1 := Scalar.cmpi .eq arg0 c0_i32_16
  let v30 : BitVec 32 := Scalar.extui v29
  let c0_i32_17 : BitVec 32 := 0#32
  let v31 : BitVec 1 := Scalar.cmpi .ne v30 c0_i32_17
  v31

def k0_mult1 : BitVec 32 :=
  let c0_i32_33 : BitVec 32 := 0#32
  c0_i32_33
def k0_cond3 (i : grid0.Coords) : BitVec 1 :=
  let arg0 : BitVec 32 := BitVec.ofNat 32 (i 0).val
  let c1_i32_18 : BitVec 32 := 1#32
  let v32 : BitVec 32 := Scalar.addi arg0 c1_i32_18
  let c11_i32 : BitVec 32 := 11#32
  let v33 : BitVec 1 := Scalar.cmpi .slt v32 c11_i32
  let v34 : BitVec 32 := Scalar.extui v33
  let c0_i32_19 : BitVec 32 := 0#32
  let v35 : BitVec 1 := Scalar.cmpi .ne v34 c0_i32_19
  v35

def k0_cond4 (i : grid0.Coords) : BitVec 1 :=
  let arg0 : BitVec 32 := BitVec.ofNat 32 (i 0).val
  let c1_i32_33 : BitVec 32 := 1#32
  let v59 : BitVec 32 := Scalar.addi arg0 c1_i32_33
  let c10_i32_35 : BitVec 32 := 10#32
  let v61 : BitVec 1 := Scalar.cmpi .slt v59 c10_i32_35
  let v62 : BitVec 32 := Scalar.extui v61
  let c0_i32_36 : BitVec 32 := 0#32
  let v63 : BitVec 1 := Scalar.cmpi .ne v62 c0_i32_36
  v63

def k0_mult2 (i : grid0.Coords) : BitVec 32 :=
  let arg0 : BitVec 32 := BitVec.ofNat 32 (i 0).val
  let c1_i32_33 : BitVec 32 := 1#32
  let v59 : BitVec 32 := Scalar.addi arg0 c1_i32_33
  let c512_i32 : BitVec 32 := 512#32
  let v67 : BitVec 32 := Scalar.muli v59 c512_i32
  v67
def k0_off1 (i : grid0.Coords) : Fin 2 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c0_i32_40 : BitVec 32 := 0#32
  ![v60.toNat, 0]
def k0_off2 (i : grid0.Coords) : Fin 3 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c0_i32_41 : BitVec 32 := 0#32
  let c0_i32_42 : BitVec 32 := 0#32
  ![v60.toNat, 0, 0]
def k0_off3 (i : grid0.Coords) : Fin 3 → Nat :=
  let c0_i32_39 : BitVec 32 := 0#32
  let c0_i32_43 : BitVec 32 := 0#32
  let arg0 : BitVec 32 := BitVec.ofNat 32 (i 0).val
  let c1_i32_33 : BitVec 32 := 1#32
  let v59 : BitVec 32 := Scalar.addi arg0 c1_i32_33
  let c512_i32 : BitVec 32 := 512#32
  let v67 : BitVec 32 := Scalar.muli v59 c512_i32
  let v68 : BitVec 32 := v67
  ![0, 0, v68.toNat]
def k0_off4 (i : grid0.Coords) : Fin 2 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c1_i32_45 : BitVec 32 := 1#32
  ![v60.toNat, 1]
def k0_cond5 (i : grid0.Coords) : BitVec 1 :=
  let arg0 : BitVec 32 := BitVec.ofNat 32 (i 0).val
  let c1_i32_33 : BitVec 32 := 1#32
  let v59 : BitVec 32 := Scalar.addi arg0 c1_i32_33
  let c10_i32_37 : BitVec 32 := 10#32
  let v64 : BitVec 1 := Scalar.cmpi .eq v59 c10_i32_37
  let v65 : BitVec 32 := Scalar.extui v64
  let c0_i32_38 : BitVec 32 := 0#32
  let v66 : BitVec 1 := Scalar.cmpi .ne v65 c0_i32_38
  v66

def k0_mult3 (i : grid0.Coords) : BitVec 32 :=
  let arg0 : BitVec 32 := BitVec.ofNat 32 (i 0).val
  let c1_i32_33 : BitVec 32 := 1#32
  let v59 : BitVec 32 := Scalar.addi arg0 c1_i32_33
  let c512_i32 : BitVec 32 := 512#32
  let v67 : BitVec 32 := Scalar.muli v59 c512_i32
  v67
def k0_off5 (i : grid0.Coords) : Fin 2 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c0_i32_40 : BitVec 32 := 0#32
  ![v60.toNat, 0]
def k0_off6 (i : grid0.Coords) : Fin 3 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c0_i32_41 : BitVec 32 := 0#32
  let c0_i32_42 : BitVec 32 := 0#32
  ![v60.toNat, 0, 0]
def k0_off7 (i : grid0.Coords) : Fin 3 → Nat :=
  let c0_i32_39 : BitVec 32 := 0#32
  let c0_i32_43 : BitVec 32 := 0#32
  let arg0 : BitVec 32 := BitVec.ofNat 32 (i 0).val
  let c1_i32_33 : BitVec 32 := 1#32
  let v59 : BitVec 32 := Scalar.addi arg0 c1_i32_33
  let c512_i32 : BitVec 32 := 512#32
  let v67 : BitVec 32 := Scalar.muli v59 c512_i32
  let v68 : BitVec 32 := v67
  ![0, 0, v68.toNat]
def k0_off8 (i : grid0.Coords) : Fin 2 → Nat :=
  let c1_i32_34 : BitVec 32 := 1#32
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v60 : BitVec 32 := Scalar.subi c1_i32_34 v28
  let c1_i32_45 : BitVec 32 := 1#32
  ![v60.toNat, 1]
def k0_cond6 (i : grid0.Coords) : BitVec 1 :=
  let arg0 : BitVec 32 := BitVec.ofNat 32 (i 0).val
  let c10_i32 : BitVec 32 := 10#32
  let v36 : BitVec 1 := Scalar.cmpi .slt arg0 c10_i32
  let v37 : BitVec 32 := Scalar.extui v36
  let c0_i32_20 : BitVec 32 := 0#32
  let v38 : BitVec 1 := Scalar.cmpi .ne v37 c0_i32_20
  v38

def k0_mult4 (i : grid0.Coords) : BitVec 32 :=
  let arg0 : BitVec 32 := BitVec.ofNat 32 (i 0).val
  let c512_i32 : BitVec 32 := 512#32
  let v59 : BitVec 32 := Scalar.muli arg0 c512_i32
  v59
def k0_off9 (i : grid0.Coords) : Fin 2 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c0_i32_34 : BitVec 32 := 0#32
  ![v28.toNat, 0]
def k0_off10 (i : grid0.Coords) : Fin 3 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c0_i32_35 : BitVec 32 := 0#32
  let c0_i32_36 : BitVec 32 := 0#32
  ![v28.toNat, 0, 0]
def k0_off11 (i : grid0.Coords) : Fin 3 → Nat :=
  let c0_i32_33 : BitVec 32 := 0#32
  let c0_i32_37 : BitVec 32 := 0#32
  let arg0 : BitVec 32 := BitVec.ofNat 32 (i 0).val
  let c512_i32 : BitVec 32 := 512#32
  let v59 : BitVec 32 := Scalar.muli arg0 c512_i32
  let v60 : BitVec 32 := v59
  ![0, 0, v60.toNat]
def k0_off12 (i : grid0.Coords) : Fin 2 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c1_i32_39 : BitVec 32 := 1#32
  ![v28.toNat, 1]
def k0_cond7 (i : grid0.Coords) : BitVec 1 :=
  let arg0 : BitVec 32 := BitVec.ofNat 32 (i 0).val
  let c10_i32_21 : BitVec 32 := 10#32
  let v39 : BitVec 1 := Scalar.cmpi .eq arg0 c10_i32_21
  let v40 : BitVec 32 := Scalar.extui v39
  let c0_i32_22 : BitVec 32 := 0#32
  let v41 : BitVec 1 := Scalar.cmpi .ne v40 c0_i32_22
  v41

def k0_mult5 (i : grid0.Coords) : BitVec 32 :=
  let arg0 : BitVec 32 := BitVec.ofNat 32 (i 0).val
  let c512_i32 : BitVec 32 := 512#32
  let v59 : BitVec 32 := Scalar.muli arg0 c512_i32
  v59
def k0_off13 (i : grid0.Coords) : Fin 2 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c0_i32_34 : BitVec 32 := 0#32
  ![v28.toNat, 0]
def k0_off14 (i : grid0.Coords) : Fin 3 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c0_i32_35 : BitVec 32 := 0#32
  let c0_i32_36 : BitVec 32 := 0#32
  ![v28.toNat, 0, 0]
def k0_off15 (i : grid0.Coords) : Fin 3 → Nat :=
  let c0_i32_33 : BitVec 32 := 0#32
  let c0_i32_37 : BitVec 32 := 0#32
  let arg0 : BitVec 32 := BitVec.ofNat 32 (i 0).val
  let c512_i32 : BitVec 32 := 512#32
  let v59 : BitVec 32 := Scalar.muli arg0 c512_i32
  let v60 : BitVec 32 := v59
  ![0, 0, v60.toNat]
def k0_off16 (i : grid0.Coords) : Fin 2 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let c1_i32_39 : BitVec 32 := 1#32
  ![v28.toNat, 1]
def k0_off17 (i : grid0.Coords) : Fin 3 → Nat :=
  let arg0 : BitVec 32 := BitVec.ofNat 32 (i 0).val
  let c2_i32 : BitVec 32 := 2#32
  let c0_i32_12 : BitVec 32 := 0#32
  let v19 : BitVec 1 := Scalar.cmpi .eq c2_i32 c0_i32_12
  let c1_i32 : BitVec 32 := 1#32
  let v20 : BitVec 32 := Scalar.select v19 c1_i32 c2_i32
  let v21 : BitVec 32 := Scalar.remsi arg0 v20
  let c0_i32_14 : BitVec 32 := 0#32
  let v23 : BitVec 1 := Scalar.cmpi .slt v21 c0_i32_14
  let c0_i32_15 : BitVec 32 := 0#32
  let v24 : BitVec 1 := Scalar.cmpi .slt v20 c0_i32_15
  let v25 : BitVec 1 := Scalar.xori v23 v24
  let c0_i32_13 : BitVec 32 := 0#32
  let v22 : BitVec 1 := Scalar.cmpi .ne v21 c0_i32_13
  let v26 : BitVec 1 := Scalar.andi v25 v22
  let v27 : BitVec 32 := Scalar.addi v21 v20
  let v28 : BitVec 32 := Scalar.select v26 v27 v21
  let v42 : Index := Scalar.indexCast v28
  let c0_23 : Index := 0#32
  let c0_24 : Index := 0#32
  ![v42.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference10Ideal.lean ====
abbrev S8192x2048 : Shape := ⟨2, ![8192, 2048]⟩
abbrev S1x2048x5504 : Shape := ⟨3, ![1, 2048, 5504]⟩
abbrev S2048x5504 : Shape := ⟨2, ![2048, 5504]⟩
abbrev S8192x5504 : Shape := ⟨2, ![8192, 5504]⟩
abbrev S_ : Shape := ⟨0, ![]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5504, .f32⟩
  | .hbm, ⟨2, _⟩ => ⟨S1x2048x5504, .f32⟩
  | .hbm, ⟨3, _⟩ => ⟨S8192x2048, .f32⟩
  | .hbm, ⟨4, _⟩ => ⟨S2048x5504, .f32⟩
  | .hbm, ⟨5, _⟩ => ⟨S8192x5504, .f32⟩
  | .hbm, ⟨6, _⟩ => ⟨S8192x5504, .f32⟩
  | .hbm, ⟨7, _⟩ => ⟨S8192x5504, .f32⟩
  | .hbm, ⟨8, _⟩ => ⟨S_, .f32⟩
  | .hbm, ⟨9, _⟩ => ⟨S8192x5504, .f32⟩
  | .hbm, ⟨10, _⟩ => ⟨S8192x5504, .f32⟩
  | .hbm, ⟨11, _⟩ => ⟨S_, .f32⟩
  | .hbm, ⟨12, _⟩ => ⟨S8192x5504, .f32⟩
  | .hbm, ⟨13, _⟩ => ⟨S8192x5504, .f32⟩
  | .hbm, ⟨14, _⟩ => ⟨S8192x5504, .f32⟩
  | .hbm, ⟨15, _⟩ => ⟨S2048x5504, .f32⟩
  | .hbm, ⟨16, _⟩ => ⟨S8192x5504, .f32⟩
  | .hbm, ⟨17, _⟩ => ⟨S8192x5504, .f32⟩
  | .hbm, ⟨18, _⟩ => ⟨S_, .i32⟩
  | .hbm, ⟨19, _⟩ => ⟨S_, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel11.lean ====
abbrev S8192x2048 : Shape := ⟨2, ![8192, 2048]⟩
abbrev S2x2048x16464 : Shape := ⟨3, ![2, 2048, 16464]⟩
abbrev S8192x128 : Shape := ⟨2, ![8192, 128]⟩
abbrev S2x16464x2048 : Shape := ⟨3, ![2, 16464, 2048]⟩
abbrev S16x8192x128 : Shape := ⟨3, ![16, 8192, 128]⟩
abbrev S1024x2048 : Shape := ⟨2, ![1024, 2048]⟩
abbrev S1024x128 : Shape := ⟨2, ![1024, 128]⟩
abbrev S8x1024x128 : Shape := ⟨3, ![8, 1024, 128]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x1024 : Shape := ⟨2, ![1024, 1024]⟩
abbrev S1x1024x128 : Shape := ⟨3, ![1, 1024, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S8192x128, .f32⟩
  | .hbm, ⟨3, _⟩ => ⟨S8192x128, .f32⟩
  | .hbm, ⟨4, _⟩ => ⟨S2x16464x2048, .f32⟩
  | .hbm, ⟨5, _⟩ => ⟨S16x8192x128, .bf16⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1024x128, .bf16⟩
  | .local _ .vmem, ⟨7, _⟩ => ⟨S8x1024x128, .bf16⟩
  | .local _ .vmem, ⟨8, _⟩ => ⟨S2x1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_64 : BitVec 32 := 0#32
  let v105 : BitVec 1 := Scalar.cmpi .eq arg0 c0_i32_64
  let v106 : BitVec 32 := Scalar.extui v105
  let c0_i32_65 : BitVec 32 := 0#32
  let v107 : BitVec 1 := Scalar.cmpi .ne v106 c0_i32_65
  v107

def k0_mult1 : BitVec 32 :=
  let c0_i32_78 : BitVec 32 := 0#32
  c0_i32_78
def k0_cond3 (i : grid0.Coords) : BitVec 1 :=
  let arg0 : BitVec 32 := BitVec.ofNat 32 (i 0).val
  let c1_i32_66 : BitVec 32 := 1#32
  let v108 : BitVec 32 := Scalar.addi arg0 c1_i32_66
  let c2_i32_67 : BitVec 32 := 2#32
  let v109 : BitVec 1 := Scalar.cmpi .slt v108 c2_i32_67
  let v110 : BitVec 32 := Scalar.extui v109
  let c0_i32_68 : BitVec 32 := 0#32
  let v111 : BitVec 1 := Scalar.cmpi .ne v110 c0_i32_68
  v111

def k0_mult2 (i : grid0.Coords) : BitVec 32 :=
  let c0_i32_81 : BitVec 32 := 0#32
  let arg0 : BitVec 32 := BitVec.ofNat 32 (i 0).val
  let c1_i32_78 : BitVec 32 := 1#32
  let v128 : BitVec 32 := Scalar.addi arg0 c1_i32_78
  let c1024_i32_80 : BitVec 32 := 1024#32
  let v130 : BitVec 32 := Scalar.muli v128 c1024_i32_80
  let v131 : BitVec 32 := Scalar.addi c0_i32_81 v130
  v131
def k0_off1 (i : grid0.Coords) : Fin 1 → Nat :=
  let c1_i32_79 : BitVec 32 := 1#32
  let arg0 : BitVec 32 := BitVec.ofNat 32 (i 0).val
  let c2_i32 : BitVec 32 := 2#32
  let c0_i32_60 : BitVec 32 := 0#32
  let v95 : BitVec 1 := Scalar.cmpi .eq c2_i32 c0_i32_60
  let c1_i32 : BitVec 32 := 1#32
  let v96 : BitVec 32 := Scalar.select v95 c1_i32 c2_i32
  let v97 : BitVec 32 := Scalar.remsi arg0 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let v129 : BitVec 32 := Scalar.subi c1_i32_79 v104
  ![v129.toNat]
def k0_off2 (i : grid0.Coords) : Fin 3 → Nat :=
  let c1_i32_79 : BitVec 32 := 1#32
  let arg0 : BitVec 32 := BitVec.ofNat 32 (i 0).val
  let c2_i32 : BitVec 32 := 2#32
  let c0_i32_60 : BitVec 32 := 0#32
  let v95 : BitVec 1 := Scalar.cmpi .eq c2_i32 c0_i32_60
  let c1_i32 : BitVec 32 := 1#32
  let v96 : BitVec 32 := Scalar.select v95 c1_i32 c2_i32
  let v97 : BitVec 32 := Scalar.remsi arg0 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let v129 : BitVec 32 := Scalar.subi c1_i32_79 v104
  let c0_i32_83 : BitVec 32 := 0#32
  let c0_i32_84 : BitVec 32 := 0#32
  ![v129.toNat, 0, 0]
def k0_off3 (i : grid0.Coords) : Fin 3 → Nat :=
  let c0_i32_82 : BitVec 32 := 0#32
  let c0_i32_81 : BitVec 32 := 0#32
  let arg0 : BitVec 32 := BitVec.ofNat 32 (i 0).val
  let c1_i32_78 : BitVec 32 := 1#32
  let v128 : BitVec 32 := Scalar.addi arg0 c1_i32_78
  let c1024_i32_80 : BitVec 32 := 1024#32
  let v130 : BitVec 32 := Scalar.muli v128 c1024_i32_80
  let v131 : BitVec 32 := Scalar.addi c0_i32_81 v130
  let v132 : BitVec 32 := v131
  let c0_i32_85 : BitVec 32 := 0#32
  ![0, v132.toNat, 0]
def k0_mult3 (i : grid0.Coords) : BitVec 32 :=
  let c0_i32_69 : BitVec 32 := 0#32
  let arg0 : BitVec 32 := BitVec.ofNat 32 (i 0).val
  let c1024_i32 : BitVec 32 := 1024#32
  let v112 : BitVec 32 := Scalar.muli arg0 c1024_i32
  let v113 : BitVec 32 := Scalar.addi c0_i32_69 v112
  v113
def k0_off4 (i : grid0.Coords) : Fin 1 → Nat :=
  let arg0 : BitVec 32 := BitVec.ofNat 32 (i 0).val
  let c2_i32 : BitVec 32 := 2#32
  let c0_i32_60 : BitVec 32 := 0#32
  let v95 : BitVec 1 := Scalar.cmpi .eq c2_i32 c0_i32_60
  let c1_i32 : BitVec 32 := 1#32
  let v96 : BitVec 32 := Scalar.select v95 c1_i32 c2_i32
  let v97 : BitVec 32 := Scalar.remsi arg0 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  ![v104.toNat]
def k0_off5 (i : grid0.Coords) : Fin 3 → Nat :=
  let arg0 : BitVec 32 := BitVec.ofNat 32 (i 0).val
  let c2_i32 : BitVec 32 := 2#32
  let c0_i32_60 : BitVec 32 := 0#32
  let v95 : BitVec 1 := Scalar.cmpi .eq c2_i32 c0_i32_60
  let c1_i32 : BitVec 32 := 1#32
  let v96 : BitVec 32 := Scalar.select v95 c1_i32 c2_i32
  let v97 : BitVec 32 := Scalar.remsi arg0 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let c0_i32_71 : BitVec 32 := 0#32
  let c0_i32_72 : BitVec 32 := 0#32
  ![v104.toNat, 0, 0]
def k0_off6 (i : grid0.Coords) : Fin 3 → Nat :=
  let c0_i32_70 : BitVec 32 := 0#32
  let c0_i32_69 : BitVec 32 := 0#32
  let arg0 : BitVec 32 := BitVec.ofNat 32 (i 0).val
  let c1024_i32 : BitVec 32 := 1024#32
  let v112 : BitVec 32 := Scalar.muli arg0 c1024_i32
  let v113 : BitVec 32 := Scalar.addi c0_i32_69 v112
  let v114 : BitVec 32 := v113
  let c0_i32_73 : BitVec 32 := 0#32
  ![0, v114.toNat, 0]
def k0_off7 (i : grid0.Coords) : Fin 3 → Nat :=
  let arg0 : BitVec 32 := BitVec.ofNat 32 (i 0).val
  let c2_i32 : BitVec 32 := 2#32
  let c0_i32_60 : BitVec 32 := 0#32
  let v95 : BitVec 1 := Scalar.cmpi .eq c2_i32 c0_i32_60
  let c1_i32 : BitVec 32 := 1#32
  let v96 : BitVec 32 := Scalar.select v95 c1_i32 c2_i32
  let v97 : BitVec 32 := Scalar.remsi arg0 v96
  let c0_i32_62 : BitVec 32 := 0#32
  let v99 : BitVec 1 := Scalar.cmpi .slt v97 c0_i32_62
  let c0_i32_63 : BitVec 32 := 0#32
  let v100 : BitVec 1 := Scalar.cmpi .slt v96 c0_i32_63
  let v101 : BitVec 1 := Scalar.xori v99 v100
  let c0_i32_61 : BitVec 32 := 0#32
  let v98 : BitVec 1 := Scalar.cmpi .ne v97 c0_i32_61
  let v102 : BitVec 1 := Scalar.andi v101 v98
  let v103 : BitVec 32 := Scalar.addi v97 v96
  let v104 : BitVec 32 := Scalar.select v102 v103 v97
  let v121 : Index := Scalar.indexCast v104
  let c0_74 : Index := 0#32
  let c0_75 : Index := 0#32
  ![v121.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x2048 : Shape := ⟨2, ![8192, 2048]⟩
abbrev S2x2048x16464 : Shape := ⟨3, ![2, 2048, 16464]⟩
abbrev S8192x128 : Shape := ⟨2, ![8192, 128]⟩
abbrev S1x2048x16464 : Shape := ⟨3, ![1, 2048, 16464]⟩
abbrev S2048x16464 : Shape := ⟨2, ![2048, 16464]⟩
abbrev S8192x16464 : Shape := ⟨2, ![8192, 16464]⟩
abbrev S8192x16x128 : Shape := ⟨3, ![8192, 16, 128]⟩
abbrev S8192x16x64 : Shape := ⟨3, ![8192, 16, 64]⟩
abbrev S8192x1x128 : Shape := ⟨3, ![8192, 1, 128]⟩
abbrev S8192x1x64 : Shape := ⟨3, ![8192, 1, 64]⟩
abbrev S16x8192x128 : Shape := ⟨3, ![16, 8192, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x16464, .f32⟩
  | .hbm, ⟨2, _⟩ => ⟨S8192x128, .f32⟩
  | .hbm, ⟨3, _⟩ => ⟨S8192x128, .f32⟩
  | .hbm, ⟨4, _⟩ => ⟨S1x2048x16464, .f32⟩
  | .hbm, ⟨5, _⟩ => ⟨S2048x16464, .f32⟩
  | .hbm, ⟨6, _⟩ => ⟨S8192x16464, .f32⟩
  | .hbm, ⟨7, _⟩ => ⟨S8192x2048, .f32⟩
  | .hbm, ⟨8, _⟩ => ⟨S8192x16x128, .f32⟩
  | .hbm, ⟨9, _⟩ => ⟨S8192x16x64, .f32⟩
  | .hbm, ⟨10, _⟩ => ⟨S8192x16x64, .f32⟩
  | .hbm, ⟨11, _⟩ => ⟨S8192x1x128, .f32⟩
  | .hbm, ⟨12, _⟩ => ⟨S8192x1x128, .f32⟩
  | .hbm, ⟨13, _⟩ => ⟨S8192x1x64, .f32⟩
  | .hbm, ⟨14, _⟩ => ⟨S8192x16x64, .f32⟩
  | .hbm, ⟨15, _⟩ => ⟨S8192x16x64, .f32⟩
  | .hbm, ⟨16, _⟩ => ⟨S8192x1x64, .f32⟩
  | .hbm, ⟨17, _⟩ => ⟨S8192x16x64, .f32⟩
  | .hbm, ⟨18, _⟩ => ⟨S8192x16x64, .f32⟩
  | .hbm, ⟨19, _⟩ => ⟨S8192x16x64, .f32⟩
  | .hbm, ⟨20, _⟩ => ⟨S8192x1x64, .f32⟩
  | .hbm, ⟨21, _⟩ => ⟨S8192x16x64, .f32⟩
  | .hbm, ⟨22, _⟩ => ⟨S8192x16x64, .f32⟩
  | .hbm, ⟨23, _⟩ => ⟨S8192x1x64, .f32⟩
  | .hbm, ⟨24, _⟩ => ⟨S8192x16x64, .f32⟩
  | .hbm, ⟨25, _⟩ => ⟨S8192x16x64, .f32⟩
  | .hbm, ⟨26, _⟩ => ⟨S8192x16x64, .f32⟩
  | .hbm, ⟨27, _⟩ => ⟨S8192x16x128, .f32⟩
  | .hbm, ⟨28, _⟩ => ⟨S16x8192x128, .f32⟩
  | .hbm, ⟨29, _⟩ => ⟨S16x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel12.lean ====
abbrev S8192x2048 : Shape := ⟨2, ![8192, 2048]⟩
abbrev S2x2048x16464 : Shape := ⟨3, ![2, 2048, 16464]⟩
abbrev S8192x128 : Shape := ⟨2, ![8192, 128]⟩
abbrev S2x16464x2048 : Shape := ⟨3, ![2, 16464, 2048]⟩
abbrev S16x8192x128 : Shape := ⟨3, ![16, 8192, 128]⟩
abbrev S1024x2048 : Shape := ⟨2, ![1024, 2048]⟩
abbrev S1024x128 : Shape := ⟨2, ![1024, 128]⟩
abbrev S8x1024x128 : Shape := ⟨3, ![8, 1024, 128]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x1024 : Shape := ⟨2, ![1024, 1024]⟩
abbrev S1x1024x128 : Shape := ⟨3, ![1, 1024, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S8192x128, .f32⟩
  | .hbm, ⟨3, _⟩ => ⟨S8192x128, .f32⟩
  | .hbm, ⟨4, _⟩ => ⟨S2x16464x2048, .f32⟩
  | .hbm, ⟨5, _⟩ => ⟨S16x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1024x128, .bf16⟩
  | .local _ .vmem, ⟨7, _⟩ => ⟨S8x1024x128, .bf16⟩
  | .local _ .vmem, ⟨8, _⟩ => ⟨S2x1024x2048, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_64 : BitVec 32 := 0#32
  let v104 : BitVec 1 := Scalar.cmpi .eq arg0 c0_i32_64
  let v105 : BitVec 32 := Scalar.extui v104
  let c0_i32_65 : BitVec 32 := 0#32
  let v106 : BitVec 1 := Scalar.cmpi .ne v105 c0_i32_65
  v106

def k0_mult1 : BitVec 32 :=
  let c0_i32_78 : BitVec 32 := 0#32
  c0_i32_78
def k0_cond3 (i : grid0.Coords) : BitVec 1 :=
  let arg0 : BitVec 32 := BitVec.ofNat 32 (i 0).val
  let c1_i32_66 : BitVec 32 := 1#32
  let v107 : BitVec 32 := Scalar.addi arg0 c1_i32_66
  let c2_i32_67 : BitVec 32 := 2#32
  let v108 : BitVec 1 := Scalar.cmpi .slt v107 c2_i32_67
  let v109 : BitVec 32 := Scalar.extui v108
  let c0_i32_68 : BitVec 32 := 0#32
  let v110 : BitVec 1 := Scalar.cmpi .ne v109 c0_i32_68
  v110

def k0_mult2 (i : grid0.Coords) : BitVec 32 :=
  let c0_i32_81 : BitVec 32 := 0#32
  let arg0 : BitVec 32 := BitVec.ofNat 32 (i 0).val
  let c1_i32_78 : BitVec 32 := 1#32
  let v127 : BitVec 32 := Scalar.addi arg0 c1_i32_78
  let c1024_i32_80 : BitVec 32 := 1024#32
  let v129 : BitVec 32 := Scalar.muli v127 c1024_i32_80
  let v130 : BitVec 32 := Scalar.addi c0_i32_81 v129
  v130
def k0_off1 (i : grid0.Coords) : Fin 1 → Nat :=
  let c1_i32_79 : BitVec 32 := 1#32
  let arg0 : BitVec 32 := BitVec.ofNat 32 (i 0).val
  let c2_i32 : BitVec 32 := 2#32
  let c0_i32_60 : BitVec 32 := 0#32
  let v94 : BitVec 1 := Scalar.cmpi .eq c2_i32 c0_i32_60
  let c1_i32 : BitVec 32 := 1#32
  let v95 : BitVec 32 := Scalar.select v94 c1_i32 c2_i32
  let v96 : BitVec 32 := Scalar.remsi arg0 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let v128 : BitVec 32 := Scalar.subi c1_i32_79 v103
  ![v128.toNat]
def k0_off2 (i : grid0.Coords) : Fin 3 → Nat :=
  let c1_i32_79 : BitVec 32 := 1#32
  let arg0 : BitVec 32 := BitVec.ofNat 32 (i 0).val
  let c2_i32 : BitVec 32 := 2#32
  let c0_i32_60 : BitVec 32 := 0#32
  let v94 : BitVec 1 := Scalar.cmpi .eq c2_i32 c0_i32_60
  let c1_i32 : BitVec 32 := 1#32
  let v95 : BitVec 32 := Scalar.select v94 c1_i32 c2_i32
  let v96 : BitVec 32 := Scalar.remsi arg0 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let v128 : BitVec 32 := Scalar.subi c1_i32_79 v103
  let c0_i32_83 : BitVec 32 := 0#32
  let c0_i32_84 : BitVec 32 := 0#32
  ![v128.toNat, 0, 0]
def k0_off3 (i : grid0.Coords) : Fin 3 → Nat :=
  let c1_i32_82 : BitVec 32 := 1#32
  let c0_i32_81 : BitVec 32 := 0#32
  let arg0 : BitVec 32 := BitVec.ofNat 32 (i 0).val
  let c1_i32_78 : BitVec 32 := 1#32
  let v127 : BitVec 32 := Scalar.addi arg0 c1_i32_78
  let c1024_i32_80 : BitVec 32 := 1024#32
  let v129 : BitVec 32 := Scalar.muli v127 c1024_i32_80
  let v130 : BitVec 32 := Scalar.addi c0_i32_81 v129
  let v131 : BitVec 32 := v130
  let c0_i32_85 : BitVec 32 := 0#32
  ![1, v131.toNat, 0]
def k0_mult3 (i : grid0.Coords) : BitVec 32 :=
  let c0_i32_69 : BitVec 32 := 0#32
  let arg0 : BitVec 32 := BitVec.ofNat 32 (i 0).val
  let c1024_i32 : BitVec 32 := 1024#32
  let v111 : BitVec 32 := Scalar.muli arg0 c1024_i32
  let v112 : BitVec 32 := Scalar.addi c0_i32_69 v111
  v112
def k0_off4 (i : grid0.Coords) : Fin 1 → Nat :=
  let arg0 : BitVec 32 := BitVec.ofNat 32 (i 0).val
  let c2_i32 : BitVec 32 := 2#32
  let c0_i32_60 : BitVec 32 := 0#32
  let v94 : BitVec 1 := Scalar.cmpi .eq c2_i32 c0_i32_60
  let c1_i32 : BitVec 32 := 1#32
  let v95 : BitVec 32 := Scalar.select v94 c1_i32 c2_i32
  let v96 : BitVec 32 := Scalar.remsi arg0 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  ![v103.toNat]
def k0_off5 (i : grid0.Coords) : Fin 3 → Nat :=
  let arg0 : BitVec 32 := BitVec.ofNat 32 (i 0).val
  let c2_i32 : BitVec 32 := 2#32
  let c0_i32_60 : BitVec 32 := 0#32
  let v94 : BitVec 1 := Scalar.cmpi .eq c2_i32 c0_i32_60
  let c1_i32 : BitVec 32 := 1#32
  let v95 : BitVec 32 := Scalar.select v94 c1_i32 c2_i32
  let v96 : BitVec 32 := Scalar.remsi arg0 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c0_i32_71 : BitVec 32 := 0#32
  let c0_i32_72 : BitVec 32 := 0#32
  ![v103.toNat, 0, 0]
def k0_off6 (i : grid0.Coords) : Fin 3 → Nat :=
  let c1_i32_70 : BitVec 32 := 1#32
  let c0_i32_69 : BitVec 32 := 0#32
  let arg0 : BitVec 32 := BitVec.ofNat 32 (i 0).val
  let c1024_i32 : BitVec 32 := 1024#32
  let v111 : BitVec 32 := Scalar.muli arg0 c1024_i32
  let v112 : BitVec 32 := Scalar.addi c0_i32_69 v111
  let v113 : BitVec 32 := v112
  let c0_i32_73 : BitVec 32 := 0#32
  ![1, v113.toNat, 0]
def k0_off7 (i : grid0.Coords) : Fin 3 → Nat :=
  let arg0 : BitVec 32 := BitVec.ofNat 32 (i 0).val
  let c2_i32 : BitVec 32 := 2#32
  let c0_i32_60 : BitVec 32 := 0#32
  let v94 : BitVec 1 := Scalar.cmpi .eq c2_i32 c0_i32_60
  let c1_i32 : BitVec 32 := 1#32
  let v95 : BitVec 32 := Scalar.select v94 c1_i32 c2_i32
  let v96 : BitVec 32 := Scalar.remsi arg0 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let v120 : Index := Scalar.indexCast v103
  let c0_74 : Index := 0#32
  let c0_75 : Index := 0#32
  ![v120.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S2x2048x16464 : Shape := ⟨3, ![2, 2048, 16464]⟩
abbrev S8192x128 : Shape := ⟨2, ![8192, 128]⟩
abbrev S1x2048x16464 : Shape := ⟨3, ![1, 2048, 16464]⟩
abbrev S2048x16464 : Shape := ⟨2, ![2048, 16464]⟩
abbrev S8192x16464 : Shape := ⟨2, ![8192, 16464]⟩
abbrev S8192x16x128 : Shape := ⟨3, ![8192, 16, 128]⟩
abbrev S8192x16x64 : Shape := ⟨3, ![8192, 16, 64]⟩
abbrev S8192x1x128 : Shape := ⟨3, ![8192, 1, 128]⟩
abbrev S8192x1x64 : Shape := ⟨3, ![8192, 1, 64]⟩
abbrev S16x8192x128 : Shape := ⟨3, ![16, 8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16464, .f32⟩
  | .hbm, ⟨2, _⟩ => ⟨S8192x128, .f32⟩
  | .hbm, ⟨3, _⟩ => ⟨S8192x128, .f32⟩
  | .hbm, ⟨4, _⟩ => ⟨S8192x2048, .f32⟩
  | .hbm, ⟨5, _⟩ => ⟨S1x2048x16464, .f32⟩
  | .hbm, ⟨6, _⟩ => ⟨S2048x16464, .f32⟩
  | .hbm, ⟨7, _⟩ => ⟨S8192x16464, .f32⟩
  | .hbm, ⟨8, _⟩ => ⟨S8192x2048, .f32⟩
  | .hbm, ⟨9, _⟩ => ⟨S8192x16x128, .f32⟩
  | .hbm, ⟨10, _⟩ => ⟨S8192x16x64, .f32⟩
  | .hbm, ⟨11, _⟩ => ⟨S8192x16x64, .f32⟩
  | .hbm, ⟨12, _⟩ => ⟨S8192x1x128, .f32⟩
  | .hbm, ⟨13, _⟩ => ⟨S8192x1x128, .f32⟩
  | .hbm, ⟨14, _⟩ => ⟨S8192x1x64, .f32⟩
  | .hbm, ⟨15, _⟩ => ⟨S8192x16x64, .f32⟩
  | .hbm, ⟨16, _⟩ => ⟨S8192x16x64, .f32⟩
  | .hbm, ⟨17, _⟩ => ⟨S8192x1x64, .f32⟩
  | .hbm, ⟨18, _⟩ => ⟨S8192x16x64, .f32⟩
  | .hbm, ⟨19, _⟩ => ⟨S8192x16x64, .f32⟩
  | .hbm, ⟨20, _⟩ => ⟨S8192x16x64, .f32⟩
  | .hbm, ⟨21, _⟩ => ⟨S8192x1x64, .f32⟩
  | .hbm, ⟨22, _⟩ => ⟨S8192x16x64, .f32⟩
  | .hbm, ⟨23, _⟩ => ⟨S8192x16x64, .f32⟩
  | .hbm, ⟨24, _⟩ => ⟨S8192x1x64, .f32⟩
  | .hbm, ⟨25, _⟩ => ⟨S8192x16x64, .f32⟩
  | .hbm, ⟨26, _⟩ => ⟨S8192x16x64, .f32⟩
  | .hbm, ⟨27, _⟩ => ⟨S8192x16x64, .f32⟩
  | .hbm, ⟨28, _⟩ => ⟨S8192x16x128, .f32⟩
  | .hbm, ⟨29, _⟩ => ⟨S16x8192x128, .f32⟩
  | .hbm, ⟨30, _⟩ => ⟨S16x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Proof.Arith.lean ====
/- The scalar identities over the extended reals by which the recurrence's kernel and its plain statement agree: the
   logistic function written with tanh, the softplus written with a logarithm, the square root written with a
   reciprocal square root, and the law by which two steps of the linear recurrence compose into one. -/
module

public import Idealize.ShloMosaic.Lib.Pointwise
public import Idealize.ShloMosaic.Lib.IdealHost

@[expose] public section

noncomputable section

namespace Cert.Lru

open Idealize.ShloMosaic

/-! ## Literals -/

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_eight : Ideal.ofBits .f32 0xC1000000#32 = ((-8 : ℝ) : EReal) := by
  simp [Ideal.ofBits, Ideal.ieee, -EReal.coe_mul, -EReal.coe_neg]; norm_num

/-! ## The logistic function -/

/-- `1/2 (1 + tanh (x/2))` is the logistic function, at every extended real. -/
theorem half_tanh (x : EReal) :
    ((1 / 2 : ℝ) : EReal) * (1 + Ideal.tanh (((1 / 2 : ℝ) : EReal) * x)) = Ideal.logistic x := by
  induction x with
  | bot =>
    rw [EReal.coe_mul_bot_of_pos (by norm_num), Ideal.tanh_bot, Ideal.logistic_bot]
    have : (1 : EReal) + -1 = 0 := by
      rw [show (1 : EReal) = ((1 : ℝ) : EReal) from rfl, ← EReal.coe_neg, ← EReal.coe_add]; norm_num
    rw [this, mul_zero]
  | top =>
    rw [EReal.coe_mul_top_of_pos (by norm_num), Ideal.tanh_top, Ideal.logistic_top]
    rw [show (1 : EReal) = ((1 : ℝ) : EReal) from rfl, ← EReal.coe_add, ← EReal.coe_mul]; norm_num
  | coe r =>
    rw [← EReal.coe_mul, Ideal.tanh_coe, Ideal.logistic_coe, show (1 : EReal) = ((1 : ℝ) : EReal) from rfl,
      ← EReal.coe_add, ← EReal.coe_mul]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    set u := Real.exp (1 / 2 * r)
    set v := Real.exp (-(1 / 2 * r))
    have hu : 0 < u := Real.exp_pos _
    have hv : 0 < v := Real.exp_pos _
    have hvv : 0 < 1 + v * v := by positivity
    field_simp
    nlinarith [h2]

theorem logistic_nonneg (x : EReal) : 0 ≤ Ideal.logistic x := by
  induction x with
  | bot => rw [Ideal.logistic_bot]
  | top => rw [Ideal.logistic_top]; exact zero_le_one
  | coe r => rw [Ideal.logistic_coe]; exact EReal.coe_nonneg.mpr (by positivity)

/-! ## The softplus -/

/-- `log (1 + exp x)`. -/
def softplus (x : EReal) : EReal := Ideal.log (1 + Ideal.exp x)

theorem softplus_nonneg (x : EReal) : 0 ≤ softplus x := by
  unfold softplus
  induction x with
  | bot =>
    rw [Ideal.exp_bot, add_zero, show (1 : EReal) = ((1 : ℝ) : EReal) from rfl, Ideal.log_coe, if_neg (by norm_num)]
    simp
  | top => rw [Ideal.exp_top, EReal.add_top_of_ne_bot (by decide), Ideal.log_top]; exact le_top
  | coe r =>
    have h := Real.exp_pos r
    rw [Ideal.exp_coe, show (1 : EReal) = ((1 : ℝ) : EReal) from rfl, ← EReal.coe_add, Ideal.log_coe,
      if_neg (by linarith)]
    exact EReal.coe_nonneg.mpr (Real.log_nonneg (by linarith))

/-- The stable form `max x 0 + log (1 + exp (-|x|))` is the softplus, at every extended real. -/
theorem softplus_stable (x : EReal) :
    max x 0 + Ideal.log (1 + Ideal.exp (-(max x (-x)))) = softplus x := by
  unfold softplus
  have hlog1 : Ideal.log 1 = 0 := by
    rw [show (1 : EReal) = ((1 : ℝ) : EReal) from rfl, Ideal.log_coe, if_neg (by norm_num)]; simp
  induction x with
  | bot => simp only [EReal.neg_bot, max_eq_right bot_le, EReal.neg_top, Ideal.exp_bot, add_zero, hlog1]
  | top =>
    simp only [EReal.neg_top, max_eq_left bot_le, Ideal.exp_bot, add_zero, hlog1, max_eq_left le_top, Ideal.exp_top]
    rw [EReal.add_top_of_ne_bot (by decide), Ideal.log_top]
  | coe r =>
    have h1 := Real.exp_pos r
    have h2 := Real.exp_pos (-|r|)
    have e1 : max (r : EReal) 0 = ((max r 0 : ℝ) : EReal) := (EReal.coe_strictMono.monotone.map_max (a := r) (b := 0)).symm
    have e2 : max (r : EReal) (-(r : EReal)) = ((|r| : ℝ) : EReal) := by
      rw [← EReal.coe_neg, ← EReal.coe_strictMono.monotone.map_max, abs_eq_max_neg]
    rw [e1, e2, ← EReal.coe_neg, Ideal.exp_coe, Ideal.exp_coe, show (1 : EReal) = ((1 : ℝ) : EReal) from rfl,
      ← EReal.coe_add, ← EReal.coe_add, Ideal.log_coe, Ideal.log_coe, if_neg (by linarith), if_neg (by linarith),
      ← EReal.coe_add]
    congr 1
    rcases le_total 0 r with h | h
    · rw [max_eq_left h, abs_of_nonneg h]
      have : 1 + Real.exp r = Real.exp r * (1 + Real.exp (-r)) := by
        rw [mul_add, ← Real.exp_add]; simp [add_comm]
      rw [this, Real.log_mul h1.ne' (by positivity), Real.log_exp]
    · rw [max_eq_right h, abs_of_nonpos h, neg_neg, zero_add]

/-! ## The decay and its root -/

/-- A decay exponent `-8 r s` with `r` and `s` at least zero is at most zero. -/
theorem exponent_nonpos {r s : EReal} (hr : 0 ≤ r) (hs : 0 ≤ s) : ((-8 : ℝ) : EReal) * r * s ≤ 0 := by
  rw [EReal.coe_neg, EReal.neg_mul, EReal.neg_mul]
  exact EReal.neg_le_zero.mpr (mul_nonneg (mul_nonneg (EReal.coe_nonneg.mpr (by norm_num)) hr) hs)

/-- The exponential of an extended real at most zero is a real between zero and one. -/
theorem exp_of_nonpos {l : EReal} (hl : l ≤ 0) : ∃ ρ : ℝ, 0 ≤ ρ ∧ ρ ≤ 1 ∧ Ideal.exp l = (ρ : EReal) := by
  induction l with
  | bot => exact ⟨0, le_rfl, zero_le_one, rfl⟩
  | top => exact absurd hl (by simp)
  | coe r => exact ⟨Real.exp r, (Real.exp_pos r).le, Real.exp_le_one_iff.mpr (EReal.coe_nonpos.mp hl), rfl⟩

/-- `1 - exp (l)²` is `-(exp (2 l) - 1)` for `l` at most zero. -/
theorem one_sub_sq {l : EReal} (hl : l ≤ 0) :
    -(Ideal.exp (((2 : ℝ) : EReal) * l) - 1) = 1 - Ideal.exp l * Ideal.exp l := by
  induction l with
  | bot => rw [EReal.coe_mul_bot_of_pos (by norm_num), Ideal.exp_bot, mul_zero, zero_sub, neg_neg, sub_zero]
  | top => exact absurd hl (by simp)
  | coe r =>
    rw [← EReal.coe_mul, Ideal.exp_coe, Ideal.exp_coe, show (1 : EReal) = ((1 : ℝ) : EReal) from rfl, ← EReal.coe_mul,
      ← EReal.coe_sub, ← EReal.coe_sub, ← EReal.coe_neg, ← Real.exp_add]
    congr 1
    rw [two_mul]; ring

/-- `y · rsqrt y` where `y` is positive and zero elsewhere is the root of `y`, for `y = 1 - a²` with `a` in `[0, 1]`. -/
theorem root_eq {ρ : ℝ} (h0 : 0 ≤ ρ) (h1 : ρ ≤ 1) :
    (if 0 < (1 : EReal) - (ρ : EReal) * (ρ : EReal)
      then (1 - (ρ : EReal) * (ρ : EReal)) * Ideal.rsqrt (1 - (ρ : EReal) * (ρ : EReal)) else 0)
      = Ideal.sqrt (1 - (ρ : EReal) * (ρ : EReal)) := by
  have e : (1 : EReal) - (ρ : EReal) * (ρ : EReal) = ((1 - ρ * ρ : ℝ) : EReal) := by
    rw [show (1 : EReal) = ((1 : ℝ) : EReal) from rfl, ← EReal.coe_mul, ← EReal.coe_sub]
  rw [e, Ideal.sqrt_coe, Ideal.rsqrt_coe]
  have hy : 0 ≤ 1 - ρ * ρ := by nlinarith
  rw [if_neg (not_lt.mpr hy), if_neg (not_lt.mpr hy)]
  by_cases hz : 1 - ρ * ρ = 0
  · rw [if_neg (by rw [hz]; simp), hz]; simp
  · have hp : 0 < 1 - ρ * ρ := lt_of_le_of_ne hy (Ne.symm hz)
    rw [if_pos (EReal.coe_pos.mpr hp), if_neg hz, ← EReal.coe_mul]
    congr 1
    rw [← div_eq_mul_inv, Real.div_sqrt]

/-! ## The linear recurrence -/

/-- The state after `t` steps of `h ← a t · h + b t` from zero. -/
def scan (a b : ℕ → EReal) : ℕ → EReal
  | 0 => 0
  | t + 1 => a t * scan a b t + b t

/-- The last `n` steps before step `e`, as one step of factor `A` and addend `B`. -/
structure Window (H : ℕ → EReal) (n e : ℕ) (A B : EReal) : Prop where
  nonneg : 0 ≤ A
  ne_top : A ≠ ⊤
  step : H e = A * H (e - n) + B

/-- A real factor that is at least zero distributes over every sum of extended reals. -/
theorem distrib {A : EReal} (h0 : 0 ≤ A) (h1 : A ≠ ⊤) (x y : EReal) : A * (x + y) = A * x + A * y :=
  EReal.left_distrib_of_nonneg_of_ne_top h0 h1 x y

theorem mul_ne_top {A B : EReal} (hA : 0 ≤ A) (hA' : A ≠ ⊤) (hB : 0 ≤ B) (hB' : B ≠ ⊤) : A * B ≠ ⊤ := by
  lift A to ℝ using ⟨hA', ne_bot_of_le_ne_bot (by simp) hA⟩
  lift B to ℝ using ⟨hB', ne_bot_of_le_ne_bot (by simp) hB⟩
  rw [← EReal.coe_mul]; exact EReal.coe_ne_top _

/-- Two windows, one ending where the other begins, compose. -/
theorem Window.comp {H : ℕ → EReal} {n n' e : ℕ} {A B A' B' : EReal} (h : Window H n e A B)
    (h' : Window H n' (e - n) A' B') : Window H (n + n') e (A * A') (A * B' + B) where
  nonneg := mul_nonneg h.nonneg h'.nonneg
  ne_top := mul_ne_top h.nonneg h.ne_top h'.nonneg h'.ne_top
  step := by
    rw [h.step, h'.step, distrib h.nonneg h.ne_top, mul_assoc, Nat.sub_sub, add_assoc]

/-- Composing with a step of factor one and addend zero changes nothing. -/
theorem Window.pad {H : ℕ → EReal} {n e : ℕ} {A B : EReal} (h : Window H n e A B) :
    Window H n e (A * 1) (A * 0 + B) := by
  rw [mul_one, mul_zero, zero_add]; exact h

end Cert.Lru

end
-- ==== Proof.Spec.lean ====
/- The gated linear recurrence of one channel, written over the extended reals: a causal convolution of four taps, two
   logistic gates, a decay in [0, 1], the driven input, and the recurrence h ← a·h + b from zero. -/
module

public import proofs.«01_k».proof.Proof.Arith

@[expose] public section

noncomputable section

namespace Cert.Lru

open Idealize.ShloMosaic

/-- The sequence moved down by `d` positions, zeros entering at the front. -/
def tap (x : Fin 2048 → EReal) (d : ℕ) (s : Fin 2048) : EReal :=
  if d ≤ s.val then x ⟨s.val - d, by omega⟩ else 0

/-- The causal convolution of four taps, the bias first. -/
def conv (x : Fin 2048 → EReal) (w0 w1 w2 w3 bias : EReal) (s : Fin 2048) : EReal :=
  bias + tap x 3 s * w0 + tap x 2 s * w1 + tap x 1 s * w2 + x s * w3

/-- The decay's exponent, `-8 r softplus(-λ)`. -/
def expo (r lam : EReal) : EReal := ((-8 : ℝ) : EReal) * r * softplus (-lam)

/-- The decay of one step. -/
def decay (r lam : EReal) : EReal := Ideal.exp (expo r lam)

/-- What one step adds: the gated input, scaled by `√(1 - a²)`. -/
def drive (r i xc lam : EReal) : EReal := Ideal.sqrt (1 - decay r lam * decay r lam) * (i * xc)

/-- A sequence of 2048 values as one over all the naturals. -/
def ext (f : Fin 2048 → EReal) (t : ℕ) : EReal := if h : t < 2048 then f ⟨t, h⟩ else 0

theorem ext_val (f : Fin 2048 → EReal) {t : ℕ} (h : t < 2048) : ext f t = f ⟨t, h⟩ := dif_pos h

/-- The state after step `s`. -/
def state (a b : Fin 2048 → EReal) (s : ℕ) : EReal := scan (ext a) (ext b) (s + 1)

theorem expo_nonpos (x lam : EReal) : expo (Ideal.logistic x) lam ≤ 0 :=
  exponent_nonpos (logistic_nonneg x) (softplus_nonneg _)

theorem decay_real (x lam : EReal) :
    ∃ ρ : ℝ, 0 ≤ ρ ∧ ρ ≤ 1 ∧ decay (Ideal.logistic x) lam = (ρ : EReal) := exp_of_nonpos (expo_nonpos x lam)

theorem decay_nonneg (x lam : EReal) : 0 ≤ decay (Ideal.logistic x) lam := by
  obtain ⟨ρ, h0, -, h⟩ := decay_real x lam
  rw [h]; exact_mod_cast h0

theorem decay_ne_top (x lam : EReal) : decay (Ideal.logistic x) lam ≠ ⊤ := by
  obtain ⟨ρ, -, -, h⟩ := decay_real x lam
  rw [h]; exact EReal.coe_ne_top ρ

/-- The root as a product with a reciprocal square root, guarded at zero. -/
theorem drive_guarded (x i xc lam : EReal) :
    (if 0 < 1 - decay (Ideal.logistic x) lam * decay (Ideal.logistic x) lam then
        (1 - decay (Ideal.logistic x) lam * decay (Ideal.logistic x) lam)
          * Ideal.rsqrt (1 - decay (Ideal.logistic x) lam * decay (Ideal.logistic x) lam)
      else 0) * (i * xc) = drive (Ideal.logistic x) i xc lam := by
  obtain ⟨ρ, h0, h1, h⟩ := decay_real x lam
  unfold drive
  rw [h, root_eq h0 h1]

/-- The root through `exp x - 1` of twice the exponent. -/
theorem drive_expm1 (x i xc lam : EReal) :
    Ideal.sqrt (-(Ideal.exp (((2 : ℝ) : EReal) * expo (Ideal.logistic x) lam) - 1)) * (i * xc)
      = drive (Ideal.logistic x) i xc lam := by
  rw [one_sub_sq (expo_nonpos x lam)]; rfl

/-- One step of the recurrence is a window of length one. -/
theorem Window.one {a b : Fin 2048 → EReal} (ha0 : ∀ s, 0 ≤ a s) (ha1 : ∀ s, a s ≠ ⊤) (s : Fin 2048) :
    Window (scan (ext a) (ext b)) 1 (s.val + 1) (a s) (b s) where
  nonneg := ha0 s
  ne_top := ha1 s
  step := by
    show ext a s.val * scan (ext a) (ext b) s.val + ext b s.val = _
    rw [ext_val a s.isLt, ext_val b s.isLt]; rfl

/-- The doubling step within eight consecutive positions: position `s` takes in the window ending `d` positions
    before, where there is one among the eight, and else is left as it is. -/
theorem Window.double {H : ℕ → EReal} {d t : ℕ} {A B : Fin 8 → EReal} (hd : 0 < d)
    (h : ∀ s : Fin 8, Window H (min (s.val + 1) d) (t * 8 + s.val + 1) (A s) (B s)) (s s' : Fin 8)
    (hs' : s'.val = (s.val + 8 - d) % 8) :
    Window H (min (s.val + 1) (2 * d)) (t * 8 + s.val + 1) (A s * if d ≤ s.val then A s' else 1)
      ((if d ≤ s.val then A s * B s' else 0) + B s) := by
  by_cases hc : d ≤ s.val
  · rw [if_pos hc, if_pos hc]
    have e : s'.val = s.val - d := by omega
    have h' := h s'
    have hs := h s
    rw [show min (s.val + 1) d = d by omega] at hs
    rw [show t * 8 + s'.val + 1 = t * 8 + s.val + 1 - d by omega] at h'
    have := hs.comp h'
    rwa [show d + min (s'.val + 1) d = min (s.val + 1) (2 * d) by omega] at this
  · rw [if_neg hc, if_neg hc, mul_one, zero_add, show min (s.val + 1) (2 * d) = min (s.val + 1) d by omega]
    exact h s

end Cert.Lru

end
-- ==== Proof.Block.lean ====
/- What the kernel's block expressions read at an index: the convolution, the gates, the decay and the driven input of
   one block of 256 channels, and the three doubling steps that compose eight steps of the recurrence. -/
module

public import proofs.«01_k».proof.Proof.Spec
public import proofs.«01_k».proof.Proof.Gen.KernelIdeal.Value

@[expose] public section

set_option maxRecDepth 16384

noncomputable section

namespace Cert.Lru

open Cert.KernelIdeal Cert.KernelIdeal.Gen
open Idealize.ShloMosaic Idealize.ShloMosaic.TcCoe

/-- A signed comparison of two small words, read as one of their numbers. -/
theorem select_sge {α : Type} {n d : ℕ} (hn : n < 2 ^ 31) (hd : d < 2 ^ 31) (x y : α) :
    Scalar.select (IntOp.cmpi .sge (BitVec.ofNat 32 n) (BitVec.ofNat 32 d)) x y = if d ≤ n then x else y := by
  have e : (BitVec.ofNat 32 d).sle (BitVec.ofNat 32 n) = decide (d ≤ n) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold Scalar.select IntOp.cmpi
  by_cases h : d ≤ n <;> simp [e, h]

/-- The convolution of one block. -/
theorem pay2_at (x0 : FVec Ideal S2048x256 .f32) (bias w0 w1 w2 w3 : FVec Ideal S1x256 .f32) (s : Fin 2048) (l : Fin 256) :
    k0_pay2 (F := Ideal) x0 bias w0 w1 w2 w3 (ix2 s l)
      = conv (fun s => x0 (ix2 s l)) (w0 (ix2 0 l)) (w1 (ix2 0 l)) (w2 (ix2 0 l)) (w3 (ix2 0 l)) (bias (ix2 0 l)) s := by
  have hs : s.val < 2 ^ 31 := by omega
  have hrot : ∀ d : ℕ, ∀ hd : d ≤ s.val, ∀ h h',
      (⟨(s.val + 2048 - d) % 2048, h⟩ : Fin 2048) = ⟨s.val - d, h'⟩ := fun d hd h h' => Fin.ext (by
    show (s.val + 2048 - d) % 2048 = s.val - d
    omega)
  pointwise [k0_pay2, conv, tap]
  have h3 := fun x y : EReal => select_sge (x := x) (y := y) hs (show 3 < 2 ^ 31 by norm_num)
  have h2 := fun x y : EReal => select_sge (x := x) (y := y) hs (show 2 < 2 ^ 31 by norm_num)
  have h1 := fun x y : EReal => select_sge (x := x) (y := y) hs (show 1 < 2 ^ 31 by norm_num)
  rw [h3, h2, h1]
  congr 1; congr 1
  · congr 1
    · congr 1
      split_ifs with h
      · rw [hrot 3 h]
      · rw [zero_mul]
    · split_ifs with h
      · rw [hrot 2 h]
      · rw [zero_mul]
  · split_ifs with h
    · rw [hrot 1 h]
    · rw [zero_mul]

/-- A block's product with its two square weight blocks, at column `l`. -/
def blockDot (xc : Fin 2048 → Fin 256 → EReal) (w0 w1 : FVec Ideal S1x128x128 .bf16) (s : Fin 2048) (l : Fin 256) : EReal :=
  if h : l.val < 128 then ∑ k : Fin 128, xc s ⟨k.val, by omega⟩ * w0 (ix3 0 k ⟨l.val, h⟩)
  else ∑ k : Fin 128, xc s ⟨128 + k.val, by omega⟩ * w1 (ix3 0 k ⟨l.val - 128, by omega⟩)

/-- The recurrence gate of one block. -/
theorem pay6_at (xc : FVec Ideal S2048x256 .f32) (w0 w1 : FVec Ideal S1x128x128 .bf16) (ba : FVec Ideal S1x256 .f32)
    (s : Fin 2048) (l : Fin 256) :
    k0_pay6 (F := Ideal) xc w0 w1 ba (ix2 s l)
      = Ideal.logistic (blockDot (fun s l => xc (ix2 s l)) w0 w1 s l + ba (ix2 0 l)) := by
  pointwise [k0_pay6, k0_pay3, k0_pay4, k0_pay5]
  rw [lit_half, half_tanh]
  rfl

/-- The input gate of one block, up to its last scaling. -/
theorem pay7_at (xc : FVec Ideal S2048x256 .f32) (w0 w1 : FVec Ideal S1x128x128 .bf16) (bx : FVec Ideal S1x256 .f32)
    (s : Fin 2048) (l : Fin 256) :
    k0_pay7 (F := Ideal) xc w0 w1 bx (ix2 s l)
      = Ideal.tanh (((1 / 2 : ℝ) : EReal) * (blockDot (fun s l => xc (ix2 s l)) w0 w1 s l + bx (ix2 0 l))) := by
  pointwise [k0_pay7, k0_pay3, k0_pay4, k0_pay5]
  rw [lit_half]
  rfl

/-- The decay of one block. -/
theorem pay8_at (r : FVec Ideal S2048x256 .f32) (lam : FVec Ideal S1x256 .f32) (s : Fin 2048) (l : Fin 256) :
    k0_pay8 (F := Ideal) r lam (ix2 s l) = decay (r (ix2 s l)) (lam (ix2 0 l)) := by
  pointwise [k0_pay8, decay, expo, softplus]
  rw [lit_neg_eight, zero_sub]

/-- The first doubling step, of the decay and the driven input of one block. -/
theorem first_step (xc r v : FVec Ideal S2048x256 .f32) (lam : FVec Ideal S1x256 .f32) (l : Fin 256)
    (u w : Fin 2048 → EReal) (hr : ∀ s, r (ix2 s l) = Ideal.logistic (u s))
    (hv : ∀ s, v (ix2 s l) = Ideal.tanh (((1 / 2 : ℝ) : EReal) * w s)) (t : Fin 256) (s : Fin 8) :
    Window (scan (ext fun s => decay (Ideal.logistic (u s)) (lam (ix2 0 l)))
        (ext fun s => drive (Ideal.logistic (u s)) (Ideal.logistic (w s)) (xc (ix2 s l)) (lam (ix2 0 l))))
      (min (s.val + 1) 2) (t.val * 8 + s.val + 1) (k0_pay12 (F := Ideal) r lam (ix3 t s l))
      (k0_pay11 (F := Ideal) xc r v (FloatOps.ofBits (F := Ideal) .f32 0x3F800000#32) lam (ix3 t s l)) := by
  have hb : ∀ s : Fin 2048, (if 0 < 1 - k0_pay8 (F := Ideal) r lam (ix2 s l) * k0_pay8 (F := Ideal) r lam (ix2 s l) then
        (1 - k0_pay8 (F := Ideal) r lam (ix2 s l) * k0_pay8 (F := Ideal) r lam (ix2 s l))
          * Ideal.rsqrt (1 - k0_pay8 (F := Ideal) r lam (ix2 s l) * k0_pay8 (F := Ideal) r lam (ix2 s l))
      else 0) * (((1 / 2 : ℝ) : EReal) * (1 + v (ix2 s l)) * xc (ix2 s l))
      = drive (Ideal.logistic (u s)) (Ideal.logistic (w s)) (xc (ix2 s l)) (lam (ix2 0 l)) := fun s => by
    rw [pay8_at, hr, hv, half_tanh, drive_guarded]
  have ha : ∀ s : Fin 2048, k0_pay8 (F := Ideal) r lam (ix2 s l) = decay (Ideal.logistic (u s)) (lam (ix2 0 l)) :=
    fun s => by rw [pay8_at, hr]
  have hone := fun s => Window.one (b := fun s => drive (Ideal.logistic (u s)) (Ideal.logistic (w s)) (xc (ix2 s l)) (lam (ix2 0 l)))
    (fun s => decay_nonneg (u s) (lam (ix2 0 l))) (fun s => decay_ne_top (u s) (lam (ix2 0 l))) s
  have hs : s.val < 2 ^ 31 := by omega
  have := Window.double (d := 1) (t := t.val) one_pos
    (fun s => by
      rw [show min (s.val + 1) 1 = 1 by omega]
      exact hone ⟨t.val * 8 + s.val, by omega⟩) s ⟨(s.val + 8 - 1) % 8, by omega⟩ rfl
  convert this using 1
  · pointwise [k0_pay12, k0_pay9, k0_pay10]
    rw [select_sge hs (show 1 < 2 ^ 31 by norm_num), ha, ha]
  · pointwise [k0_pay11, k0_pay9, k0_pay10]
    rw [lit_half, hb, hb, select_sge hs (show 1 < 2 ^ 31 by norm_num), ha]

theorem pay14_at (a : FVec Ideal S256x8x256 .f32) (t : Fin 256) (s : Fin 8) (l : Fin 256) :
    k0_pay14 (F := Ideal) a k0_pay13 2#32 (ix3 t s l)
      = a (ix3 t s l) * if 2 ≤ s.val then a (ix3 t ⟨(s.val + 8 - 2) % 8, by omega⟩ l) else 1 := by
  pointwise [k0_pay14, k0_pay13]
  rw [select_sge (by omega) (show 2 < 2 ^ 31 by norm_num)]

/-- The second and third doubling steps: what the block's two scratch buffers hold composes, at position `s`, all the
    steps since the last multiple of eight. -/
theorem last_steps (a b : FVec Ideal S256x8x256 .f32) (l : Fin 256) {H : ℕ → EReal}
    (h : ∀ (t : Fin 256) (s : Fin 8), Window H (min (s.val + 1) 2) (t.val * 8 + s.val + 1) (a (ix3 t s l)) (b (ix3 t s l)))
    (s : Fin 2048) :
    Window H (s.val % 8 + 1) (s.val + 1)
      (k0_pay16 (F := Ideal) (iota .tc S256x8x256 32 [1] iota_S256x8x256_d1_w32) a k0_pay13 2#32 (ix2 s l))
      (k0_pay17 (F := Ideal) (iota .tc S256x8x256 32 [1] iota_S256x8x256_d1_w32) b a k0_pay13 2#32 (ix2 s l)) := by
  have h2 := fun s' => Window.double (t := s.val / 8) two_pos (h ⟨s.val / 8, by omega⟩) s' ⟨(s'.val + 8 - 2) % 8, by omega⟩ rfl
  have h4 := Window.double (d := 4) (by norm_num) h2 ⟨s.val % 8, by omega⟩ ⟨(s.val % 8 + 8 - 4) % 8, by omega⟩ rfl
  rw [show min (s.val % 8 + 1) (2 * 4) = s.val % 8 + 1 by omega,
    show s.val / 8 * 8 + s.val % 8 + 1 = s.val + 1 by omega] at h4
  have c2 := fun (n : ℕ) (hn : n < 2 ^ 31) (x y : EReal) => select_sge (x := x) (y := y) hn (show 2 < 2 ^ 31 by norm_num)
  have c4 := fun (x y : EReal) => select_sge (x := x) (y := y) (show s.val % 8 < 2 ^ 31 by omega) (show 4 < 2 ^ 31 by norm_num)
  convert h4 using 1
  · pointwise [k0_pay16, k0_pay15]
    rw [c4, pay14_at, pay14_at]
  · have e := pay14_at a ⟨s.val / 8, by omega⟩ ⟨s.val % 8, by omega⟩ l
    unfold k0_pay13 at e
    dsimp only at e
    pointwise [k0_pay17, k0_pay15, k0_pay13]
    rw [c4, e, c2 _ (by omega), c2 _ (by omega)]

theorem pay20_at (c a b : FVec Ideal S8x256 .f32) (s : Fin 8) (l : Fin 256) :
    k0_pay20 (F := Ideal) c a b (ix2 s l) = a (ix2 s l) * c (ix2 s l) + b (ix2 s l) := by
  pointwise [k0_pay20, k0_pay19]

theorem pay21_at (c a b : FVec Ideal S8x256 .f32) (s : Fin 8) (l : Fin 256) :
    k0_pay21 (F := Ideal) c a b (ix2 s l) = a (ix2 7 l) * c (ix2 7 l) + b (ix2 7 l) := by
  pointwise [k0_pay21, k0_pay19]

theorem pay18_at (s : Fin 8) (l : Fin 256) : k0_pay18 (F := Ideal) (ix2 s l) = 0 := by
  pointwise [k0_pay18]

theorem pay1_at (h : FVec Ideal S2048x256 .f32) (g u : FVec Ideal S2048x256 .bf16) (s : Fin 2048) (l : Fin 256) :
    k0_pay1 (F := Ideal) (k0_pay22 h g) u (ix2 s l) = h (ix2 s l) * g (ix2 s l) * u (ix2 s l) := by
  pointwise [k0_pay1, k0_pay22]

end Cert.Lru

end
-- ==== Proof.Loop.lean ====
/- The kernel's counted loop: before trip `k` the carried rows hold the recurrence's state after `8k` steps, and the
   second scratch buffer holds, in its first `8k` rows, the state after each step. -/
module

public import proofs.«01_k».proof.Proof.Block
public import Idealize.ShloMosaic.Lib.WritesUnit
public import Idealize.ShloMosaic.Lib.VecWindow
public import Idealize.ShloMosaic.Lib.Pipeline.ValueKit.Tiles

@[expose] public section

set_option maxRecDepth 16384

noncomputable section

namespace Cert.Lru

open Cert.KernelIdeal Cert.KernelIdeal.Gen
open Idealize.ShloMosaic Idealize.ShloMosaic.TcCoe Idealize.ShloMosaic.Tactic

section Trip

variable (𝒱 : Variants) (c : Dev nD) (bd : Option 𝒱.V) (i : grid0.Coords)
variable (arg2 : Memref sig .tc .vmem S2048x256 .f32) (harg2 : arg2.IsWhole)
variable (arg3 : Memref sig .tc .vmem S2048x256 .bf16) (harg3 : arg3.IsWhole)
variable (arg4 : Memref sig .tc .vmem S2048x256 .bf16) (harg4 : arg4.IsWhole)
variable (arg5 : Memref sig .tc .vmem S4x256 .f32) (harg5 : arg5.IsWhole)
variable (arg6 : Memref sig .tc .vmem S1x256 .f32) (harg6 : arg6.IsWhole)
variable (arg7 : Memref sig .tc .vmem S2x128x128 .bf16) (harg7 : arg7.IsWhole)
variable (arg8 : Memref sig .tc .vmem S1x256 .f32) (harg8 : arg8.IsWhole)
variable (arg9 : Memref sig .tc .vmem S2x128x128 .bf16) (harg9 : arg9.IsWhole)
variable (arg10 : Memref sig .tc .vmem S1x256 .f32) (harg10 : arg10.IsWhole)
variable (arg11 : Memref sig .tc .vmem S1x256 .f32) (harg11 : arg11.IsWhole)
variable (arg12 : Memref sig .tc .vmem S2048x256 .bf16) (harg12 : arg12.IsWhole)
variable (arg13 : Memref sig .tc .vmem S2048x256 .f32) (harg13 : arg13.IsWhole)
variable (arg14 : Memref sig .tc .vmem S2048x256 .f32) (harg14 : arg14.IsWhole)
variable (v102 : IVec S256x8x256 32) (v112 v113 : FVec Ideal S256x8x256 .f32) (v115 : IVec S256x8x256 1) (w : BitVec 32)

/-- Trip `k` works on rows `8k` to `8k + 7`. -/
theorem rows_eq : ∀ k : Fin k0_t1_loop.trips, k0_off1 k = ![8 * k.val, 0] := by
  intro k
  have h : ∀ k : Fin k0_t1_loop.trips, k0_off1 k 0 = 8 * k.val := by decide +kernel
  funext a
  match a with
  | ⟨0, _⟩ => exact h k
  | ⟨1, _⟩ => rfl

theorem trips_eq : k0_t1_loop.trips = 256 := by decide +kernel

theorem tripR_eq (X : BufTy.Contents (Elt Ideal) arg13.view.ty) (k : Fin k0_t1_loop.trips) (acc : FVec Ideal S8x256 .f32)
    (f : BufTy.Contents (Elt Ideal) arg14.view.ty) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X k acc f
      = k0_pay21 acc (View.readAt (Elt Ideal) arg13.view (Rect.unit (s := S2048x256) (k0_off1 k) S8x256.size (k0_off1_inb k)).toLoadRect X)
          (View.readAt (Elt Ideal) arg14.view (Rect.unit (s := S2048x256) (k0_off1 k) S8x256.size (k0_off1_inb k)).toLoadRect f) := by
  unfold tripR_k0_t1 trip_k0_t1
  rfl

theorem tripL_eq (X : BufTy.Contents (Elt Ideal) arg13.view.ty) (k : Fin k0_t1_loop.trips) (acc : FVec Ideal S8x256 .f32)
    (f : BufTy.Contents (Elt Ideal) arg14.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X k acc f
      = [⟨Rect.unit (s := S2048x256) (k0_off1 k) S8x256.size (k0_off1_inb k),
          k0_pay20 acc (View.readAt (Elt Ideal) arg13.view (Rect.unit (s := S2048x256) (k0_off1 k) S8x256.size (k0_off1_inb k)).toLoadRect X)
            (View.readAt (Elt Ideal) arg14.view (Rect.unit (s := S2048x256) (k0_off1 k) S8x256.size (k0_off1_inb k)).toLoadRect f)⟩] := by
  unfold tripL_k0_t1 trip_k0_t1
  rfl

/-- A trip's eight rows of a buffer. -/
theorem rows_at (v : View sig .tc .vmem S2048x256 .f32) (f : BufTy.Contents (Elt Ideal) v.ty) (k : Fin k0_t1_loop.trips)
    (s : Fin 8) (l : Fin 256) (h : 8 * k.val + s.val < 2048) :
    View.readAt (Elt Ideal) v (Rect.unit (s := S2048x256) (k0_off1 k) S8x256.size (k0_off1_inb k)).toLoadRect f (ix2 s l)
      = v.read (Elt Ideal) f (ix2 ⟨8 * k.val + s.val, h⟩ l) := by
  rw [View.readAt_eq_ld]
  refine View.ld_unit_apply_of _ _ _ _ _ _ fun a => ?_
  have e := congrFun (rows_eq k) a
  match a with
  | ⟨0, _⟩ => exact congrArg (· + s.val) e.symm
  | ⟨1, _⟩ => exact (Nat.zero_add _).symm

/-- The loop's state before trip `k`, from the windows that the two scratch buffers hold at its start. -/
theorem loop_state (X : BufTy.Contents (Elt Ideal) arg13.view.ty) (G : BufTy.Contents (Elt Ideal) arg14.view.ty)
    (H : Fin 256 → ℕ → EReal) (h0 : ∀ l, H l 0 = 0)
    (hW : ∀ (s : Fin 2048) (l : Fin 256), Window (H l) (s.val % 8 + 1) (s.val + 1)
      (arg13.view.read (Elt Ideal) X (ix2 s l)) (arg14.view.read (Elt Ideal) G (ix2 s l))) :
    ∀ k : ℕ, k ≤ 256 →
      (∀ (s : Fin 8) (l : Fin 256), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X G k0_pay18 k).1 (ix2 s l) = H l (8 * k))
      ∧ ∀ (s : Fin 2048) (l : Fin 256),
          arg14.view.read (Elt Ideal) (arg14.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X G k0_pay18 k).2) (ix2 s l)
            = if s.val < 8 * k then H l (s.val + 1) else arg14.view.read (Elt Ideal) G (ix2 s l) := by
  intro k
  induction k with
  | zero =>
    intro _
    refine ⟨fun s l => ?_, fun s l => ?_⟩
    · rw [st_k0_t1_zero, pay18_at]; exact (h0 l).symm
    · rw [if_neg (by omega)]; rfl
  | succ k ih =>
    intro hk
    obtain ⟨ihc, ihr⟩ := ih (by omega)
    have hk' : k < k0_t1_loop.trips := by rw [trips_eq]; omega
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X G k0_pay18 ⟨k, hk'⟩]
    dsimp only
    rw [tripR_eq, tripL_eq]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v102 v112 v113 v115 w X G k0_pay18 k = S at ihc ihr
    have hstep : ∀ (s : Fin 8) (l : Fin 256) (h : 8 * k + s.val < 2048),
        arg13.view.read (Elt Ideal) X (ix2 ⟨8 * k + s.val, h⟩ l) * S.1 (ix2 s l)
          + arg14.view.read (Elt Ideal) (arg14.view.writes (Elt Ideal) G S.2) (ix2 ⟨8 * k + s.val, h⟩ l)
        = H l (8 * k + s.val + 1) := fun s l h => by
      have := (hW ⟨8 * k + s.val, h⟩ l).step
      rw [ihc, ihr, if_neg (by dsimp only; omega), this]
      dsimp only
      rw [show 8 * k + s.val + 1 - ((8 * k + s.val) % 8 + 1) = 8 * k by omega]
    refine ⟨fun s l => ?_, fun s l => ?_⟩
    · rw [pay21_at, rows_at _ _ _ _ _ (by dsimp only; omega), rows_at _ _ _ _ _ (by dsimp only; omega)]
      exact hstep 7 l (by show 8 * k + 7 < 2048; omega)
    · rw [List.singleton_append]
      by_cases hs : 8 * k ≤ s.val ∧ s.val < 8 * k + 8
      · rw [if_pos (by omega)]
        have hx : 8 * k + (s.val - 8 * k) < 2048 := by omega
        rw [View.read_writes_cons_rows_of_mem (d := ![2048, 256]) arg14.view G (k0_off1_inb ⟨k, hk'⟩) _ S.2 (ix2 s l)
          (ix2 (⟨s.val - 8 * k, by omega⟩ : Fin 8) l) (rows_eq ⟨k, hk'⟩) (by show s.val = 8 * k + (s.val - 8 * k); omega) rfl]
        refine (pay20_at _ _ _ _ _).trans ?_
        rw [rows_at _ _ _ _ _ hx, rows_at _ _ _ _ _ hx]
        refine (hstep ⟨s.val - 8 * k, by omega⟩ l hx).trans ?_
        dsimp only
        rw [show 8 * k + (s.val - 8 * k) + 1 = s.val + 1 by omega]
      · rw [View.read_writes_cons_rows_of_not_mem (d := ![2048, 256]) (W := 8) arg14.view G (k0_off1_inb ⟨k, hk'⟩) _ S.2 (ix2 s l)
          (rows_eq ⟨k, hk'⟩) rfl (by show s.val < 8 * k ∨ 8 * k + 8 ≤ s.val; omega), ihr]
        by_cases h : s.val < 8 * k
        · rw [if_pos h, if_pos (by omega)]
        · rw [if_neg h, if_neg (by omega)]

end Trip

end Cert.Lru

end
-- ==== Proof.Out.lean ====
/- The block the kernel's body leaves at one grid point: the recurrence's states, times the activation, times the gate. -/
module

public import proofs.«01_k».proof.Proof.Loop

@[expose] public section

set_option maxRecDepth 16384

noncomputable section

namespace Cert.Lru

open Cert.KernelIdeal Cert.KernelIdeal.Gen
open Idealize.ShloMosaic Idealize.ShloMosaic.TcCoe Idealize.ShloMosaic.Tactic

/-- The convolution of one block's channels. -/
def bconv (x0 : FVec Ideal S2048x256 .f32) (x3 : FVec Ideal S4x256 .f32) (x4 : FVec Ideal S1x256 .f32) (s : Fin 2048) (l : Fin 256) : EReal :=
  conv (fun s => x0 (ix2 s l)) (x3 (ix2 0 l)) (x3 (ix2 1 l)) (x3 (ix2 2 l)) (x3 (ix2 3 l)) (x4 (ix2 0 l)) s

/-- A gate's argument: the block's product with its square weight blocks, plus the bias. -/
def bpre (xc : Fin 2048 → Fin 256 → EReal) (w : FVec Ideal S2x128x128 .bf16) (bias : FVec Ideal S1x256 .f32) (s : Fin 2048) (l : Fin 256) : EReal :=
  (∑ k : Fin 128, xc s ⟨l.val / 128 * 128 + k.val, by omega⟩ * w (ix3 ⟨l.val / 128, by omega⟩ k ⟨l.val % 128, by omega⟩))
    + bias (ix2 0 l)

/-- The state after step `s` of one block's channel `l`. -/
def bstate (x0 : FVec Ideal S2048x256 .f32) (x3 : FVec Ideal S4x256 .f32) (x4 : FVec Ideal S1x256 .f32)
    (x5 : FVec Ideal S2x128x128 .bf16) (x6 : FVec Ideal S1x256 .f32) (x7 : FVec Ideal S2x128x128 .bf16)
    (x8 x9 : FVec Ideal S1x256 .f32) (l : Fin 256) : ℕ → EReal :=
  scan (ext fun s => decay (Ideal.logistic (bpre (bconv x0 x3 x4) x5 x6 s l)) (x9 (ix2 0 l)))
    (ext fun s => drive (Ideal.logistic (bpre (bconv x0 x3 x4) x5 x6 s l)) (Ideal.logistic (bpre (bconv x0 x3 x4) x7 x8 s l))
      (bconv x0 x3 x4 s l) (x9 (ix2 0 l)))

theorem zero2 : (![0, 0] : Fin 2 → Nat) = fun _ => 0 := funext fun a => by fin_cases a <;> rfl

/-- Row `n` of the four taps. -/
theorem tap_row (x3 : FVec Ideal S4x256 .f32) (n : ℕ) (hn : n < 4) (h : ∀ a : Fin 2, (![n, 0] : Fin 2 → ℕ) a + S1x256.size a ≤ S4x256.size a) (l : Fin 256) :
    View.ld (Val := Elt Ideal) (e' := .f32) x3 (Rect.unit (s := S4x256) ![n, 0] S1x256.size h) (ix2 0 l) = x3 (ix2 ⟨n, hn⟩ l) :=
  View.ld_unit_apply_of _ _ _ _ _ _ fun a => by
    match a with
    | ⟨0, _⟩ => rfl
    | ⟨1, _⟩ => exact (Nat.zero_add _).symm

/-- Weight block `n` of the two. -/
theorem weight_block (w : FVec Ideal S2x128x128 .bf16) (n : ℕ) (hn : n < 2) (h : ∀ a : Fin 3, (![n, 0, 0] : Fin 3 → ℕ) a + S1x128x128.size a ≤ S2x128x128.size a)
    (k m : Fin 128) :
    View.ld (Val := Elt Ideal) (e' := .bf16) w (Rect.unit (s := S2x128x128) ![n, 0, 0] S1x128x128.size h) (ix3 0 k m) = w (ix3 ⟨n, hn⟩ k m) :=
  View.ld_unit_apply_of _ _ _ _ _ _ fun a => by
    match a with
    | ⟨0, _⟩ => rfl
    | ⟨1, _⟩ => exact (Nat.zero_add _).symm
    | ⟨2, _⟩ => exact (Nat.zero_add _).symm

theorem blockDot_eq (xc : Fin 2048 → Fin 256 → EReal) (w : FVec Ideal S2x128x128 .bf16) (bias : FVec Ideal S1x256 .f32)
    (h0 : ∀ a : Fin 3, (![0, 0, 0] : Fin 3 → ℕ) a + S1x128x128.size a ≤ S2x128x128.size a)
    (h1 : ∀ a : Fin 3, (![1, 0, 0] : Fin 3 → ℕ) a + S1x128x128.size a ≤ S2x128x128.size a) (s : Fin 2048) (l : Fin 256) :
    blockDot xc (View.ld (Val := Elt Ideal) (e' := .bf16) w (Rect.unit (s := S2x128x128) ![0, 0, 0] S1x128x128.size h0))
        (View.ld (Val := Elt Ideal) (e' := .bf16) w (Rect.unit (s := S2x128x128) ![1, 0, 0] S1x128x128.size h1)) s l + bias (ix2 0 l)
      = bpre xc w bias s l := by
  unfold blockDot bpre
  congr 1
  by_cases h : l.val < 128
  · rw [dif_pos h]
    refine Finset.sum_congr rfl fun k _ => ?_
    rw [weight_block w 0 (by norm_num) h0]
    have e0 : l.val / 128 = 0 := by omega
    have e1 : l.val % 128 = l.val := by omega
    congr 2
    · exact Fin.ext (by simp [e0])
    · simp only [e0, e1]
  · rw [dif_neg h]
    refine Finset.sum_congr rfl fun k _ => ?_
    rw [weight_block w 1 (by norm_num) h1]
    have e0 : l.val / 128 = 1 := by omega
    have e1 : l.val % 128 = l.val - 128 := by omega
    congr 2
    · exact Fin.ext (by simp [e0])
    · simp only [e0, e1]

variable (c : Dev nD) (i : grid0.Coords)
variable (arg2 : Memref sig .tc .vmem S2048x256 .f32) (harg2 : arg2.IsWhole)
variable (arg3 : Memref sig .tc .vmem S2048x256 .bf16) (harg3 : arg3.IsWhole)
variable (arg4 : Memref sig .tc .vmem S2048x256 .bf16) (harg4 : arg4.IsWhole)
variable (arg5 : Memref sig .tc .vmem S4x256 .f32) (harg5 : arg5.IsWhole)
variable (arg6 : Memref sig .tc .vmem S1x256 .f32) (harg6 : arg6.IsWhole)
variable (arg7 : Memref sig .tc .vmem S2x128x128 .bf16) (harg7 : arg7.IsWhole)
variable (arg8 : Memref sig .tc .vmem S1x256 .f32) (harg8 : arg8.IsWhole)
variable (arg9 : Memref sig .tc .vmem S2x128x128 .bf16) (harg9 : arg9.IsWhole)
variable (arg10 : Memref sig .tc .vmem S1x256 .f32) (harg10 : arg10.IsWhole)
variable (arg11 : Memref sig .tc .vmem S1x256 .f32) (harg11 : arg11.IsWhole)
variable (arg12 : Memref sig .tc .vmem S2048x256 .bf16) (harg12 : arg12.IsWhole)
variable (arg13 : Memref sig .tc .vmem S2048x256 .f32) (harg13 : arg13.IsWhole)
variable (arg14 : Memref sig .tc .vmem S2048x256 .f32) (harg14 : arg14.IsWhole)

/-- The body's result at an index of its block. -/
theorem out_at (x0 : Vec Ideal S2048x256 .f32) (x1 x2 : Vec Ideal S2048x256 .bf16) (x3 : Vec Ideal S4x256 .f32) (x4 : Vec Ideal S1x256 .f32)
    (x5 : Vec Ideal S2x128x128 .bf16) (x6 : Vec Ideal S1x256 .f32) (x7 : Vec Ideal S2x128x128 .bf16) (x8 x9 : Vec Ideal S1x256 .f32)
    (s : Fin 2048) (l : Fin 256) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix2 s l)
      = bstate x0 x3 x4 x5 x6 x7 x8 x9 l (s.val + 1) * x1 (ix2 s l) * x2 (ix2 s l) := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero zero2, pay1_at]
  refine congrArg₂ (· * ·) (congrArg₂ (· * ·) ?_ ?_) ?_
  · simp only [View.readAt_eq_ld, harg2.read_unread, harg5.read_unread, harg6.read_unread, harg7.read_unread, harg8.read_unread,
      harg9.read_unread, harg10.read_unread, harg11.read_unread,
      View.ld_unit_zero (S := S2048x256) zero2, View.ld_unit_zero (S := S1x256) zero2]
    have hxc : ∀ (h0 h1 h2 h3) (s : Fin 2048) (l : Fin 256), k0_pay2 (F := Ideal) x0 x4
        (View.ld (Val := Elt Ideal) (e' := .f32) x3 (Rect.unit (s := S4x256) ![0, 0] S1x256.size h0)) (View.ld (Val := Elt Ideal) (e' := .f32) x3 (Rect.unit (s := S4x256) ![1, 0] S1x256.size h1))
        (View.ld (Val := Elt Ideal) (e' := .f32) x3 (Rect.unit (s := S4x256) ![2, 0] S1x256.size h2)) (View.ld (Val := Elt Ideal) (e' := .f32) x3 (Rect.unit (s := S4x256) ![3, 0] S1x256.size h3))
          (ix2 s l) = bconv x0 x3 x4 s l := fun h0 h1 h2 h3 s l => by
      rw [pay2_at, tap_row x3 0 (by norm_num) h0, tap_row x3 1 (by norm_num) h1, tap_row x3 2 (by norm_num) h2, tap_row x3 3 (by norm_num) h3]; rfl
    specialize hxc inb_S4x256_S1x256_0_0 inb_S4x256_S1x256_1_0 inb_S4x256_S1x256_2_0 inb_S4x256_S1x256_3_0
    dsimp only at hxc
    generalize k0_pay2 (F := Ideal) x0 x4 _ _ _ _ = xc at hxc ⊢
    have hxc' : (fun s l => xc (ix2 s l)) = bconv x0 x3 x4 := by funext s l; exact hxc s l
    have hr : ∀ (h0 h1) (s : Fin 2048) (l : Fin 256), k0_pay6 (F := Ideal) xc
        (View.ld (Val := Elt Ideal) (e' := .bf16) x5 (Rect.unit (s := S2x128x128) ![0, 0, 0] S1x128x128.size h0))
        (View.ld (Val := Elt Ideal) (e' := .bf16) x5 (Rect.unit (s := S2x128x128) ![1, 0, 0] S1x128x128.size h1)) x6 (ix2 s l)
          = Ideal.logistic (bpre (bconv x0 x3 x4) x5 x6 s l) := fun h0 h1 s l => by
      rw [pay6_at, blockDot_eq, hxc']
    have hv : ∀ (h0 h1) (s : Fin 2048) (l : Fin 256), k0_pay7 (F := Ideal) xc
        (View.ld (Val := Elt Ideal) (e' := .bf16) x7 (Rect.unit (s := S2x128x128) ![0, 0, 0] S1x128x128.size h0))
        (View.ld (Val := Elt Ideal) (e' := .bf16) x7 (Rect.unit (s := S2x128x128) ![1, 0, 0] S1x128x128.size h1)) x8 (ix2 s l)
          = Ideal.tanh (((1 / 2 : ℝ) : EReal) * bpre (bconv x0 x3 x4) x7 x8 s l) := fun h0 h1 s l => by
      rw [pay7_at, blockDot_eq, hxc']
    specialize hr inb_S2x128x128_S1x128x128_0_0_0 inb_S2x128x128_S1x128x128_1_0_0
    specialize hv inb_S2x128x128_S1x128x128_0_0_0 inb_S2x128x128_S1x128x128_1_0_0
    dsimp only at hr hv
    generalize k0_pay6 (F := Ideal) xc _ _ _ = r at hr ⊢
    generalize k0_pay7 (F := Ideal) xc _ _ _ = v at hv ⊢
    have hstep := fun l => last_steps (k0_pay12 (F := Ideal) r x9)
      (k0_pay11 (F := Ideal) xc r v (FloatOps.ofBits (F := Ideal) .f32 0x3F800000#32) x9) l
      (H := bstate x0 x3 x4 x5 x6 x7 x8 x9 l) fun t s => by
        have := first_step xc r v x9 l (fun s => bpre (bconv x0 x3 x4) x5 x6 s l) (fun s => bpre (bconv x0 x3 x4) x7 x8 s l)
          (fun s => hr s l) (fun s => hv s l) t s
        simp only [hxc] at this
        exact this
    refine (congrFun (View.ld_unit_zero (S := S2048x256) zero2 inb_S2048x256_S2048x256_0_0 _) (ix2 s l)).trans ?_
    rw [View.writes_append]
    refine ((loop_state Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ (bstate x0 x3 x4 x5 x6 x7 x8 x9) (fun _ => rfl)
      (fun s l => ?_) 256 le_rfl).2 s l).trans (if_pos (by omega))
    rw [View.read_writes_full, View.read_writes_full]
    exact hstep l s
  · rw [View.readAt_eq_ld, harg3.read_unread]
    exact congrFun (View.ld_unit_zero (S := S2048x256) zero2 inb_S2048x256_S2048x256_0_0 x1) (ix2 s l)
  · rw [View.readAt_eq_ld, harg4.read_unread]
    exact congrFun (View.ld_unit_zero (S := S2048x256) zero2 inb_S2048x256_S2048x256_0_0 x2) (ix2 s l)

end Cert.Lru

end
-- ==== Proof.Target.lean ====
/- The layer's recurrence over its ten argument arrays: what both programs compute, entry by entry. -/
module

public import proofs.«01_k».proof.Proof.Spec
public import Idealize.ShloMosaic.Lib.Pointwise

@[expose] public section

noncomputable section

namespace Cert.Lru

open Idealize.ShloMosaic

/-- An array of extended reals. -/
abbrev Arr (s : Shape) : Type := s.Idx → EReal

/-- The ten arguments: the projections, the activation, the gates, the taps and bias of the convolution, the two gate
    weights with their biases, and the decay parameter. -/
structure Args where
  px : Arr ⟨2, ![8192, 4096]⟩
  gg : Arr ⟨2, ![8192, 2048]⟩
  sg : Arr ⟨2, ![8192, 6144]⟩
  cw : Arr ⟨2, ![4, 2048]⟩
  cb : Arr ⟨1, ![2048]⟩
  wa : Arr ⟨3, ![16, 128, 128]⟩
  ba : Arr ⟨1, ![2048]⟩
  wx : Arr ⟨3, ![16, 128, 128]⟩
  bx : Arr ⟨1, ![2048]⟩
  lam : Arr ⟨1, ![2048]⟩

/-- The convolution of batch `b`, channel `n`, at position `s`. -/
def gconv (A : Args) (b : Fin 4) (s n : Fin 2048) : EReal :=
  conv (fun s => A.px (ix2 ⟨b.val * 2048 + s.val, by omega⟩ ⟨2048 + n.val, by omega⟩))
    (A.cw (ix2 0 n)) (A.cw (ix2 1 n)) (A.cw (ix2 2 n)) (A.cw (ix2 3 n)) (A.cb (ix1 n)) s

/-- A gate's argument: the product with the square weight block of the channel's group of 128, plus the bias. -/
def gpre (A : Args) (w : Arr ⟨3, ![16, 128, 128]⟩) (bias : Arr ⟨1, ![2048]⟩) (b : Fin 4) (s n : Fin 2048) : EReal :=
  (∑ k : Fin 128, gconv A b s ⟨n.val / 128 * 128 + k.val, by omega⟩ * w (ix3 ⟨n.val / 128, by omega⟩ k ⟨n.val % 128, by omega⟩))
    + bias (ix1 n)

/-- The decay at position `s`. -/
def gdecay (A : Args) (b : Fin 4) (n s : Fin 2048) : EReal :=
  decay (Ideal.logistic (gpre A A.wa A.ba b s n)) (A.lam (ix1 n))

/-- What position `s` adds. -/
def gdrive (A : Args) (b : Fin 4) (n s : Fin 2048) : EReal :=
  drive (Ideal.logistic (gpre A A.wa A.ba b s n)) (Ideal.logistic (gpre A A.wx A.bx b s n)) (gconv A b s n) (A.lam (ix1 n))

/-- The recurrence's state after `t` positions. -/
def gstate (A : Args) (b : Fin 4) (n : Fin 2048) : ℕ → EReal := scan (ext (gdecay A b n)) (ext (gdrive A b n))

/-- The result: the state times the activation times the third of the three gates. -/
def target (A : Args) : Arr ⟨2, ![8192, 2048]⟩ := fun i =>
  gstate A ⟨(i 0).val / 2048, by have := (i 0).isLt; simp at this; omega⟩ (i 1) ((i 0).val % 2048 + 1)
    * A.gg (ix2 (i 0) (i 1)) * A.sg (ix2 (i 0) ⟨4096 + (i 1).val, by have := (i 1).isLt; simp at this; omega⟩)

/-- The result at position `s` of batch `b`, channel `n`. -/
theorem target_at (A : Args) (b : Fin 4) (s n : Fin 2048) :
    target A (ix2 ⟨b.val * 2048 + s.val, by omega⟩ n)
      = gstate A b n (s.val + 1) * A.gg (ix2 ⟨b.val * 2048 + s.val, by omega⟩ n)
        * A.sg (ix2 ⟨b.val * 2048 + s.val, by omega⟩ ⟨4096 + n.val, by omega⟩) := by
  have hb : (b.val * 2048 + s.val) / 2048 = b.val := by omega
  have hs : (b.val * 2048 + s.val) % 2048 = s.val := by omega
  show gstate A ⟨(b.val * 2048 + s.val) / 2048, _⟩ n ((b.val * 2048 + s.val) % 2048 + 1) * _ * _ = _
  simp only [hb, hs]
  rfl

end Cert.Lru

end
-- ==== Proof.Kernel.lean ====
/- The kernel's result array: every block is the recurrence of its own batch and channels, and the blocks cover it. -/
module

public import proofs.«01_k».proof.Proof.Out
public import proofs.«01_k».proof.Proof.Target
public import proofs.«01_k».proof.Proof.Gen.KernelIdeal.Value
public import Idealize.ShloMosaic.Lib.Claim

@[expose] public section

set_option maxRecDepth 16384

noncomputable section

namespace Cert.Lru

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : Args where
  px := m ((c : Thread nD τ).loc main_arg0)
  gg := m ((c : Thread nD τ).loc main_arg1)
  sg := m ((c : Thread nD τ).loc main_arg2)
  cw := m ((c : Thread nD τ).loc main_arg3)
  cb := m ((c : Thread nD τ).loc main_arg4)
  wa := m ((c : Thread nD τ).loc main_arg5)
  ba := m ((c : Thread nD τ).loc main_arg6)
  wx := m ((c : Thread nD τ).loc main_arg7)
  bx := m ((c : Thread nD τ).loc main_arg8)
  lam := m ((c : Thread nD τ).loc main_arg9)

/-! ## The operands when the call starts -/

theorem entry_wa (c : Dev nD) (i : S16x128x128.Idx) : V m c main_v0 i = (kargs m c).wa i := by
  entry_read; rfl
theorem entry_wx (c : Dev nD) (i : S16x128x128.Idx) : V m c main_v1 i = (kargs m c).wx i := by
  entry_read; rfl
theorem entry_cb (c : Dev nD) (n : Fin 2048) : V m c main_v2 (ix2 0 n) = (kargs m c).cb (ix1 n) := by
  entry_read; pointwise; rfl
theorem entry_ba (c : Dev nD) (n : Fin 2048) : V m c main_v3 (ix2 0 n) = (kargs m c).ba (ix1 n) := by
  entry_read; pointwise; rfl
theorem entry_bx (c : Dev nD) (n : Fin 2048) : V m c main_v4 (ix2 0 n) = (kargs m c).bx (ix1 n) := by
  entry_read; pointwise; rfl
theorem entry_lam (c : Dev nD) (n : Fin 2048) : V m c main_v5 (ix2 0 n) = (kargs m c).lam (ix1 n) := by
  entry_read; pointwise; rfl

/-! ## The blocks of a grid point: batch `t / 8`, channels `256 (t % 8)` to `256 (t % 8) + 255` -/

theorem point_lt (t : Fin cfg0.N) : t.val < 32 := lt_of_lt_of_eq t.isLt N_0

theorem idx_0 : ∀ t : Fin cfg0.N, win0_0.index t 0 = t.val / 8 ∧ win0_0.index t 1 = 8 + t.val % 8 :=
  (by decide +kernel : ∀ t : Fin grid0.N, win0_0.index t 0 = t.val / 8 ∧ win0_0.index t 1 = 8 + t.val % 8)
theorem idx_1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx_2 : ∀ t : Fin cfg0.N, win0_2.index t 0 = t.val / 8 ∧ win0_2.index t 1 = 16 + t.val % 8 :=
  (by decide +kernel : ∀ t : Fin grid0.N, win0_2.index t 0 = t.val / 8 ∧ win0_2.index t 1 = 16 + t.val % 8)
theorem idx_3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx_4 : ∀ t : Fin cfg0.N, win0_4.index t 0 = 0 ∧ win0_4.index t 1 = t.val % 8 :=
  (by decide +kernel : ∀ t : Fin grid0.N, win0_4.index t 0 = 0 ∧ win0_4.index t 1 = t.val % 8)
theorem idx_5 : ∀ t : Fin cfg0.N, win0_5.index t 0 = t.val % 8 ∧ win0_5.index t 1 = 0 ∧ win0_5.index t 2 = 0 :=
  (by decide +kernel : ∀ t : Fin grid0.N, win0_5.index t 0 = t.val % 8 ∧ win0_5.index t 1 = 0 ∧ win0_5.index t 2 = 0)
theorem idx_6 : ∀ t : Fin cfg0.N, win0_6.index t 0 = 0 ∧ win0_6.index t 1 = t.val % 8 :=
  (by decide +kernel : ∀ t : Fin grid0.N, win0_6.index t 0 = 0 ∧ win0_6.index t 1 = t.val % 8)
theorem idx_7 : ∀ t : Fin cfg0.N, win0_7.index t 0 = t.val % 8 ∧ win0_7.index t 1 = 0 ∧ win0_7.index t 2 = 0 :=
  (by decide +kernel : ∀ t : Fin grid0.N, win0_7.index t 0 = t.val % 8 ∧ win0_7.index t 1 = 0 ∧ win0_7.index t 2 = 0)
theorem idx_8 : ∀ t : Fin cfg0.N, win0_8.index t 0 = 0 ∧ win0_8.index t 1 = t.val % 8 :=
  (by decide +kernel : ∀ t : Fin grid0.N, win0_8.index t 0 = 0 ∧ win0_8.index t 1 = t.val % 8)
theorem idx_9 : ∀ t : Fin cfg0.N, win0_9.index t 0 = 0 ∧ win0_9.index t 1 = t.val % 8 :=
  (by decide +kernel : ∀ t : Fin grid0.N, win0_9.index t 0 = 0 ∧ win0_9.index t 1 = t.val % 8)
theorem idx_10 : ∀ t : Fin cfg0.N, win0_10.index t 0 = t.val / 8 ∧ win0_10.index t 1 = t.val % 8 :=
  (by decide +kernel : ∀ t : Fin grid0.N, win0_10.index t 0 = t.val / 8 ∧ win0_10.index t 1 = t.val % 8)

/-- Channel `l` of the block of point `t`. -/
def chan (t : Fin cfg0.N) (l : Fin 256) : Fin 2048 := ⟨t.val % 8 * 256 + l.val, by omega⟩
/-- The batch of point `t`. -/
def bat (t : Fin cfg0.N) : Fin 4 := ⟨t.val / 8, by have := point_lt t; omega⟩

theorem blk_0 (c : Dev nD) (t : Fin cfg0.N) (s : Fin 2048) (l : Fin 256) :
    iblk m c 0 t (ix2 s l) = (kargs m c).px (ix2 ⟨(bat t).val * 2048 + s.val, by have := (bat t).isLt; omega⟩ ⟨2048 + (chan t l).val, by have := (chan t l).isLt; omega⟩) := by
  unfold iblk
  rw [View.read_apply]
  show V m c main_arg0 _ = _
  rw [V_main_arg0]
  show (kargs m c).px _ = _
  congr 1
  funext a
  apply Fin.ext
  match a with
  | ⟨0, _⟩ => show win0_0.index t 0 * 2048 + 1 * s.val = t.val / 8 * 2048 + s.val; rw [(idx_0 t).1]; omega
  | ⟨1, _⟩ => show win0_0.index t 1 * 256 + 1 * l.val = 2048 + (t.val % 8 * 256 + l.val); rw [(idx_0 t).2]; omega

theorem blk_1 (c : Dev nD) (t : Fin cfg0.N) (s : Fin 2048) (l : Fin 256) :
    iblk m c 1 t (ix2 s l) = (kargs m c).gg (ix2 ⟨(bat t).val * 2048 + s.val, by have := (bat t).isLt; omega⟩ (chan t l)) := by
  unfold iblk
  rw [View.read_apply]
  show V m c main_arg1 _ = _
  rw [V_main_arg1]
  show (kargs m c).gg _ = _
  congr 1
  funext a
  apply Fin.ext
  match a with
  | ⟨0, _⟩ => show win0_1.index t 0 * 2048 + 1 * s.val = t.val / 8 * 2048 + s.val; rw [(idx_1 t).1]; omega
  | ⟨1, _⟩ => show win0_1.index t 1 * 256 + 1 * l.val = t.val % 8 * 256 + l.val; rw [(idx_1 t).2]; omega

theorem blk_2 (c : Dev nD) (t : Fin cfg0.N) (s : Fin 2048) (l : Fin 256) :
    iblk m c 2 t (ix2 s l) = (kargs m c).sg (ix2 ⟨(bat t).val * 2048 + s.val, by have := (bat t).isLt; omega⟩ ⟨4096 + (chan t l).val, by have := (chan t l).isLt; omega⟩) := by
  unfold iblk
  rw [View.read_apply]
  show V m c main_arg2 _ = _
  rw [V_main_arg2]
  show (kargs m c).sg _ = _
  congr 1
  funext a
  apply Fin.ext
  match a with
  | ⟨0, _⟩ => show win0_2.index t 0 * 2048 + 1 * s.val = t.val / 8 * 2048 + s.val; rw [(idx_2 t).1]; omega
  | ⟨1, _⟩ => show win0_2.index t 1 * 256 + 1 * l.val = 4096 + (t.val % 8 * 256 + l.val); rw [(idx_2 t).2]; omega

theorem blk_3 (c : Dev nD) (t : Fin cfg0.N) (q : Fin 4) (l : Fin 256) :
    iblk m c 3 t (ix2 q l) = (kargs m c).cw (ix2 q (chan t l)) := by
  unfold iblk
  rw [View.read_apply]
  show V m c main_arg3 _ = _
  rw [V_main_arg3]
  show (kargs m c).cw _ = _
  congr 1
  funext a
  apply Fin.ext
  match a with
  | ⟨0, _⟩ => show win0_3.index t 0 * 4 + 1 * q.val = q.val; rw [(idx_3 t).1]; omega
  | ⟨1, _⟩ => show win0_3.index t 1 * 256 + 1 * l.val = t.val % 8 * 256 + l.val; rw [(idx_3 t).2]; omega

theorem blk_4 (c : Dev nD) (t : Fin cfg0.N) (l : Fin 256) :
    iblk m c 4 t (ix2 0 l) = (kargs m c).cb (ix1 (chan t l)) := by
  unfold iblk
  rw [View.read_apply, ← entry_cb]
  show V m c main_v2 _ = _
  congr 1
  funext a
  apply Fin.ext
  match a with
  | ⟨0, _⟩ => show win0_4.index t 0 * 1 + 1 * 0 = 0; rw [(idx_4 t).1]
  | ⟨1, _⟩ => show win0_4.index t 1 * 256 + 1 * l.val = t.val % 8 * 256 + l.val; rw [(idx_4 t).2]; omega

theorem blk_6 (c : Dev nD) (t : Fin cfg0.N) (l : Fin 256) :
    iblk m c 6 t (ix2 0 l) = (kargs m c).ba (ix1 (chan t l)) := by
  unfold iblk
  rw [View.read_apply, ← entry_ba]
  show V m c main_v3 _ = _
  congr 1
  funext a
  apply Fin.ext
  match a with
  | ⟨0, _⟩ => show win0_6.index t 0 * 1 + 1 * 0 = 0; rw [(idx_6 t).1]
  | ⟨1, _⟩ => show win0_6.index t 1 * 256 + 1 * l.val = t.val % 8 * 256 + l.val; rw [(idx_6 t).2]; omega

theorem blk_8 (c : Dev nD) (t : Fin cfg0.N) (l : Fin 256) :
    iblk m c 8 t (ix2 0 l) = (kargs m c).bx (ix1 (chan t l)) := by
  unfold iblk
  rw [View.read_apply, ← entry_bx]
  show V m c main_v4 _ = _
  congr 1
  funext a
  apply Fin.ext
  match a with
  | ⟨0, _⟩ => show win0_8.index t 0 * 1 + 1 * 0 = 0; rw [(idx_8 t).1]
  | ⟨1, _⟩ => show win0_8.index t 1 * 256 + 1 * l.val = t.val % 8 * 256 + l.val; rw [(idx_8 t).2]; omega

theorem blk_9 (c : Dev nD) (t : Fin cfg0.N) (l : Fin 256) :
    iblk m c 9 t (ix2 0 l) = (kargs m c).lam (ix1 (chan t l)) := by
  unfold iblk
  rw [View.read_apply, ← entry_lam]
  show V m c main_v5 _ = _
  congr 1
  funext a
  apply Fin.ext
  match a with
  | ⟨0, _⟩ => show win0_9.index t 0 * 1 + 1 * 0 = 0; rw [(idx_9 t).1]
  | ⟨1, _⟩ => show win0_9.index t 1 * 256 + 1 * l.val = t.val % 8 * 256 + l.val; rw [(idx_9 t).2]; omega

theorem blk_5 (c : Dev nD) (t : Fin cfg0.N) (q : Fin 2) (k n : Fin 128) :
    iblk m c 5 t (ix3 q k n) = (kargs m c).wa (ix3 ⟨t.val % 8 * 2 + q.val, by omega⟩ k n) := by
  unfold iblk
  rw [View.read_apply]
  show V m c main_v0 _ = _
  rw [entry_wa]
  congr 1
  funext a
  apply Fin.ext
  match a with
  | ⟨0, _⟩ => show win0_5.index t 0 * 2 + 1 * q.val = t.val % 8 * 2 + q.val; rw [(idx_5 t).1]; omega
  | ⟨1, _⟩ => show win0_5.index t 1 * 128 + 1 * k.val = k.val; rw [(idx_5 t).2.1]; omega
  | ⟨2, _⟩ => show win0_5.index t 2 * 128 + 1 * n.val = n.val; rw [(idx_5 t).2.2]; omega

theorem blk_7 (c : Dev nD) (t : Fin cfg0.N) (q : Fin 2) (k n : Fin 128) :
    iblk m c 7 t (ix3 q k n) = (kargs m c).wx (ix3 ⟨t.val % 8 * 2 + q.val, by omega⟩ k n) := by
  unfold iblk
  rw [View.read_apply]
  show V m c main_v1 _ = _
  rw [entry_wx]
  congr 1
  funext a
  apply Fin.ext
  match a with
  | ⟨0, _⟩ => show win0_7.index t 0 * 2 + 1 * q.val = t.val % 8 * 2 + q.val; rw [(idx_7 t).1]; omega
  | ⟨1, _⟩ => show win0_7.index t 1 * 128 + 1 * k.val = k.val; rw [(idx_7 t).2.1]; omega
  | ⟨2, _⟩ => show win0_7.index t 2 * 128 + 1 * n.val = n.val; rw [(idx_7 t).2.2]; omega

/-! ## The block's recurrence is the layer's, in the block's batch and channels -/

theorem bconv_eq (c : Dev nD) (t : Fin cfg0.N) (s : Fin 2048) (l : Fin 256) :
    bconv (iblk m c 0 t) (iblk m c 3 t) (iblk m c 4 t) s l = gconv (kargs m c) (bat t) s (chan t l) := by
  unfold bconv gconv
  simp only [blk_0, blk_3, blk_4]

theorem bpre_eq (c : Dev nD) (t : Fin cfg0.N) (x5 : FVec Ideal S2x128x128 .bf16) (x6 : FVec Ideal S1x256 .f32)
    (w : Arr ⟨3, ![16, 128, 128]⟩) (bias : Arr ⟨1, ![2048]⟩)
    (hw : ∀ (q : Fin 2) (k n : Fin 128), x5 (ix3 q k n) = w (ix3 ⟨t.val % 8 * 2 + q.val, by omega⟩ k n))
    (hb : ∀ l : Fin 256, x6 (ix2 0 l) = bias (ix1 (chan t l))) (s : Fin 2048) (l : Fin 256) :
    bpre (bconv (iblk m c 0 t) (iblk m c 3 t) (iblk m c 4 t)) x5 x6 s l = gpre (kargs m c) w bias (bat t) s (chan t l) := by
  have hq : (chan t l).val / 128 = t.val % 8 * 2 + l.val / 128 := by show (t.val % 8 * 256 + l.val) / 128 = _; omega
  have hr : (chan t l).val % 128 = l.val % 128 := by show (t.val % 8 * 256 + l.val) % 128 = _; omega
  unfold bpre gpre
  rw [hb]
  refine congrArg₂ (· + ·) (Finset.sum_congr rfl fun k _ => ?_) rfl
  rw [bconv_eq, hw]
  refine congrArg₂ (· * ·) (congrArg (gconv (kargs m c) (bat t) s) ?_) (congrArg w ?_)
  · exact Fin.ext (by show t.val % 8 * 256 + (l.val / 128 * 128 + k.val) = (chan t l).val / 128 * 128 + k.val; rw [hq]; omega)
  · exact congrArg₂ (fun a b => ix3 a k b) (Fin.ext hq.symm) (Fin.ext hr.symm)

theorem bstate_eq (c : Dev nD) (t : Fin cfg0.N) (l : Fin 256) :
    bstate (iblk m c 0 t) (iblk m c 3 t) (iblk m c 4 t) (iblk m c 5 t) (iblk m c 6 t) (iblk m c 7 t) (iblk m c 8 t)
      (iblk m c 9 t) l = gstate (kargs m c) (bat t) (chan t l) := by
  unfold bstate gstate gdecay gdrive
  simp only [bpre_eq m c t _ _ (kargs m c).wa (kargs m c).ba (blk_5 m c t) (blk_6 m c t),
    bpre_eq m c t _ _ (kargs m c).wx (kargs m c).bx (blk_7 m c t) (blk_8 m c t), bconv_eq, blk_9]

/-! ## The final array -/

theorem flushed_eq (c : Dev nD) (t : Fin cfg0.N) (_ : (cfg0.win 10).flush t = true) :
    (dats m 0 c).flushed 10 t = ((cfg0.win 10).blk t).view.read (Elt Ideal) (target (kargs m c)) := by
  rw [Value.flushed10_A]
  funext j
  rw [View.read_apply]
  obtain ⟨s, l, rfl⟩ : ∃ (s : Fin 2048) (l : Fin 256), j = ix2 s l :=
    ⟨j 0, j 1, by funext a; match a with | ⟨0, _⟩ => rfl | ⟨1, _⟩ => rfl⟩
  refine Eq.trans (out_at c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) scM0_1 (Memref.isWhole_whole _) _ _ _ _ _ _ _ _ _ _ s l) ?_
  rw [bstate_eq, blk_1, blk_2, ← target_at]
  refine congrArg (target (kargs m c)) ?_
  funext a
  apply Fin.ext
  match a with
  | ⟨0, _⟩ => show t.val / 8 * 2048 + s.val = win0_10.index t 0 * 2048 + 1 * s.val; rw [(idx_10 t).1]; omega
  | ⟨1, _⟩ => show t.val % 8 * 256 + l.val = win0_10.index t 1 * 256 + 1 * l.val; rw [(idx_10 t).2]; omega

/-- The blocks cover the array. -/
theorem final (c : Dev nD) : (dats (F := Ideal) m 0 c).arrAt 10 cfg0.N = target (kargs m c) :=
  (dats m 0 c).arrAt_eq_of_cover 10 (target (kargs m c)) (flushed_eq m c) fun i => by
    have h0 : (i 0 : Nat) < 8192 := (i 0).isLt
    have h1 : (i 1 : Nat) < 2048 := (i 1).isLt
    have ht : (i 0 : Nat) / 2048 * 8 + (i 1 : Nat) / 256 < cfg0.N := by rw [show cfg0.N = 32 from N_0]; omega
    refine ⟨⟨_, ht⟩, flush0_10 _, ?_⟩
    show i ∈ ((View.whole main_v6).slice (win0_10.rect ⟨_, ht⟩)).set
    rw [View.set_slice_whole, Rect.mem_set_unit]
    intro a
    match a with
    | ⟨0, _⟩ =>
      show win0_10.index ⟨_, ht⟩ 0 * 2048 ≤ (i 0 : Nat) ∧ (i 0 : Nat) < win0_10.index ⟨_, ht⟩ 0 * 2048 + 2048
      rw [(idx_10 ⟨_, ht⟩).1]; dsimp only; omega
    | ⟨1, _⟩ =>
      show win0_10.index ⟨_, ht⟩ 1 * 256 ≤ (i 1 : Nat) ∧ (i 1 : Nat) < win0_10.index ⟨_, ht⟩ 1 * 256 + 256
      rw [(idx_10 ⟨_, ht⟩).2]; dsimp only; omega

end Cert.Lru

end
-- ==== Proof.Ref.lean ====
/- The reference's arrays, stage by stage: the convolution, the gates, the decays and the drives, and the scan. -/
module

public import proofs.«01_k».proof.Proof.Target
public import proofs.«01_k».proof.Proof.Gen.ReferenceIdeal.Run
public import Idealize.ShloMosaic.Lib.StableHlo.ReadAt

@[expose] public section

set_option maxRecDepth 16384

noncomputable section

namespace Cert.Lru

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- The reference's arguments as launched. -/
def rargs : Args where
  px := m ((c : Thread nD τ).loc main_arg0)
  gg := m ((c : Thread nD τ).loc main_arg1)
  sg := m ((c : Thread nD τ).loc main_arg2)
  cw := m ((c : Thread nD τ).loc main_arg3)
  cb := m ((c : Thread nD τ).loc main_arg4)
  wa := m ((c : Thread nD τ).loc main_arg5)
  ba := m ((c : Thread nD τ).loc main_arg6)
  wx := m ((c : Thread nD τ).loc main_arg7)
  bx := m ((c : Thread nD τ).loc main_arg8)
  lam := m ((c : Thread nD τ).loc main_arg9)

/-! ## The contents before the loop, stretch by stretch -/

/-- After the slices of the arguments. -/
def E1 : Valuation τ sig (Elt Ideal) := after hostOps0 (launchContents m c)
/-- After the padding. -/
def E2 : Valuation τ sig (Elt Ideal) := after hostOps0_1 (E1 m c)
/-- After the convolution and the gates. -/
def E3 : Valuation τ sig (Elt Ideal) := after hostOps0_2 (E2 m c)
/-- After the softplus. -/
def E4 : Valuation τ sig (Elt Ideal) := after hostOps0_3 (E3 m c)
/-- When the loop starts. -/
def E5 : Valuation τ sig (Elt Ideal) := after hostOps0_4 (E4 m c)

theorem entry_eq : entryContents preI m c = E5 m c := rfl

theorem keep1 (r : Ref sig .tc) (h : r ∉ hostOps0_W) : E1 m c (Proc.devRef .tc r) = m ((c : Thread nD τ).loc r) :=
  after_of_writes_sub hostOps0 _ hostOps0_writes h
theorem keep2 (r : Ref sig .tc) (h : r ∉ hostOps0_1_W) : E2 m c (Proc.devRef .tc r) = E1 m c (Proc.devRef .tc r) :=
  after_of_writes_sub hostOps0_1 _ hostOps0_1_writes h
theorem keep3 (r : Ref sig .tc) (h : r ∉ hostOps0_2_W) : E3 m c (Proc.devRef .tc r) = E2 m c (Proc.devRef .tc r) :=
  after_of_writes_sub hostOps0_2 _ hostOps0_2_writes h
theorem keep4 (r : Ref sig .tc) (h : r ∉ hostOps0_3_W) : E4 m c (Proc.devRef .tc r) = E3 m c (Proc.devRef .tc r) :=
  after_of_writes_sub hostOps0_3 _ hostOps0_3_writes h
theorem keep5 (r : Ref sig .tc) (h : r ∉ hostOps0_4_W) : E5 m c (Proc.devRef .tc r) = E4 m c (Proc.devRef .tc r) :=
  after_of_writes_sub hostOps0_4 _ hostOps0_4_writes h

/-- An argument keeps its launch contents up to the convolution. -/
theorem arg2 (r : Ref sig .tc) (h : r ∉ hostOps0_W) (h' : r ∉ hostOps0_1_W) :
    E2 m c (Proc.devRef .tc r) = m ((c : Thread nD τ).loc r) := (keep2 m c r h').trans (keep1 m c r h)

theorem r_x (b : Fin 4) (s n : Fin 2048) : E1 m c (Proc.devRef .tc main_v1) (ix3 b s n)
    = (rargs m c).px (ix2 ⟨b.val * 2048 + s.val, by omega⟩ ⟨2048 + n.val, by omega⟩) := by
  unfold E1
  after_reads_at
  rfl

theorem r_act (b : Fin 4) (s n : Fin 2048) : E1 m c (Proc.devRef .tc main_v3) (ix3 b s n)
    = (rargs m c).gg (ix2 ⟨b.val * 2048 + s.val, by omega⟩ n) := by
  unfold E1
  after_reads_at
  rfl

theorem r_gate (b : Fin 4) (s n : Fin 2048) : E1 m c (Proc.devRef .tc main_v6) (ix3 b s n)
    = (rargs m c).sg (ix2 ⟨b.val * 2048 + s.val, by omega⟩ ⟨4096 + n.val, by omega⟩) := by
  unfold E1
  after_reads_at
  rfl

theorem r_zero : E1 m c (Proc.devRef .tc main_c) = fun _ => 0#32 := by
  unfold E1
  after_reads_simp
  rfl

theorem int_zero : (FloatOps.sitofp .f32 (0#32) : Ideal .f32) = (0 : EReal) := by
  show (((0#32 : BitVec 32).toInt : ℝ) : EReal) = 0
  norm_num

/-- The padded array at `3 - d` past position `s`: the tap `d` back. -/
theorem r_pad (b : Fin 4) (s n : Fin 2048) (d q : ℕ) (t : Fin 2051) (hq : q + d = 3) (ht : t.val = q + s.val) :
    E2 m c (Proc.devRef .tc main_v7) (ix3 b t n)
      = tap (fun s => (rargs m c).px (ix2 ⟨b.val * 2048 + s.val, by omega⟩ ⟨2048 + n.val, by omega⟩)) d s := by
  unfold E2 tap
  after_reads_at
  rw [r_zero]
  by_cases hd : d ≤ s.val
  · rw [dif_pos (by omega), if_pos hd, r_x]
    have he : t.val - 3 = s.val - d := by omega
    simp only [he]
  · rw [dif_neg (by omega), if_neg hd]
    exact int_zero

/-- The four products of the convolution, over the padded array. -/
def padded (x : Arr ⟨3, ![4, 2051, 2048]⟩) (w : Arr ⟨2, ![4, 2048]⟩) (bias : Arr ⟨1, ![2048]⟩) (b : Fin 4) (s n : Fin 2048) : EReal :=
  bias (ix1 n) + x (ix3 b ⟨s.val, by omega⟩ n) * w (ix2 0 n) + x (ix3 b ⟨1 + s.val, by omega⟩ n) * w (ix2 1 n)
    + x (ix3 b ⟨2 + s.val, by omega⟩ n) * w (ix2 2 n) + x (ix3 b ⟨3 + s.val, by omega⟩ n) * w (ix2 3 n)

theorem conv_read (b : Fin 4) (s n : Fin 2048) :
    padded (E2 m c (Proc.devRef .tc main_v7)) (E2 m c (Proc.devRef .tc main_arg3)) (E2 m c (Proc.devRef .tc main_arg4)) b s n
      = gconv (rargs m c) b s n := by
  unfold padded
  rw [r_pad m c b s n 3 0 _ rfl (Nat.zero_add _).symm, r_pad m c b s n 2 1 _ rfl rfl, r_pad m c b s n 1 2 _ rfl rfl,
    r_pad m c b s n 0 3 _ rfl rfl, arg2 m c main_arg4 (by decide) (by decide), arg2 m c main_arg3 (by decide) (by decide)]
  rfl

theorem r_conv (b : Fin 4) (s n : Fin 2048) :
    E3 m c (Proc.devRef .tc main_v37) (ix3 b s n) = gconv (rargs m c) b s n := by
  unfold E3
  after_reads_at
  exact conv_read m c b s n

/-- A gate's argument as the reference sums it, the weight on the left. -/
def summed (w : Arr ⟨3, ![16, 128, 128]⟩) (bias : Arr ⟨1, ![2048]⟩) (b : Fin 4) (s n : Fin 2048) : EReal :=
  (∑ k : Fin 128, w (ix3 ⟨n.val / 128, by omega⟩ k ⟨n.val % 128, by omega⟩)
    * padded (E2 m c (Proc.devRef .tc main_v7)) (E2 m c (Proc.devRef .tc main_arg3)) (E2 m c (Proc.devRef .tc main_arg4)) b s
        ⟨n.val / 128 * 128 + k.val, by omega⟩) + bias (ix1 n)

theorem pre_read (b : Fin 4) (s n : Fin 2048) (w : Arr ⟨3, ![16, 128, 128]⟩) (bias : Arr ⟨1, ![2048]⟩) :
    summed m c w bias b s n = gpre (rargs m c) w bias b s n := by
  unfold summed gpre
  exact congrArg (· + bias (ix1 n)) (Finset.sum_congr rfl fun k _ => by rw [conv_read, mul_comm])

theorem r_in (b : Fin 4) (s n : Fin 2048) : E3 m c (Proc.devRef .tc main_v62) (ix3 b s n)
    = Ideal.logistic (gpre (rargs m c) (rargs m c).wx (rargs m c).bx b s n) := by
  unfold E3
  after_reads_at
  show Ideal.logistic (summed m c (E2 m c (Proc.devRef .tc main_arg7)) (E2 m c (Proc.devRef .tc main_arg8)) b s n) = _
  rw [pre_read, arg2 m c main_arg7 (by decide) (by decide), arg2 m c main_arg8 (by decide) (by decide)]
  rfl

theorem r_rec (b : Fin 4) (s n : Fin 2048) : E3 m c (Proc.devRef .tc main_v64) (ix3 b s n)
    = ((-8 : ℝ) : EReal) * Ideal.logistic (gpre (rargs m c) (rargs m c).wa (rargs m c).ba b s n) := by
  unfold E3
  after_reads_at
  show Ideal.ofBits FTy.f32 3238002688#32 * Ideal.logistic (summed m c (E2 m c (Proc.devRef .tc main_arg5)) (E2 m c (Proc.devRef .tc main_arg6)) b s n) = _
  rw [lit_neg_eight, pre_read, arg2 m c main_arg5 (by decide) (by decide), arg2 m c main_arg6 (by decide) (by decide)]
  rfl

theorem r_neg (n : Fin 2048) : E3 m c (Proc.devRef .tc main_v65) (ix1 n) = -(rargs m c).lam (ix1 n) := by
  unfold E3
  after_reads_at
  rw [arg2 m c main_arg9 (by decide) (by decide)]
  rfl

theorem r_soft (n : Fin 2048) : E4 m c (Proc.devRef .tc main_v66) (ix1 n) = softplus (-(rargs m c).lam (ix1 n)) := by
  unfold E4
  after_reads_at
  rw [← softplus_stable, r_neg, if_neg (fun h => h rfl)]
  rfl

theorem r_decay (b : Fin 4) (s n : Fin 2048) :
    E5 m c (Proc.devRef .tc main_v82_0) (ix3 s b n) = gdecay (rargs m c) b n s := by
  unfold E5
  after_reads_simp
  simp only [id]
  clean_types
  pointwise
  rw [r_soft, keep4 m c main_v64 (by decide), r_rec]
  rfl

theorem r_drive (b : Fin 4) (s n : Fin 2048) :
    E5 m c (Proc.devRef .tc main_v82_1) (ix3 s b n) = gdrive (rargs m c) b n s := by
  unfold E5
  after_reads_simp
  simp only [id]
  clean_types
  pointwise
  rw [r_soft, keep4 m c main_v64 (by decide), r_rec, keep4 m c main_v62 (by decide), r_in, keep4 m c main_v37 (by decide), r_conv]
  unfold gdrive
  rw [← drive_expm1, lit_two]
  rfl

theorem r_start (b : Fin 4) (n : Fin 2048) : E5 m c (Proc.devRef .tc main_v82_3) (ix2 b n) = (0 : EReal) := by
  unfold E5
  after_reads_simp
  simp only [id]
  clean_types
  pointwise

/-! ## The scan -/

/-- The loop's row is its counter's value. -/
theorem row_eq (V : Valuation τ sig (Elt Ideal)) (k : ℕ) (hk : k < 2048)
    (hc : V (Proc.devRef .tc main_v82_2) = fun _ => Scf.iv 0#32 1#32 k) (h : (3 : ℕ) = 3) :
    Host.clampedStart ⟨3, ![2048, 4, 2048]⟩ S1x4x2048 h (fun a => BitVec.toInt
      ((![V (Proc.devRef .tc main_v82_2), constantI S_ 32 0#32, constantI S_ 32 0#32] : Fin 3 → (⟨S_, .i32⟩ : BufTy).Contents (Elt Ideal)) a (Shape.Idx.first h_S_))) 0 = k := by
  refine Host.clampedStart_of_le _ _ _ k ?_ (by show k + 1 ≤ 2048; omega)
  show BitVec.toInt (V (Proc.devRef .tc main_v82_2) (Shape.Idx.first h_S_)) = k
  rw [hc]
  show (Scf.iv 0#32 1#32 k).toInt = k
  rw [Scf.iv_eq_ofInt, show (0#32 : BitVec 32).toInt + (k : ℤ) * (1#32 : BitVec 32).toInt = k by simp,
    BitVec.toInt_ofInt_eq_self (by decide) (by omega) (by omega)]

theorem batch_eq (V : Valuation τ sig (Elt Ideal)) (h : (3 : ℕ) = 3) :
    Host.clampedStart ⟨3, ![2048, 4, 2048]⟩ S1x4x2048 h (fun a => BitVec.toInt
      ((![V (Proc.devRef .tc main_v82_2), constantI S_ 32 0#32, constantI S_ 32 0#32] : Fin 3 → (⟨S_, .i32⟩ : BufTy).Contents (Elt Ideal)) a (Shape.Idx.first h_S_))) 1 = 0 :=
  Host.clampedStart_of_le _ _ _ 0 rfl (by show 0 + 4 ≤ 4; omega)

theorem lane_eq (V : Valuation τ sig (Elt Ideal)) (h : (3 : ℕ) = 3) :
    Host.clampedStart ⟨3, ![2048, 4, 2048]⟩ S1x4x2048 h (fun a => BitVec.toInt
      ((![V (Proc.devRef .tc main_v82_2), constantI S_ 32 0#32, constantI S_ 32 0#32] : Fin 3 → (⟨S_, .i32⟩ : BufTy).Contents (Elt Ideal)) a (Shape.Idx.first h_S_))) 2 = 0 :=
  Host.clampedStart_of_le _ _ _ 0 rfl (by show 0 + 2048 ≤ 2048; omega)

/-- The loop's decays, drives, state and rows. -/
def decs (V : Valuation τ sig (Elt Ideal)) : Arr ⟨3, ![2048, 4, 2048]⟩ := V (Proc.devRef .tc main_v82_0)
def drvs (V : Valuation τ sig (Elt Ideal)) : Arr ⟨3, ![2048, 4, 2048]⟩ := V (Proc.devRef .tc main_v82_1)
def carr (V : Valuation τ sig (Elt Ideal)) : Arr ⟨2, ![4, 2048]⟩ := V (Proc.devRef .tc main_v82_3)
def rows (V : Valuation τ sig (Elt Ideal)) : Arr ⟨3, ![2048, 4, 2048]⟩ := V (Proc.devRef .tc main_v82_4)

/-- One trip's state: the row's decay times the state, plus the row's drive. -/
theorem step_state (V : Valuation τ sig (Elt Ideal)) (k : ℕ) (hk : k < 2048)
    (hc : V (Proc.devRef .tc main_v82_2) = fun _ => Scf.iv 0#32 1#32 k) (b : Fin 4) (n : Fin 2048) :
    carr (STEP V) (ix2 b n) = decs V (ix3 ⟨k, hk⟩ b n) * carr V (ix2 b n) + drvs V (ix3 ⟨k, hk⟩ b n) := by
  unfold carr
  rw [STEP_main_v82_3]
  unfold step_main_v82_3 res_main_while0b_v91
  simp only [id]
  clean_types
  pointwise
  simp only [row_eq V k hk hc, batch_eq, lane_eq, Nat.zero_add]
  rfl

/-- One trip's rows: the new state in the trip's row, the rest kept. -/
theorem step_rows (V : Valuation τ sig (Elt Ideal)) (k : ℕ) (hk : k < 2048)
    (hc : V (Proc.devRef .tc main_v82_2) = fun _ => Scf.iv 0#32 1#32 k) (b : Fin 4) (s n : Fin 2048) :
    rows (STEP V) (ix3 s b n) = if s.val = k then carr (STEP V) (ix2 b n) else rows V (ix3 s b n) := by
  unfold rows carr
  rw [STEP_main_v82_4, STEP_main_v82_3]
  unfold step_main_v82_4 step_main_v82_3
  simp only [id]
  clean_types
  pointwise
  simp only [row_eq V k hk hc, batch_eq, lane_eq]
  by_cases h : s.val = k
  · rw [dif_pos ⟨⟨by omega, by omega⟩, Nat.zero_le _, Nat.zero_le _⟩, if_pos h]
    rfl
  · rw [dif_neg (fun hh => h (by omega)), if_neg h]

/-- The carried arrays before trip `k`. -/
def trip (k : ℕ) : Valuation τ sig (Elt Ideal) := STEP^[k] (E5 m c)

theorem trip_succ (k : ℕ) : trip m c (k + 1) = STEP (trip m c k) := Function.iterate_succ_apply' _ _ _

theorem trip_counter (k : ℕ) : trip m c k (Proc.devRef .tc main_v82_2) = fun _ => Scf.iv 0#32 1#32 k :=
  (atK_agree m c k main_v82_2 (by decide)).symm.trans (atK_ctr m c k)

theorem trip_decs (k : ℕ) : decs (trip m c k) = decs (E5 m c) := by
  induction k with
  | zero => rfl
  | succ k ih => rw [← ih, trip_succ]; exact STEP_main_v82_0 _

theorem trip_drvs (k : ℕ) : drvs (trip m c k) = drvs (E5 m c) := by
  induction k with
  | zero => rfl
  | succ k ih => rw [← ih, trip_succ]; exact STEP_main_v82_1 _

/-- The state before trip `k` is the recurrence's after `k` positions. -/
theorem trip_state (k : ℕ) (hk : k ≤ 2048) (b : Fin 4) (n : Fin 2048) :
    carr (trip m c k) (ix2 b n) = gstate (rargs m c) b n k := by
  induction k with
  | zero => exact r_start m c b n
  | succ k ih =>
    rw [trip_succ, step_state _ k (by omega) (trip_counter m c k), ih (by omega), trip_decs, trip_drvs]
    unfold gstate
    show _ = ext _ k * _ + ext _ k
    rw [ext_val _ (show k < 2048 by omega), ext_val _ (show k < 2048 by omega)]
    exact congrArg₂ (· + ·) (congrArg (· * _) (r_decay m c b ⟨k, by omega⟩ n)) (r_drive m c b ⟨k, by omega⟩ n)

/-- Row `s`, once written, is the state after `s + 1` positions. -/
theorem trip_rows (k : ℕ) (hk : k ≤ 2048) (b : Fin 4) (s n : Fin 2048) (hs : s.val < k) :
    rows (trip m c k) (ix3 s b n) = gstate (rargs m c) b n (s.val + 1) := by
  induction k with
  | zero => omega
  | succ k ih =>
    rw [trip_succ, step_rows _ k (by omega) (trip_counter m c k)]
    by_cases h : s.val = k
    · rw [if_pos h, ← trip_succ, trip_state m c (k + 1) hk, h]
    · rw [if_neg h]; exact ih (by omega) (by omega)

/-! ## The result -/

/-- A buffer that the loop does not write. -/
theorem loop_keep (r : Ref sig .tc) (h0 : r ∉ condOps_W) (h1 : r ∉ while0Ops0_W) (h2 : r ∉ while0Ops0_1_W) (h3 : r ∉ while0Ops0_2_W)
    (h4 : r ∉ while0Ops0_3_W) (h5 : r ∉ while0Ops0_4_W) (k : ℕ) :
    atK m k c (Proc.devRef .tc r) = E5 m c (Proc.devRef .tc r) := by
  induction k with
  | zero => rfl
  | succ k ih =>
    rw [← ih]
    exact (after_of_writes_sub while0Ops0_4 _ while0Ops0_4_writes h5).trans <|
      (after_of_writes_sub while0Ops0_3 _ while0Ops0_3_writes h4).trans <|
      (after_of_writes_sub while0Ops0_2 _ while0Ops0_2_writes h3).trans <|
      (after_of_writes_sub while0Ops0_1 _ while0Ops0_1_writes h2).trans <|
      (after_of_writes_sub while0Ops0 _ while0Ops0_writes h1).trans <|
      after_of_writes_sub condOps _ condOps_writes h0

/-- The contents after the loop. -/
def E6 : Valuation τ sig (Elt Ideal) := after condOps (atK m 2048 c)

theorem E6_rows (b : Fin 4) (s n : Fin 2048) :
    E6 m c (Proc.devRef .tc main_v82_4) (ix3 s b n) = gstate (rargs m c) b n (s.val + 1) := by
  have h : E6 m c (Proc.devRef .tc main_v82_4) = trip m c 2048 (Proc.devRef .tc main_v82_4) :=
    (after_of_writes_sub condOps _ condOps_writes (by decide)).trans (atK_agree m c 2048 main_v82_4 (by decide))
  rw [h]
  exact trip_rows m c 2048 le_rfl b s n s.isLt

theorem E6_keep (r : Ref sig .tc) (h0 : r ∉ condOps_W) (h1 : r ∉ while0Ops0_W) (h2 : r ∉ while0Ops0_1_W) (h3 : r ∉ while0Ops0_2_W)
    (h4 : r ∉ while0Ops0_3_W) (h5 : r ∉ while0Ops0_4_W) : E6 m c (Proc.devRef .tc r) = E5 m c (Proc.devRef .tc r) :=
  (after_of_writes_sub condOps _ condOps_writes h0).trans (loop_keep m c r h0 h1 h2 h3 h4 h5 2048)

theorem E6_first (r : Ref sig .tc) (h0 : r ∉ condOps_W) (h1 : r ∉ while0Ops0_W) (h2 : r ∉ while0Ops0_1_W) (h3 : r ∉ while0Ops0_2_W)
    (h4 : r ∉ while0Ops0_3_W) (h5 : r ∉ while0Ops0_4_W) (g1 : r ∉ hostOps0_1_W) (g2 : r ∉ hostOps0_2_W) (g3 : r ∉ hostOps0_3_W)
    (g4 : r ∉ hostOps0_4_W) : E6 m c (Proc.devRef .tc r) = E1 m c (Proc.devRef .tc r) :=
  (E6_keep m c r h0 h1 h2 h3 h4 h5).trans <| (keep5 m c r g4).trans <| (keep4 m c r g3).trans <| (keep3 m c r g2).trans (keep2 m c r g1)

theorem final_eq (r : Ref sig .tc) :
    finalContents condOps preI bodyI postI 2048 m c (Proc.devRef .tc r) = after hostOps0_5 (E6 m c) (Proc.devRef .tc r) := rfl

/-- The reference's result is the target. -/
theorem ref_result : (finalContents condOps preI bodyI postI 2048 m c (Proc.devRef .tc main_v87) : Arr ⟨2, ![8192, 2048]⟩) = target (rargs m c) := by
  funext i
  obtain ⟨b, s, n, rfl⟩ : ∃ (b : Fin 4) (s n : Fin 2048), i = ix2 ⟨b.val * 2048 + s.val, by omega⟩ n := by
    have h0 : (i 0 : Nat) < 8192 := (i 0).isLt
    refine ⟨⟨(i 0 : Nat) / 2048, by omega⟩, ⟨(i 0 : Nat) % 2048, by omega⟩, i 1, ?_⟩
    funext a
    match a with
    | ⟨0, _⟩ => exact Fin.ext (by show (i 0 : Nat) = (i 0 : Nat) / 2048 * 2048 + (i 0 : Nat) % 2048; omega)
    | ⟨1, _⟩ => rfl
  rw [target_at, final_eq]
  have hb : (b.val * 2048 + s.val) / 2048 = b.val := by omega
  have hs : (b.val * 2048 + s.val) % 2048 = s.val := by omega
  after_reads_at
  simp only [hb, hs]
  rw [E6_rows, E6_first m c main_v6 (by decide) (by decide) (by decide) (by decide) (by decide) (by decide) (by decide) (by decide) (by decide) (by decide),
    E6_first m c main_v3 (by decide) (by decide) (by decide) (by decide) (by decide) (by decide) (by decide) (by decide) (by decide) (by decide),
    r_act, r_gate, mul_comm]

/-- An argument ends as launched. -/
theorem ref_arg (r : Ref sig .tc) (h : r ∈ [main_arg0, main_arg1, main_arg2, main_arg3, main_arg4, main_arg5, main_arg6, main_arg7, main_arg8, main_arg9]) :
    finalContents condOps preI bodyI postI 2048 m c (Proc.devRef .tc r) = m ((c : Thread nD τ).loc r) := by
  rw [final_eq]
  have hw : ∀ r ∈ [main_arg0, main_arg1, main_arg2, main_arg3, main_arg4, main_arg5, main_arg6, main_arg7, main_arg8, main_arg9],
      r ∉ condOps_W ∧ r ∉ while0Ops0_W ∧ r ∉ while0Ops0_1_W ∧ r ∉ while0Ops0_2_W ∧ r ∉ while0Ops0_3_W ∧ r ∉ while0Ops0_4_W
      ∧ r ∉ hostOps0_1_W ∧ r ∉ hostOps0_2_W ∧ r ∉ hostOps0_3_W ∧ r ∉ hostOps0_4_W ∧ r ∉ hostOps0_W
      ∧ r ∉ [main_v83, main_v84, main_v85, main_v86, main_v87] := by decide
  obtain ⟨h0, h1, h2, h3, h4, h5, g1, g2, g3, g4, g0, g5⟩ := hw r h
  refine (after_of_writes_sub hostOps0_5 _ (W := [main_v83, main_v84, main_v85, main_v86, main_v87]) ?_ g5).trans
    ((E6_first m c r h0 h1 h2 h3 h4 h5 g1 g2 g3 g4).trans (keep1 m c r g0))
  exact StableHlo.forall_writes_sub_of_map rfl

end Cert.Lru

end
-- ==== Proof.Claims.lean ====
/- The claims: the frames of the three programs, and the equality of the two results. -/
module

public import proofs.«01_k».proof.Defs
public import proofs.«01_k».proof.Proof.Kernel
public import proofs.«01_k».proof.Proof.Ref
public import proofs.«01_k».proof.Proof.Gen.Kernel.Frame
public import Idealize.ShloMosaic.Lib.Quiescent

@[expose] public section

set_option maxRecDepth 16384

noncomputable section

namespace Cert.Lru

open Idealize.ShloMosaic Idealize.ShloMosaic.TcCoe Idealize.SL.Sem

section Reference

open Cert.ReferenceIdeal Cert.ReferenceIdeal.Gen Cert.ReferenceIdeal.Value

/-- The reference's run: the target of its arguments, and the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c : Thread nD τ).loc main_v87) : Arr ⟨2, ![8192, 2048]⟩) = target (rargs m c)
     ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c main_v87 rfl).trans (ref_result m c), (h c main_arg0 rfl).trans (ref_arg m c main_arg0 (by decide)), (h c main_arg1 rfl).trans (ref_arg m c main_arg1 (by decide)), (h c main_arg2 rfl).trans (ref_arg m c main_arg2 (by decide)), (h c main_arg3 rfl).trans (ref_arg m c main_arg3 (by decide)), (h c main_arg4 rfl).trans (ref_arg m c main_arg4 (by decide)), (h c main_arg5 rfl).trans (ref_arg m c main_arg5 (by decide)), (h c main_arg6 rfl).trans (ref_arg m c main_arg6 (by decide)), (h c main_arg7 rfl).trans (ref_arg m c main_arg7 (by decide)), (h c main_arg8 rfl).trans (ref_arg m c main_arg8 (by decide)), (h c main_arg9 rfl).trans (ref_arg m c main_arg9 (by decide))⟩)
    (run_fold m ρ)

theorem frameRef : Cert.quiescent_ReferenceIdeal := fun m ρ _ =>
  (θ_run Cert.ReferenceIdeal.defs _ _).mono (fun r h => ⟨fun c => (h c).2, Idealize.ShloMosaic.sem_eq_zero_of_no_sems (by decide) r.2⟩)
    (ref_run m ρ)

end Reference

theorem frame : Cert.quiescent_Kernel := fun m ρ _ => Cert.Kernel.Gen.frame m ρ

theorem frameIdeal : Cert.quiescent_KernelIdeal := fun m ρ _ => Cert.KernelIdeal.Gen.frame m ρ

/-- Both programs end at the target of arguments that agree. -/
theorem algebraic : Cert.algebraic_KernelIdeal_ReferenceIdeal := by
  intro m ρ m' ρ' _ hagree
  refine ⟨fun c => target (kargs m c), ?_, ?_⟩
  · exact (θ_run Cert.KernelIdeal.defs _ _).mono (fun _ h c => ⟨(h c).1.trans (final m c), (h c).2⟩)
      (Cert.KernelIdeal.Value.run_blocks (F := Ideal) m ρ)
  · refine (θ_run Cert.ReferenceIdeal.defs _ _).mono (fun _ h c => ⟨(h c).1.trans ?_, (h c).2⟩) (ref_run m' ρ')
    have h : rargs m' c = kargs m c := by
      obtain ⟨h0, h1, h2, h3, h4, h5, h6, h7, h8, h9⟩ := hagree c
      unfold rargs kargs
      rw [h0, h1, h2, h3, h4, h5, h6, h7, h8, h9]
    rw [h]

end Cert.Lru

end
-- ==== Proof.Norm.lean ====
/- A row's layer norm after the residual: what the two calls that end in it compute, entry by entry. -/
module

public import proofs.«01_k».proof.Proof.Target

@[expose] public section

noncomputable section

namespace Cert.Norm

open Idealize.ShloMosaic Cert.Lru

/-- A row's mean: its sum over the literal 2048. -/
def mean (y : Fin 2048 → EReal) : EReal := Ideal.div (∑ k, y k) (Ideal.ofBits .f32 0x45000000#32)

/-- The layer norm of a row: centred, scaled by the reciprocal root of the variance, then by the gain, plus the bias. -/
def layerNorm (y : Fin 2048 → EReal) (g b : Fin 2048 → EReal) (l : Fin 2048) : EReal :=
  (y l - mean y) * Ideal.rsqrt (mean (fun k => (y k - mean y) * (y k - mean y)) + Ideal.ofBits .f32 0x3727C5AC#32) * g l + b l

/-- The residual: the input scaled by the literal, plus what the layer adds. -/
def resid (x f : Fin 2048 → EReal) (l : Fin 2048) : EReal := Ideal.ofBits .f32 0x3FB504F3#32 * x l + f l

/-! ## The feed-forward layer's last product -/

/-- The five arguments of the last product: the gated activations, padded past column 5504, the residual's input, the weight,
    and the norm's gain and bias. -/
structure DownArgs where
  h : Arr ⟨2, ![8192, 5632]⟩
  x : Arr ⟨2, ![8192, 2048]⟩
  w : Arr ⟨2, ![5504, 2048]⟩
  g : Arr ⟨1, ![2048]⟩
  b : Arr ⟨1, ![2048]⟩

/-- A row of the product. -/
def downRow (A : DownArgs) (r : Fin 8192) (l : Fin 2048) : EReal :=
  ∑ k : Fin 5504, A.h (ix2 r ⟨k.val, by omega⟩) * A.w (ix2 k l)

/-- The result of the last product, with the residual and the layer norm. -/
def downTarget (A : DownArgs) : Arr ⟨2, ![8192, 2048]⟩ := fun i =>
  layerNorm (resid (fun l => A.x (ix2 (i 0) l)) (downRow A (i 0))) (fun l => A.g (ix1 l)) (fun l => A.b (ix1 l)) (i 1)

/-! ## The out-projection -/

/-- The seven arguments of the out-projection: the three branches, the weight over all their columns, the residual's input,
    and the norm's gain and bias. -/
structure OutArgs where
  ya : Arr ⟨2, ![8192, 2048]⟩
  yb : Arr ⟨2, ![8192, 2048]⟩
  yc : Arr ⟨2, ![8192, 2048]⟩
  w : Arr ⟨2, ![6144, 2048]⟩
  x : Arr ⟨2, ![8192, 2048]⟩
  g : Arr ⟨1, ![2048]⟩
  b : Arr ⟨1, ![2048]⟩

/-- A row of the product: each branch with its own third of the weight's rows. -/
def outRow (A : OutArgs) (r : Fin 8192) (l : Fin 2048) : EReal :=
  ∑ k : Fin 2048, A.ya (ix2 r k) * A.w (ix2 ⟨k.val, by omega⟩ l) + ∑ k : Fin 2048, A.yb (ix2 r k) * A.w (ix2 ⟨2048 + k.val, by omega⟩ l)
    + ∑ k : Fin 2048, A.yc (ix2 r k) * A.w (ix2 ⟨4096 + k.val, by omega⟩ l)

/-- The result of the out-projection, with the residual and the layer norm. -/
def outTarget (A : OutArgs) : Arr ⟨2, ![8192, 2048]⟩ := fun i =>
  layerNorm (resid (fun l => A.x (ix2 (i 0) l)) (outRow A (i 0))) (fun l => A.g (ix1 l)) (fun l => A.b (ix1 l)) (i 1)

/-- A sum over 6144 columns, third by third. -/
theorem sum_thirds (f : Fin 6144 → EReal) :
    ∑ k, f k = ∑ k : Fin 2048, f ⟨k.val, by omega⟩ + ∑ k : Fin 2048, f ⟨2048 + k.val, by omega⟩ + ∑ k : Fin 2048, f ⟨4096 + k.val, by omega⟩ := by
  rw [show (∑ k, f k) = ∑ k : Fin (4096 + 2048), f k from rfl, Fin.sum_univ_add,
    show (∑ k : Fin 4096, f (Fin.castAdd 2048 k)) = ∑ k : Fin (2048 + 2048), f (Fin.castAdd 2048 k) from rfl, Fin.sum_univ_add]
  rfl

end Cert.Norm

end
-- ==== Proof.OutProjBlock.lean ====
/- The block the out-projection's kernel leaves at one grid point. -/
module

public import proofs.«01_k».proof.Proof.Norm
public import proofs.«01_k».proof.Proof.Gen.Kernel2Ideal.Value
public import Idealize.ShloMosaic.Lib.Pipeline.ValueKit.Tiles

@[expose] public section

set_option maxRecDepth 16384

noncomputable section

namespace Cert.OutProj

open Cert.Kernel2Ideal Cert.Kernel2Ideal.Gen Cert.Norm
open Idealize.ShloMosaic Idealize.ShloMosaic.TcCoe Idealize.ShloMosaic.Tactic

/-- The block's three products at row `s`, column `l`, over the three parts of the weight. -/
def bdot3 (x0 : FVec Ideal S256x2048 .bf16) (w0 : FVec Ideal S1x2048x2048 .bf16) (x1 : FVec Ideal S256x2048 .bf16) (w1 : FVec Ideal S1x2048x2048 .bf16)
    (x2 : FVec Ideal S256x2048 .bf16) (w2 : FVec Ideal S1x2048x2048 .bf16) (s : Fin 256) (l : Fin 2048) : EReal :=
  ∑ k : Fin 2048, x0 (ix2 s k) * w0 (ix3 0 k l) + ∑ k : Fin 2048, x1 (ix2 s k) * w1 (ix3 0 k l) + ∑ k : Fin 2048, x2 (ix2 s k) * w2 (ix3 0 k l)

/-- The block's three products over the whole weight. -/
def bdot (x0 x1 x2 : FVec Ideal S256x2048 .bf16) (x3 : FVec Ideal S3x2048x2048 .bf16) (s : Fin 256) (l : Fin 2048) : EReal :=
  ∑ k : Fin 2048, x0 (ix2 s k) * x3 (ix3 0 k l) + ∑ k : Fin 2048, x1 (ix2 s k) * x3 (ix3 1 k l) + ∑ k : Fin 2048, x2 (ix2 s k) * x3 (ix3 2 k l)

/-- Part `n` of the three of the weight. -/
theorem weight_part (w : FVec Ideal S3x2048x2048 .bf16) (n : ℕ) (hn : n < 3) (h : ∀ a : Fin 3, (![n, 0, 0] : Fin 3 → ℕ) a + S1x2048x2048.size a ≤ S3x2048x2048.size a)
    (k l : Fin 2048) :
    View.ld (Val := Elt Ideal) (e' := .bf16) w (Rect.unit (s := S3x2048x2048) ![n, 0, 0] S1x2048x2048.size h) (ix3 0 k l) = w (ix3 ⟨n, hn⟩ k l) :=
  View.ld_unit_apply_of _ _ _ _ _ _ fun a => by
    match a with
    | ⟨0, _⟩ => rfl
    | ⟨1, _⟩ => exact (Nat.zero_add _).symm
    | ⟨2, _⟩ => exact (Nat.zero_add _).symm

/-- The first result at an index, from the values the body reads. -/
theorem pay1_at (x0 : FVec Ideal S256x2048 .bf16) (w0 : FVec Ideal S1x2048x2048 .bf16) (x1 : FVec Ideal S256x2048 .bf16) (w1 : FVec Ideal S1x2048x2048 .bf16)
    (x2 : FVec Ideal S256x2048 .bf16) (w2 : FVec Ideal S1x2048x2048 .bf16) (x4 : FVec Ideal S256x2048 .f32)
    (x5 x6 : FVec Ideal S1x2048 .f32) (s : Fin 256) (l : Fin 2048) :
    k0_pay1 (F := Ideal) (k0_pay3 x5) (k0_pay4 x6) (k0_pay5 x0 w0 x1 w1 x2 w2 x4) (k0_pay6 x0 w0 x1 w1 x2 w2 x4) (ix2 s l)
      = layerNorm (resid (fun l => x4 (ix2 s l)) (bdot3 x0 w0 x1 w1 x2 w2 s)) (fun l => x5 (ix2 0 l)) (fun l => x6 (ix2 0 l)) l := by
  pointwise [k0_pay1, k0_pay3, k0_pay4, k0_pay5, k0_pay6, layerNorm, resid, mean, bdot3]

/-- The second result is the first, in the narrower format. -/
theorem pay2_at (x0 : FVec Ideal S256x2048 .bf16) (w0 : FVec Ideal S1x2048x2048 .bf16) (x1 : FVec Ideal S256x2048 .bf16) (w1 : FVec Ideal S1x2048x2048 .bf16)
    (x2 : FVec Ideal S256x2048 .bf16) (w2 : FVec Ideal S1x2048x2048 .bf16) (x4 : FVec Ideal S256x2048 .f32)
    (x5 x6 : FVec Ideal S1x2048 .f32) (s : Fin 256) (l : Fin 2048) :
    k0_pay2 (F := Ideal) (k0_pay3 x5) (k0_pay4 x6) (k0_pay5 x0 w0 x1 w1 x2 w2 x4) (k0_pay6 x0 w0 x1 w1 x2 w2 x4) (ix2 s l)
      = layerNorm (resid (fun l => x4 (ix2 s l)) (bdot3 x0 w0 x1 w1 x2 w2 s)) (fun l => x5 (ix2 0 l)) (fun l => x6 (ix2 0 l)) l :=
  pay1_at x0 w0 x1 w1 x2 w2 x4 x5 x6 s l

/-- The three parts of the weight are its three blocks. -/
theorem bdot3_eq (x0 x1 x2 : FVec Ideal S256x2048 .bf16) (x3 : FVec Ideal S3x2048x2048 .bf16)
    (h0 : ∀ a : Fin 3, (![0, 0, 0] : Fin 3 → ℕ) a + S1x2048x2048.size a ≤ S3x2048x2048.size a)
    (h1 : ∀ a : Fin 3, (![1, 0, 0] : Fin 3 → ℕ) a + S1x2048x2048.size a ≤ S3x2048x2048.size a)
    (h2 : ∀ a : Fin 3, (![2, 0, 0] : Fin 3 → ℕ) a + S1x2048x2048.size a ≤ S3x2048x2048.size a) :
    bdot3 x0 (View.ld (Val := Elt Ideal) (e' := .bf16) x3 (Rect.unit (s := S3x2048x2048) ![0, 0, 0] S1x2048x2048.size h0))
      x1 (View.ld (Val := Elt Ideal) (e' := .bf16) x3 (Rect.unit (s := S3x2048x2048) ![1, 0, 0] S1x2048x2048.size h1))
      x2 (View.ld (Val := Elt Ideal) (e' := .bf16) x3 (Rect.unit (s := S3x2048x2048) ![2, 0, 0] S1x2048x2048.size h2)) = bdot x0 x1 x2 x3 := by
  funext s l
  unfold bdot3 bdot
  refine congrArg₂ (· + ·) (congrArg₂ (· + ·) ?_ ?_) ?_ <;> refine Finset.sum_congr rfl fun k _ => ?_
  · rw [weight_part x3 0 (by norm_num) h0]; rfl
  · rw [weight_part x3 1 (by norm_num) h1]; rfl
  · rw [weight_part x3 2 (by norm_num) h2]; rfl

theorem zero2 : (![0, 0] : Fin 2 → Nat) = fun _ => 0 := funext fun a => by fin_cases a <;> rfl

/-! ## The body's two results at an index of their block -/

theorem out7_at (x0 x1 x2 : FVec Ideal S256x2048 .bf16) (x3 : FVec Ideal S3x2048x2048 .bf16) (x4 : FVec Ideal S256x2048 .f32)
    (x5 x6 : FVec Ideal S1x2048 .f32) (s : Fin 256) (l : Fin 2048) :
    out0_7 (F := Ideal) x0 x1 x2 x3 x4 x5 x6 (ix2 s l)
      = layerNorm (resid (fun l => x4 (ix2 s l)) (bdot x0 x1 x2 x3 s)) (fun l => x5 (ix2 0 l)) (fun l => x6 (ix2 0 l)) l := by
  unfold out0_7 k0_pay10 k0_pay9 k0_pay8 k0_pay7
  rw [View.canon_unit_zero zero2]
  simp only [View.ld_unit_zero (S := S256x2048) zero2, View.ld_unit_zero (S := S1x2048) zero2]
  rw [← bdot3_eq x0 x1 x2 x3 inb_S3x2048x2048_S1x2048x2048_0_0_0 inb_S3x2048x2048_S1x2048x2048_1_0_0 inb_S3x2048x2048_S1x2048x2048_2_0_0]
  exact pay1_at _ _ _ _ _ _ _ _ _ s l

theorem out8_at (x0 x1 x2 : FVec Ideal S256x2048 .bf16) (x3 : FVec Ideal S3x2048x2048 .bf16) (x4 : FVec Ideal S256x2048 .f32)
    (x5 x6 : FVec Ideal S1x2048 .f32) (s : Fin 256) (l : Fin 2048) :
    out0_8 (F := Ideal) x0 x1 x2 x3 x4 x5 x6 (ix2 s l)
      = layerNorm (resid (fun l => x4 (ix2 s l)) (bdot x0 x1 x2 x3 s)) (fun l => x5 (ix2 0 l)) (fun l => x6 (ix2 0 l)) l := by
  unfold out0_8 k0_pay10 k0_pay9 k0_pay8 k0_pay7
  rw [View.canon_unit_zero zero2]
  simp only [View.ld_unit_zero (S := S256x2048) zero2, View.ld_unit_zero (S := S1x2048) zero2]
  rw [← bdot3_eq x0 x1 x2 x3 inb_S3x2048x2048_S1x2048x2048_0_0_0 inb_S3x2048x2048_S1x2048x2048_1_0_0 inb_S3x2048x2048_S1x2048x2048_2_0_0]
  exact pay2_at _ _ _ _ _ _ _ _ _ s l

end Cert.OutProj

end
-- ==== Proof.OutProjKernel.lean ====
/- The two result arrays of the out-projection: every block is its own rows, and the blocks cover them. -/
module

public import proofs.«01_k».proof.Proof.OutProjBlock

@[expose] public section

set_option maxRecDepth 16384

noncomputable section

namespace Cert.OutProj

open Cert.Kernel2Ideal Cert.Kernel2Ideal.Gen Cert.Norm
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : OutArgs where
  ya := m ((c : Thread nD τ).loc main_arg0)
  yb := m ((c : Thread nD τ).loc main_arg1)
  yc := m ((c : Thread nD τ).loc main_arg2)
  w := m ((c : Thread nD τ).loc main_arg3)
  x := m ((c : Thread nD τ).loc main_arg4)
  g := m ((c : Thread nD τ).loc main_arg5)
  b := m ((c : Thread nD τ).loc main_arg6)

theorem entry_w (c : Dev nD) (q : Fin 3) (k l : Fin 2048) :
    V m c main_v1 (ix3 q k l) = (kargs m c).w (ix2 ⟨q.val * 2048 + k.val, by omega⟩ l) := by
  entry_read; pointwise; rfl
theorem entry_g (c : Dev nD) (n : Fin 2048) : V m c main_v2 (ix2 0 n) = (kargs m c).g (ix1 n) := by
  entry_read; pointwise; rfl
theorem entry_b (c : Dev nD) (n : Fin 2048) : V m c main_v3 (ix2 0 n) = (kargs m c).b (ix1 n) := by
  entry_read; pointwise; rfl

/-! ## The blocks of a grid point: rows `256 t` to `256 t + 255` -/

theorem point_lt (t : Fin cfg0.N) : t.val < 32 := lt_of_lt_of_eq t.isLt N_0

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = t.val ∧ win0_7.index t 1 = 0 :=
  (by decide +kernel : ∀ t : Fin grid0.N, win0_7.index t 0 = t.val ∧ win0_7.index t 1 = 0)
theorem idx_8 : ∀ t : Fin cfg0.N, win0_8.index t 0 = t.val ∧ win0_8.index t 1 = 0 :=
  (by decide +kernel : ∀ t : Fin grid0.N, win0_8.index t 0 = t.val ∧ win0_8.index t 1 = 0)

/-- Row `s` of the block of point `t`. -/
def row (t : Fin cfg0.N) (s : Fin 256) : Fin 8192 := ⟨t.val * 256 + s.val, by have := point_lt t; omega⟩

theorem blk_0 (c : Dev nD) (t : Fin cfg0.N) (s : Fin 256) (l : Fin 2048) :
    iblk m c 0 t (ix2 s l) = (kargs m c).ya (ix2 (row t s) l) := by
  unfold iblk
  rw [View.read_apply]
  show V m c main_arg0 _ = _
  rw [V_main_arg0]
  show (kargs m c).ya _ = _
  congr 1
  funext a
  apply Fin.ext
  match a with
  | ⟨0, _⟩ => show win0_0.index t 0 * 256 + 1 * s.val = t.val * 256 + s.val; rw [(idx_0 t).1]; omega
  | ⟨1, _⟩ => show win0_0.index t 1 * 2048 + 1 * l.val = l.val; rw [(idx_0 t).2]; omega

theorem blk_1 (c : Dev nD) (t : Fin cfg0.N) (s : Fin 256) (l : Fin 2048) :
    iblk m c 1 t (ix2 s l) = (kargs m c).yb (ix2 (row t s) l) := by
  unfold iblk
  rw [View.read_apply]
  show V m c main_arg1 _ = _
  rw [V_main_arg1]
  show (kargs m c).yb _ = _
  congr 1
  funext a
  apply Fin.ext
  match a with
  | ⟨0, _⟩ => show win0_1.index t 0 * 256 + 1 * s.val = t.val * 256 + s.val; rw [(idx_1 t).1]; omega
  | ⟨1, _⟩ => show win0_1.index t 1 * 2048 + 1 * l.val = l.val; rw [(idx_1 t).2]; omega

theorem blk_2 (c : Dev nD) (t : Fin cfg0.N) (s : Fin 256) (l : Fin 2048) :
    iblk m c 2 t (ix2 s l) = (kargs m c).yc (ix2 (row t s) l) := by
  unfold iblk
  rw [View.read_apply]
  show V m c main_arg2 _ = _
  rw [V_main_arg2]
  show (kargs m c).yc _ = _
  congr 1
  funext a
  apply Fin.ext
  match a with
  | ⟨0, _⟩ => show win0_2.index t 0 * 256 + 1 * s.val = t.val * 256 + s.val; rw [(idx_2 t).1]; omega
  | ⟨1, _⟩ => show win0_2.index t 1 * 2048 + 1 * l.val = l.val; rw [(idx_2 t).2]; omega

theorem blk_4 (c : Dev nD) (t : Fin cfg0.N) (s : Fin 256) (l : Fin 2048) :
    iblk m c 4 t (ix2 s l) = (kargs m c).x (ix2 (row t s) l) := by
  unfold iblk
  rw [View.read_apply]
  show V m c main_arg4 _ = _
  rw [V_main_arg4]
  show (kargs m c).x _ = _
  congr 1
  funext a
  apply Fin.ext
  match a with
  | ⟨0, _⟩ => show win0_4.index t 0 * 256 + 1 * s.val = t.val * 256 + s.val; rw [(idx_4 t).1]; omega
  | ⟨1, _⟩ => show win0_4.index t 1 * 2048 + 1 * l.val = l.val; rw [(idx_4 t).2]; omega

theorem blk_5 (c : Dev nD) (t : Fin cfg0.N) (l : Fin 2048) : iblk m c 5 t (ix2 0 l) = (kargs m c).g (ix1 l) := by
  unfold iblk
  rw [View.read_apply, ← entry_g]
  show V m c main_v2 _ = _
  congr 1
  funext a
  apply Fin.ext
  match a with
  | ⟨0, _⟩ => show win0_5.index t 0 * 1 + 1 * 0 = 0; rw [(idx_5 t).1]
  | ⟨1, _⟩ => show win0_5.index t 1 * 2048 + 1 * l.val = l.val; rw [(idx_5 t).2]; omega

theorem blk_6 (c : Dev nD) (t : Fin cfg0.N) (l : Fin 2048) : iblk m c 6 t (ix2 0 l) = (kargs m c).b (ix1 l) := by
  unfold iblk
  rw [View.read_apply, ← entry_b]
  show V m c main_v3 _ = _
  congr 1
  funext a
  apply Fin.ext
  match a with
  | ⟨0, _⟩ => show win0_6.index t 0 * 1 + 1 * 0 = 0; rw [(idx_6 t).1]
  | ⟨1, _⟩ => show win0_6.index t 1 * 2048 + 1 * l.val = l.val; rw [(idx_6 t).2]; omega

theorem blk_3 (c : Dev nD) (t : Fin cfg0.N) (q : Fin 3) (k l : Fin 2048) :
    iblk m c 3 t (ix3 q k l) = (kargs m c).w (ix2 ⟨q.val * 2048 + k.val, by omega⟩ l) := by
  unfold iblk
  rw [View.read_apply, ← entry_w]
  show V m c main_v1 _ = _
  congr 1
  funext a
  apply Fin.ext
  match a with
  | ⟨0, _⟩ => show win0_3.index t 0 * 3 + 1 * q.val = q.val; rw [(idx_3 t).1]; omega
  | ⟨1, _⟩ => show win0_3.index t 1 * 2048 + 1 * k.val = k.val; rw [(idx_3 t).2.1]; omega
  | ⟨2, _⟩ => show win0_3.index t 2 * 2048 + 1 * l.val = l.val; rw [(idx_3 t).2.2]; omega

/-- The block's three products are the layer's, in the block's rows. -/
theorem dot_eq (c : Dev nD) (t : Fin cfg0.N) (s : Fin 256) (l : Fin 2048) :
    bdot (iblk m c 0 t) (iblk m c 1 t) (iblk m c 2 t) (iblk m c 3 t) s l = outRow (kargs m c) (row t s) l := by
  unfold bdot outRow
  refine congrArg₂ (· + ·) (congrArg₂ (· + ·) ?_ ?_) ?_ <;> refine Finset.sum_congr rfl fun k _ => ?_
  · rw [blk_0, blk_3]
    exact congrArg (fun j => (kargs m c).ya (ix2 (row t s) k) * (kargs m c).w (ix2 j l)) (Fin.ext (by show 0 * 2048 + k.val = k.val; omega))
  · rw [blk_1, blk_3]
    exact congrArg (fun j => (kargs m c).yb (ix2 (row t s) k) * (kargs m c).w (ix2 j l)) (Fin.ext (by show 1 * 2048 + k.val = 2048 + k.val; omega))
  · rw [blk_2, blk_3]
    exact congrArg (fun j => (kargs m c).yc (ix2 (row t s) k) * (kargs m c).w (ix2 j l)) (Fin.ext (by show 2 * 2048 + k.val = 4096 + k.val; omega))

/-- The block's layer norm is the layer's, in the block's rows. -/
theorem block_eq (c : Dev nD) (t : Fin cfg0.N) (s : Fin 256) (l : Fin 2048) :
    layerNorm (resid (fun l => iblk m c 4 t (ix2 s l)) (bdot (iblk m c 0 t) (iblk m c 1 t) (iblk m c 2 t) (iblk m c 3 t) s))
      (fun l => iblk m c 5 t (ix2 0 l)) (fun l => iblk m c 6 t (ix2 0 l)) l = outTarget (kargs m c) (ix2 (row t s) l) := by
  have h : bdot (iblk m c 0 t) (iblk m c 1 t) (iblk m c 2 t) (iblk m c 3 t) s = outRow (kargs m c) (row t s) := funext fun l => dot_eq m c t s l
  rw [h]
  simp only [blk_4, blk_5, blk_6]
  rfl

theorem flushed7_eq (c : Dev nD) (t : Fin cfg0.N) (_ : (cfg0.win 7).flush t = true) :
    (dats m 0 c).flushed 7 t = ((cfg0.win 7).blk t).view.read (Elt Ideal) (outTarget (kargs m c)) := by
  rw [Value.flushed7]
  funext j
  rw [View.read_apply]
  obtain ⟨s, l, rfl⟩ : ∃ (s : Fin 256) (l : Fin 2048), j = ix2 s l :=
    ⟨j 0, j 1, by funext a; match a with | ⟨0, _⟩ => rfl | ⟨1, _⟩ => rfl⟩
  refine Eq.trans (out7_at _ _ _ _ _ _ _ s l) ?_
  rw [block_eq]
  refine congrArg (outTarget (kargs m c)) ?_
  funext a
  apply Fin.ext
  match a with
  | ⟨0, _⟩ => show t.val * 256 + s.val = win0_7.index t 0 * 256 + 1 * s.val; rw [(idx_7 t).1]; omega
  | ⟨1, _⟩ => show l.val = win0_7.index t 1 * 2048 + 1 * l.val; rw [(idx_7 t).2]; omega

/-- The blocks cover the array. -/
theorem final7 (c : Dev nD) : (dats (F := Ideal) m 0 c).arrAt 7 cfg0.N = outTarget (kargs m c) :=
  (dats m 0 c).arrAt_eq_of_cover 7 (outTarget (kargs m c)) (flushed7_eq m c) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨_, ht⟩, flush0_7 _, ?_⟩
    show i ∈ ((View.whole main_v4_0).slice (win0_7.rect ⟨_, ht⟩)).set
    rw [View.set_slice_whole, Rect.mem_set_unit]
    intro a
    match a with
    | ⟨0, _⟩ =>
      show win0_7.index ⟨_, ht⟩ 0 * 256 ≤ (i 0 : Nat) ∧ (i 0 : Nat) < win0_7.index ⟨_, ht⟩ 0 * 256 + 256
      rw [(idx_7 ⟨_, ht⟩).1]; dsimp only; omega
    | ⟨1, _⟩ =>
      show win0_7.index ⟨_, ht⟩ 1 * 2048 ≤ (i 1 : Nat) ∧ (i 1 : Nat) < win0_7.index ⟨_, ht⟩ 1 * 2048 + 2048
      rw [(idx_7 ⟨_, ht⟩).2]; omega

theorem flushed8_eq (c : Dev nD) (t : Fin cfg0.N) (_ : (cfg0.win 8).flush t = true) :
    (dats m 0 c).flushed 8 t = ((cfg0.win 8).blk t).view.read (Elt Ideal) (outTarget (kargs m c)) := by
  rw [Value.flushed8]
  funext j
  rw [View.read_apply]
  obtain ⟨s, l, rfl⟩ : ∃ (s : Fin 256) (l : Fin 2048), j = ix2 s l :=
    ⟨j 0, j 1, by funext a; match a with | ⟨0, _⟩ => rfl | ⟨1, _⟩ => rfl⟩
  refine Eq.trans (out8_at _ _ _ _ _ _ _ s l) ?_
  rw [block_eq]
  refine congrArg (outTarget (kargs m c)) ?_
  funext a
  apply Fin.ext
  match a with
  | ⟨0, _⟩ => show t.val * 256 + s.val = win0_8.index t 0 * 256 + 1 * s.val; rw [(idx_8 t).1]; omega
  | ⟨1, _⟩ => show l.val = win0_8.index t 1 * 2048 + 1 * l.val; rw [(idx_8 t).2]; omega

/-- The blocks cover the array. -/
theorem final8 (c : Dev nD) : (dats (F := Ideal) m 0 c).arrAt 8 cfg0.N = outTarget (kargs m c) :=
  (dats m 0 c).arrAt_eq_of_cover 8 (outTarget (kargs m c)) (flushed8_eq m c) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨_, ht⟩, flush0_8 _, ?_⟩
    show i ∈ ((View.whole main_v4_1).slice (win0_8.rect ⟨_, ht⟩)).set
    rw [View.set_slice_whole, Rect.mem_set_unit]
    intro a
    match a with
    | ⟨0, _⟩ =>
      show win0_8.index ⟨_, ht⟩ 0 * 256 ≤ (i 0 : Nat) ∧ (i 0 : Nat) < win0_8.index ⟨_, ht⟩ 0 * 256 + 256
      rw [(idx_8 ⟨_, ht⟩).1]; dsimp only; omega
    | ⟨1, _⟩ =>
      show win0_8.index ⟨_, ht⟩ 1 * 2048 ≤ (i 1 : Nat) ∧ (i 1 : Nat) < win0_8.index ⟨_, ht⟩ 1 * 2048 + 2048
      rw [(idx_8 ⟨_, ht⟩).2]; omega

end Cert.OutProj

end
-- ==== Proof.OutProjRef.lean ====
/- The reference of the out-projection: its two results, entry by entry. -/
module

public import proofs.«01_k».proof.Proof.Norm
public import proofs.«01_k».proof.Proof.Gen.Reference2Ideal.Run

@[expose] public section

set_option maxRecDepth 16384

noncomputable section

namespace Cert.OutProj

open Cert.Reference2Ideal Cert.Reference2Ideal.Gen Cert.Reference2Ideal.Value Cert.Norm Cert.Lru
open Idealize.ShloMosaic Idealize.ShloMosaic.TcCoe Idealize.SL.Sem Idealize.ShloMosaic.StableHlo

variable (m : (ℓ : Loc nD τ sig) → Buf (Elt Ideal) ℓ) (c : Dev nD)

/-- The reference's arguments as launched. -/
def rargs : OutArgs where
  ya := m ((c : Thread nD τ).loc main_arg0)
  yb := m ((c : Thread nD τ).loc main_arg1)
  yc := m ((c : Thread nD τ).loc main_arg2)
  w := m ((c : Thread nD τ).loc main_arg3)
  x := m ((c : Thread nD τ).loc main_arg4)
  g := m ((c : Thread nD τ).loc main_arg5)
  b := m ((c : Thread nD τ).loc main_arg6)

/-- A row of the reference's product, over the three branches side by side. -/
def joined (A : OutArgs) (r : Fin 8192) (l : Fin 2048) : EReal :=
  ∑ k : Fin 6144, (if h : k.val < 2048 then A.ya (ix2 r ⟨k.val, h⟩)
    else if h : k.val - 2048 < 2048 then A.yb (ix2 r ⟨k.val - 2048, h⟩)
    else A.yc (ix2 r ⟨k.val - 2048 - 2048, by omega⟩)) * A.w (ix2 k l)

theorem joined_eq (A : OutArgs) (r : Fin 8192) : joined A r = outRow A r := by
  funext l
  unfold joined outRow
  rw [sum_thirds]
  refine congrArg₂ (· + ·) (congrArg₂ (· + ·) ?_ ?_) ?_ <;> refine Finset.sum_congr rfl fun k _ => ?_
  · rw [dif_pos (show k.val < 2048 from k.isLt)]
  · rw [dif_neg (show ¬ 2048 + k.val < 2048 by omega), dif_pos (show 2048 + k.val - 2048 < 2048 by omega)]
    exact congrArg (fun j => A.yb (ix2 r j) * A.w (ix2 ⟨2048 + k.val, by omega⟩ l)) (Fin.ext (by show 2048 + k.val - 2048 = k.val; omega))
  · rw [dif_neg (show ¬ 4096 + k.val < 2048 by omega), dif_neg (show ¬ 4096 + k.val - 2048 < 2048 by omega)]
    exact congrArg (fun j => A.yc (ix2 r j) * A.w (ix2 ⟨4096 + k.val, by omega⟩ l)) (Fin.ext (by show 4096 + k.val - 2048 - 2048 = k.val; omega))

/-- The reference's result: the layer norm of each row. -/
theorem ref_out : res_out1 m c = outTarget (rargs m c) := by
  funext i
  obtain ⟨r, l, rfl⟩ : ∃ (r : Fin 8192) (l : Fin 2048), i = ix2 r l :=
    ⟨i 0, i 1, by funext a; match a with | ⟨0, _⟩ => rfl | ⟨1, _⟩ => rfl⟩
  show _ = layerNorm (resid (fun l => (rargs m c).x (ix2 r l)) (outRow (rargs m c) r)) (fun l => (rargs m c).g (ix1 l)) (fun l => (rargs m c).b (ix1 l)) l
  rw [← joined_eq]
  pointwise [res_out1, res_main_v32]
  rfl

end Cert.OutProj

end
-- ==== Proof.OutProjClaims.lean ====
/- The claims of the out-projection: the frames of its three programs, and the equality of the results. -/
module

public import proofs.«01_k».proof.Defs
public import proofs.«01_k».proof.Proof.OutProjKernel
public import proofs.«01_k».proof.Proof.OutProjRef
public import proofs.«01_k».proof.Proof.Gen.Kernel2.Frame
public import Idealize.ShloMosaic.Lib.Quiescent
public import Idealize.ShloMosaic.Lib.Claim

@[expose] public section

set_option maxRecDepth 16384

noncomputable section

namespace Cert.OutProj

open Idealize.ShloMosaic Idealize.ShloMosaic.TcCoe Idealize.SL.Sem Cert.Norm

theorem frame : Cert.quiescent_Kernel2 := fun m ρ _ => Cert.Kernel2.Gen.frame m ρ

theorem frameIdeal : Cert.quiescent_Kernel2Ideal := fun m ρ _ => Cert.Kernel2Ideal.Gen.frame m ρ

theorem frameRef : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- Both programs end at the target of arguments that agree. -/
theorem algebraic : Cert.algebraic_Kernel2Ideal_Reference2Ideal := by
  intro m ρ m' ρ' _ hagree
  refine ⟨fun c => outTarget (kargs m c), fun c => outTarget (kargs m c), ?_, ?_⟩
  · exact (θ_run Cert.Kernel2Ideal.defs _ _).mono
      (fun _ h c => ⟨(h c).1.trans (final7 m c), (h c).2.1.trans (final8 m c), (h c).2.2⟩)
      (Cert.Kernel2Ideal.Value.run_blocks (F := Ideal) m ρ)
  · have h : ∀ c, rargs m' c = kargs m c := fun c => by
      obtain ⟨h0, h1, h2, h3, h4, h5, h6⟩ := hagree c
      unfold rargs kargs
      rw [h0, h1, h2, h3, h4, h5, h6]
    refine (θ_run Cert.Reference2Ideal.defs _ _).mono (fun _ r c => ⟨(r c).1.trans ?_, (r c).2.1.trans ?_, (r c).2.2⟩)
      (Cert.Reference2Ideal.Value.run m' ρ')
    · exact (ref_out m' c).trans (congrArg outTarget (h c))
    · exact (ref_out m' c).trans (congrArg outTarget (h c))

end Cert.OutProj

end
-- ==== Proof.DownBlock.lean ====
/- The block the kernel of the feed-forward layer's last product leaves at one grid point. -/
module

public import proofs.«01_k».proof.Proof.Norm
public import proofs.«01_k».proof.Proof.Gen.Kernel3Ideal.Value

@[expose] public section

set_option maxRecDepth 16384

noncomputable section

namespace Cert.Down

open Cert.Kernel3Ideal Cert.Kernel3Ideal.Gen Cert.Norm
open Idealize.ShloMosaic Idealize.ShloMosaic.TcCoe Idealize.ShloMosaic.Tactic

/-- The block's product at row `s`, column `l`. -/
def bdot (x0 : FVec Ideal S256x5504 .bf16) (x1 : FVec Ideal S5504x2048 .bf16) (s : Fin 256) (l : Fin 2048) : EReal :=
  ∑ k : Fin 5504, x0 (ix2 s k) * x1 (ix2 k l)

theorem pay1_at (x0 : FVec Ideal S256x5504 .bf16) (x1 : FVec Ideal S5504x2048 .bf16) (x2 : FVec Ideal S256x2048 .f32)
    (x3 x4 : FVec Ideal S1x2048 .f32) (s : Fin 256) (l : Fin 2048) :
    k0_pay1 (F := Ideal) x0 x1 x2 x3 x4 (ix2 s l)
      = layerNorm (resid (fun l => x2 (ix2 s l)) (bdot x0 x1 s)) (fun l => x3 (ix2 0 l)) (fun l => x4 (ix2 0 l)) l := by
  pointwise [k0_pay1, layerNorm, resid, mean, bdot]

/-- The second result is the first, in the narrower format. -/
theorem pay2_at (x0 : FVec Ideal S256x5504 .bf16) (x1 : FVec Ideal S5504x2048 .bf16) (x2 : FVec Ideal S256x2048 .f32)
    (x3 x4 : FVec Ideal S1x2048 .f32) (s : Fin 256) (l : Fin 2048) :
    k0_pay2 (F := Ideal) x0 x1 x2 x3 x4 (ix2 s l)
      = layerNorm (resid (fun l => x2 (ix2 s l)) (bdot x0 x1 s)) (fun l => x3 (ix2 0 l)) (fun l => x4 (ix2 0 l)) l :=
  pay1_at x0 x1 x2 x3 x4 s l

theorem zero2 : (![0, 0] : Fin 2 → Nat) = fun _ => 0 := funext fun a => by fin_cases a <;> rfl

variable (c : Dev nD) (i : grid0.Coords)
variable (arg1 : Memref sig .tc .vmem S256x5504 .bf16) (harg1 : arg1.IsWhole)
variable (arg2 : Memref sig .tc .vmem S5504x2048 .bf16) (harg2 : arg2.IsWhole)
variable (arg3 : Memref sig .tc .vmem S256x2048 .f32) (harg3 : arg3.IsWhole)
variable (arg4 : Memref sig .tc .vmem S1x2048 .f32) (harg4 : arg4.IsWhole)
variable (arg5 : Memref sig .tc .vmem S1x2048 .f32) (harg5 : arg5.IsWhole)
variable (arg6 : Memref sig .tc .vmem S256x2048 .f32) (harg6 : arg6.IsWhole)
variable (arg7 : Memref sig .tc .vmem S256x2048 .bf16) (harg7 : arg7.IsWhole)

/-! ## The body's two results at an index of their block -/

theorem out5_at (x0 : FVec Ideal S256x5504 .bf16) (x1 : FVec Ideal S5504x2048 .bf16) (x2 : FVec Ideal S256x2048 .f32)
    (x3 x4 : FVec Ideal S1x2048 .f32) (s : Fin 256) (l : Fin 2048) :
    out0_A_5 (F := Ideal) c i arg1 harg1 arg2 harg2 arg3 harg3 arg4 harg4 arg5 harg5 arg6 harg6 arg7 harg7 x0 x1 x2 x3 x4 (ix2 s l)
      = layerNorm (resid (fun l => x2 (ix2 s l)) (bdot x0 x1 s)) (fun l => x3 (ix2 0 l)) (fun l => x4 (ix2 0 l)) l := by
  unfold out0_A_5
  rw [View.read_writes_eq_canon _ _ _ (cover0_A_5 (F := Ideal) c i arg1 harg1 arg2 harg2 arg3 harg3 arg4 harg4 arg5 harg5 arg6 harg6 arg7 harg7 x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread,
    View.ld_unit_zero (S := S256x5504) zero2, View.ld_unit_zero (S := S5504x2048) zero2,
    View.ld_unit_zero (S := S256x2048) zero2, View.ld_unit_zero (S := S1x2048) zero2]
  exact pay1_at _ _ _ _ _ s l

theorem out6_at (x0 : FVec Ideal S256x5504 .bf16) (x1 : FVec Ideal S5504x2048 .bf16) (x2 : FVec Ideal S256x2048 .f32)
    (x3 x4 : FVec Ideal S1x2048 .f32) (s : Fin 256) (l : Fin 2048) :
    out0_A_6 (F := Ideal) c i arg1 harg1 arg2 harg2 arg3 harg3 arg4 harg4 arg5 harg5 arg6 harg6 arg7 harg7 x0 x1 x2 x3 x4 (ix2 s l)
      = layerNorm (resid (fun l => x2 (ix2 s l)) (bdot x0 x1 s)) (fun l => x3 (ix2 0 l)) (fun l => x4 (ix2 0 l)) l := by
  unfold out0_A_6
  rw [View.read_writes_eq_canon _ _ _ (cover0_A_6 (F := Ideal) c i arg1 harg1 arg2 harg2 arg3 harg3 arg4 harg4 arg5 harg5 arg6 harg6 arg7 harg7 x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread,
    View.ld_unit_zero (S := S256x5504) zero2, View.ld_unit_zero (S := S5504x2048) zero2,
    View.ld_unit_zero (S := S256x2048) zero2, View.ld_unit_zero (S := S1x2048) zero2]
  exact pay2_at _ _ _ _ _ s l

end Cert.Down

end
-- ==== Proof.DownKernel.lean ====
/- The two result arrays of the feed-forward layer's last product: every block is its own rows, and the blocks cover them. -/
module

public import proofs.«01_k».proof.Proof.DownBlock

@[expose] public section

set_option maxRecDepth 16384

noncomputable section

namespace Cert.Down

open Cert.Kernel3Ideal Cert.Kernel3Ideal.Gen Cert.Norm
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : DownArgs where
  h := m ((c : Thread nD τ).loc main_arg0)
  x := m ((c : Thread nD τ).loc main_arg1)
  w := m ((c : Thread nD τ).loc main_arg2)
  g := m ((c : Thread nD τ).loc main_arg3)
  b := m ((c : Thread nD τ).loc main_arg4)

theorem entry_w (c : Dev nD) (i : S5504x2048.Idx) : V m c main_v0 i = (kargs m c).w i := by
  entry_read; rfl
theorem entry_g (c : Dev nD) (n : Fin 2048) : V m c main_v1 (ix2 0 n) = (kargs m c).g (ix1 n) := by
  entry_read; pointwise; rfl
theorem entry_b (c : Dev nD) (n : Fin 2048) : V m c main_v2 (ix2 0 n) = (kargs m c).b (ix1 n) := by
  entry_read; pointwise; rfl

/-! ## The blocks of a grid point: rows `256 t` to `256 t + 255` -/

theorem point_lt (t : Fin cfg0.N) : t.val < 32 := lt_of_lt_of_eq t.isLt N_0

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = t.val ∧ win0_5.index t 1 = 0 :=
  (by decide +kernel : ∀ t : Fin grid0.N, win0_5.index t 0 = t.val ∧ win0_5.index t 1 = 0)
theorem idx_6 : ∀ t : Fin cfg0.N, win0_6.index t 0 = t.val ∧ win0_6.index t 1 = 0 :=
  (by decide +kernel : ∀ t : Fin grid0.N, win0_6.index t 0 = t.val ∧ win0_6.index t 1 = 0)

/-- Row `s` of the block of point `t`. -/
def row (t : Fin cfg0.N) (s : Fin 256) : Fin 8192 := ⟨t.val * 256 + s.val, by have := point_lt t; omega⟩

theorem blk_0 (c : Dev nD) (t : Fin cfg0.N) (s : Fin 256) (k : Fin 5504) :
    X0_0 m c t (ix2 s k) = (kargs m c).h (ix2 (row t s) ⟨k.val, by omega⟩) := by
  unfold X0_0 Pipeline.Window.fill
  rw [dif_pos (moved0_0 t _)]
  unfold iblk
  rw [View.read_apply]
  show V m c main_arg0 _ = _
  rw [V_main_arg0]
  show (kargs m c).h _ = _
  congr 1
  funext a
  apply Fin.ext
  match a with
  | ⟨0, _⟩ => show win0_0.index t 0 * 256 + 1 * s.val = t.val * 256 + s.val; rw [(idx_0 t).1]; omega
  | ⟨1, _⟩ => show win0_0.index t 1 * 5504 + 1 * k.val = k.val; rw [(idx_0 t).2]; omega

theorem blk_1 (c : Dev nD) (t : Fin cfg0.N) (k : Fin 5504) (l : Fin 2048) :
    iblk m c 1 t (ix2 k l) = (kargs m c).w (ix2 k l) := by
  unfold iblk
  rw [View.read_apply]
  show V m c main_v0 _ = _
  rw [entry_w]
  congr 1
  funext a
  apply Fin.ext
  match a with
  | ⟨0, _⟩ => show win0_1.index t 0 * 5504 + 1 * k.val = k.val; rw [(idx_1 t).1]; omega
  | ⟨1, _⟩ => show win0_1.index t 1 * 2048 + 1 * l.val = l.val; rw [(idx_1 t).2]; omega

theorem blk_2 (c : Dev nD) (t : Fin cfg0.N) (s : Fin 256) (l : Fin 2048) :
    iblk m c 2 t (ix2 s l) = (kargs m c).x (ix2 (row t s) l) := by
  unfold iblk
  rw [View.read_apply]
  show V m c main_arg1 _ = _
  rw [V_main_arg1]
  show (kargs m c).x _ = _
  congr 1
  funext a
  apply Fin.ext
  match a with
  | ⟨0, _⟩ => show win0_2.index t 0 * 256 + 1 * s.val = t.val * 256 + s.val; rw [(idx_2 t).1]; omega
  | ⟨1, _⟩ => show win0_2.index t 1 * 2048 + 1 * l.val = l.val; rw [(idx_2 t).2]; omega

theorem blk_3 (c : Dev nD) (t : Fin cfg0.N) (l : Fin 2048) : iblk m c 3 t (ix2 0 l) = (kargs m c).g (ix1 l) := by
  unfold iblk
  rw [View.read_apply, ← entry_g]
  show V m c main_v1 _ = _
  congr 1
  funext a
  apply Fin.ext
  match a with
  | ⟨0, _⟩ => show win0_3.index t 0 * 1 + 1 * 0 = 0; rw [(idx_3 t).1]
  | ⟨1, _⟩ => show win0_3.index t 1 * 2048 + 1 * l.val = l.val; rw [(idx_3 t).2]; omega

theorem blk_4 (c : Dev nD) (t : Fin cfg0.N) (l : Fin 2048) : iblk m c 4 t (ix2 0 l) = (kargs m c).b (ix1 l) := by
  unfold iblk
  rw [View.read_apply, ← entry_b]
  show V m c main_v2 _ = _
  congr 1
  funext a
  apply Fin.ext
  match a with
  | ⟨0, _⟩ => show win0_4.index t 0 * 1 + 1 * 0 = 0; rw [(idx_4 t).1]
  | ⟨1, _⟩ => show win0_4.index t 1 * 2048 + 1 * l.val = l.val; rw [(idx_4 t).2]; omega

/-- The block's layer norm is the layer's, in the block's rows. -/
theorem block_eq (c : Dev nD) (t : Fin cfg0.N) (s : Fin 256) (l : Fin 2048) :
    layerNorm (resid (fun l => iblk m c 2 t (ix2 s l)) (bdot (X0_0 m c t) (iblk m c 1 t) s))
      (fun l => iblk m c 3 t (ix2 0 l)) (fun l => iblk m c 4 t (ix2 0 l)) l = downTarget (kargs m c) (ix2 (row t s) l) := by
  have h : bdot (X0_0 m c t) (iblk m c 1 t) s = downRow (kargs m c) (row t s) := by
    funext l
    unfold bdot downRow
    exact Finset.sum_congr rfl fun k _ => by rw [blk_0, blk_1]
  rw [h]
  simp only [blk_2, blk_3, blk_4]
  rfl

theorem flushed5_eq (c : Dev nD) (t : Fin cfg0.N) (_ : (cfg0.win 5).flush t = true) :
    (dats m 0 c).flushed 5 t = ((cfg0.win 5).blk t).view.read (Elt Ideal) (downTarget (kargs m c)) := by
  rw [Value.flushed5_A]
  funext j
  rw [View.read_apply]
  obtain ⟨s, l, rfl⟩ : ∃ (s : Fin 256) (l : Fin 2048), j = ix2 s l :=
    ⟨j 0, j 1, by funext a; match a with | ⟨0, _⟩ => rfl | ⟨1, _⟩ => rfl⟩
  refine Eq.trans (out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    _ _ _ _ _ s l) ?_
  rw [block_eq]
  refine congrArg (downTarget (kargs m c)) ?_
  funext a
  apply Fin.ext
  match a with
  | ⟨0, _⟩ => show t.val * 256 + s.val = win0_5.index t 0 * 256 + 1 * s.val; rw [(idx_5 t).1]; omega
  | ⟨1, _⟩ => show l.val = win0_5.index t 1 * 2048 + 1 * l.val; rw [(idx_5 t).2]; omega

/-- The blocks cover the array. -/
theorem final5 (c : Dev nD) : (dats (F := Ideal) m 0 c).arrAt 5 cfg0.N = downTarget (kargs m c) :=
  (dats m 0 c).arrAt_eq_of_cover 5 (downTarget (kargs m c)) (flushed5_eq m c) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨_, ht⟩, flush0_5 _, ?_⟩
    show i ∈ ((View.whole main_v3_0).slice (win0_5.rect ⟨_, ht⟩)).set
    rw [View.set_slice_whole, Rect.mem_set_unit]
    intro a
    match a with
    | ⟨0, _⟩ =>
      show win0_5.index ⟨_, ht⟩ 0 * 256 ≤ (i 0 : Nat) ∧ (i 0 : Nat) < win0_5.index ⟨_, ht⟩ 0 * 256 + 256
      rw [(idx_5 ⟨_, ht⟩).1]; dsimp only; omega
    | ⟨1, _⟩ =>
      show win0_5.index ⟨_, ht⟩ 1 * 2048 ≤ (i 1 : Nat) ∧ (i 1 : Nat) < win0_5.index ⟨_, ht⟩ 1 * 2048 + 2048
      rw [(idx_5 ⟨_, ht⟩).2]; omega

theorem flushed6_eq (c : Dev nD) (t : Fin cfg0.N) (_ : (cfg0.win 6).flush t = true) :
    (dats m 0 c).flushed 6 t = ((cfg0.win 6).blk t).view.read (Elt Ideal) (downTarget (kargs m c)) := by
  rw [Value.flushed6_A]
  funext j
  rw [View.read_apply]
  obtain ⟨s, l, rfl⟩ : ∃ (s : Fin 256) (l : Fin 2048), j = ix2 s l :=
    ⟨j 0, j 1, by funext a; match a with | ⟨0, _⟩ => rfl | ⟨1, _⟩ => rfl⟩
  refine Eq.trans (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    _ _ _ _ _ s l) ?_
  rw [block_eq]
  refine congrArg (downTarget (kargs m c)) ?_
  funext a
  apply Fin.ext
  match a with
  | ⟨0, _⟩ => show t.val * 256 + s.val = win0_6.index t 0 * 256 + 1 * s.val; rw [(idx_6 t).1]; omega
  | ⟨1, _⟩ => show l.val = win0_6.index t 1 * 2048 + 1 * l.val; rw [(idx_6 t).2]; omega

/-- The blocks cover the array. -/
theorem final6 (c : Dev nD) : (dats (F := Ideal) m 0 c).arrAt 6 cfg0.N = downTarget (kargs m c) :=
  (dats m 0 c).arrAt_eq_of_cover 6 (downTarget (kargs m c)) (flushed6_eq m c) fun i => by
    have h0 : (i 0 : Nat) < 8192 := (i 0).isLt
    have h1 : (i 1 : Nat) < 2048 := (i 1).isLt
    have ht : (i 0 : Nat) / 256 < cfg0.N := by rw [show cfg0.N = 32 from N_0]; omega
    refine ⟨⟨_, ht⟩, flush0_6 _, ?_⟩
    show i ∈ ((View.whole main_v3_1).slice (win0_6.rect ⟨_, ht⟩)).set
    rw [View.set_slice_whole, Rect.mem_set_unit]
    intro a
    match a with
    | ⟨0, _⟩ =>
      show win0_6.index ⟨_, ht⟩ 0 * 256 ≤ (i 0 : Nat) ∧ (i 0 : Nat) < win0_6.index ⟨_, ht⟩ 0 * 256 + 256
      rw [(idx_6 ⟨_, ht⟩).1]; dsimp only; omega
    | ⟨1, _⟩ =>
      show win0_6.index ⟨_, ht⟩ 1 * 2048 ≤ (i 1 : Nat) ∧ (i 1 : Nat) < win0_6.index ⟨_, ht⟩ 1 * 2048 + 2048
      rw [(idx_6 ⟨_, ht⟩).2]; omega

end Cert.Down

end
-- ==== Proof.DownRef.lean ====
/- The reference of the feed-forward layer's last product: its two results, entry by entry. -/
module

public import proofs.«01_k».proof.Proof.Norm
public import proofs.«01_k».proof.Proof.Gen.Reference3Ideal.Run

@[expose] public section

set_option maxRecDepth 16384

noncomputable section

namespace Cert.Down

open Cert.Reference3Ideal Cert.Reference3Ideal.Gen Cert.Reference3Ideal.Value Cert.Norm Cert.Lru
open Idealize.ShloMosaic Idealize.ShloMosaic.TcCoe Idealize.SL.Sem Idealize.ShloMosaic.StableHlo

variable (m : (ℓ : Loc nD τ sig) → Buf (Elt Ideal) ℓ) (c : Dev nD)

/-- The reference's arguments as launched. -/
def rargs : DownArgs where
  h := m ((c : Thread nD τ).loc main_arg0)
  x := m ((c : Thread nD τ).loc main_arg1)
  w := m ((c : Thread nD τ).loc main_arg2)
  g := m ((c : Thread nD τ).loc main_arg3)
  b := m ((c : Thread nD τ).loc main_arg4)

/-- The reference's result: the layer norm of each row. -/
theorem ref_out : res_out1 m c = downTarget (rargs m c) := by
  funext i
  obtain ⟨r, l, rfl⟩ : ∃ (r : Fin 8192) (l : Fin 2048), i = ix2 r l :=
    ⟨i 0, i 1, by funext a; match a with | ⟨0, _⟩ => rfl | ⟨1, _⟩ => rfl⟩
  pointwise [res_out1, res_main_v30]
  rfl

end Cert.Down

end
-- ==== Proof.DownClaims.lean ====
/- The claims of the feed-forward layer's last product: the frames of its three programs, and the equality of the results. -/
module

public import proofs.«01_k».proof.Defs
public import proofs.«01_k».proof.Proof.DownKernel
public import proofs.«01_k».proof.Proof.DownRef
public import proofs.«01_k».proof.Proof.Gen.Kernel3.Frame
public import Idealize.ShloMosaic.Lib.Quiescent
public import Idealize.ShloMosaic.Lib.Claim

@[expose] public section

set_option maxRecDepth 16384

noncomputable section

namespace Cert.Down

open Idealize.ShloMosaic Idealize.ShloMosaic.TcCoe Idealize.SL.Sem Cert.Norm

theorem frame : Cert.quiescent_Kernel3 := fun m ρ _ => Cert.Kernel3.Gen.frame m ρ

theorem frameIdeal : Cert.quiescent_Kernel3Ideal := fun m ρ _ => Cert.Kernel3Ideal.Gen.frame m ρ

theorem frameRef : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run m ρ)

/-- Both programs end at the target of arguments that agree. -/
theorem algebraic : Cert.algebraic_Kernel3Ideal_Reference3Ideal := by
  intro m ρ m' ρ' _ hagree
  refine ⟨fun c => downTarget (kargs m c), fun c => downTarget (kargs m c), ?_, ?_⟩
  · exact (θ_run Cert.Kernel3Ideal.defs _ _).mono
      (fun _ h c => ⟨(h c).1.trans (final5 m c), (h c).2.1.trans (final6 m c), (h c).2.2⟩)
      (Cert.Kernel3Ideal.Value.run_blocks (F := Ideal) m ρ)
  · have h : ∀ c, rargs m' c = kargs m c := fun c => by
      obtain ⟨h0, h1, h2, h3, h4⟩ := hagree c
      unfold rargs kargs
      rw [h0, h1, h2, h3, h4]
    refine (θ_run Cert.Reference3Ideal.defs _ _).mono (fun _ r c => ⟨(r c).1.trans ?_, (r c).2.1.trans ?_, (r c).2.2⟩)
      (Cert.Reference3Ideal.Value.run m' ρ')
    · exact (ref_out m' c).trans (congrArg downTarget (h c))
    · exact (ref_out m' c).trans (congrArg downTarget (h c))

end Cert.Down

end
-- ==== Proof.Stream.lean ====
/- A weight streamed through two slots. The weight's rows `off …` of one layer are cut into `n` tiles of 1024 rows. Tile `k` is
   copied into slot `k mod 2` of a scratch buffer, one column block ahead of its use; at the first of the eight row blocks of column
   block `k` the kernel waits for tile `k` and rounds it into a second scratch buffer, from which all eight row blocks of that column
   block read it. This module states, for any signature, program and constants, what the buffers hold before each point, what the
   body does at each of the four kinds of points, and that the one leads from point to point. -/
module

public import Idealize.ShloMosaic.Lib.Ring
public import Idealize.ShloMosaic.Lib.Pipeline
public import Idealize.ShloMosaic.Lib.StableHlo
public import Idealize.ShloMosaic.Lib.Pipeline.ValueKit.Tiles
public import Idealize.ShloMosaic.Lib.VecWindow

@[expose] public section

set_option maxRecDepth 16384

noncomputable section

namespace Cert.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev Slots : Shape := ⟨3, ![2, 1024, 2048]⟩
abbrev Weights : Shape := ⟨3, ![2, 16464, 2048]⟩
abbrev Slab : Shape := ⟨3, ![1, 1024, 2048]⟩
abbrev Tile : Shape := ⟨2, ![1024, 2048]⟩
abbrev Square : Shape := ⟨2, ![1024, 1024]⟩
abbrev Two : Shape := ⟨1, ![2]⟩
abbrev One : Shape := ⟨1, ![1]⟩
abbrev Point : Shape := ⟨0, ![]⟩
theorem slab_tile : Slab.Squeezes Tile := by decide
theorem one_point : One.Squeezes Point := by decide

variable {F : FTy → Type} [FloatOps F] {nD : Nat} {τ : Topo} {sig : RefSig} {n : ℕ}

/-- The resources the assertions speak of. -/
abbrev Res (nD : Nat) (τ : Topo) (sig : RefSig) (F : FTy → Type) := MT nD τ sig Unit (Elt F) ℕ (Pipeline.UD sig nD τ) ℕ

/-- A streamed weight: the scratch of two slots, the weight, the semaphores of the two slots, the layer and the first row. -/
structure Streamed (sig : RefSig) (n : ℕ) where
  stage : Memref sig .tc .vmem Slots .f32
  stage_whole : stage.IsWhole
  weight : Memref sig .tc .hbm Weights .f32
  cells : DmaSems sig Two
  layer : ℕ
  off : ℕ
  layer_lt : layer < 2
  off_le : off + 1024 * n ≤ 16464

/-- A buffer's contents on core `c`. -/
abbrev Held (F : FTy → Type) (c : Dev nD) {sp : Space} {S : Shape} {e : EltTy} (M : Memref sig .tc sp S e) : Type :=
  Buf (Elt F) (M.view.loc (c : Thread nD τ))

/-! ## A scratch buffer in two parts -/

section
variable {T : Shape} {e : EltTy} (M : Memref sig .tc .vmem T e) (hM : M.IsWhole) (c : Dev nD) (J : Fin 2 → Finset T.Idx)

include hM in
omit [FloatOps F] in
theorem raw_of_owns (d : T.Idx → Elt F e) : (owns (c : Thread nD τ) M fullShare d : sProp (Res nD τ sig F))
    ⊢ iprop(∃ f : Held (τ := τ) F c M, M.view.loc (c : Thread nD τ) ↦{fullShare} f) := by
  unfold owns; rw [hM.set_eq_univ]
  iintro ⟨%f, -, H⟩
  iexists f; iexact H
include hM in
omit [FloatOps F] in
theorem owns_of_raw (f : Held (τ := τ) F c M) : (M.view.loc (c : Thread nD τ) ↦{fullShare} f : sProp (Res nD τ sig F))
    ⊢ owns (c : Thread nD τ) M fullShare (M.view.read (Elt F) f) := by
  unfold owns; rw [hM.set_eq_univ]
  iintro H
  iexists f; isplitr
  · ipureintro; rfl
  iexact H
omit [FloatOps F] in
/-- A buffer left alone holds what it held. -/
theorem owns_back (x : T.Idx → Elt F e) : (M.view.loc (c : Thread nD τ) ↦[M.view.set]{fullShare} hM.unread x : sProp (Res nD τ sig F))
    ⊢ iprop(∃ f, ⌜M.view.read (Elt F) f = x⌝ ∗ (M.view.loc (c : Thread nD τ) ↦[M.view.set]{fullShare} f)) := by
  iintro H
  iexists _; isplitr; · ipureintro; exact hM.read_unread _
  iexact H
include hM in
theorem parts_cover (hc : Finset.univ.biUnion J = Finset.univ) : Finset.univ.biUnion (fun s => (J s).map M.view.emb) = Finset.univ := by
  refine Finset.eq_univ_iff_forall.mpr fun i => ?_
  have hi : i ∈ M.view.set := by rw [hM.set_eq_univ]; exact Finset.mem_univ i
  obtain ⟨j, -, rfl⟩ := Finset.mem_map.mp hi
  have hj : j ∈ Finset.univ.biUnion J := by rw [hc]; exact Finset.mem_univ j
  obtain ⟨s, hs, hjs⟩ := Finset.mem_biUnion.mp hj
  exact Finset.mem_biUnion.mpr ⟨s, hs, Finset.mem_map_of_mem _ hjs⟩

variable (hd : ∀ s s' : Fin 2, s ≠ s' → Disjoint (J s) (J s')) (hc : Finset.univ.biUnion J = Finset.univ)
variable (P0 P1 : Held (τ := τ) F c M → sProp (Res nD τ sig F))
  (e0 : ∀ f, P0 f = (M.view.loc (c : Thread nD τ) ↦[(J 0).map M.view.emb]{fullShare} f : sProp (Res nD τ sig F)))
  (e1 : ∀ f, P1 f = (M.view.loc (c : Thread nD τ) ↦[(J 1).map M.view.emb]{fullShare} f : sProp (Res nD τ sig F)))
include hM hd hc e0 e1

omit [FloatOps F] in
theorem parts_in : iprop(∃ d, owns (c : Thread nD τ) M fullShare d) ⊢ (iprop((∃ f, P0 f) ∗ ∃ f, P1 f) : sProp (Res nD τ sig F)) := by
  iintro ⟨%d, H⟩
  iapply (Ring.slots2_split (U := Pipeline.UD sig nD τ) (ℓ := M.view.loc (c : Thread nD τ)) (q := fullShare)
    (fun s => (J s).map M.view.emb) (fun s s' h => (Finset.disjoint_map _).mpr (hd s s' h)) (parts_cover M hM J hc) P0 P1 e0 e1)
  ihave H' := (raw_of_owns (F := F) M hM c d) $$ H
  iexact H'
omit [FloatOps F] in
theorem parts_out : (iprop((∃ f, P0 f) ∗ ∃ f, P1 f) : sProp (Res nD τ sig F)) ⊢ iprop(∃ d, owns (c : Thread nD τ) M fullShare d) := by
  have h : (iprop((∃ f, P0 f) ∗ ∃ f, P1 f) : sProp (Res nD τ sig F)) ⊢ iprop(∃ f : Held (τ := τ) F c M, M.view.loc (c : Thread nD τ) ↦{fullShare} f) :=
    Ring.slots2_join (U := Pipeline.UD sig nD τ) (ℓ := M.view.loc (c : Thread nD τ)) (q := fullShare)
      (fun s => (J s).map M.view.emb) (fun s s' h => (Finset.disjoint_map _).mpr (hd s s' h)) (parts_cover M hM J hc) P0 P1 e0 e1
  iintro H
  ihave H' := h $$ H
  icases H' with ⟨%f, H⟩
  iexists _
  iapply (owns_of_raw (F := F) M hM c f); iexact H
end

/-! ## Slots, tiles, cells -/

/-- How many tiles were waited for before point `t`. -/
def tilesDone (t : ℕ) : ℕ := (t + 7) / 8

theorem slot_inb (s : Fin 2) : ∀ a, (![s.val, 0, 0] : Fin 3 → Nat) a + Slab.size a ≤ Slots.size a := by
  have := s.isLt; intro a; fin_cases a <;> simp <;> omega
theorem cell_inb (s : Fin 2) : ∀ a, (![s.val] : Fin 1 → Nat) a + One.size a ≤ Two.size a := by
  have := s.isLt; intro a; fin_cases a <;> simp <;> omega

namespace Streamed
variable (S : Streamed sig n)

theorem tile_inb (b : Fin n) : ∀ a, (![S.layer, 1024 * b.val + S.off, 0] : Fin 3 → Nat) a + Slab.size a ≤ Weights.size a := by
  have := b.isLt; have := S.layer_lt; have := S.off_le; intro a; fin_cases a <;> simp <;> omega
def slotM (s : Fin 2) : Memref sig .tc .vmem Tile .f32 :=
  (S.stage.slice (Rect.unit (s := Slots) ![s.val, 0, 0] Slab.size (slot_inb s)) (fun _ => rfl)).squeeze Tile slab_tile
def tileM (b : Fin n) : Memref sig .tc .hbm Tile .f32 :=
  (S.weight.slice (Rect.unit (s := Weights) ![S.layer, 1024 * b.val + S.off, 0] Slab.size (S.tile_inb b)) (fun _ => rfl)).squeeze Tile slab_tile
def cellA (s : Fin 2) : DmaSems sig Point := (S.cells.slice (Rect.unit (s := Two) ![s.val] One.size (cell_inb s))).squeeze Point one_point
abbrev cellL (s : Fin 2) : SemLoc sig := SemLoc.dma (S.cellA s).sem

/-- A slice of the scratch at offsets equal to a slot's is that slot; likewise a tile and a cell. -/
theorem slot_of {o : Fin 3 → Nat} {s : Fin 2} (h : o = ![s.val, 0, 0]) (hi : ∀ a, o a + Slab.size a ≤ Slots.size a) (hs : Slab.Squeezes Tile) :
    (S.stage.slice (Rect.unit (s := Slots) o Slab.size hi) (fun _ => rfl)).squeeze Tile hs = S.slotM s := by
  subst h; rfl
theorem tile_of {o : Fin 3 → Nat} {b : Fin n} (h : o = ![S.layer, 1024 * b.val + S.off, 0]) (hi : ∀ a, o a + Slab.size a ≤ Weights.size a)
    (hs : Slab.Squeezes Tile) : (S.weight.slice (Rect.unit (s := Weights) o Slab.size hi) (fun _ => rfl)).squeeze Tile hs = S.tileM b := by
  subst h; rfl
theorem cell_of {o : Fin 1 → Nat} {s : Fin 2} (h : o = ![s.val]) (hi : ∀ a, o a + One.size a ≤ Two.size a) (hs : One.Squeezes Point) :
    (S.cells.slice (Rect.unit (s := Two) o One.size hi)).squeeze Point hs = S.cellA s := by
  subst h; rfl

variable (c : Dev nD) (W : Held (τ := τ) F c S.weight)

/-- Each slot's copies read the weight through a half of its ownership. -/
abbrev half (s : Fin 2) : PosShare TreeShare := if s.val = 0 then fullShare.left else fullShare.right
abbrev slotP (s : Fin 2) (f : Held (τ := τ) F c (S.slotM s)) : sProp (Res nD τ sig F) :=
  (S.slotM s).view.loc (c : Thread nD τ) ↦[(S.slotM s).view.set]{fullShare} f
abbrev cellP (s : Fin 2) : sProp (Res nD τ sig F) := semVal ((c : Thread nD τ), S.cellL s) 0
abbrev tileP (s : Fin 2) (b : Fin n) : sProp (Res nD τ sig F) := (S.tileM b).view.loc (c : Thread nD τ) ↦[(S.tileM b).view.set]{half s} W
def restP (s : Fin 2) (b : Fin n) : sProp (Res nD τ sig F) :=
  S.weight.view.loc (c : Thread nD τ) ↦[Finset.univ \ (S.tileM b).view.set]{half s} W
abbrev halfP (s : Fin 2) : sProp (Res nD τ sig F) := S.weight.view.loc (c : Thread nD τ) ↦[Finset.univ]{half s} W
/-- The weight held whole. -/
abbrev heldWhole : sProp (Res nD τ sig F) := S.weight.view.loc (c : Thread nD τ) ↦{fullShare} W
/-- Slot `s` once tile `b` arrived in it. -/
abbrev landed (s : Fin 2) (b : Fin n) (f : Held (τ := τ) F c (S.slotM s)) : Held (τ := τ) F c (S.slotM s) :=
  (S.slotM s).view.writes (Elt F) f [⟨Rect.whole Tile, ReadAs.same.apply ((S.tileM b).view.read (Elt F) W)⟩]
abbrev flightP (s : Fin 2) (b : Fin n) (f : Held (τ := τ) F c (S.slotM s)) : sProp (Res nD τ sig F) :=
  Transfers.Flight countersEmb (c : Thread nD τ) (S.cellL s) default ((S.slotM s).view.amount (S.cellL s))
    iprop(S.slotP c s (S.landed c W s b f) ∗ S.tileP c W s b)
abbrev slotW (s : Fin 2) (f : Held (τ := τ) F c (S.slotM s)) : sProp (Res nD τ sig F) := iprop(S.slotP c s f ∗ S.halfP c W s)
abbrev flightW (s : Fin 2) (b : Fin n) (f : Held (τ := τ) F c (S.slotM s)) : sProp (Res nD τ sig F) :=
  iprop(S.flightP c W s b f ∗ S.restP c W s b)
abbrev noHome (n : ℕ) (_ : Fin n) : sProp (Res nD τ sig F) := iprop(emp)
/-- The stream before tile `k` is waited for: at first both slots free; then tile `k` under way into its slot and the other slot
    holding tile `k - 1`. -/
def streamAt [NeZero n] (k : ℕ) : sProp (Res nD τ sig F) :=
  if k = 0 then Ring.At₀ (S.cellP c) (S.slotW c W) (noHome n)
  else Ring.AtK 1 (S.cellP c) (S.slotW c W) (noHome n) (S.flightW c W) (S.landed c W) k

abbrev slotRect (s : Fin 2) : Finset Slots.Idx := (Rect.unit (s := Slots) ![s.val, 0, 0] Slab.size (slot_inb s)).set
theorem slot_set (s : Fin 2) : (S.slotM s).view.set = (slotRect s).map S.stage.view.emb := by
  simp only [slotM, Memref.view_squeeze, View.set_reshape]; exact View.set_slice _ _
theorem rects_disjoint (s s' : Fin 2) (h : s ≠ s') : Disjoint (slotRect s) (slotRect s') :=
  Ring.lead_disjoint (s := Slots) (0 : Fin 3) 1 (fun s : Fin 2 => (![s.val, 0, 0] : Fin 3 → Nat)) Slab.size slot_inb (fun s => by simp) rfl s s' h
theorem rects_cover : Finset.univ.biUnion slotRect = Finset.univ :=
  Ring.lead_cover (s := Slots) (0 : Fin 3) 1 (fun s : Fin 2 => (![s.val, 0, 0] : Fin 3 → Nat)) Slab.size slot_inb (fun s => by simp)
    (fun s a ha => by fin_cases a <;> first | exact absurd rfl ha | rfl) rfl (fun a ha => by fin_cases a <;> first | exact absurd rfl ha | rfl) rfl
omit [FloatOps F] in
theorem slotP_eq (s : Fin 2) (f) : S.slotP (F := F) (τ := τ) c s f
    = (S.stage.view.loc (c : Thread nD τ) ↦[(slotRect s).map S.stage.view.emb]{fullShare} f : sProp (Res nD τ sig F)) := by
  unfold slotP; rw [slot_set]; rfl
omit [FloatOps F] in
/-- A half of the weight is a tile of it and the rest. -/
theorem tile_split (s : Fin 2) (b : Fin n) : S.halfP (F := F) (τ := τ) c W s ⊣⊢ iprop(S.tileP c W s b ∗ S.restP c W s b) := by
  unfold restP; exact pointsTo_split_subset (Finset.subset_univ _)
omit [FloatOps F] in
theorem halves : (S.heldWhole (F := F) (τ := τ) c W) ⊣⊢ iprop(S.halfP c W 0 ∗ S.halfP c W 1) :=
  pointsTo_share (PosShare.mem_left_op_right fullShare)
omit [FloatOps F] in
theorem slots_in : iprop(∃ d, owns (c : Thread nD τ) S.stage fullShare d)
    ⊢ (iprop((∃ f, S.slotP (F := F) c 0 f) ∗ ∃ f, S.slotP (F := F) c 1 f) : sProp (Res nD τ sig F)) :=
  parts_in S.stage S.stage_whole c slotRect rects_disjoint rects_cover (S.slotP c 0) (S.slotP c 1) (S.slotP_eq c 0) (S.slotP_eq c 1)
omit [FloatOps F] in
theorem slots_out : (iprop((∃ f, S.slotP (F := F) c 0 f) ∗ ∃ f, S.slotP (F := F) c 1 f) : sProp (Res nD τ sig F))
    ⊢ iprop(∃ d, owns (c : Thread nD τ) S.stage fullShare d) :=
  parts_out S.stage S.stage_whole c slotRect rects_disjoint rects_cover (S.slotP c 0) (S.slotP c 1) (S.slotP_eq c 0) (S.slotP_eq c 1)

variable [NeZero n]
omit [FloatOps F] in
/-- The same for the `k`-th tile and its slot. -/
theorem split_at (k : ℕ) : S.halfP (F := F) (τ := τ) c W (Ring.sl 2 k) ⊣⊢ iprop(S.tileP c W (Ring.sl 2 k) (Ring.bk n k) ∗ S.restP c W (Ring.sl 2 k) (Ring.bk n k)) :=
  S.tile_split c W _ _
omit [FloatOps F] in
/-- The scratch, the cells at zero and the weight make the stream before its first tile, … -/
theorem stream_in :
    iprop((∃ d, owns (c : Thread nD τ) S.stage fullShare d) ∗ (S.cellP c 0 ∗ S.cellP c 1) ∗ S.heldWhole c W) ⊢ S.streamAt (F := F) c W 0 := by
  unfold streamAt; rw [if_pos rfl]; unfold Ring.At₀
  rw [Ring.bigSep_fin2 (Ring.free (S.cellP c) (S.slotW c W))]
  simp only [Ring.free]
  iintro ⟨HS, Hc, HW⟩
  iapply Ring.with_homes₀
  icases Hc with ⟨H0, H1⟩
  ihave HS' := (S.slots_in (F := F) c) $$ HS
  icases HS' with ⟨⟨%d0, HS0⟩, ⟨%d1, HS1⟩⟩
  ihave HW' := (S.halves (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
omit [FloatOps F] in
/-- … and come back after its last. -/
theorem stream_out :
    S.streamAt (F := F) c W n ⊢ iprop((∃ d, owns (c : Thread nD τ) S.stage fullShare d) ∗ (S.cellP c 0 ∗ S.cellP c 1) ∗ S.heldWhole c W) := by
  unfold streamAt; rw [if_neg (NeZero.ne n)]
  iintro H
  ihave H' := (Ring.free2_of_AtK_last _ _ _ _ _) $$ H
  simp only [Ring.free]
  icases H' with ⟨-, ⟨H0, ⟨%f0, HS0, HW0⟩⟩, ⟨H1, ⟨%f1, HS1, HW1⟩⟩⟩
  isplitl [HS0 HS1]
  · iapply (S.slots_out (F := F) c); isplitl [HS0]; · iexists f0; iexact HS0
    iexists f1; iexact HS1
  isplitl [H0 H1]
  · isplitl [H0]; · iexact H0
    iexact H1
  · iapply (S.halves (F := F) c W).2; isplitl [HW0]; · iexact HW0
    iexact HW1
end Streamed

/-! ## What a block stored whole reads back as, and what a slot holds -/

omit [FloatOps F] in
/-- A block stored whole reads back as stored. -/
theorem whole_read {S : Shape} {e : EltTy} (M : Memref sig .tc .vmem S e) (f : M.view.ty.Contents (Elt F)) {o : Fin S.rank → Nat} (h : ∀ a, o a = 0)
    (hi : ∀ a, o a + S.size a ≤ S.size a) (w : S.Idx → Elt F e) :
    M.view.read (Elt F) (M.view.writes (Elt F) f [(⟨Rect.unit o S.size hi, w⟩ : View.Piece (Elt F) S e)]) = w := by
  funext y
  have := congrFun (View.readAt_writes_full M.view f hi hi w []) y
  rw [View.readAt_apply] at this
  refine Eq.trans ?_ this
  show _ = M.view.read (Elt F) _ _
  congr 1
  exact (Rect.emb_unit_full hi y).symm

section
variable (S : Streamed sig n) (c : Dev nD) (W : Held (τ := τ) F c S.weight)

/-- The rows of tile `b`, as they lie in the weight. -/
def Streamed.tileBlock (b : Fin n) : Vec F Slab .f32 :=
  S.weight.view.readAt (Elt F) (Rect.unit (s := Weights) ![S.layer, 1024 * b.val + S.off, 0] Slab.size (S.tile_inb b)).toLoadRect W

omit [FloatOps F] in
/-- The slot in which tile `b` arrived, read through the whole scratch buffer, holds the tile's rows. -/
theorem Streamed.landed_read (s : Fin 2) (b : Fin n) {o : Fin 3 → Nat} (h : o = ![s.val, 0, 0])
    (hi : ∀ a, o a + Slab.size a ≤ Slots.size a) (f : Held (τ := τ) F c (S.slotM s)) :
    View.readAt (Elt F) S.stage.view (Rect.unit (s := Slots) o Slab.size hi).toLoadRect (S.landed c W s b f) = S.tileBlock c W b := by
  subst h
  have e : (S.slotM s).view.read (Elt F) (S.landed c W s b f) = (S.tileM b).view.read (Elt F) W := View.read_writes_whole _ _ _
  funext y
  have q := congrFun e ((Shape.reshapeEquiv (slab_tile).numel_eq).symm y)
  have l : (S.slotM s).view.read (Elt F) (S.landed c W s b f) ((Shape.reshapeEquiv (slab_tile).numel_eq).symm y)
      = View.readAt (Elt F) S.stage.view (Rect.unit (s := Slots) ![s.val, 0, 0] Slab.size hi).toLoadRect (S.landed c W s b f) y :=
    (rfl : _ = View.readAt (Elt F) S.stage.view (Rect.unit (s := Slots) ![s.val, 0, 0] Slab.size hi).toLoadRect (S.landed c W s b f)
      (Shape.reshapeEquiv (slab_tile).numel_eq ((Shape.reshapeEquiv (slab_tile).numel_eq).symm y))).trans
      (by rw [Equiv.apply_symm_apply])
  have r : (S.tileM b).view.read (Elt F) W ((Shape.reshapeEquiv (slab_tile).numel_eq).symm y) = S.tileBlock c W b y :=
    (rfl : _ = S.tileBlock c W b
      (Shape.reshapeEquiv (slab_tile).numel_eq ((Shape.reshapeEquiv (slab_tile).numel_eq).symm y))).trans
      (by rw [Equiv.apply_symm_apply])
  exact l.symm.trans (q.trans r)
end

/-! ## The four kinds of points -/

section
variable [NeZero n] {Λ : Labels} {T : Shape} {eo : EltTy}
variable (S : Streamed sig n) (work : Memref sig .tc .vmem Tile .bf16) (defs : Defs nD τ sig (Elt F) Λ) (prog : Prog (TpuEff nD τ sig (Elt F) Λ .tc) PUnit)
variable (c : Dev nD) (j : ℕ) (X : sProp (Res nD τ sig F)) (out : Memref sig .tc .vmem T eo) (W : Held (τ := τ) F c S.weight)

/-- The first point: `X` is what the body reads and leaves alone. The body copies tiles 0 and 1 in and waits for tile 0. The pieces are what the point stores in the result's buffer and in the second
    scratch buffer. -/
abbrev StartRun : Type :=
  { L : List (View.Piece (Elt F) T eo) × List (View.Piece (Elt F) Tile .bf16) //
    ∀ (Ws : Waits sig Unit) (K : PUnit → sProp (Res nD τ sig F)),
      iprop(X ∗ (∃ d, owns (c : Thread nD τ) out fullShare d) ∗ (∃ d, owns (c : Thread nD τ) work fullShare d)
          ∗ Ring.free (S.cellP c) (S.slotW c W) (Ring.sl 2 j)
          ∗ Ring.free (S.cellP c) (S.slotW c W) (Ring.sl 2 (j + 1)) ∗ owes (c : Thread nD τ) 0 Ws
          ∗ (iprop(X
              ∗ (∃ f, out.view.loc (c : Thread nD τ) ↦[out.view.set]{fullShare} out.view.writes (Elt F) f L.1)
              ∗ (∃ f, work.view.loc (c : Thread nD τ) ↦[work.view.set]{fullShare} work.view.writes (Elt F) f L.2)
          ∗ Ring.inflight (S.flightW c W) (Ring.sl 2 (j + 1)) (Ring.bk n (j + 1))
          ∗ Ring.kept (S.cellP c) (S.slotW c W) (S.landed c W) (Ring.sl 2 j) (Ring.bk n j) ∗ (∃ Ws', owes (c : Thread nD τ) 0 Ws')) -∗ K ⟨⟩))
        ⊢ wp frame (wpE defs Variants.none c none) Set.univ prog K }
/-- The first row block of a later column block but the last: copies the next tile in, waits for this one. -/
abbrev MiddleRun : Type :=
  { L : List (View.Piece (Elt F) T eo) × List (View.Piece (Elt F) Tile .bf16) //
    ∀ (Ws : Waits sig Unit) (K : PUnit → sProp (Res nD τ sig F)),
      iprop(X ∗ (∃ d, owns (c : Thread nD τ) out fullShare d) ∗ (∃ d, owns (c : Thread nD τ) work fullShare d)
          ∗ Ring.inflight (S.flightW c W) (Ring.sl 2 j) (Ring.bk n j)
          ∗ Ring.kept (S.cellP c) (S.slotW c W) (S.landed c W) (Ring.sl 2 (j + 1)) (Ring.bk n (j - 1)) ∗ owes (c : Thread nD τ) 0 Ws
          ∗ (iprop(X
              ∗ (∃ f, out.view.loc (c : Thread nD τ) ↦[out.view.set]{fullShare} out.view.writes (Elt F) f L.1)
              ∗ (∃ f, work.view.loc (c : Thread nD τ) ↦[work.view.set]{fullShare} work.view.writes (Elt F) f L.2)
          ∗ Ring.inflight (S.flightW c W) (Ring.sl 2 (j + 1)) (Ring.bk n (j + 1))
          ∗ Ring.kept (S.cellP c) (S.slotW c W) (S.landed c W) (Ring.sl 2 j) (Ring.bk n j) ∗ (∃ Ws', owes (c : Thread nD τ) 0 Ws')) -∗ K ⟨⟩))
        ⊢ wp frame (wpE defs Variants.none c none) Set.univ prog K }
/-- The first row block of the last column block: waits for the last tile. -/
abbrev LastRun : Type :=
  { L : List (View.Piece (Elt F) T eo) × List (View.Piece (Elt F) Tile .bf16) //
    ∀ (Ws : Waits sig Unit) (K : PUnit → sProp (Res nD τ sig F)),
      iprop(X ∗ (∃ d, owns (c : Thread nD τ) out fullShare d) ∗ (∃ d, owns (c : Thread nD τ) work fullShare d)
          ∗ Ring.inflight (S.flightW c W) (Ring.sl 2 j) (Ring.bk n j) ∗ owes (c : Thread nD τ) 0 Ws
          ∗ (iprop(X
              ∗ (∃ f, out.view.loc (c : Thread nD τ) ↦[out.view.set]{fullShare} out.view.writes (Elt F) f L.1)
              ∗ (∃ f, work.view.loc (c : Thread nD τ) ↦[work.view.set]{fullShare} work.view.writes (Elt F) f L.2)
          ∗ Ring.kept (S.cellP c) (S.slotW c W) (S.landed c W) (Ring.sl 2 j) (Ring.bk n j) ∗ (∃ Ws', owes (c : Thread nD τ) 0 Ws')) -∗ K ⟨⟩))
        ⊢ wp frame (wpE defs Variants.none c none) Set.univ prog K }
/-- A later row block: the rounded tile `w` is read where it lies, and nothing is copied. -/
abbrev LaterRun (w : Vec F Tile .bf16) : Type :=
  { L : List (View.Piece (Elt F) T eo) //
    ∀ (Ws : Waits sig Unit) (K : PUnit → sProp (Res nD τ sig F)),
      iprop(X ∗ (∃ d, owns (c : Thread nD τ) out fullShare d) ∗ owns (c : Thread nD τ) work fullShare w ∗ owes (c : Thread nD τ) 0 Ws
          ∗ (iprop(X
              ∗ (∃ f, out.view.loc (c : Thread nD τ) ↦[out.view.set]{fullShare} out.view.writes (Elt F) f L)
              ∗ owns (c : Thread nD τ) work fullShare w ∗ (∃ Ws', owes (c : Thread nD τ) 0 Ws')) -∗ K ⟨⟩))
        ⊢ wp frame (wpE defs Variants.none c none) Set.univ prog K }

/-! ## What is held before a point -/

variable (tile : Fin n → Vec F Tile .bf16)

/-- The rounded tile of the column block under way before point `k`. -/
def workAt (k : ℕ) : sProp (Res nD τ sig F) :=
  if k = 0 then iprop(∃ d, owns (c : Thread nD τ) work fullShare d)
  else owns (c : Thread nD τ) work fullShare (tile (Ring.bk n (tilesDone k - 1)))
/-- Before point `k`. -/
def stateAt (k : ℕ) : sProp (Res nD τ sig F) :=
  iprop(workAt work c tile k ∗ (∃ r, prngReg c r) ∗ S.streamAt c W (tilesDone k))

theorem state_in :
    iprop(iprop((∃ d, owns (c : Thread nD τ) S.stage fullShare d) ∗ (∃ d, owns (c : Thread nD τ) work fullShare d)) ∗ (∃ r, prngReg c r)
      ∗ (S.cellP c 0 ∗ S.cellP c 1) ∗ S.heldWhole c W) ⊢ stateAt S work c W tile 0 := by
  unfold stateAt workAt
  rw [show tilesDone 0 = 0 from rfl, if_pos rfl]
  iintro ⟨⟨HR, HS⟩, Hg, Hq, Hh⟩
  isplitl [HS]; · iexact HS
  isplitl [Hg]; · iexact Hg
  iapply (S.stream_in c W)
  isplitl [HR]; · iexact HR
  isplitl [Hq]; · iexact Hq
  iexact Hh
theorem state_out {k : ℕ} (hk : k = 8 * n) :
    stateAt S work c W tile k ⊢ iprop(iprop((∃ d, owns (c : Thread nD τ) S.stage fullShare d) ∗ (∃ d, owns (c : Thread nD τ) work fullShare d))
      ∗ (∃ r, prngReg c r) ∗ (S.cellP c 0 ∗ S.cellP c 1) ∗ S.heldWhole c W) := by
  have hn := NeZero.ne n
  unfold stateAt workAt
  rw [show tilesDone k = n by unfold tilesDone; omega, if_neg (show ¬(k = 0) by omega)]
  iintro ⟨HS, Hg, HR⟩
  ihave HX := (S.stream_out c W) $$ HR
  icases HX with ⟨HR, Hq, Hh⟩
  isplitl [HR HS]
  · isplitl [HR]; · iexact HR
    iexists _; iexact HS
  isplitl [Hg]; · iexact Hg
  isplitl [Hq]; · iexact Hq
  iexact Hh

/-- Stored over anything, the pieces read back as `v`. -/
abbrev Leaves {T : Shape} {e : EltTy} (M : Memref sig .tc .vmem T e) (L : List (View.Piece (Elt F) T e)) (v : Vec F T e) : Prop :=
  ∀ f, M.view.read (Elt F) (M.view.writes (Elt F) f L) = v

set_option maxHeartbeats 1600000 in
/-- One point: from what is held before it to what is held before the next, with the product of the row block and the column block's
    tile left in the result's buffer, if the body does at each kind of point what it should. -/
theorem point (pay : Vec F Tile .bf16 → Vec F T eo) {k : ℕ} (hk : k < 8 * n) (hn : 2 ≤ n)
    (start : k < 8 → k % 8 = 0 → ∃ L : StartRun S work defs prog c (tilesDone k) X out W,
      Leaves out L.1.1 (pay (tile (Ring.bk n (tilesDone k)))) ∧ Leaves work L.1.2 (tile (Ring.bk n (tilesDone k))))
    (middle : ¬k < 8 → k % 8 = 0 → k < 8 * (n - 1) → ∃ L : MiddleRun S work defs prog c (tilesDone k) X out W,
      Leaves out L.1.1 (pay (tile (Ring.bk n (tilesDone k)))) ∧ Leaves work L.1.2 (tile (Ring.bk n (tilesDone k))))
    (last : ¬k < 8 → k % 8 = 0 → ¬k < 8 * (n - 1) → ∃ L : LastRun S work defs prog c (tilesDone k) X out W,
      Leaves out L.1.1 (pay (tile (Ring.bk n (tilesDone k)))) ∧ Leaves work L.1.2 (tile (Ring.bk n (tilesDone k))))
    (later : ¬k % 8 = 0 → ∀ w, ∃ L : LaterRun work defs prog c X out w, Leaves out L.1 (pay w))
    (Ws : Waits sig Unit) (K : PUnit → sProp (Res nD τ sig F)) :
    iprop(stateAt S work c W tile k ∗ owes (c : Thread nD τ) 0 Ws ∗ X ∗ (∃ d, owns (c : Thread nD τ) out fullShare d)
        ∗ (iprop(stateAt S work c W tile (k + 1) ∗ X
            ∗ owns (c : Thread nD τ) out fullShare (pay (tile (Ring.bk n (k / 8)))) ∗ (∃ Ws', owes (c : Thread nD τ) 0 Ws')) -∗ K ⟨⟩))
      ⊢ wp frame (wpE defs Variants.none c none) Set.univ prog K := by
  unfold stateAt Streamed.streamAt workAt
  rw [if_neg (show ¬(k + 1 = 0) by omega), if_neg (show ¬(tilesDone (k + 1) = 0) by unfold tilesDone; omega)]
  by_cases h8 : k % 8 = 0
  · have hs : tilesDone (k + 1) = tilesDone k + 1 := by unfold tilesDone; omega
    have hq : k / 8 = tilesDone k := by unfold tilesDone; omega
    rw [hs, hq, Nat.add_sub_cancel]
    by_cases h1 : k < 8
    · obtain ⟨L, ho, hw⟩ := start h1 h8
      have hz : tilesDone k = 0 := by unfold tilesDone; omega
      rw [if_pos hz, if_pos (show k = 0 by omega)]
      rw [Ring.At₀_eq2' _ _ _ (tilesDone k) hz hn, Ring.AtK2_one' _ _ _ _ _ (tilesDone k) hz (show 1 < n by omega)]
      iintro ⟨⟨HS, Hg, ⟨-, Hf0, Hf1⟩⟩, HW, H0, ⟨%d1, H1⟩, Hk⟩
      iapply (L.2 Ws _)
      isplitl [H0]; · iexact H0
      isplitl [H1]; · iexists _; iexact H1
      isplitl [HS]; · iexact HS
      isplitl [Hf0]; · iexact Hf0
      isplitl [Hf1]; · iexact Hf1
      isplitl [HW]; · iexact HW
      iintro ⟨H0, ⟨%e1, H1⟩, ⟨%e2, HS⟩, Hfl, Hkp, ⟨%W', HW'⟩⟩
      iapply Hk
      isplitl [HS Hg Hfl Hkp]
      · isplitl [HS]
        · unfold owns; iexists _; isplitr
          swap; · iexact HS
          ipureintro; exact hw _
        isplitl [Hg]; · iexact Hg
        iapply Ring.with_homes₀
        isplitl [Hfl]; · iexact Hfl
        iexact Hkp
      isplitl [H0]; · iexact H0
      isplitl [H1]
      · unfold owns; iexists _; isplitr
        swap; · iexact H1
        ipureintro; exact ho _
      iexists W'; iexact HW'
    · have hz : 1 ≤ tilesDone k := by unfold tilesDone; omega
      rw [if_neg (show ¬(tilesDone k = 0) by omega), if_neg (show ¬(k = 0) by omega)]
      by_cases h2 : k < 8 * (n - 1)
      · obtain ⟨L, ho, hw⟩ := middle h1 h8 h2
        have hB : tilesDone k + 1 < n := by unfold tilesDone; omega
        rw [Ring.AtK2_here _ _ _ _ _ (tilesDone k) hz hB, Ring.AtK2_next _ _ _ _ _ (tilesDone k) hz hB]
        iintro ⟨⟨HS, Hg, ⟨-, Hfl, Hkp⟩⟩, HW, H0, ⟨%d1, H1⟩, Hk⟩
        iapply (L.2 Ws _)
        isplitl [H0]; · iexact H0
        isplitl [H1]; · iexists _; iexact H1
        isplitl [HS]; · iexists _; iexact HS
        isplitl [Hfl]; · iexact Hfl
        isplitl [Hkp]; · iexact Hkp
        isplitl [HW]; · iexact HW
        iintro ⟨H0, ⟨%e1, H1⟩, ⟨%e2, HS⟩, Hfl, Hkp, ⟨%W', HW'⟩⟩
        iapply Hk
        isplitl [HS Hg Hfl Hkp]
        · isplitl [HS]
          · unfold owns; iexists _; isplitr
            swap; · iexact HS
            ipureintro; exact hw _
          isplitl [Hg]; · iexact Hg
          iapply (Ring.with_homes (Idealize.SL.BI.Entails.refl _))
          isplitl [Hfl]; · iexact Hfl
          iexact Hkp
        isplitl [H0]; · iexact H0
        isplitl [H1]
        · unfold owns; iexists _; isplitr
          swap; · iexact H1
          ipureintro; exact ho _
        iexists W'; iexact HW'
      · obtain ⟨L, ho, hw⟩ := last h1 h8 h2
        have hB : tilesDone k + 1 = n := by unfold tilesDone; omega
        rw [Ring.AtK2_here_last _ _ _ _ _ (tilesDone k) hz hB, Ring.AtK2_next_last _ _ _ _ _ (tilesDone k) hz hB]
        iintro ⟨⟨HS, Hg, ⟨-, Hfl, Hk0⟩⟩, HW, H0, ⟨%d1, H1⟩, Hk⟩
        iapply (L.2 Ws _)
        isplitl [H0]; · iexact H0
        isplitl [H1]; · iexists _; iexact H1
        isplitl [HS]; · iexists _; iexact HS
        isplitl [Hfl]; · iexact Hfl
        isplitl [HW]; · iexact HW
        iintro ⟨H0, ⟨%e1, H1⟩, ⟨%e2, HS⟩, Hkp, ⟨%W', HW'⟩⟩
        iapply Hk
        isplitl [HS Hg Hk0 Hkp]
        · isplitl [HS]
          · unfold owns; iexists _; isplitr
            swap; · iexact HS
            ipureintro; exact hw _
          isplitl [Hg]; · iexact Hg
          iapply (Ring.with_homes (Idealize.SL.BI.Entails.refl _))
          isplitl [Hk0]; · iexact Hk0
          iexact Hkp
        isplitl [H0]; · iexact H0
        isplitl [H1]
        · unfold owns; iexists _; isplitr
          swap; · iexact H1
          ipureintro; exact ho _
        iexists W'; iexact HW'
  · obtain ⟨L, ho⟩ := later h8 (tile (Ring.bk n (k / 8)))
    have hs : tilesDone (k + 1) = tilesDone k := by unfold tilesDone; omega
    have hq : tilesDone k - 1 = k / 8 := by unfold tilesDone; omega
    rw [hs, hq, if_neg (show ¬(tilesDone k = 0) by unfold tilesDone; omega), if_neg (show ¬(k = 0) by omega)]
    iintro ⟨⟨HS, Hg, Hring⟩, HW, H0, ⟨%d1, H1⟩, Hk⟩
    iapply (L.2 Ws _)
    isplitl [H0]; · iexact H0
    isplitl [H1]; · iexists _; iexact H1
    isplitl [HS]; · iexact HS
    isplitl [HW]; · iexact HW
    iintro ⟨H0, ⟨%e1, H1⟩, HS, ⟨%W', HW'⟩⟩
    iapply Hk
    isplitl [HS Hg Hring]
    · isplitl [HS]; · iexact HS
      isplitl [Hg]; · iexact Hg
      iexact Hring
    isplitl [H0]; · iexact H0
    isplitl [H1]
    · unfold owns; iexists _; isplitr
      swap; · iexact H1
      ipureintro; exact ho _
    iexists W'; iexact HW'
end

end Cert.Stream

end
-- ==== Proof.GatesRing.lean ====
/- The streamed weight of the gates' projection: rows 10320 … 16463 of the weight, in 6 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel4Ideal
public import proofs.«01_k».proof.Proof.Gen.Kernel4Ideal.Frame
public import proofs.«01_k».proof.Proof.Gen.Kernel4Ideal.Skeleton

@[expose] public section

set_option maxRecDepth 16384

noncomputable section

namespace Cert.Gates

open Cert.Kernel4Ideal Cert.Kernel4Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 40 :=
  (by decide +kernel : ∀ t : Fin grid0.N, More t ↔ t.val < 40)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .f32 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .bf16 := win0_1.stage (cfg0.slots t 1)
abbrev outMWhole (t : Fin cfg0.N) : (outM t).IsWhole := hstage0_1 ((cfg0.slots t 1).cast nbuf0_1)

/-- The stream. -/
abbrev stream : Streamed sig 6 where
  stage := stageM
  stage_whole := Memref.isWhole_whole _
  weight := weightM
  cells := cc0_scratch2
  layer := 0
  off := 10320
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![0, 10320, 0] S1x1024x2048.size inb_S2x16464x2048_S1x1024x2048_0_10320_0) (fun _ => rfl)).squeeze S1024x2048 squeezes_S1x1024x2048_S1024x2048 = stream.tileM (Ring.bk 6 (tilesDone t.val)) :=
  stream.tile_of ((by decide +kernel : ∀ t : Fin grid0.N, First t → Start t → (![0, 10320, 0] : Fin 3 → Nat) = ![0, 1024 * (Ring.bk 6 (tilesDone t.val)).val + 10320, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 6 (tilesDone t.val + 1)) :=
  stream.tile_of ((by decide +kernel : ∀ t : Fin grid0.N, First t → More t → k0_off3 (grid0.coords t) = ![0, 1024 * (Ring.bk 6 (tilesDone t.val + 1)).val + 10320, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .f32) (harg2 : arg2.IsWhole) (arg4 : Memref sig .tc .vmem S1024x1024 .bf16) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .f32) (harg2 : arg2.IsWhole) (arg4 : Memref sig .tc .vmem S1024x1024 .bf16) (harg4 : arg4.IsWhole)
variable (x : Vec F S1024x2048 .f32) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Gates

end
-- ==== Proof.GatesVals.lean ====
/- What the points of the gates' projection store: the tile the point waited for, rounded, and the product of the row block with it. -/
module

public import proofs.«01_k».proof.Proof.GatesRing
public import Idealize.ShloMosaic.Lib.Pipeline.ValueKit.Acc

@[expose] public section

set_option maxHeartbeats 1000000
set_option maxRecDepth 16384

noncomputable section

namespace Cert.Gates

open Cert.Kernel4Ideal Cert.Kernel4Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 6) : Vec F S1024x2048 .bf16 := k0_pay1 (stream.tileBlock c W b)

section
variable (c : Dev nD) (t : Fin cfg0.N) (arg2 : Memref sig .tc .vmem S1024x2048 .f32) (harg2 : arg2.IsWhole) (arg4 : Memref sig .tc .vmem S1024x1024 .bf16) (harg4 : arg4.IsWhole)
  (x : Vec F S1024x2048 .f32) (W : Stream.Held (τ := τ) F c weightM)

/-- The tile of point `t`. -/
abbrev tileOf : Vec F S1024x2048 .bf16 := tileVal c W (Ring.bk 6 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Gates

end
-- ==== Proof.GatesFrame.lean ====
/- The run of the gates' projection, point by point: before each point the second scratch buffer holds the tile of the column block under
   way, and the first holds the tiles as the stream has them; each point leaves its product in the result's block. From this the
   whole run follows, and with it that the arguments end as they began. -/
module

public import proofs.«01_k».proof.Proof.GatesVals
public import Idealize.ShloMosaic.Lib.Claim

@[expose] public section

set_option maxRecDepth 16384

noncomputable section

namespace Cert.Gates

open Cert.Kernel4Ideal Cert.Kernel4Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .bf16 :=
  k0_pay2 (iblk m c 0 t) (tileVal c (V m c main_v0) (Ring.bk 6 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 48 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Gates

end
-- ==== Proof.Proj.lean ====
/- The in-projection: what a column of it is, the functions applied to the columns of the gates and of the gelu branch, and the entries
   of a streamed tile. -/
module

public import proofs.«01_k».proof.Proof.Target
public import proofs.«01_k».proof.Proof.Stream

@[expose] public section

noncomputable section

namespace Cert.Proj

open Idealize.ShloMosaic Cert.Lru

/-- The two arguments: the layer's input and the in-projections' weights. -/
structure ProjArgs where
  x : Arr ⟨2, ![8192, 2048]⟩
  w : Arr ⟨3, ![2, 2048, 16464]⟩

/-- Column `q` of a layer's in-projection, at row `r`. -/
def column (A : ProjArgs) (layer : Fin 2) (r : Fin 8192) (q : Fin 16464) : EReal :=
  ∑ k : Fin 2048, A.x (ix2 r k) * A.w (ix3 layer k q)

/-- The gelu in its tanh form. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- Columns `off` to `off + n - 1` of a layer's in-projection, each passed through `act`. -/
def columns (act : EReal → EReal) (layer : Fin 2) (off n : Nat) (h : off + n ≤ 16464) (A : ProjArgs) : Arr ⟨2, ![8192, n]⟩ := fun i =>
  act (column A layer (i 0) ⟨off + (i 1).val, by have : (i 1).val < n := (i 1).isLt; omega⟩)

/-- Row `l` of tile `b` is a row of the layer's weight. -/
theorem tileBlock_at {nD : Nat} {τ : Topo} {sig : RefSig} {n : ℕ} (S : Stream.Streamed sig n) (c : Dev nD) (W : Stream.Held (τ := τ) Ideal c S.weight) (b : Fin n) (l : Fin 1024) (k : Fin 2048) :
    S.tileBlock c W b (ix3 0 l k) = S.weight.view.read (Elt Ideal) W
      (ix3 ⟨S.layer, S.layer_lt⟩ ⟨1024 * b.val + S.off + l.val, by have := b.isLt; have := S.off_le; omega⟩ k) := by
  unfold Stream.Streamed.tileBlock
  rw [View.readAt_apply]
  refine congrArg (S.weight.view.read (Elt Ideal) W) (funext fun a => Fin.ext ?_)
  match a with
  | ⟨0, _⟩ => show S.layer + 1 * 0 = S.layer; rfl
  | ⟨1, _⟩ => show 1024 * b.val + S.off + 1 * l.val = 1024 * b.val + S.off + l.val; omega
  | ⟨2, _⟩ => show 0 + 1 * k.val = k.val; omega

end Cert.Proj

end
-- ==== Proof.GatesValue.lean ====
/- The result of the gates' projection as the kernel leaves it: every block is its own columns, and the blocks cover the array. -/
module

public import proofs.«01_k».proof.Proof.GatesFrame
public import proofs.«01_k».proof.Proof.Proj

@[expose] public section

set_option maxRecDepth 16384

noncomputable section

namespace Cert.Gates

open Cert.Kernel4Ideal Cert.Kernel4Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 6144]⟩ := columns Ideal.logistic 0 10320 6144 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .f32) (w : FVec Ideal S1024x2048 .bf16) (s l : Fin 1024) :
    k0_pay2 (F := Ideal) x w (ix2 s l) = Ideal.logistic (∑ k : Fin 2048, x (ix2 s k) * w (ix2 l k)) := by
  pointwise [k0_pay2]
  rw [lit_half]
  exact half_tanh _

theorem tile_at (c : Dev nD) (W : Stream.Held (τ := τ) Ideal c weightM) (b : Fin 6) (l : Fin 1024) (k : Fin 2048) :
    tileVal (F := Ideal) c W b (ix2 l k) = W (ix3 0 ⟨1024 * b.val + 10320 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 48 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 6 (t.val / 8)).val = t.val / 8 := by
    have := point_lt t; show t.val / 8 % 6 = t.val / 8; omega
  unfold product
  refine (pay_at _ _ s l).trans ?_
  unfold target columns column
  refine congrArg Ideal.logistic (Finset.sum_congr rfl fun k _ => ?_)
  rw [blk_0, tile_at, entry_weight]
  refine congrArg (fun q => (kargs m c).x (ix2 (row t s) k) * (kargs m c).w (ix3 0 k q)) (Fin.ext ?_)
  show 1024 * (Ring.bk 6 (t.val / 8)).val + 10320 + l.val = 10320 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 6144 := (i 1).isLt
    have ht : (i 1 : Nat) / 1024 * 8 + (i 0 : Nat) / 1024 < cfg0.N := by rw [show cfg0.N = 48 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Gates

end
-- ==== Proof.GatesClaims.lean ====
/- The claims of the gates' projection: the frames of its three programs, and the equality of the results. -/
module

public import proofs.«01_k».proof.Defs
public import proofs.«01_k».proof.Proof.GatesValue
public import proofs.«01_k».proof.Proof.Gen.Kernel4
public import proofs.«01_k».proof.Proof.Gen.Reference4Ideal.Run
public import Idealize.ShloMosaic.Lib.Quiescent
public import Idealize.ShloMosaic.Lib.Claim

@[expose] public section

set_option maxRecDepth 16384

noncomputable section

namespace Cert.Gates

open Idealize.ShloMosaic Idealize.ShloMosaic.TcCoe Idealize.SL.Sem Cert.Proj Cert.Lru

/-! ## The reference -/

section
open Cert.Reference4Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v10) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 6144), i = ix2 r l :=
    ⟨i 0, i 1, by funext a; match a with | ⟨0, _⟩ => rfl | ⟨1, _⟩ => rfl⟩
  pointwise
  rfl

end

/-! ## The frames -/

/-- The two printings of the kernel have the same bodies, … -/
theorem bodies_eq {F : FTy → Type} [FloatOps F] : @Cert.Kernel4.defs₀ F _ _ = @Cert.Kernel4Ideal.defs₀ F _ _ := by
  unfold Cert.Kernel4.defs₀ Cert.Kernel4Ideal.defs₀
  refine congrArg Defs.onTc (funext fun l => funext fun p => ?_)
  match l, p with
  | 0, (t, s) => rfl
/-- … so the same definitions. -/
theorem defs_eq {F : FTy → Type} [FloatOps F] : @Cert.Kernel4.defs F _ _ = @Cert.Kernel4Ideal.defs F _ _ :=
  congrArg (Pipeline.defs Cert.Kernel4Ideal.pcfgs) bodies_eq

theorem frame : Cert.quiescent_Kernel4 := fun m ρ _ => by
  rw [defs_eq]; exact frame_any (F := Bits) m ρ

theorem frameIdeal : Cert.quiescent_Kernel4Ideal := fun m ρ _ => frame_any (F := Ideal) m ρ

theorem frameRef : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- Both programs end at the target of arguments that agree. -/
theorem algebraic : Cert.algebraic_Kernel4Ideal_Reference4Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference4Ideal.defs _ _).mono (fun _ r c => ⟨(r c).1.trans (congrArg target (h c)), (r c).2⟩) (ref_target m' ρ')

end Cert.Gates

end
-- ==== Proof.InputsRing.lean ====
/- The streamed weight of the projection the pooling and the recurrent branch take: rows 4176 … 8271 of the weight, in 4 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel5Ideal
public import proofs.«01_k».proof.Proof.Gen.Kernel5Ideal.Frame
public import proofs.«01_k».proof.Proof.Gen.Kernel5Ideal.Skeleton

@[expose] public section

set_option maxRecDepth 16384

noncomputable section

namespace Cert.Inputs

open Cert.Kernel5Ideal Cert.Kernel5Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 24 :=
  (by decide +kernel : ∀ t : Fin grid0.N, More t ↔ t.val < 24)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .f32 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .f32 := win0_1.stage (cfg0.slots t 1)
abbrev outMWhole (t : Fin cfg0.N) : (outM t).IsWhole := hstage0_1 ((cfg0.slots t 1).cast nbuf0_1)

/-- The stream. -/
abbrev stream : Streamed sig 4 where
  stage := stageM
  stage_whole := Memref.isWhole_whole _
  weight := weightM
  cells := cc0_scratch2
  layer := 0
  off := 4176
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![0, 4176, 0] S1x1024x2048.size inb_S2x16464x2048_S1x1024x2048_0_4176_0) (fun _ => rfl)).squeeze S1024x2048 squeezes_S1x1024x2048_S1024x2048 = stream.tileM (Ring.bk 4 (tilesDone t.val)) :=
  stream.tile_of ((by decide +kernel : ∀ t : Fin grid0.N, First t → Start t → (![0, 4176, 0] : Fin 3 → Nat) = ![0, 1024 * (Ring.bk 4 (tilesDone t.val)).val + 4176, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 4 (tilesDone t.val + 1)) :=
  stream.tile_of ((by decide +kernel : ∀ t : Fin grid0.N, First t → More t → k0_off3 (grid0.coords t) = ![0, 1024 * (Ring.bk 4 (tilesDone t.val + 1)).val + 4176, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .f32) (harg2 : arg2.IsWhole) (arg4 : Memref sig .tc .vmem S1024x1024 .f32) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .f32) (harg2 : arg2.IsWhole) (arg4 : Memref sig .tc .vmem S1024x1024 .f32) (harg4 : arg4.IsWhole)
variable (x : Vec F S1024x2048 .f32) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Inputs

end
-- ==== Proof.InputsVals.lean ====
/- What the points of the projection the pooling and the recurrent branch take store: the tile the point waited for, rounded, and the product of the row block with it. -/
module

public import proofs.«01_k».proof.Proof.InputsRing
public import Idealize.ShloMosaic.Lib.Pipeline.ValueKit.Acc

@[expose] public section

set_option maxHeartbeats 1000000
set_option maxRecDepth 16384

noncomputable section

namespace Cert.Inputs

open Cert.Kernel5Ideal Cert.Kernel5Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 4) : Vec F S1024x2048 .bf16 := k0_pay1 (stream.tileBlock c W b)

section
variable (c : Dev nD) (t : Fin cfg0.N) (arg2 : Memref sig .tc .vmem S1024x2048 .f32) (harg2 : arg2.IsWhole) (arg4 : Memref sig .tc .vmem S1024x1024 .f32) (harg4 : arg4.IsWhole)
  (x : Vec F S1024x2048 .f32) (W : Stream.Held (τ := τ) F c weightM)

/-- The tile of point `t`. -/
abbrev tileOf : Vec F S1024x2048 .bf16 := tileVal c W (Ring.bk 4 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Inputs

end
-- ==== Proof.InputsFrame.lean ====
/- The run of the projection the pooling and the recurrent branch take, point by point: before each point the second scratch buffer holds the tile of the column block under
   way, and the first holds the tiles as the stream has them; each point leaves its product in the result's block. From this the
   whole run follows, and with it that the arguments end as they began. -/
module

public import proofs.«01_k».proof.Proof.InputsVals
public import Idealize.ShloMosaic.Lib.Claim

@[expose] public section

set_option maxRecDepth 16384

noncomputable section

namespace Cert.Inputs

open Cert.Kernel5Ideal Cert.Kernel5Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .f32 :=
  k0_pay2 (iblk m c 0 t) (tileVal c (V m c main_v0) (Ring.bk 4 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 32 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Inputs

end
-- ==== Proof.InputsValue.lean ====
/- The result of the projection the pooling and the recurrent branch take as the kernel leaves it: every block is its own columns, and the blocks cover the array. -/
module

public import proofs.«01_k».proof.Proof.InputsFrame
public import proofs.«01_k».proof.Proof.Proj

@[expose] public section

set_option maxRecDepth 16384

noncomputable section

namespace Cert.Inputs

open Cert.Kernel5Ideal Cert.Kernel5Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 4096]⟩ := columns id 0 4176 4096 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .f32) (w : FVec Ideal S1024x2048 .bf16) (s l : Fin 1024) :
    k0_pay2 (F := Ideal) x w (ix2 s l) = id (∑ k : Fin 2048, x (ix2 s k) * w (ix2 l k)) := by
  pointwise [k0_pay2]
  rfl

theorem tile_at (c : Dev nD) (W : Stream.Held (τ := τ) Ideal c weightM) (b : Fin 4) (l : Fin 1024) (k : Fin 2048) :
    tileVal (F := Ideal) c W b (ix2 l k) = W (ix3 0 ⟨1024 * b.val + 4176 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 32 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 4 (t.val / 8)).val = t.val / 8 := by
    have := point_lt t; show t.val / 8 % 4 = t.val / 8; omega
  unfold product
  refine (pay_at _ _ s l).trans ?_
  unfold target columns column
  refine congrArg id (Finset.sum_congr rfl fun k _ => ?_)
  rw [blk_0, tile_at, entry_weight]
  refine congrArg (fun q => (kargs m c).x (ix2 (row t s) k) * (kargs m c).w (ix3 0 k q)) (Fin.ext ?_)
  show 1024 * (Ring.bk 4 (t.val / 8)).val + 4176 + l.val = 4176 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 4096 := (i 1).isLt
    have ht : (i 1 : Nat) / 1024 * 8 + (i 0 : Nat) / 1024 < cfg0.N := by rw [show cfg0.N = 32 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Inputs

end
-- ==== Proof.InputsClaims.lean ====
/- The claims of the projection the pooling and the recurrent branch take: the frames of its three programs, and the equality of the results. -/
module

public import proofs.«01_k».proof.Defs
public import proofs.«01_k».proof.Proof.InputsValue
public import proofs.«01_k».proof.Proof.Gen.Kernel5
public import proofs.«01_k».proof.Proof.Gen.Reference5Ideal.Run
public import Idealize.ShloMosaic.Lib.Quiescent
public import Idealize.ShloMosaic.Lib.Claim

@[expose] public section

set_option maxRecDepth 16384

noncomputable section

namespace Cert.Inputs

open Idealize.ShloMosaic Idealize.ShloMosaic.TcCoe Idealize.SL.Sem Cert.Proj Cert.Lru

/-! ## The reference -/

section
open Cert.Reference5Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v3) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 4096), i = ix2 r l :=
    ⟨i 0, i 1, by funext a; match a with | ⟨0, _⟩ => rfl | ⟨1, _⟩ => rfl⟩
  pointwise
  rfl

end

/-! ## The frames -/

/-- The two printings of the kernel have the same bodies, … -/
theorem bodies_eq {F : FTy → Type} [FloatOps F] : @Cert.Kernel5.defs₀ F _ _ = @Cert.Kernel5Ideal.defs₀ F _ _ := by
  unfold Cert.Kernel5.defs₀ Cert.Kernel5Ideal.defs₀
  refine congrArg Defs.onTc (funext fun l => funext fun p => ?_)
  match l, p with
  | 0, (t, s) => rfl
/-- … so the same definitions. -/
theorem defs_eq {F : FTy → Type} [FloatOps F] : @Cert.Kernel5.defs F _ _ = @Cert.Kernel5Ideal.defs F _ _ :=
  congrArg (Pipeline.defs Cert.Kernel5Ideal.pcfgs) bodies_eq

theorem frame : Cert.quiescent_Kernel5 := fun m ρ _ => by
  rw [defs_eq]; exact frame_any (F := Bits) m ρ

theorem frameIdeal : Cert.quiescent_Kernel5Ideal := fun m ρ _ => frame_any (F := Ideal) m ρ

theorem frameRef : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- Both programs end at the target of arguments that agree. -/
theorem algebraic : Cert.algebraic_Kernel5Ideal_Reference5Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference5Ideal.defs _ _).mono (fun _ r c => ⟨(r c).1.trans (congrArg target (h c)), (r c).2⟩) (ref_target m' ρ')

end Cert.Inputs

end
-- ==== Proof.GeluRing.lean ====
/- The streamed weight of the gelu branch's projection: rows 8272 … 10319 of the weight, in 2 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel6Ideal
public import proofs.«01_k».proof.Proof.Gen.Kernel6Ideal.Frame
public import proofs.«01_k».proof.Proof.Gen.Kernel6Ideal.Skeleton

@[expose] public section

set_option maxRecDepth 16384

noncomputable section

namespace Cert.Gelu

open Cert.Kernel6Ideal Cert.Kernel6Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 8 :=
  (by decide +kernel : ∀ t : Fin grid0.N, More t ↔ t.val < 8)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .f32 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .bf16 := win0_1.stage (cfg0.slots t 1)
abbrev outMWhole (t : Fin cfg0.N) : (outM t).IsWhole := hstage0_1 ((cfg0.slots t 1).cast nbuf0_1)

/-- The stream. -/
abbrev stream : Streamed sig 2 where
  stage := stageM
  stage_whole := Memref.isWhole_whole _
  weight := weightM
  cells := cc0_scratch2
  layer := 0
  off := 8272
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![0, 8272, 0] S1x1024x2048.size inb_S2x16464x2048_S1x1024x2048_0_8272_0) (fun _ => rfl)).squeeze S1024x2048 squeezes_S1x1024x2048_S1024x2048 = stream.tileM (Ring.bk 2 (tilesDone t.val)) :=
  stream.tile_of ((by decide +kernel : ∀ t : Fin grid0.N, First t → Start t → (![0, 8272, 0] : Fin 3 → Nat) = ![0, 1024 * (Ring.bk 2 (tilesDone t.val)).val + 8272, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 2 (tilesDone t.val + 1)) :=
  stream.tile_of ((by decide +kernel : ∀ t : Fin grid0.N, First t → More t → k0_off3 (grid0.coords t) = ![0, 1024 * (Ring.bk 2 (tilesDone t.val + 1)).val + 8272, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .f32) (harg2 : arg2.IsWhole) (arg4 : Memref sig .tc .vmem S1024x1024 .bf16) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .f32) (harg2 : arg2.IsWhole) (arg4 : Memref sig .tc .vmem S1024x1024 .bf16) (harg4 : arg4.IsWhole)
variable (x : Vec F S1024x2048 .f32) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Gelu

end
-- ==== Proof.GeluVals.lean ====
/- What the points of the gelu branch's projection store: the tile the point waited for, rounded, and the product of the row block with it. -/
module

public import proofs.«01_k».proof.Proof.GeluRing
public import Idealize.ShloMosaic.Lib.Pipeline.ValueKit.Acc

@[expose] public section

set_option maxHeartbeats 1000000
set_option maxRecDepth 16384

noncomputable section

namespace Cert.Gelu

open Cert.Kernel6Ideal Cert.Kernel6Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 2) : Vec F S1024x2048 .bf16 := k0_pay1 (stream.tileBlock c W b)

section
variable (c : Dev nD) (t : Fin cfg0.N) (arg2 : Memref sig .tc .vmem S1024x2048 .f32) (harg2 : arg2.IsWhole) (arg4 : Memref sig .tc .vmem S1024x1024 .bf16) (harg4 : arg4.IsWhole)
  (x : Vec F S1024x2048 .f32) (W : Stream.Held (τ := τ) F c weightM)

/-- The tile of point `t`. -/
abbrev tileOf : Vec F S1024x2048 .bf16 := tileVal c W (Ring.bk 2 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Gelu

end
-- ==== Proof.GeluFrame.lean ====
/- The run of the gelu branch's projection, point by point: before each point the second scratch buffer holds the tile of the column block under
   way, and the first holds the tiles as the stream has them; each point leaves its product in the result's block. From this the
   whole run follows, and with it that the arguments end as they began. -/
module

public import proofs.«01_k».proof.Proof.GeluVals
public import Idealize.ShloMosaic.Lib.Claim

@[expose] public section

set_option maxRecDepth 16384

noncomputable section

namespace Cert.Gelu

open Cert.Kernel6Ideal Cert.Kernel6Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .bf16 :=
  k0_pay2 (iblk m c 0 t) (tileVal c (V m c main_v0) (Ring.bk 2 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 16 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Gelu

end
-- ==== Proof.GeluValue.lean ====
/- The result of the gelu branch's projection as the kernel leaves it: every block is its own columns, and the blocks cover the array. -/
module

public import proofs.«01_k».proof.Proof.GeluFrame
public import proofs.«01_k».proof.Proof.Proj

@[expose] public section

set_option maxRecDepth 16384

noncomputable section

namespace Cert.Gelu

open Cert.Kernel6Ideal Cert.Kernel6Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 2048]⟩ := columns gelu 0 8272 2048 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .f32) (w : FVec Ideal S1024x2048 .bf16) (s l : Fin 1024) :
    k0_pay2 (F := Ideal) x w (ix2 s l) = gelu (∑ k : Fin 2048, x (ix2 s k) * w (ix2 l k)) := by
  pointwise [k0_pay2]
  rfl

theorem tile_at (c : Dev nD) (W : Stream.Held (τ := τ) Ideal c weightM) (b : Fin 2) (l : Fin 1024) (k : Fin 2048) :
    tileVal (F := Ideal) c W b (ix2 l k) = W (ix3 0 ⟨1024 * b.val + 8272 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 16 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 2 (t.val / 8)).val = t.val / 8 := by
    have := point_lt t; show t.val / 8 % 2 = t.val / 8; omega
  unfold product
  refine (pay_at _ _ s l).trans ?_
  unfold target columns column
  refine congrArg gelu (Finset.sum_congr rfl fun k _ => ?_)
  rw [blk_0, tile_at, entry_weight]
  refine congrArg (fun q => (kargs m c).x (ix2 (row t s) k) * (kargs m c).w (ix3 0 k q)) (Fin.ext ?_)
  show 1024 * (Ring.bk 2 (t.val / 8)).val + 8272 + l.val = 8272 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 2048 := (i 1).isLt
    have ht : (i 1 : Nat) / 1024 * 8 + (i 0 : Nat) / 1024 < cfg0.N := by rw [show cfg0.N = 16 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Gelu

end
-- ==== Proof.GeluClaims.lean ====
/- The claims of the gelu branch's projection: the frames of its three programs, and the equality of the results. -/
module

public import proofs.«01_k».proof.Defs
public import proofs.«01_k».proof.Proof.GeluValue
public import proofs.«01_k».proof.Proof.Gen.Kernel6
public import proofs.«01_k».proof.Proof.Gen.Reference6Ideal.Run
public import Idealize.ShloMosaic.Lib.Quiescent
public import Idealize.ShloMosaic.Lib.Claim

@[expose] public section

set_option maxRecDepth 16384

noncomputable section

namespace Cert.Gelu

open Idealize.ShloMosaic Idealize.ShloMosaic.TcCoe Idealize.SL.Sem Cert.Proj Cert.Lru

/-! ## The reference -/

section
open Cert.Reference6Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v17) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 2048), i = ix2 r l :=
    ⟨i 0, i 1, by funext a; match a with | ⟨0, _⟩ => rfl | ⟨1, _⟩ => rfl⟩
  pointwise
  exact (mul_left_comm _ _ _).trans (mul_assoc _ _ _).symm

end

/-! ## The frames -/

/-- The two printings of the kernel have the same bodies, … -/
theorem bodies_eq {F : FTy → Type} [FloatOps F] : @Cert.Kernel6.defs₀ F _ _ = @Cert.Kernel6Ideal.defs₀ F _ _ := by
  unfold Cert.Kernel6.defs₀ Cert.Kernel6Ideal.defs₀
  refine congrArg Defs.onTc (funext fun l => funext fun p => ?_)
  match l, p with
  | 0, (t, s) => rfl
/-- … so the same definitions. -/
theorem defs_eq {F : FTy → Type} [FloatOps F] : @Cert.Kernel6.defs F _ _ = @Cert.Kernel6Ideal.defs F _ _ :=
  congrArg (Pipeline.defs Cert.Kernel6Ideal.pcfgs) bodies_eq

theorem frame : Cert.quiescent_Kernel6 := fun m ρ _ => by
  rw [defs_eq]; exact frame_any (F := Bits) m ρ

theorem frameIdeal : Cert.quiescent_Kernel6Ideal := fun m ρ _ => frame_any (F := Ideal) m ρ

theorem frameRef : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- Both programs end at the target of arguments that agree. -/
theorem algebraic : Cert.algebraic_Kernel6Ideal_Reference6Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference6Ideal.defs _ _).mono (fun _ r c => ⟨(r c).1.trans (congrArg target (h c)), (r c).2⟩) (ref_target m' ρ')

end Cert.Gelu

end
-- ==== Proof.Gates1Ring.lean ====
/- The streamed weight of the second layer's gates' projection: rows 10320 … 16463 of the weight, in 6 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel7Ideal
public import proofs.«01_k».proof.Proof.Gen.Kernel7Ideal.Frame
public import proofs.«01_k».proof.Proof.Gen.Kernel7Ideal.Skeleton

@[expose] public section

set_option maxRecDepth 16384

noncomputable section

namespace Cert.Gates1

open Cert.Kernel7Ideal Cert.Kernel7Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 40 :=
  (by decide +kernel : ∀ t : Fin grid0.N, More t ↔ t.val < 40)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .bf16 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .bf16 := win0_1.stage (cfg0.slots t 1)
abbrev outMWhole (t : Fin cfg0.N) : (outM t).IsWhole := hstage0_1 ((cfg0.slots t 1).cast nbuf0_1)

/-- The stream. -/
abbrev stream : Streamed sig 6 where
  stage := stageM
  stage_whole := Memref.isWhole_whole _
  weight := weightM
  cells := cc0_scratch2
  layer := 1
  off := 10320
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![1, 10320, 0] S1x1024x2048.size inb_S2x16464x2048_S1x1024x2048_1_10320_0) (fun _ => rfl)).squeeze S1024x2048 squeezes_S1x1024x2048_S1024x2048 = stream.tileM (Ring.bk 6 (tilesDone t.val)) :=
  stream.tile_of ((by decide +kernel : ∀ t : Fin grid0.N, First t → Start t → (![1, 10320, 0] : Fin 3 → Nat) = ![1, 1024 * (Ring.bk 6 (tilesDone t.val)).val + 10320, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 6 (tilesDone t.val + 1)) :=
  stream.tile_of ((by decide +kernel : ∀ t : Fin grid0.N, First t → More t → k0_off3 (grid0.coords t) = ![1, 1024 * (Ring.bk 6 (tilesDone t.val + 1)).val + 10320, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .bf16) (harg2 : arg2.IsWhole) (arg4 : Memref sig .tc .vmem S1024x1024 .bf16) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .bf16) (harg2 : arg2.IsWhole) (arg4 : Memref sig .tc .vmem S1024x1024 .bf16) (harg4 : arg4.IsWhole)
variable (x : Vec F S1024x2048 .bf16) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Gates1

end
-- ==== Proof.Gates1Vals.lean ====
/- What the points of the second layer's gates' projection store: the tile the point waited for, rounded, and the product of the row block with it. -/
module

public import proofs.«01_k».proof.Proof.Gates1Ring
public import Idealize.ShloMosaic.Lib.Pipeline.ValueKit.Acc

@[expose] public section

set_option maxHeartbeats 1000000
set_option maxRecDepth 16384

noncomputable section

namespace Cert.Gates1

open Cert.Kernel7Ideal Cert.Kernel7Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 6) : Vec F S1024x2048 .bf16 := k0_pay1 (stream.tileBlock c W b)

section
variable (c : Dev nD) (t : Fin cfg0.N) (arg2 : Memref sig .tc .vmem S1024x2048 .bf16) (harg2 : arg2.IsWhole) (arg4 : Memref sig .tc .vmem S1024x1024 .bf16) (harg4 : arg4.IsWhole)
  (x : Vec F S1024x2048 .bf16) (W : Stream.Held (τ := τ) F c weightM)

/-- The tile of point `t`. -/
abbrev tileOf : Vec F S1024x2048 .bf16 := tileVal c W (Ring.bk 6 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Gates1

end
-- ==== Proof.Gates1Frame.lean ====
/- The run of the second layer's gates' projection, point by point: before each point the second scratch buffer holds the tile of the column block under
   way, and the first holds the tiles as the stream has them; each point leaves its product in the result's block. From this the
   whole run follows, and with it that the arguments end as they began. -/
module

public import proofs.«01_k».proof.Proof.Gates1Vals
public import Idealize.ShloMosaic.Lib.Claim

@[expose] public section

set_option maxRecDepth 16384

noncomputable section

namespace Cert.Gates1

open Cert.Kernel7Ideal Cert.Kernel7Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .bf16 :=
  k0_pay2 (iblk m c 0 t) (tileVal c (V m c main_v0) (Ring.bk 6 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 48 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Gates1

end
-- ==== Proof.Gates1Value.lean ====
/- The result of the second layer's gates' projection as the kernel leaves it: every block is its own columns, and the blocks cover the array. -/
module

public import proofs.«01_k».proof.Proof.Gates1Frame
public import proofs.«01_k».proof.Proof.Proj

@[expose] public section

set_option maxRecDepth 16384

noncomputable section

namespace Cert.Gates1

open Cert.Kernel7Ideal Cert.Kernel7Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 6144]⟩ := columns Ideal.logistic 1 10320 6144 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .bf16) (w : FVec Ideal S1024x2048 .bf16) (s l : Fin 1024) :
    k0_pay2 (F := Ideal) x w (ix2 s l) = Ideal.logistic (∑ k : Fin 2048, x (ix2 s k) * w (ix2 l k)) := by
  pointwise [k0_pay2]
  rw [lit_half]
  exact half_tanh _

theorem tile_at (c : Dev nD) (W : Stream.Held (τ := τ) Ideal c weightM) (b : Fin 6) (l : Fin 1024) (k : Fin 2048) :
    tileVal (F := Ideal) c W b (ix2 l k) = W (ix3 1 ⟨1024 * b.val + 10320 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 48 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 6 (t.val / 8)).val = t.val / 8 := by
    have := point_lt t; show t.val / 8 % 6 = t.val / 8; omega
  unfold product
  refine (pay_at _ _ s l).trans ?_
  unfold target columns column
  refine congrArg Ideal.logistic (Finset.sum_congr rfl fun k _ => ?_)
  rw [blk_0, tile_at, entry_weight]
  refine congrArg (fun q => (kargs m c).x (ix2 (row t s) k) * (kargs m c).w (ix3 1 k q)) (Fin.ext ?_)
  show 1024 * (Ring.bk 6 (t.val / 8)).val + 10320 + l.val = 10320 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 6144 := (i 1).isLt
    have ht : (i 1 : Nat) / 1024 * 8 + (i 0 : Nat) / 1024 < cfg0.N := by rw [show cfg0.N = 48 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Gates1

end
-- ==== Proof.Gates1Claims.lean ====
/- The claims of the second layer's gates' projection: the frames of its three programs, and the equality of the results. -/
module

public import proofs.«01_k».proof.Defs
public import proofs.«01_k».proof.Proof.Gates1Value
public import proofs.«01_k».proof.Proof.Gen.Kernel7
public import proofs.«01_k».proof.Proof.Gen.Reference7Ideal.Run
public import Idealize.ShloMosaic.Lib.Quiescent
public import Idealize.ShloMosaic.Lib.Claim

@[expose] public section

set_option maxRecDepth 16384

noncomputable section

namespace Cert.Gates1

open Idealize.ShloMosaic Idealize.ShloMosaic.TcCoe Idealize.SL.Sem Cert.Proj Cert.Lru

/-! ## The reference -/

section
open Cert.Reference7Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v11) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 6144), i = ix2 r l :=
    ⟨i 0, i 1, by funext a; match a with | ⟨0, _⟩ => rfl | ⟨1, _⟩ => rfl⟩
  pointwise
  rfl

end

/-! ## The frames -/

/-- The two printings of the kernel have the same bodies, … -/
theorem bodies_eq {F : FTy → Type} [FloatOps F] : @Cert.Kernel7.defs₀ F _ _ = @Cert.Kernel7Ideal.defs₀ F _ _ := by
  unfold Cert.Kernel7.defs₀ Cert.Kernel7Ideal.defs₀
  refine congrArg Defs.onTc (funext fun l => funext fun p => ?_)
  match l, p with
  | 0, (t, s) => rfl
/-- … so the same definitions. -/
theorem defs_eq {F : FTy → Type} [FloatOps F] : @Cert.Kernel7.defs F _ _ = @Cert.Kernel7Ideal.defs F _ _ :=
  congrArg (Pipeline.defs Cert.Kernel7Ideal.pcfgs) bodies_eq

theorem frame : Cert.quiescent_Kernel7 := fun m ρ _ => by
  rw [defs_eq]; exact frame_any (F := Bits) m ρ

theorem frameIdeal : Cert.quiescent_Kernel7Ideal := fun m ρ _ => frame_any (F := Ideal) m ρ

theorem frameRef : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- Both programs end at the target of arguments that agree. -/
theorem algebraic : Cert.algebraic_Kernel7Ideal_Reference7Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference7Ideal.defs _ _).mono (fun _ r c => ⟨(r c).1.trans (congrArg target (h c)), (r c).2⟩) (ref_target m' ρ')

end Cert.Gates1

end
-- ==== Proof.Inputs1Ring.lean ====
/- The streamed weight of the projection the second layer's pooling and recurrent branch take: rows 4176 … 8271 of the weight, in 4 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel8Ideal
public import proofs.«01_k».proof.Proof.Gen.Kernel8Ideal.Frame
public import proofs.«01_k».proof.Proof.Gen.Kernel8Ideal.Skeleton

@[expose] public section

set_option maxRecDepth 16384

noncomputable section

namespace Cert.Inputs1

open Cert.Kernel8Ideal Cert.Kernel8Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 24 :=
  (by decide +kernel : ∀ t : Fin grid0.N, More t ↔ t.val < 24)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .bf16 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .f32 := win0_1.stage (cfg0.slots t 1)
abbrev outMWhole (t : Fin cfg0.N) : (outM t).IsWhole := hstage0_1 ((cfg0.slots t 1).cast nbuf0_1)

/-- The stream. -/
abbrev stream : Streamed sig 4 where
  stage := stageM
  stage_whole := Memref.isWhole_whole _
  weight := weightM
  cells := cc0_scratch2
  layer := 1
  off := 4176
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![1, 4176, 0] S1x1024x2048.size inb_S2x16464x2048_S1x1024x2048_1_4176_0) (fun _ => rfl)).squeeze S1024x2048 squeezes_S1x1024x2048_S1024x2048 = stream.tileM (Ring.bk 4 (tilesDone t.val)) :=
  stream.tile_of ((by decide +kernel : ∀ t : Fin grid0.N, First t → Start t → (![1, 4176, 0] : Fin 3 → Nat) = ![1, 1024 * (Ring.bk 4 (tilesDone t.val)).val + 4176, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 4 (tilesDone t.val + 1)) :=
  stream.tile_of ((by decide +kernel : ∀ t : Fin grid0.N, First t → More t → k0_off3 (grid0.coords t) = ![1, 1024 * (Ring.bk 4 (tilesDone t.val + 1)).val + 4176, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .bf16) (harg2 : arg2.IsWhole) (arg4 : Memref sig .tc .vmem S1024x1024 .f32) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .bf16) (harg2 : arg2.IsWhole) (arg4 : Memref sig .tc .vmem S1024x1024 .f32) (harg4 : arg4.IsWhole)
variable (x : Vec F S1024x2048 .bf16) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Inputs1

end
-- ==== Proof.Inputs1Vals.lean ====
/- What the points of the projection the second layer's pooling and recurrent branch take store: the tile the point waited for, rounded, and the product of the row block with it. -/
module

public import proofs.«01_k».proof.Proof.Inputs1Ring
public import Idealize.ShloMosaic.Lib.Pipeline.ValueKit.Acc

@[expose] public section

set_option maxHeartbeats 1000000
set_option maxRecDepth 16384

noncomputable section

namespace Cert.Inputs1

open Cert.Kernel8Ideal Cert.Kernel8Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 4) : Vec F S1024x2048 .bf16 := k0_pay1 (stream.tileBlock c W b)

section
variable (c : Dev nD) (t : Fin cfg0.N) (arg2 : Memref sig .tc .vmem S1024x2048 .bf16) (harg2 : arg2.IsWhole) (arg4 : Memref sig .tc .vmem S1024x1024 .f32) (harg4 : arg4.IsWhole)
  (x : Vec F S1024x2048 .bf16) (W : Stream.Held (τ := τ) F c weightM)

/-- The tile of point `t`. -/
abbrev tileOf : Vec F S1024x2048 .bf16 := tileVal c W (Ring.bk 4 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Inputs1

end
-- ==== Proof.Inputs1Frame.lean ====
/- The run of the projection the second layer's pooling and recurrent branch take, point by point: before each point the second scratch buffer holds the tile of the column block under
   way, and the first holds the tiles as the stream has them; each point leaves its product in the result's block. From this the
   whole run follows, and with it that the arguments end as they began. -/
module

public import proofs.«01_k».proof.Proof.Inputs1Vals
public import Idealize.ShloMosaic.Lib.Claim

@[expose] public section

set_option maxRecDepth 16384

noncomputable section

namespace Cert.Inputs1

open Cert.Kernel8Ideal Cert.Kernel8Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .f32 :=
  k0_pay2 (iblk m c 0 t) (tileVal c (V m c main_v0) (Ring.bk 4 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 32 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Inputs1

end
-- ==== Proof.Inputs1Value.lean ====
/- The result of the projection the second layer's pooling and recurrent branch take as the kernel leaves it: every block is its own columns, and the blocks cover the array. -/
module

public import proofs.«01_k».proof.Proof.Inputs1Frame
public import proofs.«01_k».proof.Proof.Proj

@[expose] public section

set_option maxRecDepth 16384

noncomputable section

namespace Cert.Inputs1

open Cert.Kernel8Ideal Cert.Kernel8Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 4096]⟩ := columns id 1 4176 4096 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .bf16) (w : FVec Ideal S1024x2048 .bf16) (s l : Fin 1024) :
    k0_pay2 (F := Ideal) x w (ix2 s l) = id (∑ k : Fin 2048, x (ix2 s k) * w (ix2 l k)) := by
  pointwise [k0_pay2]
  rfl

theorem tile_at (c : Dev nD) (W : Stream.Held (τ := τ) Ideal c weightM) (b : Fin 4) (l : Fin 1024) (k : Fin 2048) :
    tileVal (F := Ideal) c W b (ix2 l k) = W (ix3 1 ⟨1024 * b.val + 4176 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 32 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 4 (t.val / 8)).val = t.val / 8 := by
    have := point_lt t; show t.val / 8 % 4 = t.val / 8; omega
  unfold product
  refine (pay_at _ _ s l).trans ?_
  unfold target columns column
  refine congrArg id (Finset.sum_congr rfl fun k _ => ?_)
  rw [blk_0, tile_at, entry_weight]
  refine congrArg (fun q => (kargs m c).x (ix2 (row t s) k) * (kargs m c).w (ix3 1 k q)) (Fin.ext ?_)
  show 1024 * (Ring.bk 4 (t.val / 8)).val + 4176 + l.val = 4176 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 4096 := (i 1).isLt
    have ht : (i 1 : Nat) / 1024 * 8 + (i 0 : Nat) / 1024 < cfg0.N := by rw [show cfg0.N = 32 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Inputs1

end
-- ==== Proof.Inputs1Claims.lean ====
/- The claims of the projection the second layer's pooling and recurrent branch take: the frames of its three programs, and the equality of the results. -/
module

public import proofs.«01_k».proof.Defs
public import proofs.«01_k».proof.Proof.Inputs1Value
public import proofs.«01_k».proof.Proof.Gen.Kernel8
public import proofs.«01_k».proof.Proof.Gen.Reference8Ideal.Run
public import Idealize.ShloMosaic.Lib.Quiescent
public import Idealize.ShloMosaic.Lib.Claim

@[expose] public section

set_option maxRecDepth 16384

noncomputable section

namespace Cert.Inputs1

open Idealize.ShloMosaic Idealize.ShloMosaic.TcCoe Idealize.SL.Sem Cert.Proj Cert.Lru

/-! ## The reference -/

section
open Cert.Reference8Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v4) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 4096), i = ix2 r l :=
    ⟨i 0, i 1, by funext a; match a with | ⟨0, _⟩ => rfl | ⟨1, _⟩ => rfl⟩
  pointwise
  rfl

end

/-! ## The frames -/

/-- The two printings of the kernel have the same bodies, … -/
theorem bodies_eq {F : FTy → Type} [FloatOps F] : @Cert.Kernel8.defs₀ F _ _ = @Cert.Kernel8Ideal.defs₀ F _ _ := by
  unfold Cert.Kernel8.defs₀ Cert.Kernel8Ideal.defs₀
  refine congrArg Defs.onTc (funext fun l => funext fun p => ?_)
  match l, p with
  | 0, (t, s) => rfl
/-- … so the same definitions. -/
theorem defs_eq {F : FTy → Type} [FloatOps F] : @Cert.Kernel8.defs F _ _ = @Cert.Kernel8Ideal.defs F _ _ :=
  congrArg (Pipeline.defs Cert.Kernel8Ideal.pcfgs) bodies_eq

theorem frame : Cert.quiescent_Kernel8 := fun m ρ _ => by
  rw [defs_eq]; exact frame_any (F := Bits) m ρ

theorem frameIdeal : Cert.quiescent_Kernel8Ideal := fun m ρ _ => frame_any (F := Ideal) m ρ

theorem frameRef : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

/-- Both programs end at the target of arguments that agree. -/
theorem algebraic : Cert.algebraic_Kernel8Ideal_Reference8Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference8Ideal.defs _ _).mono (fun _ r c => ⟨(r c).1.trans (congrArg target (h c)), (r c).2⟩) (ref_target m' ρ')

end Cert.Inputs1

end
-- ==== Proof.Gelu1Ring.lean ====
/- The streamed weight of the second layer's gelu branch's projection: rows 8272 … 10319 of the weight, in 2 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel9Ideal
public import proofs.«01_k».proof.Proof.Gen.Kernel9Ideal.Frame
public import proofs.«01_k».proof.Proof.Gen.Kernel9Ideal.Skeleton

@[expose] public section

set_option maxRecDepth 16384

noncomputable section

namespace Cert.Gelu1

open Cert.Kernel9Ideal Cert.Kernel9Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 8 :=
  (by decide +kernel : ∀ t : Fin grid0.N, More t ↔ t.val < 8)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .bf16 := win0_0.stage (cfg0.slots t 0)
abbrev xMWhole (t : Fin cfg0.N) : (xM t).IsWhole := hstage0_0 ((cfg0.slots t 0).cast nbuf0_0)
abbrev outM (t : Fin cfg0.N) : Memref sig .tc .vmem S1024x1024 .bf16 := win0_1.stage (cfg0.slots t 1)
abbrev outMWhole (t : Fin cfg0.N) : (outM t).IsWhole := hstage0_1 ((cfg0.slots t 1).cast nbuf0_1)

/-- The stream. -/
abbrev stream : Streamed sig 2 where
  stage := stageM
  stage_whole := Memref.isWhole_whole _
  weight := weightM
  cells := cc0_scratch2
  layer := 1
  off := 8272
  layer_lt := by decide
  off_le := by decide

/-- The kernel's own two semaphore cells. -/
abbrev ownCells : Fin 2 → SemLoc sig := fun j => (![SemLoc.dma 4, SemLoc.dma 5] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 4 := by decide
theorem cellL_1 : stream.cellL 1 = SemLoc.dma 5 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![1, 8272, 0] S1x1024x2048.size inb_S2x16464x2048_S1x1024x2048_1_8272_0) (fun _ => rfl)).squeeze S1024x2048 squeezes_S1x1024x2048_S1024x2048 = stream.tileM (Ring.bk 2 (tilesDone t.val)) :=
  stream.tile_of ((by decide +kernel : ∀ t : Fin grid0.N, First t → Start t → (![1, 8272, 0] : Fin 3 → Nat) = ![1, 1024 * (Ring.bk 2 (tilesDone t.val)).val + 8272, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 2 (tilesDone t.val + 1)) :=
  stream.tile_of ((by decide +kernel : ∀ t : Fin grid0.N, First t → More t → k0_off3 (grid0.coords t) = ![1, 1024 * (Ring.bk 2 (tilesDone t.val + 1)).val + 8272, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .bf16) (harg2 : arg2.IsWhole) (arg4 : Memref sig .tc .vmem S1024x1024 .bf16) (harg4 : arg4.IsWhole) :=
  cc0_proj_plain (F := F) (grid0.coords t) arg2 harg2 (Memref.whole main_v0) (Memref.isWhole_whole _) arg4 harg4 stageM (Memref.isWhole_whole _) workM
    (Memref.isWhole_whole _) cc0_scratch2

section
variable (c : Dev nD) (t : Fin cfg0.N) (arg2 : Memref sig .tc .vmem S1024x2048 .bf16) (harg2 : arg2.IsWhole) (arg4 : Memref sig .tc .vmem S1024x1024 .bf16) (harg4 : arg4.IsWhole)
variable (x : Vec F S1024x2048 .bf16) (W : Stream.Held (τ := τ) F c weightM)

def runStart (h0 : First t) (h1 : Start t) (h2 : More t) :
    Stream.StartRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_plain_eq_skeleton]; unfold cc0_proj_plain_skel
    have hcanon0 := slot_start t h0 h1
    have hcanon1 := cell_start t h0 h1
    have hcanon2 := tile_start t h0 h1
    unfold owns Ring.free Ring.inflight Ring.kept
    iintro ⟨⟨%f0, %hf0, H0⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4) c (tilesDone t.val) (owns (c : Thread nD τ) arg2 fullShare x) arg4 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_plain_eq_skeleton]; unfold cc0_proj_plain_skel
    unfold owns Ring.inflight Ring.kept
    iintro ⟨⟨%f0, %hf0, H0⟩, ⟨%d1, %f1, -, H1⟩, ⟨%d2, %f2, -, H2⟩, ⟨%ff, Hf, Hrf⟩, HW, Hk⟩
    obtain rfl := harg2.eq_unread hf0
    sl_exec (disch := first | sl_exact h0 | sl_exact h1 | sl_exact h2)
    sl_step
    iapply Hk
    isplitl [H0]; · iapply owns_back arg2 harg2 c x; iexact H0
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4) c (owns (c : Thread nD τ) arg2 fullShare x) arg4 w := by
  refine ⟨?_, fun Ws K => ?run⟩
  case run =>
    haveI : Fact (¬First t) := ⟨h0⟩
    simp only [body, cc0_proj_plain_eq_skeleton]; unfold cc0_proj_plain_skel
    unfold owns
    iintro ⟨⟨%f0, %hf0, H0⟩, ⟨%d1, %f1, -, H1⟩, ⟨%f2, %hf2, H2⟩, HW, Hk⟩
    obtain rfl := harg2.eq_unread hf0
    obtain rfl := (Memref.isWhole_whole _ : (workM).IsWhole).eq_unread hf2
    sl_exec (disch := first | sl_exact h0)
    sl_step
    iapply Hk
    isplitl [H0]; · iapply owns_back arg2 harg2 c x; iexact H0
    isplitl [H1]; · iexists _; iexact H1
    isplitl [H2]; · iapply owns_back workM (Memref.isWhole_whole _) c w; iexact H2
    iexists _; iexact HW

end

end Cert.Gelu1

end
-- ==== Proof.Gelu1Vals.lean ====
/- What the points of the second layer's gelu branch's projection store: the tile the point waited for, rounded, and the product of the row block with it. -/
module

public import proofs.«01_k».proof.Proof.Gelu1Ring
public import Idealize.ShloMosaic.Lib.Pipeline.ValueKit.Acc

@[expose] public section

set_option maxHeartbeats 1000000
set_option maxRecDepth 16384

noncomputable section

namespace Cert.Gelu1

open Cert.Kernel9Ideal Cert.Kernel9Ideal.Gen Cert.Stream
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 2) : Vec F S1024x2048 .bf16 := k0_pay1 (stream.tileBlock c W b)

section
variable (c : Dev nD) (t : Fin cfg0.N) (arg2 : Memref sig .tc .vmem S1024x2048 .bf16) (harg2 : arg2.IsWhole) (arg4 : Memref sig .tc .vmem S1024x1024 .bf16) (harg4 : arg4.IsWhole)
  (x : Vec F S1024x2048 .bf16) (W : Stream.Held (τ := τ) F c weightM)

/-- The tile of point `t`. -/
abbrev tileOf : Vec F S1024x2048 .bf16 := tileVal c W (Ring.bk 2 (tilesDone t.val))

theorem runStart_leaves (h0 : First t) (h1 : Start t) (h2 : More t) :
    Leaves arg4 (runStart c t arg2 harg2 arg4 harg4 x W h0 h1 h2).1.1 (k0_pay2 x (tileOf c t W))
      ∧ Leaves workM (runStart c t arg2 harg2 arg4 harg4 x W h0 h1 h2).1.2 (tileOf c t W) := by
  unfold runStart; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runMiddle_leaves (h0 : First t) (h1 : ¬Start t) (h2 : More t) :
    Leaves arg4 (runMiddle c t arg2 harg2 arg4 harg4 x W h0 h1 h2).1.1 (k0_pay2 x (tileOf c t W))
      ∧ Leaves workM (runMiddle c t arg2 harg2 arg4 harg4 x W h0 h1 h2).1.2 (tileOf c t W) := by
  unfold runMiddle; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLast_leaves (h0 : First t) (h1 : ¬Start t) (h2 : ¬More t) :
    Leaves arg4 (runLast c t arg2 harg2 arg4 harg4 x W h0 h1 h2).1.1 (k0_pay2 x (tileOf c t W))
      ∧ Leaves workM (runLast c t arg2 harg2 arg4 harg4 x W h0 h1 h2).1.2 (tileOf c t W) := by
  unfold runLast; dsimp only; sl_unfold_words
  refine ⟨fun f => ?_, fun f => ?_⟩
  · rw [whole_read arg4 f zero2, View.readCov_unit_lit workM.view _ _ zero2]
    refine congrArg₂ k0_pay2 ?_ (congrArg k0_pay1 (stream.landed_read c W _ _ (read_off t h0) _ _))
    simp only [View.readAt_eq_ld, harg2.read_unread, View.ld_unit_zero (S := S1024x2048) (funext zero2)]
  · rw [whole_read workM f zero2]
    exact congrArg k0_pay1 (stream.landed_read c W _ _ (read_off t h0) _ _)
theorem runLater_leaves (h0 : ¬First t) (w : Vec F S1024x2048 .bf16) : Leaves arg4 (runLater c t arg2 harg2 arg4 harg4 x h0 w).1 (k0_pay2 x w) := by
  unfold runLater; dsimp only; sl_unfold_words
  intro f
  rw [whole_read arg4 f zero2]
  refine congrArg₂ k0_pay2 ?_ ?_
  · simp only [View.readAt_eq_ld, harg2.read_unread, View.ld_unit_zero (S := S1024x2048) (funext zero2)]
  · rw [View.readAt_eq_ld, View.ld_unit_zero (S := S1024x2048) (funext zero2)]
    exact (Memref.isWhole_whole _ : (workM).IsWhole).read_unread _
end

end Cert.Gelu1

end
-- ==== Proof.Gelu1Frame.lean ====
/- The run of the second layer's gelu branch's projection, point by point: before each point the second scratch buffer holds the tile of the column block under
   way, and the first holds the tiles as the stream has them; each point leaves its product in the result's block. From this the
   whole run follows, and with it that the arguments end as they began. -/
module

public import proofs.«01_k».proof.Proof.Gelu1Vals
public import Idealize.ShloMosaic.Lib.Claim

@[expose] public section

set_option maxRecDepth 16384

noncomputable section

namespace Cert.Gelu1

open Cert.Kernel9Ideal Cert.Kernel9Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S1024x1024 .bf16 :=
  k0_pay2 (iblk m c 0 t) (tileVal c (V m c main_v0) (Ring.bk 2 (t.val / 8)))
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 16 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, H1⟩
  iapply (point stream workM (defs₀ (F := F)) (body t (xM t) (xMWhole t) (outM t) (outMWhole t)) c (owns (c : Thread nD τ) (xM t) fullShare (iblk m c 0 t)) (outM t) (V m c main_v0) (tileVal c (V m c main_v0))
    (k0_pay2 (iblk m c 0 t)) (k := t.val) (lt_of_lt_of_eq t.isLt points) (by decide)
    (fun h1 h0 => ⟨_, runStart_leaves c t _ (xMWhole t) _ (outMWhole t) _ _ ((first_iff t).mpr h0) ((start_iff t).mpr h1) ((more_iff t).mpr (by omega))⟩)
    (fun h1 h0 h2 => ⟨_, runMiddle_leaves c t _ (xMWhole t) _ (outMWhole t) _ _ ((first_iff t).mpr h0) (fun h => h1 ((start_iff t).mp h)) ((more_iff t).mpr h2)⟩)
    (fun h1 h0 h2 => ⟨_, runLast_leaves c t _ (xMWhole t) _ (outMWhole t) _ _ ((first_iff t).mpr h0) (fun h => h1 ((start_iff t).mp h)) (fun h => h2 ((more_iff t).mp h))⟩)
    (fun h0 w => ⟨_, runLater_leaves c t _ (xMWhole t) _ (outMWhole t) _ (fun h => h0 ((first_iff t).mp h)) w⟩) Ws _)
  isplitl [HΦ]; · iexact HΦ
  isplitl [HW]; · iexact HW
  isplitl [H0]; · iexact H0
  isplitl [H1]
  · icases H1 with ⟨%d1, H1⟩
    iexists _; iexact H1
  iintro ⟨HΦ, H0, H1, ⟨%W', HW'⟩⟩
  isplitl [HΦ]; · iexact HΦ
  isplitl [HW']
  · iexists W'; isplitr; · ipureintro; exact fun _ _ => Or.inl trivial
    iexact HW'
  isplitl [H0]; · iexact H0
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_quiescent m ρ)

end Cert.Gelu1

end
-- ==== Proof.Gelu1Value.lean ====
/- The result of the second layer's gelu branch's projection as the kernel leaves it: every block is its own columns, and the blocks cover the array. -/
module

public import proofs.«01_k».proof.Proof.Gelu1Frame
public import proofs.«01_k».proof.Proof.Proj

@[expose] public section

set_option maxRecDepth 16384

noncomputable section

namespace Cert.Gelu1

open Cert.Kernel9Ideal Cert.Kernel9Ideal.Gen Cert.Proj Cert.Lru
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : ProjArgs where
  x := m ((c : Thread nD τ).loc main_arg0)
  w := m ((c : Thread nD τ).loc main_arg1)

/-- The array every result block is cut from. -/
def target (A : ProjArgs) : Arr ⟨2, ![8192, 2048]⟩ := columns gelu 1 8272 2048 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .bf16) (w : FVec Ideal S1024x2048 .bf16) (s l : Fin 1024) :
    k0_pay2 (F := Ideal) x w (ix2 s l) = gelu (∑ k : Fin 2048, x (ix2 s k) * w (ix2 l k)) := by
  pointwise [k0_pay2]
  rfl

theorem tile_at (c : Dev nD) (W : Stream.Held (τ := τ) Ideal c weightM) (b : Fin 2) (l : Fin 1024) (k : Fin 2048) :
    tileVal (F := Ideal) c W b (ix2 l k) = W (ix3 1 ⟨1024 * b.val + 8272 + l.val, by have := b.isLt; omega⟩ k) := by
  refine Eq.trans ?_ (tileBlock_at stream c W b l k)
  unfold tileVal; pointwise [k0_pay1]

/-! ## The blocks of a grid point: row block `t mod 8`, column block `t / 8` -/

theorem point_lt (t : Fin cfg0.N) : t.val < 16 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s l : Fin 1024) :
    product m c t (ix2 s l)
      = target (kargs m c) (ix2 (row t s) ⟨t.val / 8 * 1024 + l.val, by have := point_lt t; omega⟩) := by
  have hb : (Ring.bk 2 (t.val / 8)).val = t.val / 8 := by
    have := point_lt t; show t.val / 8 % 2 = t.val / 8; omega
  unfold product
  refine (pay_at _ _ s l).trans ?_
  unfold target columns column
  refine congrArg gelu (Finset.sum_congr rfl fun k _ => ?_)
  rw [blk_0, tile_at, entry_weight]
  refine congrArg (fun q => (kargs m c).x (ix2 (row t s) k) * (kargs m c).w (ix3 1 k q)) (Fin.ext ?_)
  show 1024 * (Ring.bk 2 (t.val / 8)).val + 8272 + l.val = 8272 + (t.val / 8 * 1024 + l.val)
  rw [hb]; omega

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s l : Fin 1024), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 1024 + l.val = win0_1.index t 1 * 1024 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 2048 := (i 1).isLt
    have ht : (i 1 : Nat) / 1024 * 8 + (i 0 : Nat) / 1024 < cfg0.N := by rw [show cfg0.N = 16 from N_0]; omega
    refine ⟨⟨_, ht⟩, flush0_1 _, ?_⟩
    show i ∈ ((View.whole main_v1).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 1024 ≤ (i 1 : Nat) ∧ (i 1 : Nat) < win0_1.index ⟨_, ht⟩ 1 * 1024 + 1024
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_main m ρ)

end Cert.Gelu1

end
-- ==== Proof.Gelu1Claims.lean ====
/- The claims of the second layer's gelu branch's projection: the frames of its three programs, and the equality of the results. -/
module

public import proofs.«01_k».proof.Defs
public import proofs.«01_k».proof.Proof.Gelu1Value
public import proofs.«01_k».proof.Proof.Gen.Kernel9
public import proofs.«01_k».proof.Proof.Gen.Reference9Ideal.Run
public import Idealize.ShloMosaic.Lib.Quiescent
public import Idealize.ShloMosaic.Lib.Claim

@[expose] public section

set_option maxRecDepth 16384

noncomputable section

namespace Cert.Gelu1

open Idealize.ShloMosaic Idealize.ShloMosaic.TcCoe Idealize.SL.Sem Cert.Proj Cert.Lru

/-! ## The reference -/

section
open Cert.Reference9Ideal

variable (m : (ℓ : Loc nD τ sig) → Buf (Elt Ideal) ℓ) (ρ : Dev nD → PrngReg)

/-- The reference's arguments as launched. -/
def rargs (c : Dev nD) : ProjArgs where
  x := m ((c : Thread nD τ).loc main_arg0)
  w := m ((c : Thread nD τ).loc main_arg1)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v18) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨r, l, rfl⟩ : ∃ (r : Fin 8192) (l : Fin 2048), i = ix2 r l :=
    ⟨i 0, i 1, by funext a; match a with | ⟨0, _⟩ => rfl | ⟨1, _⟩ => rfl⟩
  pointwise
  exact (mul_left_comm _ _ _).trans (mul_assoc _ _ _).symm

end

/-! ## The frames -/

/-- The two printings of the kernel have the same bodies, … -/
theorem bodies_eq {F : FTy → Type} [FloatOps F] : @Cert.Kernel9.defs₀ F _ _ = @Cert.Kernel9Ideal.defs₀ F _ _ := by
  unfold Cert.Kernel9.defs₀ Cert.Kernel9Ideal.defs₀
  refine congrArg Defs.onTc (funext fun l => funext fun p => ?_)
  match l, p with
  | 0, (t, s) => rfl
/-- … so the same definitions. -/
theorem defs_eq {F : FTy → Type} [FloatOps F] : @Cert.Kernel9.defs F _ _ = @Cert.Kernel9Ideal.defs F _ _ :=
  congrArg (Pipeline.defs Cert.Kernel9Ideal.pcfgs) bodies_eq

theorem frame : Cert.quiescent_Kernel9 := fun m ρ _ => by
  rw [defs_eq]; exact frame_any (F := Bits) m ρ

theorem frameIdeal : Cert.quiescent_Kernel9Ideal := fun m ρ _ => frame_any (F := Ideal) m ρ

theorem frameRef : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run m ρ)

/-- Both programs end at the target of arguments that agree. -/
theorem algebraic : Cert.algebraic_Kernel9Ideal_Reference9Ideal := by
  intro m ρ m' ρ' _ hagree
  refine ⟨fun c => target (kargs m c), run_target m ρ, ?_⟩
  have h : ∀ c, rargs m' c = kargs m c := fun c => by
    obtain ⟨h0, h1⟩ := hagree c
    unfold rargs kargs
    rw [h0, h1]
  exact (θ_run Cert.Reference9Ideal.defs _ _).mono (fun _ r c => ⟨(r c).1.trans (congrArg target (h c)), (r c).2⟩) (ref_target m' ρ')

end Cert.Gelu1

end
-- ==== Proof.UpRing.lean ====
/- The streamed weights of the dense layer's first call. Two weights, the gate's and the up-projection's, of 5504 columns each, are cut into 11
   tiles of 512 columns, the last of 384. Each weight's tiles pass through the two slots of a scratch buffer of its own: tile `k` is copied into slot
   `k mod 2`, one column block ahead of its use; at the first of the eight row blocks of column block `k` the kernel waits for both
   tiles and rounds them into two further buffers, from which all eight row blocks of that column block read them. The last tile fills
   384 of a slot's 512 columns; the rest of the slot keeps what it held, and the kernel puts zeros there after rounding. This module
   names the slots, the tiles and the semaphore cells, states the kernel's conditions on the grid point in closed form, and runs the
   kernel's body at each kind of point. -/
module

public import proofs.«01_k».proof.Proof.Stream
public import proofs.«01_k».proof.Proof.Gen.Kernel10Ideal
public import proofs.«01_k».proof.Proof.Gen.Kernel10Ideal.Frame
public import proofs.«01_k».proof.Proof.Gen.Kernel10Ideal.Skeleton
public import Idealize.ShloMosaic.Lib.SparseCore.Scatter

@[expose] public section

set_option maxRecDepth 16384

noncomputable section

namespace Cert.Up

open Cert.Kernel10Ideal Cert.Kernel10Ideal.Gen
open Cert.Stream (tilesDone parts_in parts_out owns_back)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions speak of. -/
abbrev Res (F : FTy → Type) := MT nD τ sig Unit (Elt F) ℕ (Pipeline.UD sig nD τ) ℕ

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows; … -/
abbrev More (t : Fin cfg0.N) : Prop := k0_cond3 (grid0.coords t) = 1#1
/-- … a whole one; … -/
abbrev Whole (t : Fin cfg0.N) : Prop := k0_cond4 (grid0.coords t) = 1#1
/-- … the narrow one. -/
abbrev Narrow (t : Fin cfg0.N) : Prop := k0_cond5 (grid0.coords t) = 1#1
/-- This column block is a whole one; … -/
abbrev Here (t : Fin cfg0.N) : Prop := k0_cond6 (grid0.coords t) = 1#1
/-- … the narrow one: as the wait asks, and as the zeros ask. -/
abbrev Tail (t : Fin cfg0.N) : Prop := k0_cond7 (grid0.coords t) = 1#1
abbrev Zeros (t : Fin cfg0.N) : Prop :=
  Scalar.cmpi .ne (Scalar.extui (Scalar.cmpi .eq (BitVec.ofNat 32 ((grid0.coords t) 0).val) 10#32) : BitVec 32) 0#32 = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 80 :=
  (by decide +kernel : ∀ t : Fin grid0.N, More t ↔ t.val < 80)
theorem whole_iff : ∀ t : Fin cfg0.N, Whole t ↔ t.val < 72 :=
  (by decide +kernel : ∀ t : Fin grid0.N, Whole t ↔ t.val < 72)
theorem narrow_iff : ∀ t : Fin cfg0.N, Narrow t ↔ 72 ≤ t.val ∧ t.val < 80 :=
  (by decide +kernel : ∀ t : Fin grid0.N, Narrow t ↔ 72 ≤ t.val ∧ t.val < 80)
theorem here_iff : ∀ t : Fin cfg0.N, Here t ↔ t.val < 80 :=
  (by decide +kernel : ∀ t : Fin grid0.N, Here t ↔ t.val < 80)
theorem tail_iff : ∀ t : Fin cfg0.N, Tail t ↔ 80 ≤ t.val :=
  (by decide +kernel : ∀ t : Fin grid0.N, Tail t ↔ 80 ≤ t.val)
theorem zeros_iff : ∀ t : Fin cfg0.N, Zeros t ↔ 80 ≤ t.val :=
  (by decide +kernel : ∀ t : Fin grid0.N, Scalar.cmpi .ne (Scalar.extui (Scalar.cmpi .eq (BitVec.ofNat 32 ((grid0.coords t) 0).val) 10#32) : BitVec 32) 0#32 = 1#1 ↔ 80 ≤ t.val)

/-! ## The buffers -/

/-- Of the gate's weight and of the up-projection's: the two slots, the rounded tile, the weight. -/
abbrev stageG : Memref sig .tc .vmem S2x2048x512 .f32 := Memref.whole cc0_scratch0
abbrev stageU : Memref sig .tc .vmem S2x2048x512 .f32 := Memref.whole cc0_scratch1
abbrev workG : Memref sig .tc .vmem S2048x512 .bf16 := Memref.whole cc0_scratch2
abbrev workU : Memref sig .tc .vmem S2048x512 .bf16 := Memref.whole cc0_scratch3
abbrev weightG : Memref sig .tc .hbm S1x2048x5504 .f32 := Memref.whole main_arg1
abbrev weightU : Memref sig .tc .hbm S1x2048x5504 .f32 := Memref.whole main_arg2
abbrev xM (t : Fin cfg0.N) : Memref sig .tc .vmem S1024x2048 .bf16 := win0_0.stage (cfg0.slots t 0)
abbrev outM (t : Fin cfg0.N) : Memref sig .tc .vmem S1024x512 .bf16 := win0_1.stage (cfg0.slots t 1)

/-- A buffer's contents on core `c`. -/
abbrev Held (c : Dev nD) {sp : Space} {S : Shape} {e : EltTy} (M : Memref sig .tc sp S e) : Type := Buf (Elt F) (M.view.loc (c : Thread nD τ))
/-- A buffer held whole. -/
abbrev heldWhole (c : Dev nD) {sp : Space} {S : Shape} {e : EltTy} (M : Memref sig .tc sp S e) (f : Held (F := F) c M) : sProp (Res F) :=
  M.view.loc (c : Thread nD τ) ↦{fullShare} f

/-- The kernel's own four semaphore cells. -/
abbrev ownCells : Fin 4 → SemLoc sig := fun j => (![SemLoc.dma 4, SemLoc.dma 5, SemLoc.dma 6, SemLoc.dma 7] : Fin 4 → SemLoc sig) j
theorem ownCells_facts : Pipeline.OwnSemFacts spec0 ownCells := by decide
/-- The arrays left in main memory that the kernel copies from. -/
def streamed : Finset (Ref sig .tc) := {main_arg1, main_arg2}
theorem streamed_sub : streamed ⊆ Pipeline.restRefs sig spec0 := by decide

instance : NeZero grid0.N := ⟨by rw [N_0]; decide⟩

/-! ## Slots, tiles, cells -/

theorem slot_inb (s : Fin 2) : ∀ a, (![s.val, 0, 0] : Fin 3 → Nat) a + S1x2048x512.size a ≤ S2x2048x512.size a := by
  have := s.isLt; intro a; fin_cases a <;> simp <;> omega
theorem tile_inb (b : Fin 10) : ∀ a, (![0, 0, 512 * b.val] : Fin 3 → Nat) a + S1x2048x512.size a ≤ S1x2048x5504.size a := by
  have := b.isLt; intro a; fin_cases a <;> simp <;> omega
theorem cell_inb (s a : Fin 2) : ∀ i, (![s.val, a.val] : Fin 2 → Nat) i + S1x1.size i ≤ S2x2.size i := by
  have := s.isLt; have := a.isLt; intro i; fin_cases i <;> simp <;> omega
theorem edge_inb : ∀ a, (![0, 0, 0] : Fin 3 → Nat) a + S1x2048x384.size a ≤ S2x2048x512.size a := by decide
theorem tail_inb : ∀ a, (![0, 0, 5120] : Fin 3 → Nat) a + S1x2048x384.size a ≤ S1x2048x5504.size a := by decide

def slotM (M : Memref sig .tc .vmem S2x2048x512 .f32) (s : Fin 2) : Memref sig .tc .vmem S2048x512 .f32 :=
  (M.slice (Rect.unit (s := S2x2048x512) ![s.val, 0, 0] S1x2048x512.size (slot_inb s)) (fun _ => rfl)).squeeze S2048x512 squeezes_S1x2048x512_S2048x512
def tileM (N : Memref sig .tc .hbm S1x2048x5504 .f32) (b : Fin 10) : Memref sig .tc .hbm S2048x512 .f32 :=
  (N.slice (Rect.unit (s := S1x2048x5504) ![0, 0, 512 * b.val] S1x2048x512.size (tile_inb b)) (fun _ => rfl)).squeeze S2048x512 squeezes_S1x2048x512_S2048x512
/-- The columns of slot 0 that the last tile fills, and the last tile. -/
def narrowM (M : Memref sig .tc .vmem S2x2048x512 .f32) : Memref sig .tc .vmem S2048x384 .f32 :=
  (M.slice (Rect.unit (s := S2x2048x512) ![0, 0, 0] S1x2048x384.size edge_inb) (fun _ => rfl)).squeeze S2048x384 squeezes_S1x2048x384_S2048x384
def tailM (N : Memref sig .tc .hbm S1x2048x5504 .f32) : Memref sig .tc .hbm S2048x384 .f32 :=
  (N.slice (Rect.unit (s := S1x2048x5504) ![0, 0, 5120] S1x2048x384.size tail_inb) (fun _ => rfl)).squeeze S2048x384 squeezes_S1x2048x384_S2048x384
def cellA (a s : Fin 2) : DmaSems sig S_ := (cc0_scratch4.slice (Rect.unit (s := S2x2) ![s.val, a.val] S1x1.size (cell_inb s a))).squeeze S_ squeezes_S1x1_S_
abbrev cellL (a s : Fin 2) : SemLoc sig := SemLoc.dma (cellA a s).sem

section
variable (a : Fin 2) (M : Memref sig .tc .vmem S2x2048x512 .f32) (N : Memref sig .tc .hbm S1x2048x5504 .f32) (c : Dev nD) (W : Held (F := F) c N)
/-- Each slot's copies read the weight through a half of its ownership. -/
abbrev half (s : Fin 2) : PosShare TreeShare := if s.val = 0 then fullShare.left else fullShare.right
abbrev slotP (s : Fin 2) (f : Held (F := F) c (slotM M s)) : sProp (Res F) := (slotM M s).view.loc (c : Thread nD τ) ↦[(slotM M s).view.set]{fullShare} f
abbrev cellP (s : Fin 2) : sProp (Res F) := semVal ((c : Thread nD τ), cellL a s) 0
abbrev halfP (s : Fin 2) : sProp (Res F) := N.view.loc (c : Thread nD τ) ↦[Finset.univ]{half s} W
abbrev tileP (s : Fin 2) (b : Fin 10) : sProp (Res F) := (tileM N b).view.loc (c : Thread nD τ) ↦[(tileM N b).view.set]{half s} W
def restP (s : Fin 2) (b : Fin 10) : sProp (Res F) := (tileM N b).view.loc (c : Thread nD τ) ↦[Finset.univ \ (tileM N b).view.set]{half s} W
abbrev tailP : sProp (Res F) := (tailM N).view.loc (c : Thread nD τ) ↦[(tailM N).view.set]{half 0} W
def tailRestP : sProp (Res F) := (tailM N).view.loc (c : Thread nD τ) ↦[Finset.univ \ (tailM N).view.set]{half 0} W
abbrev narrowP (f : Held (F := F) c (slotM M 0)) : sProp (Res F) := (narrowM M).view.loc (c : Thread nD τ) ↦[(narrowM M).view.set]{fullShare} f
def edgeP (f : Held (F := F) c (slotM M 0)) : sProp (Res F) := (slotM M 0).view.loc (c : Thread nD τ) ↦[(slotM M 0).view.set \ (narrowM M).view.set]{fullShare} f
/-- Slot `s` once tile `b` arrived in it. -/
abbrev landed (s : Fin 2) (b : Fin 10) (f : Held (F := F) c (slotM M s)) : Held (F := F) c (slotM M s) :=
  (slotM M s).view.writes (Elt F) f [⟨Rect.whole S2048x512, ReadAs.same.apply ((tileM N b).view.read (Elt F) W)⟩]
/-- Slot 0 once the last tile arrived in it. -/
abbrev landedTail (f : Held (F := F) c (slotM M 0)) : Held (F := F) c (slotM M 0) :=
  (narrowM M).view.writes (Elt F) f [⟨Rect.whole S2048x384, ReadAs.same.apply ((tailM N).view.read (Elt F) W)⟩]
abbrev flightP (s : Fin 2) (b : Fin 10) (f : Held (F := F) c (slotM M s)) : sProp (Res F) :=
  Transfers.Flight countersEmb (c : Thread nD τ) (cellL a s) default ((slotM M s).view.amount (cellL a s))
    iprop(slotP M c s (landed M N c W s b f) ∗ tileP N c W s b)
/-- The last tile under way, as the copy gives it, and with the rest of its slot. -/
abbrev narrowFlightP (f : Held (F := F) c (slotM M 0)) : sProp (Res F) :=
  Transfers.Flight countersEmb (c : Thread nD τ) (cellL a 0) default ((narrowM M).view.amount (cellL a 0))
    iprop(narrowP M c (landedTail M N c W f) ∗ tailP N c W)
abbrev tailFlightP (f : Held (F := F) c (slotM M 0)) : sProp (Res F) :=
  Transfers.Flight countersEmb (c : Thread nD τ) (cellL a 0) default ((narrowM M).view.amount (cellL a 0))
    iprop(slotP M c 0 (landedTail M N c W f) ∗ tailP N c W)
/-- A slot that nothing is under way into; a slot with a whole tile under way; slot 0 with the last tile under way. -/
abbrev freeS (s : Fin 2) : sProp (Res F) := iprop(cellP a c s ∗ ∃ f, slotP M c s f ∗ halfP N c W s)
abbrev fullS (s : Fin 2) (b : Fin 10) : sProp (Res F) := iprop(∃ f, flightP a M N c W s b f ∗ restP N c W s b)
abbrev tailS : sProp (Res F) := iprop(∃ f, tailFlightP a M N c W f ∗ tailRestP N c W)
/-- The stream before tile `k` is waited for: at first and at the end both slots free; else tile `k` under way into its slot and the other slot free. -/
def streamAt (k : ℕ) : sProp (Res F) :=
  iprop((if k = 0 then freeS a M N c W (Ring.sl 2 k) else if k < 10 then fullS a M N c W (Ring.sl 2 k) (Ring.bk 10 k)
      else if k = 10 then tailS a M N c W else freeS a M N c W (Ring.sl 2 k))
    ∗ freeS a M N c W (Ring.sl 2 (k + 1)))

/-- A half of the weight is a tile of it and the rest. -/
theorem tile_split (s : Fin 2) (b : Fin 10) : halfP (F := F) N c W s ⊣⊢ iprop(tileP N c W s b ∗ restP N c W s b) := by
  unfold restP; exact pointsTo_split_subset (Finset.subset_univ _)
/-- The same for the `k`-th tile and its slot. -/
theorem split_at (k : ℕ) : halfP (F := F) N c W (Ring.sl 2 k) ⊣⊢ iprop(tileP N c W (Ring.sl 2 k) (Ring.bk 10 k) ∗ restP N c W (Ring.sl 2 k) (Ring.bk 10 k)) :=
  tile_split N c W _ _
theorem tail_split : halfP (F := F) N c W 0 ⊣⊢ iprop(tailP N c W ∗ tailRestP N c W) := by
  unfold tailRestP; exact pointsTo_split_subset (Finset.subset_univ _)
theorem halves : (heldWhole c N W : sProp (Res F)) ⊣⊢ iprop(halfP N c W 0 ∗ halfP N c W 1) :=
  pointsTo_share (PosShare.mem_left_op_right fullShare)
theorem narrow_sub : (narrowM M).view.set ⊆ (slotM M 0).view.set := by
  simp only [slotM, narrowM, Memref.view_squeeze, View.set_reshape]
  rw [View.set_slice, View.set_slice]
  refine Finset.map_subset_map.mpr ?_
  intro i hi
  rw [Rect.mem_set_unit] at hi ⊢
  intro a
  obtain ⟨h1, h2⟩ := hi a
  refine ⟨h1, lt_of_lt_of_le h2 ?_⟩
  fin_cases a <;> decide
/-- Slot 0 is the columns that the last tile fills and the others. -/
theorem narrow_split (f : Held (F := F) c (slotM M 0)) : slotP M c 0 f ⊣⊢ iprop(narrowP M c f ∗ edgeP M c f) := by
  unfold edgeP; exact pointsTo_split_subset (narrow_sub M)
/-- The others are not written. -/
theorem narrow_join (f : Held (F := F) c (slotM M 0)) :
    iprop(narrowP M c (landedTail M N c W f) ∗ edgeP M c f) ⊢ slotP M c 0 (landedTail M N c W f) := by
  have h : edgeP M c f ⊢ edgeP M c (landedTail M N c W f) := by
    unfold edgeP
    refine Entails.of_eq (pointsTo_congr fun i hi => (View.writes_apply_of_forall_ne (narrowM M).view _ _ fun y e => ?_).symm)
    exact (Finset.mem_sdiff.mp hi).2 (e ▸ View.emb_mem_set _ y)
  exact (sep_mono .rfl h).trans (narrow_split M c _).2
theorem tail_flight (f : Held (F := F) c (slotM M 0)) :
    iprop(edgeP M c f ∗ narrowFlightP a M N c W f) ⊢ tailFlightP a M N c W f := by
  refine (Transfers.Flight_frame countersEmb (c : Thread nD τ)).trans (Transfers.Flight_mono countersEmb (c : Thread nD τ) ?_)
  iintro ⟨He, Hn, Ht⟩
  isplitl [He Hn]
  · iapply (narrow_join M N c W f); isplitl [Hn]; · iexact Hn
    iexact He
  iexact Ht

end

abbrev slotSet (s : Fin 2) : Finset S2x2048x512.Idx := (Rect.unit (s := S2x2048x512) ![s.val, 0, 0] S1x2048x512.size (slot_inb s)).set
theorem slots_disjoint (s s' : Fin 2) (h : s ≠ s') : Disjoint (slotSet s) (slotSet s') :=
  Ring.lead_disjoint (s := S2x2048x512) (0 : Fin 3) 1 (fun s : Fin 2 => (![s.val, 0, 0] : Fin 3 → Nat)) S1x2048x512.size slot_inb (fun s => by simp) rfl s s' h
theorem slots_cover : Finset.univ.biUnion slotSet = Finset.univ :=
  Ring.lead_cover (s := S2x2048x512) (0 : Fin 3) 1 (fun s : Fin 2 => (![s.val, 0, 0] : Fin 3 → Nat)) S1x2048x512.size slot_inb (fun s => by simp)
    (fun s a ha => by fin_cases a <;> first | exact absurd rfl ha | rfl) rfl (fun a ha => by fin_cases a <;> first | exact absurd rfl ha | rfl) rfl

section
variable (M : Memref sig .tc .vmem S2x2048x512 .f32) (hM : M.IsWhole) (c : Dev nD)
omit [FloatOps F] in
theorem slot_eq (s : Fin 2) (f) : slotP (F := F) M c s f = (M.view.loc (c : Thread nD τ) ↦[(slotSet s).map M.view.emb]{fullShare} f : sProp (Res F)) := by
  have e : (slotM M s).view.set = (slotSet s).map M.view.emb := by simp only [slotM, Memref.view_squeeze, View.set_reshape]; exact View.set_slice _ _
  unfold slotP; rw [e]; rfl
include hM
omit [FloatOps F] in
theorem slots_in : iprop(∃ d, owns (c : Thread nD τ) M fullShare d) ⊢ (iprop((∃ f, slotP (F := F) M c 0 f) ∗ ∃ f, slotP (F := F) M c 1 f) : sProp (Res F)) :=
  parts_in M hM c slotSet slots_disjoint slots_cover (slotP M c 0) (slotP M c 1) (slot_eq M c 0) (slot_eq M c 1)
omit [FloatOps F] in
theorem slots_out : (iprop((∃ f, slotP (F := F) M c 0 f) ∗ ∃ f, slotP (F := F) M c 1 f) : sProp (Res F)) ⊢ iprop(∃ d, owns (c : Thread nD τ) M fullShare d) :=
  parts_out M hM c slotSet slots_disjoint slots_cover (slotP M c 0) (slotP M c 1) (slot_eq M c 0) (slot_eq M c 1)
end

/-- The slots, the cells at zero and the weight make a stream before its first tile, … -/
theorem stream_in (a : Fin 2) (M : Memref sig .tc .vmem S2x2048x512 .f32) (N : Memref sig .tc .hbm S1x2048x5504 .f32) (c : Dev nD) (W : Held (F := F) c N) :
    iprop(((∃ f, slotP (F := F) M c 0 f) ∗ ∃ f, slotP (F := F) M c 1 f) ∗ (cellP a c 0 ∗ cellP a c 1) ∗ heldWhole c N W) ⊢ streamAt a M N c W 0 := by
  unfold streamAt; rw [if_pos rfl, show Ring.sl 2 0 = 0 from rfl, show Ring.sl 2 (0 + 1) = 1 from rfl]
  iintro ⟨⟨⟨%f0, HS0⟩, ⟨%f1, HS1⟩⟩, ⟨H0, H1⟩, HW⟩
  ihave HW' := (halves (F := F) N c W).1 $$ HW
  icases HW' with ⟨HW0, HW1⟩
  isplitl [H0 HS0 HW0]
  · isplitl [H0]; · iexact H0
    iexists f0; isplitl [HS0]; · iexact HS0
    iexact HW0
  · isplitl [H1]; · iexact H1
    iexists f1; isplitl [HS1]; · iexact HS1
    iexact HW1
/-- … and come back after its last. -/
theorem stream_out (a : Fin 2) (M : Memref sig .tc .vmem S2x2048x512 .f32) (N : Memref sig .tc .hbm S1x2048x5504 .f32) (c : Dev nD) (W : Held (F := F) c N) :
    streamAt a M N c W 11 ⊢ iprop(((∃ f, slotP (F := F) M c 0 f) ∗ ∃ f, slotP (F := F) M c 1 f) ∗ (cellP a c 0 ∗ cellP a c 1) ∗ heldWhole c N W) := by
  unfold streamAt
  rw [if_neg (by decide), if_neg (by decide), if_neg (by decide), show Ring.sl 2 11 = 1 from rfl, show Ring.sl 2 (11 + 1) = 0 from rfl]
  iintro ⟨⟨H1, ⟨%f1, HS1, HW1⟩⟩, ⟨H0, ⟨%f0, HS0, HW0⟩⟩⟩
  isplitl [HS0 HS1]
  · isplitl [HS0]; · iexists f0; iexact HS0
    iexists f1; iexact HS1
  isplitl [H0 H1]
  · isplitl [H0]; · iexact H0
    iexact H1
  · iapply (halves (F := F) N c W).2; isplitl [HW0]; · iexact HW0
    iexact HW1
omit [FloatOps F] in
theorem cells_eq (c : Dev nD) : (iprop((cellP (F := F) 0 c 0 ∗ cellP (F := F) 0 c 1) ∗ (cellP (F := F) 1 c 0 ∗ cellP (F := F) 1 c 1)) : sProp (Res F))
    = iprop((semVal ((c : Thread nD τ), SemLoc.dma 4) 0 ∗ semVal ((c : Thread nD τ), SemLoc.dma 6) 0) ∗ (semVal ((c : Thread nD τ), SemLoc.dma 5) 0 ∗ semVal ((c : Thread nD τ), SemLoc.dma 7) 0)) := by
  have h : ∀ (a s : Fin 2) (n), cellL a s = SemLoc.dma n → cellP (F := F) a c s = semVal ((c : Thread nD τ), SemLoc.dma n) 0 :=
    fun a s n e => congrArg (fun x => (semVal ((c : Thread nD τ), x) 0 : sProp (Res F))) e
  rw [h 0 0 4 (by decide), h 0 1 6 (by decide), h 1 0 5 (by decide), h 1 1 7 (by decide)]

/-! ## The slices the kernel computes -/

/-- A slice at offsets equal to a slot's is that slot; likewise a tile and a cell. -/
theorem slot_of (M : Memref sig .tc .vmem S2x2048x512 .f32) {o : Fin 3 → Nat} {s : Fin 2} (h : o = ![s.val, 0, 0]) (hi : ∀ a, o a + S1x2048x512.size a ≤ S2x2048x512.size a) :
    (M.slice (Rect.unit (s := S2x2048x512) o S1x2048x512.size hi) (fun _ => rfl)).squeeze S2048x512 squeezes_S1x2048x512_S2048x512 = slotM M s := by
  subst h; rfl
theorem tile_of (N : Memref sig .tc .hbm S1x2048x5504 .f32) {o : Fin 3 → Nat} {b : Fin 10} (h : o = ![0, 0, 512 * b.val]) (hi : ∀ a, o a + S1x2048x512.size a ≤ S1x2048x5504.size a) :
    (N.slice (Rect.unit (s := S1x2048x5504) o S1x2048x512.size hi) (fun _ => rfl)).squeeze S2048x512 squeezes_S1x2048x512_S2048x512 = tileM N b := by
  subst h; rfl
theorem narrow_of (M : Memref sig .tc .vmem S2x2048x512 .f32) {o : Fin 3 → Nat} (h : o = ![0, 0, 0]) (hi : ∀ a, o a + S1x2048x384.size a ≤ S2x2048x512.size a) :
    (M.slice (Rect.unit (s := S2x2048x512) o S1x2048x384.size hi) (fun _ => rfl)).squeeze S2048x384 squeezes_S1x2048x384_S2048x384 = narrowM M := by
  subst h; rfl
theorem tail_of (N : Memref sig .tc .hbm S1x2048x5504 .f32) {o : Fin 3 → Nat} (h : o = ![0, 0, 5120]) (hi : ∀ a, o a + S1x2048x384.size a ≤ S1x2048x5504.size a) :
    (N.slice (Rect.unit (s := S1x2048x5504) o S1x2048x384.size hi) (fun _ => rfl)).squeeze S2048x384 squeezes_S1x2048x384_S2048x384 = tailM N := by
  subst h; rfl
theorem cell_of (a : Fin 2) {o : Fin 2 → Nat} {s : Fin 2} (h : o = ![s.val, a.val]) (hi : ∀ a, o a + S1x1.size a ≤ S2x2.size a) :
    (cc0_scratch4.slice (Rect.unit (s := S2x2) o S1x1.size hi)).squeeze S_ squeezes_S1x1_S_ = cellA a s := by
  subst h; rfl

set_option synthInstance.maxSize 4096
/-- At the first point the first tiles' slots, cells and columns are literals. -/
@[sl_canon] theorem slot_start (M : Memref sig .tc .vmem S2x2048x512 .f32) (t : Fin cfg0.N) (h0 : First t) (h1 : Start t) :
    (M.slice (Rect.unit (s := S2x2048x512) ![0, 0, 0] S1x2048x512.size inb_S2x2048x512_S1x2048x512_0_0_0) (fun _ => rfl)).squeeze S2048x512 squeezes_S1x2048x512_S2048x512 = slotM M (Ring.sl 2 (tilesDone t.val)) :=
  slot_of M ((by decide +kernel : ∀ t : Fin grid0.N, First t → Start t → (![0, 0, 0] : Fin 3 → Nat) = ![(Ring.sl 2 (tilesDone t.val)).val, 0, 0]) t h0 h1) _
@[sl_canon] theorem tile_start (N : Memref sig .tc .hbm S1x2048x5504 .f32) (t : Fin cfg0.N) (h0 : First t) (h1 : Start t) :
    (N.slice (Rect.unit (s := S1x2048x5504) ![0, 0, 0] S1x2048x512.size inb_S1x2048x5504_S1x2048x512_0_0_0) (fun _ => rfl)).squeeze S2048x512 squeezes_S1x2048x512_S2048x512 = tileM N (Ring.bk 10 (tilesDone t.val)) :=
  tile_of N ((by decide +kernel : ∀ t : Fin grid0.N, First t → Start t → (![0, 0, 0] : Fin 3 → Nat) = ![0, 0, 512 * (Ring.bk 10 (tilesDone t.val)).val]) t h0 h1) _
@[sl_canon] theorem cell_start0 (t : Fin cfg0.N) (h0 : First t) (h1 : Start t) :
    (cc0_scratch4.slice (Rect.unit (s := S2x2) ![0, 0] S1x1.size inb_S2x2_S1x1_0_0)).squeeze S_ squeezes_S1x1_S_ = cellA 0 (Ring.sl 2 (tilesDone t.val)) :=
  cell_of 0 ((by decide +kernel : ∀ t : Fin grid0.N, First t → Start t → (![0, 0] : Fin 2 → Nat) = ![(Ring.sl 2 (tilesDone t.val)).val, (0 : Fin 2).val]) t h0 h1) _
@[sl_canon] theorem cell_start1 (t : Fin cfg0.N) (h0 : First t) (h1 : Start t) :
    (cc0_scratch4.slice (Rect.unit (s := S2x2) ![0, 1] S1x1.size inb_S2x2_S1x1_0_1)).squeeze S_ squeezes_S1x1_S_ = cellA 1 (Ring.sl 2 (tilesDone t.val)) :=
  cell_of 1 ((by decide +kernel : ∀ t : Fin grid0.N, First t → Start t → (![0, 1] : Fin 2 → Nat) = ![(Ring.sl 2 (tilesDone t.val)).val, (1 : Fin 2).val]) t h0 h1) _
/-- The slots, cells and columns of the whole tiles the kernel copies ahead; … -/
@[sl_canon] theorem slot_next (M : Memref sig .tc .vmem S2x2048x512 .f32) (t : Fin cfg0.N) (h0 : First t) (h2 : More t) (h3 : Whole t) :
    (M.slice (Rect.unit (s := S2x2048x512) (k0_off2 (grid0.coords t)) S1x2048x512.size (k0_off2_inb (grid0.coords t) h0 h2 h3)) (fun _ => rfl)).squeeze S2048x512 squeezes_S1x2048x512_S2048x512 = slotM M (Ring.sl 2 (tilesDone t.val + 1)) :=
  slot_of M ((by decide +kernel : ∀ t : Fin grid0.N, First t → More t → Whole t → k0_off2 (grid0.coords t) = ![(Ring.sl 2 (tilesDone t.val + 1)).val, 0, 0]) t h0 h2 h3) _
@[sl_canon] theorem tile_next (N : Memref sig .tc .hbm S1x2048x5504 .f32) (t : Fin cfg0.N) (h0 : First t) (h2 : More t) (h3 : Whole t) :
    (N.slice (Rect.unit (s := S1x2048x5504) (k0_off3 (grid0.coords t)) S1x2048x512.size (k0_off3_inb (grid0.coords t) h0 h2 h3)) (fun _ => rfl)).squeeze S2048x512 squeezes_S1x2048x512_S2048x512 = tileM N (Ring.bk 10 (tilesDone t.val + 1)) :=
  tile_of N ((by decide +kernel : ∀ t : Fin grid0.N, First t → More t → Whole t → k0_off3 (grid0.coords t) = ![0, 0, 512 * (Ring.bk 10 (tilesDone t.val + 1)).val]) t h0 h2 h3) _
@[sl_canon] theorem cell_next0 (t : Fin cfg0.N) (h0 : First t) (h2 : More t) (h3 : Whole t) :
    (cc0_scratch4.slice (Rect.unit (s := S2x2) (k0_off1 (grid0.coords t)) S1x1.size (k0_off1_inb (grid0.coords t) h0 h2 h3))).squeeze S_ squeezes_S1x1_S_ = cellA 0 (Ring.sl 2 (tilesDone t.val + 1)) :=
  cell_of 0 ((by decide +kernel : ∀ t : Fin grid0.N, First t → More t → Whole t → k0_off1 (grid0.coords t) = ![(Ring.sl 2 (tilesDone t.val + 1)).val, (0 : Fin 2).val]) t h0 h2 h3) _
@[sl_canon] theorem cell_next1 (t : Fin cfg0.N) (h0 : First t) (h2 : More t) (h3 : Whole t) :
    (cc0_scratch4.slice (Rect.unit (s := S2x2) (k0_off4 (grid0.coords t)) S1x1.size (k0_off4_inb (grid0.coords t) h0 h2 h3))).squeeze S_ squeezes_S1x1_S_ = cellA 1 (Ring.sl 2 (tilesDone t.val + 1)) :=
  cell_of 1 ((by decide +kernel : ∀ t : Fin grid0.N, First t → More t → Whole t → k0_off4 (grid0.coords t) = ![(Ring.sl 2 (tilesDone t.val + 1)).val, (1 : Fin 2).val]) t h0 h2 h3) _
/-- … of the last tiles it copies ahead; … -/
@[sl_canon] theorem narrow_next (M : Memref sig .tc .vmem S2x2048x512 .f32) (t : Fin cfg0.N) (h0 : First t) (h2 : More t) (h4 : Narrow t) :
    (M.slice (Rect.unit (s := S2x2048x512) (k0_off6 (grid0.coords t)) S1x2048x384.size (k0_off6_inb (grid0.coords t) h0 h2 h4)) (fun _ => rfl)).squeeze S2048x384 squeezes_S1x2048x384_S2048x384 = narrowM M :=
  narrow_of M ((by decide +kernel : ∀ t : Fin grid0.N, First t → More t → Narrow t → k0_off6 (grid0.coords t) = ![0, 0, 0]) t h0 h2 h4) _
@[sl_canon] theorem tail_next (N : Memref sig .tc .hbm S1x2048x5504 .f32) (t : Fin cfg0.N) (h0 : First t) (h2 : More t) (h4 : Narrow t) :
    (N.slice (Rect.unit (s := S1x2048x5504) (k0_off7 (grid0.coords t)) S1x2048x384.size (k0_off7_inb (grid0.coords t) h0 h2 h4)) (fun _ => rfl)).squeeze S2048x384 squeezes_S1x2048x384_S2048x384 = tailM N :=
  tail_of N ((by decide +kernel : ∀ t : Fin grid0.N, First t → More t → Narrow t → k0_off7 (grid0.coords t) = ![0, 0, 5120]) t h0 h2 h4) _
@[sl_canon] theorem cell_tail0 (t : Fin cfg0.N) (h0 : First t) (h2 : More t) (h4 : Narrow t) :
    (cc0_scratch4.slice (Rect.unit (s := S2x2) (k0_off5 (grid0.coords t)) S1x1.size (k0_off5_inb (grid0.coords t) h0 h2 h4))).squeeze S_ squeezes_S1x1_S_ = cellA 0 0 :=
  cell_of 0 ((by decide +kernel : ∀ t : Fin grid0.N, First t → More t → Narrow t → k0_off5 (grid0.coords t) = ![(0 : Fin 2).val, (0 : Fin 2).val]) t h0 h2 h4) _
@[sl_canon] theorem cell_tail1 (t : Fin cfg0.N) (h0 : First t) (h2 : More t) (h4 : Narrow t) :
    (cc0_scratch4.slice (Rect.unit (s := S2x2) (k0_off8 (grid0.coords t)) S1x1.size (k0_off8_inb (grid0.coords t) h0 h2 h4))).squeeze S_ squeezes_S1x1_S_ = cellA 1 0 :=
  cell_of 1 ((by decide +kernel : ∀ t : Fin grid0.N, First t → More t → Narrow t → k0_off8 (grid0.coords t) = ![(0 : Fin 2).val, (1 : Fin 2).val]) t h0 h2 h4) _
/-- … of the whole tiles it waits for; … -/
@[sl_canon] theorem slot_here (M : Memref sig .tc .vmem S2x2048x512 .f32) (t : Fin cfg0.N) (h0 : First t) (h5 : Here t) :
    (M.slice (Rect.unit (s := S2x2048x512) (k0_off10 (grid0.coords t)) S1x2048x512.size (k0_off10_inb (grid0.coords t) h0 h5)) (fun _ => rfl)).squeeze S2048x512 squeezes_S1x2048x512_S2048x512 = slotM M (Ring.sl 2 (tilesDone t.val)) :=
  slot_of M ((by decide +kernel : ∀ t : Fin grid0.N, First t → Here t → k0_off10 (grid0.coords t) = ![(Ring.sl 2 (tilesDone t.val)).val, 0, 0]) t h0 h5) _
@[sl_canon] theorem cell_here0 (t : Fin cfg0.N) (h0 : First t) (h5 : Here t) :
    (cc0_scratch4.slice (Rect.unit (s := S2x2) (k0_off9 (grid0.coords t)) S1x1.size (k0_off9_inb (grid0.coords t) h0 h5))).squeeze S_ squeezes_S1x1_S_ = cellA 0 (Ring.sl 2 (tilesDone t.val)) :=
  cell_of 0 ((by decide +kernel : ∀ t : Fin grid0.N, First t → Here t → k0_off9 (grid0.coords t) = ![(Ring.sl 2 (tilesDone t.val)).val, (0 : Fin 2).val]) t h0 h5) _
@[sl_canon] theorem cell_here1 (t : Fin cfg0.N) (h0 : First t) (h5 : Here t) :
    (cc0_scratch4.slice (Rect.unit (s := S2x2) (k0_off12 (grid0.coords t)) S1x1.size (k0_off12_inb (grid0.coords t) h0 h5))).squeeze S_ squeezes_S1x1_S_ = cellA 1 (Ring.sl 2 (tilesDone t.val)) :=
  cell_of 1 ((by decide +kernel : ∀ t : Fin grid0.N, First t → Here t → k0_off12 (grid0.coords t) = ![(Ring.sl 2 (tilesDone t.val)).val, (1 : Fin 2).val]) t h0 h5) _
/-- … of the last tiles it waits for. -/
@[sl_canon] theorem narrow_here (M : Memref sig .tc .vmem S2x2048x512 .f32) (t : Fin cfg0.N) (h0 : First t) (h6 : Tail t) :
    (M.slice (Rect.unit (s := S2x2048x512) (k0_off14 (grid0.coords t)) S1x2048x384.size (k0_off14_inb (grid0.coords t) h0 h6)) (fun _ => rfl)).squeeze S2048x384 squeezes_S1x2048x384_S2048x384 = narrowM M :=
  narrow_of M ((by decide +kernel : ∀ t : Fin grid0.N, First t → Tail t → k0_off14 (grid0.coords t) = ![0, 0, 0]) t h0 h6) _
@[sl_canon] theorem cell_last0 (t : Fin cfg0.N) (h0 : First t) (h6 : Tail t) :
    (cc0_scratch4.slice (Rect.unit (s := S2x2) (k0_off13 (grid0.coords t)) S1x1.size (k0_off13_inb (grid0.coords t) h0 h6))).squeeze S_ squeezes_S1x1_S_ = cellA 0 0 :=
  cell_of 0 ((by decide +kernel : ∀ t : Fin grid0.N, First t → Tail t → k0_off13 (grid0.coords t) = ![(0 : Fin 2).val, (0 : Fin 2).val]) t h0 h6) _
@[sl_canon] theorem cell_last1 (t : Fin cfg0.N) (h0 : First t) (h6 : Tail t) :
    (cc0_scratch4.slice (Rect.unit (s := S2x2) (k0_off16 (grid0.coords t)) S1x1.size (k0_off16_inb (grid0.coords t) h0 h6))).squeeze S_ squeezes_S1x1_S_ = cellA 1 0 :=
  cell_of 1 ((by decide +kernel : ∀ t : Fin grid0.N, First t → Tail t → k0_off16 (grid0.coords t) = ![(0 : Fin 2).val, (1 : Fin 2).val]) t h0 h6) _
/-- The kernel reads the scratch at the slot it waited for. -/
theorem read_off : ∀ t : Fin grid0.N, First t → k0_off17 (grid0.coords t) = ![(Ring.sl 2 (tilesDone t.val)).val, 0, 0] := by decide +kernel
instance (priority := high) readOff (t : Fin grid0.N) [h0 : Fact (First t)] : ClosedOff (k0_off17 (grid0.coords t)) := ⟨![(Ring.sl 2 (tilesDone t.val)).val, 0, 0], read_off t h0.out⟩

/-- At the last tile this is slot 0. -/
instance (priority := 20000) readLast (t : Fin grid0.N) [h0 : Fact (First t)] [h6 : Fact (Tail t)] : ClosedOff (k0_off17 (grid0.coords t)) :=
  ⟨![(0 : Fin 2).val, 0, 0], (by decide +kernel : ∀ t : Fin grid0.N, First t → Tail t → k0_off17 (grid0.coords t) = ![(0 : Fin 2).val, 0, 0]) t h0.out h6.out⟩

/-! ## One point of the grid -/

set_option maxHeartbeats 2000000 in
/-- The first point: copies the tiles 0 and 1 in, waits for the tiles 0. The found pieces are what the point stores in the result's buffer and in the two buffers of rounded tiles; so in the runs below. -/
def runStart (c : Dev nD) (t : Fin cfg0.N) (arg2 : Memref sig .tc .vmem S1024x2048 .bf16) (harg2 : arg2.IsWhole) (arg5 : Memref sig .tc .vmem S1024x512 .bf16) (harg5 : arg5.IsWhole) (h0 : First t) (h1 : Start t) (h2 : More t) (h3 : Whole t) (h4 : ¬Narrow t) (h5 : Here t) (h6 : ¬Tail t) (h8 : ¬Zeros t)
    (x : Vec F S1024x2048 .bf16) (Wg : Held (F := F) c weightG) (Wu : Held (F := F) c weightU) :
    { L : List (View.Piece (Elt F) S1024x512 .bf16) × List (View.Piece (Elt F) S2048x512 .bf16) × List (View.Piece (Elt F) S2048x512 .bf16) //
      ∀ (Ws : Waits sig Unit) (K : PUnit → sProp (Res F)),
        iprop(owns (c : Thread nD τ) arg2 fullShare x ∗ (∃ d, owns (c : Thread nD τ) arg5 fullShare d) ∗ (∃ d, owns (c : Thread nD τ) workG fullShare d) ∗ (∃ d, owns (c : Thread nD τ) workU fullShare d) ∗ freeS 0 stageG weightG c Wg (Ring.sl 2 (tilesDone t.val)) ∗ freeS 1 stageU weightU c Wu (Ring.sl 2 (tilesDone t.val)) ∗ freeS 0 stageG weightG c Wg (Ring.sl 2 (tilesDone t.val + 1)) ∗ freeS 1 stageU weightU c Wu (Ring.sl 2 (tilesDone t.val + 1)) ∗ owes (c : Thread nD τ) 0 Ws
            ∗ (iprop(owns (c : Thread nD τ) arg2 fullShare x ∗ (∃ f, arg5.view.loc (c : Thread nD τ) ↦[arg5.view.set]{fullShare} arg5.view.writes (Elt F) f L.1) ∗ (∃ f, workG.view.loc (c : Thread nD τ) ↦[workG.view.set]{fullShare} workG.view.writes (Elt F) f L.2.1) ∗ (∃ f, workU.view.loc (c : Thread nD τ) ↦[workU.view.set]{fullShare} workU.view.writes (Elt F) f L.2.2) ∗ fullS 0 stageG weightG c Wg (Ring.sl 2 (tilesDone t.val + 1)) (Ring.bk 10 (tilesDone t.val + 1)) ∗ fullS 1 stageU weightU c Wu (Ring.sl 2 (tilesDone t.val + 1)) (Ring.bk 10 (tilesDone t.val + 1)) ∗ freeS 0 stageG weightG c Wg (Ring.sl 2 (tilesDone t.val)) ∗ freeS 1 stageU weightU c Wu (Ring.sl 2 (tilesDone t.val)) ∗ (∃ Ws', owes (c : Thread nD τ) 0 Ws')) -∗ K ⟨⟩))
          ⊢ wp frame (wpE (defs₀ (F := F)) Variants.none c none) Set.univ (cc0_ffn_up (grid0.coords t) arg2 harg2 weightG (Memref.isWhole_whole _) weightU (Memref.isWhole_whole _) arg5 harg5 stageG (Memref.isWhole_whole _) stageU (Memref.isWhole_whole _) workG (Memref.isWhole_whole _) workU (Memref.isWhole_whole _) cc0_scratch4) K } := by
  refine ⟨⟨?_, ?_, ?_⟩, fun Ws K => ?run⟩
  case run =>
    haveI : Fact (First t) := ⟨h0⟩
    haveI : Fact (Start t) := ⟨h1⟩
    haveI : Fact (More t) := ⟨h2⟩
    haveI : Fact (Whole t) := ⟨h3⟩
    haveI : Fact (¬Narrow t) := ⟨h4⟩
    haveI : Fact (Here t) := ⟨h5⟩
    haveI : Fact (¬Tail t) := ⟨h6⟩
    haveI : Fact (¬Zeros t) := ⟨h8⟩
    simp only [cc0_ffn_up_eq_skeleton]; unfold cc0_ffn_up_skel
    simp only [k0_part1_eq_skeleton]; unfold k0_part1_skel
    have hcanon0 := slot_start stageG t h0 h1
    have hcanon1 := slot_start stageU t h0 h1
    have hcanon2 := tile_start weightG t h0 h1
    have hcanon3 := tile_start weightU t h0 h1
    have hcanon4 := cell_start0 t h0 h1
    have hcanon5 := cell_start1 t h0 h1
    unfold owns
    iintro ⟨⟨%f0, %hf0, H0⟩, ⟨%d1, %f1, -, H1⟩, ⟨%d2, %f2, -, H2⟩, ⟨%d3, %f3, -, H3⟩, ⟨Hcg0, ⟨%fsg0, Hsg0, Hwg0⟩⟩, ⟨Hcu0, ⟨%fsu0, Hsu0, Hwu0⟩⟩, ⟨Hcg1, ⟨%fsg1, Hsg1, Hwg1⟩⟩, ⟨Hcu1, ⟨%fsu1, Hsu1, Hwu1⟩⟩, HW, Hk⟩
    ihave Hspg0 := (split_at weightG c Wg (tilesDone t.val)).1 $$ Hwg0
    icases Hspg0 with ⟨Hhg0, Hrg0⟩
    ihave Hspu0 := (split_at weightU c Wu (tilesDone t.val)).1 $$ Hwu0
    icases Hspu0 with ⟨Hhu0, Hru0⟩
    ihave Hspg1 := (split_at weightG c Wg (tilesDone t.val + 1)).1 $$ Hwg1
    icases Hspg1 with ⟨Hhg1, Hrg1⟩
    ihave Hspu1 := (split_at weightU c Wu (tilesDone t.val + 1)).1 $$ Hwu1
    icases Hspu1 with ⟨Hhu1, Hru1⟩
    obtain rfl := harg2.eq_unread hf0
    sl_exec (disch := first | sl_exact h0 | sl_exact h1 | sl_exact h2 | sl_exact h3 | sl_exact h4 | sl_exact h5 | sl_exact h6 | sl_exact h8)
    sl_step
    iapply Hk
    isplitl [H0]; · iapply owns_back arg2 harg2 c x; iexact H0
    isplitl [H1]; · iexists _; iexact H1
    isplitl [H2]; · iexists _; iexact H2
    isplitl [H3]; · iexists _; iexact H3
    isplitl [Hcg1 Hrg1]
    · iexists _; isplitl [Hcg1]; · iexact Hcg1
      iexact Hrg1
    isplitl [Hcu1 Hru1]
    · iexists _; isplitl [Hcu1]; · iexact Hcu1
      iexact Hru1
    isplitl [Hcg0 Hsg0 Hhg0 Hrg0]
    · isplitl [Hcg0]; · iexact Hcg0
      iexists _; isplitl [Hsg0]; · iexact Hsg0
      iapply (split_at weightG c Wg (tilesDone t.val)).2; isplitl [Hhg0]; · iexact Hhg0
      iexact Hrg0
    isplitl [Hcu0 Hsu0 Hhu0 Hru0]
    · isplitl [Hcu0]; · iexact Hcu0
      iexists _; isplitl [Hsu0]; · iexact Hsu0
      iapply (split_at weightU c Wu (tilesDone t.val)).2; isplitl [Hhu0]; · iexact Hhu0
      iexact Hru0
    iexists _; iexact HW

set_option maxHeartbeats 2000000 in
/-- The first row block of a column block that a whole one follows. -/
def runMiddle (c : Dev nD) (t : Fin cfg0.N) (arg2 : Memref sig .tc .vmem S1024x2048 .bf16) (harg2 : arg2.IsWhole) (arg5 : Memref sig .tc .vmem S1024x512 .bf16) (harg5 : arg5.IsWhole) (h0 : First t) (h1 : ¬Start t) (h2 : More t) (h3 : Whole t) (h4 : ¬Narrow t) (h5 : Here t) (h6 : ¬Tail t) (h8 : ¬Zeros t)
    (x : Vec F S1024x2048 .bf16) (Wg : Held (F := F) c weightG) (Wu : Held (F := F) c weightU) :
    { L : List (View.Piece (Elt F) S1024x512 .bf16) × List (View.Piece (Elt F) S2048x512 .bf16) × List (View.Piece (Elt F) S2048x512 .bf16) //
      ∀ (Ws : Waits sig Unit) (K : PUnit → sProp (Res F)),
        iprop(owns (c : Thread nD τ) arg2 fullShare x ∗ (∃ d, owns (c : Thread nD τ) arg5 fullShare d) ∗ (∃ d, owns (c : Thread nD τ) workG fullShare d) ∗ (∃ d, owns (c : Thread nD τ) workU fullShare d) ∗ fullS 0 stageG weightG c Wg (Ring.sl 2 (tilesDone t.val)) (Ring.bk 10 (tilesDone t.val)) ∗ fullS 1 stageU weightU c Wu (Ring.sl 2 (tilesDone t.val)) (Ring.bk 10 (tilesDone t.val)) ∗ freeS 0 stageG weightG c Wg (Ring.sl 2 (tilesDone t.val + 1)) ∗ freeS 1 stageU weightU c Wu (Ring.sl 2 (tilesDone t.val + 1)) ∗ owes (c : Thread nD τ) 0 Ws
            ∗ (iprop(owns (c : Thread nD τ) arg2 fullShare x ∗ (∃ f, arg5.view.loc (c : Thread nD τ) ↦[arg5.view.set]{fullShare} arg5.view.writes (Elt F) f L.1) ∗ (∃ f, workG.view.loc (c : Thread nD τ) ↦[workG.view.set]{fullShare} workG.view.writes (Elt F) f L.2.1) ∗ (∃ f, workU.view.loc (c : Thread nD τ) ↦[workU.view.set]{fullShare} workU.view.writes (Elt F) f L.2.2) ∗ fullS 0 stageG weightG c Wg (Ring.sl 2 (tilesDone t.val + 1)) (Ring.bk 10 (tilesDone t.val + 1)) ∗ fullS 1 stageU weightU c Wu (Ring.sl 2 (tilesDone t.val + 1)) (Ring.bk 10 (tilesDone t.val + 1)) ∗ freeS 0 stageG weightG c Wg (Ring.sl 2 (tilesDone t.val)) ∗ freeS 1 stageU weightU c Wu (Ring.sl 2 (tilesDone t.val)) ∗ (∃ Ws', owes (c : Thread nD τ) 0 Ws')) -∗ K ⟨⟩))
          ⊢ wp frame (wpE (defs₀ (F := F)) Variants.none c none) Set.univ (cc0_ffn_up (grid0.coords t) arg2 harg2 weightG (Memref.isWhole_whole _) weightU (Memref.isWhole_whole _) arg5 harg5 stageG (Memref.isWhole_whole _) stageU (Memref.isWhole_whole _) workG (Memref.isWhole_whole _) workU (Memref.isWhole_whole _) cc0_scratch4) K } := by
  refine ⟨⟨?_, ?_, ?_⟩, fun Ws K => ?run⟩
  case run =>
    haveI : Fact (First t) := ⟨h0⟩
    haveI : Fact (¬Start t) := ⟨h1⟩
    haveI : Fact (More t) := ⟨h2⟩
    haveI : Fact (Whole t) := ⟨h3⟩
    haveI : Fact (¬Narrow t) := ⟨h4⟩
    haveI : Fact (Here t) := ⟨h5⟩
    haveI : Fact (¬Tail t) := ⟨h6⟩
    haveI : Fact (¬Zeros t) := ⟨h8⟩
    simp only [cc0_ffn_up_eq_skeleton]; unfold cc0_ffn_up_skel
    simp only [k0_part1_eq_skeleton]; unfold k0_part1_skel
    unfold owns
    iintro ⟨⟨%f0, %hf0, H0⟩, ⟨%d1, %f1, -, H1⟩, ⟨%d2, %f2, -, H2⟩, ⟨%d3, %f3, -, H3⟩, ⟨%ffg, Hfg, Hrfg⟩, ⟨%ffu, Hfu, Hrfu⟩, ⟨Hcg1, ⟨%fsg1, Hsg1, Hwg1⟩⟩, ⟨Hcu1, ⟨%fsu1, Hsu1, Hwu1⟩⟩, HW, Hk⟩
    ihave Hspg1 := (split_at weightG c Wg (tilesDone t.val + 1)).1 $$ Hwg1
    icases Hspg1 with ⟨Hhg1, Hrg1⟩
    ihave Hspu1 := (split_at weightU c Wu (tilesDone t.val + 1)).1 $$ Hwu1
    icases Hspu1 with ⟨Hhu1, Hru1⟩
    obtain rfl := harg2.eq_unread hf0
    sl_exec (disch := first | sl_exact h0 | sl_exact h1 | sl_exact h2 | sl_exact h3 | sl_exact h4 | sl_exact h5 | sl_exact h6 | sl_exact h8)
    sl_step
    iapply Hk
    isplitl [H0]; · iapply owns_back arg2 harg2 c x; iexact H0
    isplitl [H1]; · iexists _; iexact H1
    isplitl [H2]; · iexists _; iexact H2
    isplitl [H3]; · iexists _; iexact H3
    isplitl [Hcg1 Hrg1]
    · iexists _; isplitl [Hcg1]; · iexact Hcg1
      iexact Hrg1
    isplitl [Hcu1 Hru1]
    · iexists _; isplitl [Hcu1]; · iexact Hcu1
      iexact Hru1
    isplitl [Hfg Hfg_dst Hfg_src Hrfg]
    · isplitl [Hfg]; · iexact Hfg
      iexists _; isplitl [Hfg_dst]; · iexact Hfg_dst
      iapply (split_at weightG c Wg (tilesDone t.val)).2; isplitl [Hfg_src]; · iexact Hfg_src
      iexact Hrfg
    isplitl [Hfu Hfu_dst Hfu_src Hrfu]
    · isplitl [Hfu]; · iexact Hfu
      iexists _; isplitl [Hfu_dst]; · iexact Hfu_dst
      iapply (split_at weightU c Wu (tilesDone t.val)).2; isplitl [Hfu_src]; · iexact Hfu_src
      iexact Hrfu
    iexists _; iexact HW

set_option maxHeartbeats 2000000 in
/-- The first row block of the last whole column block: copies the narrow tiles in. -/
def runAhead (c : Dev nD) (t : Fin cfg0.N) (arg2 : Memref sig .tc .vmem S1024x2048 .bf16) (harg2 : arg2.IsWhole) (arg5 : Memref sig .tc .vmem S1024x512 .bf16) (harg5 : arg5.IsWhole) (h0 : First t) (h1 : ¬Start t) (h2 : More t) (h3 : ¬Whole t) (h4 : Narrow t) (h5 : Here t) (h6 : ¬Tail t) (h8 : ¬Zeros t)
    (x : Vec F S1024x2048 .bf16) (Wg : Held (F := F) c weightG) (Wu : Held (F := F) c weightU) :
    { L : List (View.Piece (Elt F) S1024x512 .bf16) × List (View.Piece (Elt F) S2048x512 .bf16) × List (View.Piece (Elt F) S2048x512 .bf16) //
      ∀ (Ws : Waits sig Unit) (K : PUnit → sProp (Res F)),
        iprop(owns (c : Thread nD τ) arg2 fullShare x ∗ (∃ d, owns (c : Thread nD τ) arg5 fullShare d) ∗ (∃ d, owns (c : Thread nD τ) workG fullShare d) ∗ (∃ d, owns (c : Thread nD τ) workU fullShare d) ∗ fullS 0 stageG weightG c Wg (Ring.sl 2 (tilesDone t.val)) (Ring.bk 10 (tilesDone t.val)) ∗ fullS 1 stageU weightU c Wu (Ring.sl 2 (tilesDone t.val)) (Ring.bk 10 (tilesDone t.val)) ∗ freeS 0 stageG weightG c Wg 0 ∗ freeS 1 stageU weightU c Wu 0 ∗ owes (c : Thread nD τ) 0 Ws
            ∗ (iprop(owns (c : Thread nD τ) arg2 fullShare x ∗ (∃ f, arg5.view.loc (c : Thread nD τ) ↦[arg5.view.set]{fullShare} arg5.view.writes (Elt F) f L.1) ∗ (∃ f, workG.view.loc (c : Thread nD τ) ↦[workG.view.set]{fullShare} workG.view.writes (Elt F) f L.2.1) ∗ (∃ f, workU.view.loc (c : Thread nD τ) ↦[workU.view.set]{fullShare} workU.view.writes (Elt F) f L.2.2) ∗ tailS 0 stageG weightG c Wg ∗ tailS 1 stageU weightU c Wu ∗ freeS 0 stageG weightG c Wg (Ring.sl 2 (tilesDone t.val)) ∗ freeS 1 stageU weightU c Wu (Ring.sl 2 (tilesDone t.val)) ∗ (∃ Ws', owes (c : Thread nD τ) 0 Ws')) -∗ K ⟨⟩))
          ⊢ wp frame (wpE (defs₀ (F := F)) Variants.none c none) Set.univ (cc0_ffn_up (grid0.coords t) arg2 harg2 weightG (Memref.isWhole_whole _) weightU (Memref.isWhole_whole _) arg5 harg5 stageG (Memref.isWhole_whole _) stageU (Memref.isWhole_whole _) workG (Memref.isWhole_whole _) workU (Memref.isWhole_whole _) cc0_scratch4) K } := by
  refine ⟨⟨?_, ?_, ?_⟩, fun Ws K => ?run⟩
  case run =>
    haveI : Fact (First t) := ⟨h0⟩
    haveI : Fact (¬Start t) := ⟨h1⟩
    haveI : Fact (More t) := ⟨h2⟩
    haveI : Fact (¬Whole t) := ⟨h3⟩
    haveI : Fact (Narrow t) := ⟨h4⟩
    haveI : Fact (Here t) := ⟨h5⟩
    haveI : Fact (¬Tail t) := ⟨h6⟩
    haveI : Fact (¬Zeros t) := ⟨h8⟩
    simp only [cc0_ffn_up_eq_skeleton]; unfold cc0_ffn_up_skel
    simp only [k0_part1_eq_skeleton]; unfold k0_part1_skel
    unfold owns
    iintro ⟨⟨%f0, %hf0, H0⟩, ⟨%d1, %f1, -, H1⟩, ⟨%d2, %f2, -, H2⟩, ⟨%d3, %f3, -, H3⟩, ⟨%ffg, Hfg, Hrfg⟩, ⟨%ffu, Hfu, Hrfu⟩, ⟨Hcg1, ⟨%fsg1, Hsg1, Hwg1⟩⟩, ⟨Hcu1, ⟨%fsu1, Hsu1, Hwu1⟩⟩, HW, Hk⟩
    ihave Hspg1 := (tail_split weightG c Wg).1 $$ Hwg1
    icases Hspg1 with ⟨Hhg1, Hrg1⟩
    ihave Hsng1 := (narrow_split stageG c fsg1).1 $$ Hsg1
    icases Hsng1 with ⟨Hng1, Heg1⟩
    ihave Hspu1 := (tail_split weightU c Wu).1 $$ Hwu1
    icases Hspu1 with ⟨Hhu1, Hru1⟩
    ihave Hsnu1 := (narrow_split stageU c fsu1).1 $$ Hsu1
    icases Hsnu1 with ⟨Hnu1, Heu1⟩
    obtain rfl := harg2.eq_unread hf0
    sl_exec (disch := first | sl_exact h0 | sl_exact h1 | sl_exact h2 | sl_exact h3 | sl_exact h4 | sl_exact h5 | sl_exact h6 | sl_exact h8)
    sl_step
    iapply Hk
    isplitl [H0]; · iapply owns_back arg2 harg2 c x; iexact H0
    isplitl [H1]; · iexists _; iexact H1
    isplitl [H2]; · iexists _; iexact H2
    isplitl [H3]; · iexists _; iexact H3
    isplitl [Hcg1 Heg1 Hrg1]
    · iexists _; isplitl [Hcg1 Heg1]
      · iapply (tail_flight 0 stageG weightG c Wg fsg1); isplitl [Heg1]; · iexact Heg1
        iexact Hcg1
      iexact Hrg1
    isplitl [Hcu1 Heu1 Hru1]
    · iexists _; isplitl [Hcu1 Heu1]
      · iapply (tail_flight 1 stageU weightU c Wu fsu1); isplitl [Heu1]; · iexact Heu1
        iexact Hcu1
      iexact Hru1
    isplitl [Hfg Hfg_dst Hfg_src Hrfg]
    · isplitl [Hfg]; · iexact Hfg
      iexists _; isplitl [Hfg_dst]; · iexact Hfg_dst
      iapply (split_at weightG c Wg (tilesDone t.val)).2; isplitl [Hfg_src]; · iexact Hfg_src
      iexact Hrfg
    isplitl [Hfu Hfu_dst Hfu_src Hrfu]
    · isplitl [Hfu]; · iexact Hfu
      iexists _; isplitl [Hfu_dst]; · iexact Hfu_dst
      iapply (split_at weightU c Wu (tilesDone t.val)).2; isplitl [Hfu_src]; · iexact Hfu_src
      iexact Hrfu
    iexists _; iexact HW

set_option maxHeartbeats 2000000 in
/-- The first row block of the narrow column block; `fg` and `fu` are what the slots held before the narrow tiles came. -/
def runLast (c : Dev nD) (t : Fin cfg0.N) (arg2 : Memref sig .tc .vmem S1024x2048 .bf16) (harg2 : arg2.IsWhole) (arg5 : Memref sig .tc .vmem S1024x512 .bf16) (harg5 : arg5.IsWhole) (h0 : First t) (h1 : ¬Start t) (h2 : ¬More t) (h5 : ¬Here t) (h6 : Tail t) (h8 : Zeros t)
    (x : Vec F S1024x2048 .bf16) (Wg : Held (F := F) c weightG) (Wu : Held (F := F) c weightU) (fg : Held (F := F) c (slotM stageG 0)) (fu : Held (F := F) c (slotM stageU 0)) :
    { L : List (View.Piece (Elt F) S1024x512 .bf16) × List (View.Piece (Elt F) S2048x512 .bf16) × List (View.Piece (Elt F) S2048x512 .bf16) //
      ∀ (Ws : Waits sig Unit) (K : PUnit → sProp (Res F)),
        iprop(owns (c : Thread nD τ) arg2 fullShare x ∗ (∃ d, owns (c : Thread nD τ) arg5 fullShare d) ∗ (∃ d, owns (c : Thread nD τ) workG fullShare d) ∗ (∃ d, owns (c : Thread nD τ) workU fullShare d) ∗ tailFlightP 0 stageG weightG c Wg fg ∗ tailRestP weightG c Wg ∗ tailFlightP 1 stageU weightU c Wu fu ∗ tailRestP weightU c Wu ∗ owes (c : Thread nD τ) 0 Ws
            ∗ (iprop(owns (c : Thread nD τ) arg2 fullShare x ∗ (∃ f, arg5.view.loc (c : Thread nD τ) ↦[arg5.view.set]{fullShare} arg5.view.writes (Elt F) f L.1) ∗ (∃ f, workG.view.loc (c : Thread nD τ) ↦[workG.view.set]{fullShare} workG.view.writes (Elt F) f L.2.1) ∗ (∃ f, workU.view.loc (c : Thread nD τ) ↦[workU.view.set]{fullShare} workU.view.writes (Elt F) f L.2.2) ∗ freeS 0 stageG weightG c Wg 0 ∗ freeS 1 stageU weightU c Wu 0 ∗ (∃ Ws', owes (c : Thread nD τ) 0 Ws')) -∗ K ⟨⟩))
          ⊢ wp frame (wpE (defs₀ (F := F)) Variants.none c none) Set.univ (cc0_ffn_up (grid0.coords t) arg2 harg2 weightG (Memref.isWhole_whole _) weightU (Memref.isWhole_whole _) arg5 harg5 stageG (Memref.isWhole_whole _) stageU (Memref.isWhole_whole _) workG (Memref.isWhole_whole _) workU (Memref.isWhole_whole _) cc0_scratch4) K } := by
  refine ⟨⟨?_, ?_, ?_⟩, fun Ws K => ?run⟩
  case run =>
    haveI : Fact (First t) := ⟨h0⟩
    haveI : Fact (¬Start t) := ⟨h1⟩
    haveI : Fact (¬More t) := ⟨h2⟩
    haveI : Fact (¬Here t) := ⟨h5⟩
    haveI : Fact (Tail t) := ⟨h6⟩
    haveI : Fact (Zeros t) := ⟨h8⟩
    simp only [cc0_ffn_up_eq_skeleton]; unfold cc0_ffn_up_skel
    simp only [k0_part1_eq_skeleton]; unfold k0_part1_skel
    unfold owns
    iintro ⟨⟨%f0, %hf0, H0⟩, ⟨%d1, %f1, -, H1⟩, ⟨%d2, %f2, -, H2⟩, ⟨%d3, %f3, -, H3⟩, Hfg, Hrfg, Hfu, Hrfu, HW, Hk⟩
    obtain rfl := harg2.eq_unread hf0
    sl_exec (disch := first | sl_exact h0 | sl_exact h1 | sl_exact h2 | sl_exact h5 | sl_exact h6 | sl_exact h8)
    sl_step
    iapply Hk
    isplitl [H0]; · iapply owns_back arg2 harg2 c x; iexact H0
    isplitl [H1]; · iexists _; iexact H1
    isplitl [H2]; · iexists _; iexact H2
    isplitl [H3]; · iexists _; iexact H3
    isplitl [Hfg Hfg_dst Hfg_src Hrfg]
    · isplitl [Hfg]; · iexact Hfg
      iexists _; isplitl [Hfg_dst]; · iexact Hfg_dst
      iapply (tail_split weightG c Wg).2; isplitl [Hfg_src]; · iexact Hfg_src
      iexact Hrfg
    isplitl [Hfu Hfu_dst Hfu_src Hrfu]
    · isplitl [Hfu]; · iexact Hfu
      iexists _; isplitl [Hfu_dst]; · iexact Hfu_dst
      iapply (tail_split weightU c Wu).2; isplitl [Hfu_src]; · iexact Hfu_src
      iexact Hrfu
    iexists _; iexact HW

set_option maxHeartbeats 1000000 in
/-- A later row block: the rounded tiles are read where they lie, and nothing is copied. -/
def runLater (c : Dev nD) (t : Fin cfg0.N) (arg2 : Memref sig .tc .vmem S1024x2048 .bf16) (harg2 : arg2.IsWhole) (arg5 : Memref sig .tc .vmem S1024x512 .bf16) (harg5 : arg5.IsWhole) (h0 : ¬First t)
    (x : Vec F S1024x2048 .bf16) (wg wu : Vec F S2048x512 .bf16) :
    { L : List (View.Piece (Elt F) S1024x512 .bf16) //
      ∀ (Ws : Waits sig Unit) (K : PUnit → sProp (Res F)),
        iprop(owns (c : Thread nD τ) arg2 fullShare x ∗ (∃ d, owns (c : Thread nD τ) arg5 fullShare d) ∗ owns (c : Thread nD τ) workG fullShare wg ∗ owns (c : Thread nD τ) workU fullShare wu ∗ owes (c : Thread nD τ) 0 Ws
            ∗ (iprop(owns (c : Thread nD τ) arg2 fullShare x ∗ (∃ f, arg5.view.loc (c : Thread nD τ) ↦[arg5.view.set]{fullShare} arg5.view.writes (Elt F) f L) ∗ owns (c : Thread nD τ) workG fullShare wg ∗ owns (c : Thread nD τ) workU fullShare wu ∗ (∃ Ws', owes (c : Thread nD τ) 0 Ws')) -∗ K ⟨⟩))
          ⊢ wp frame (wpE (defs₀ (F := F)) Variants.none c none) Set.univ (cc0_ffn_up (grid0.coords t) arg2 harg2 weightG (Memref.isWhole_whole _) weightU (Memref.isWhole_whole _) arg5 harg5 stageG (Memref.isWhole_whole _) stageU (Memref.isWhole_whole _) workG (Memref.isWhole_whole _) workU (Memref.isWhole_whole _) cc0_scratch4) K } := by
  refine ⟨?_, fun Ws K => ?run⟩
  case run =>
    haveI : Fact (¬First t) := ⟨h0⟩
    simp only [cc0_ffn_up_eq_skeleton]; unfold cc0_ffn_up_skel
    unfold owns
    iintro ⟨⟨%f0, %hf0, H0⟩, ⟨%d1, %f1, -, H1⟩, ⟨%f2, %hf2, H2⟩, ⟨%f3, %hf3, H3⟩, HW, Hk⟩
    obtain rfl := harg2.eq_unread hf0
    obtain rfl := (Memref.isWhole_whole _ : (workG).IsWhole).eq_unread hf2
    obtain rfl := (Memref.isWhole_whole _ : (workU).IsWhole).eq_unread hf3
    sl_exec (disch := first | sl_exact h0)
    sl_step
    iapply Hk
    isplitl [H0]; · iapply owns_back arg2 harg2 c x; iexact H0
    isplitl [H1]; · iexists _; iexact H1
    isplitl [H2]
    · iexists _; isplitr; · ipureintro; exact (Memref.isWhole_whole _ : (workG).IsWhole).read_unread _
      iexact H2
    isplitl [H3]
    · iexists _; isplitr; · ipureintro; exact (Memref.isWhole_whole _ : (workU).IsWhole).read_unread _
      iexact H3
    iexists _; iexact HW

end Cert.Up

end
-- ==== Proof.UpVals.lean ====
/- What the points of the dense layer's first product store: the two tiles the point waited for, rounded, and the product of the row block with them.
   The last tile has 384 columns; the kernel puts zeros in place of the 128 that are missing. -/
module

public import proofs.«01_k».proof.Proof.UpRing
public import proofs.«01_k».proof.Proof.Spec
public import Idealize.ShloMosaic.Lib.Pipeline.ValueKit.Tiles
public import Idealize.ShloMosaic.Lib.Pipeline.ValueKit.Acc
public import Idealize.ShloMosaic.Lib.VecWindow
public import Idealize.ShloMosaic.Lib.WritesUnit

@[expose] public section

set_option maxRecDepth 16384

noncomputable section

namespace Cert.Up

open Cert.Stream (tilesDone whole_read)
open Cert.Kernel10Ideal Cert.Kernel10Ideal.Gen Cert.Lru
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

section
variable (M : Memref sig .tc .vmem S2x2048x512 .f32) (N : Memref sig .tc .hbm S1x2048x5504 .f32) (c : Dev nD) (W : Held (F := F) c N)

/-- The columns of tile `b`, as they lie in the weight. -/
def tileBlock (b : Fin 10) : Vec F S1x2048x512 .f32 :=
  N.view.readAt (Elt F) (Rect.unit (s := S1x2048x5504) ![0, 0, 512 * b.val] S1x2048x512.size (tile_inb b)).toLoadRect W
/-- The columns of the narrow tile, the last of them repeated. -/
def tailBlock : Vec F S1x2048x512 .f32 := fun y =>
  N.view.read (Elt F) W (ix3 0 (y 1) ⟨min (5120 + (y 2).val) 5503, by omega⟩)
/-- The zero that the kernel puts in the columns past the weight's end. -/
def zeroVal : Elt F .bf16 := k0_pay2 (F := F) (ix2 0 0)
/-- A tile whose last 128 columns are zero. -/
def narrowed (w : Vec F S2048x512 .bf16) : Vec F S2048x512 .bf16 := fun i => if (i 1).val < 384 then w i else zeroVal
/-- Tile `k` as the points of its column block use it. -/
def tileVal (k : ℕ) : Vec F S2048x512 .bf16 :=
  if k < 10 then k0_pay5 (tileBlock N c W (Ring.bk 10 k)) else narrowed (k0_pay5 (tailBlock N c W))

omit [FloatOps F] in
/-- The slot in which tile `b` arrived, read through the whole scratch buffer, holds the tile's columns. -/
theorem landed_read (s : Fin 2) (b : Fin 10) {o : Fin 3 → Nat} (h : o = ![s.val, 0, 0])
    (hi : ∀ a, o a + S1x2048x512.size a ≤ S2x2048x512.size a) (f : Held (F := F) c (slotM M s)) :
    View.readAt (Elt F) M.view (Rect.unit (s := S2x2048x512) o S1x2048x512.size hi).toLoadRect (landed M N c W s b f) = tileBlock N c W b := by
  subst h
  have e : (slotM M s).view.read (Elt F) (landed M N c W s b f) = (tileM N b).view.read (Elt F) W := View.read_writes_whole _ _ _
  funext y
  have q := congrFun e ((Shape.reshapeEquiv (squeezes_S1x2048x512_S2048x512).numel_eq).symm y)
  have l : (slotM M s).view.read (Elt F) (landed M N c W s b f) ((Shape.reshapeEquiv (squeezes_S1x2048x512_S2048x512).numel_eq).symm y)
      = View.readAt (Elt F) M.view (Rect.unit (s := S2x2048x512) ![s.val, 0, 0] S1x2048x512.size hi).toLoadRect (landed M N c W s b f) y :=
    (rfl : _ = View.readAt (Elt F) M.view (Rect.unit (s := S2x2048x512) ![s.val, 0, 0] S1x2048x512.size hi).toLoadRect (landed M N c W s b f)
      (Shape.reshapeEquiv (squeezes_S1x2048x512_S2048x512).numel_eq ((Shape.reshapeEquiv (squeezes_S1x2048x512_S2048x512).numel_eq).symm y))).trans
      (by rw [Equiv.apply_symm_apply])
  have r : (tileM N b).view.read (Elt F) W ((Shape.reshapeEquiv (squeezes_S1x2048x512_S2048x512).numel_eq).symm y) = tileBlock N c W b y :=
    (rfl : _ = tileBlock N c W b
      (Shape.reshapeEquiv (squeezes_S1x2048x512_S2048x512).numel_eq ((Shape.reshapeEquiv (squeezes_S1x2048x512_S2048x512).numel_eq).symm y))).trans
      (by rw [Equiv.apply_symm_apply])
  exact l.symm.trans (q.trans r)

omit [FloatOps F] in
/-- The slot in which the narrow tile arrived holds its columns, as far as they go. -/
theorem landedTail_read (f : Held (F := F) c (slotM M 0)) {o : Fin 3 → Nat} (h : o = ![0, 0, 0])
    (hi : ∀ a, o a + S1x2048x512.size a ≤ S2x2048x512.size a) (y : S1x2048x512.Idx) (hy : (y 2).val < 384) :
    View.readAt (Elt F) M.view (Rect.unit (s := S2x2048x512) o S1x2048x512.size hi).toLoadRect (landedTail M N c W f) y = tailBlock N c W y := by
  subst h
  have e : (narrowM M).view.read (Elt F) (landedTail M N c W f) = (tailM N).view.read (Elt F) W := View.read_writes_whole _ _ _
  have hy0 : (y 0).val = 0 := by have : (y 0).val < 1 := (y 0).isLt; omega
  let z : S1x2048x384.Idx := ix3 0 (y 1) ⟨(y 2).val, hy⟩
  have q := congrFun e ((Shape.reshapeEquiv (squeezes_S1x2048x384_S2048x384).numel_eq).symm z)
  have l : (narrowM M).view.read (Elt F) (landedTail M N c W f) ((Shape.reshapeEquiv (squeezes_S1x2048x384_S2048x384).numel_eq).symm z)
      = View.readAt (Elt F) M.view (Rect.unit (s := S2x2048x512) ![0, 0, 0] S1x2048x384.size edge_inb).toLoadRect (landedTail M N c W f) z :=
    (rfl : _ = View.readAt (Elt F) M.view (Rect.unit (s := S2x2048x512) ![0, 0, 0] S1x2048x384.size edge_inb).toLoadRect (landedTail M N c W f)
      (Shape.reshapeEquiv (squeezes_S1x2048x384_S2048x384).numel_eq ((Shape.reshapeEquiv (squeezes_S1x2048x384_S2048x384).numel_eq).symm z))).trans
      (by rw [Equiv.apply_symm_apply])
  have r : (tailM N).view.read (Elt F) W ((Shape.reshapeEquiv (squeezes_S1x2048x384_S2048x384).numel_eq).symm z)
      = View.readAt (Elt F) N.view (Rect.unit (s := S1x2048x5504) ![0, 0, 5120] S1x2048x384.size tail_inb).toLoadRect W z :=
    (rfl : _ = View.readAt (Elt F) N.view (Rect.unit (s := S1x2048x5504) ![0, 0, 5120] S1x2048x384.size tail_inb).toLoadRect W
      (Shape.reshapeEquiv (squeezes_S1x2048x384_S2048x384).numel_eq ((Shape.reshapeEquiv (squeezes_S1x2048x384_S2048x384).numel_eq).symm z))).trans
      (by rw [Equiv.apply_symm_apply])
  have p := l.symm.trans (q.trans r)
  refine Eq.trans (congrArg (fun i => M.view.read (Elt F) (landedTail M N c W f) i) (?_ : _ = (Rect.unit (s := S2x2048x512) ![0, 0, 0] S1x2048x384.size edge_inb).toLoadRect.idx z))
    (p.trans (congrArg (fun i => N.view.read (Elt F) W i) (?_ : (Rect.unit (s := S1x2048x5504) ![0, 0, 5120] S1x2048x384.size tail_inb).toLoadRect.idx z = _)))
  · funext a
    apply Fin.ext
    match a with
    | ⟨0, _⟩ => show 0 + 1 * (y 0).val = 0 + 1 * 0; omega
    | ⟨1, _⟩ => rfl
    | ⟨2, _⟩ => rfl
  · funext a
    apply Fin.ext
    match a with
    | ⟨0, _⟩ => rfl
    | ⟨1, _⟩ => show 0 + 1 * (y 1).val = (y 1).val; omega
    | ⟨2, _⟩ => show 5120 + 1 * (y 2).val = min (5120 + (y 2).val) 5503; omega
end

/-- The rounded tile's entries are those of the block, rounded. -/
theorem round_congr (v w : Vec F S1x2048x512 .f32) (k : Fin 2048) (l : Fin 512) (h : v (ix3 0 k l) = w (ix3 0 k l)) : k0_pay5 v (ix2 k l) = k0_pay5 w (ix2 k l) := by
  pointwise [k0_pay5]; rw [h]

/-- Two blocks that agree on the first 384 columns give the same narrowed tile. -/
theorem narrowed_congr (v w : Vec F S1x2048x512 .f32) (h : ∀ y : S1x2048x512.Idx, (y 2).val < 384 → v y = w y) :
    narrowed (k0_pay5 v) = narrowed (k0_pay5 w) := by
  funext i
  obtain ⟨k, l, rfl⟩ : ∃ (k : Fin 2048) (l : Fin 512), i = ix2 k l := ⟨i 0, i 1, by funext a; match a with | ⟨0, _⟩ => rfl | ⟨1, _⟩ => rfl⟩
  unfold narrowed
  by_cases hl : l.val < 384
  · rw [if_pos (show (ix2 k l 1).val < 384 from hl), if_pos (show (ix2 k l 1).val < 384 from hl)]; exact round_congr v w k l (h _ hl)
  · rw [if_neg (show ¬(ix2 k l 1).val < 384 from hl), if_neg (show ¬(ix2 k l 1).val < 384 from hl)]

/-- A tile stored whole and then zeros over its last 128 columns read back as the narrowed tile. -/
theorem narrowed_read (M : Memref sig .tc .vmem S2048x512 .bf16) (f : M.view.ty.Contents (Elt F)) {o : Fin 2 → Nat} (h : ∀ a, o a = 0)
    (hi : ∀ a, o a + S2048x512.size a ≤ S2048x512.size a) (hz : ∀ a, (![0, 384] : Fin 2 → Nat) a + S2048x128.size a ≤ S2048x512.size a)
    (w : Vec F S2048x512 .bf16) (z : Vec F S2048x128 .bf16) (e : ∀ j, z j = zeroVal) :
    M.view.read (Elt F) (M.view.writes (Elt F) f [(⟨Rect.unit (s := S2048x512) ![0, 384] S2048x128.size hz, z⟩ : View.Piece (Elt F) S2048x512 .bf16), ⟨Rect.unit (s := S2048x512) o S2048x512.size hi, w⟩]) = narrowed w := by
  funext i
  unfold narrowed
  by_cases hl : (i 1).val < 384
  · rw [if_pos hl, View.read_writes_cons_unit_of_not_mem M.view f hz z _ i rfl 1 (Or.inl hl), whole_read M f h hi w]
  · have hi1 : (i 1).val < 512 := (i 1).isLt
    rw [if_neg hl, View.read_writes_cons_unit_of_mem M.view f hz z _ i (ix2 (i 0) ⟨(i 1).val - 384, by omega⟩) rfl (fun a => ?_), e]
    match a with
    | ⟨0, _⟩ => show (i 0).val = 0 + (i 0).val; omega
    | ⟨1, _⟩ => show (i 1).val = 384 + ((i 1).val - 384); omega
/-- So does a load of the whole tile. -/
theorem narrowed_load (M : Memref sig .tc .vmem S2048x512 .bf16) {o : Fin 2 → Nat} (h : ∀ a, o a = 0)
    (hi : ∀ a, o a + S2048x512.size a ≤ S2048x512.size a) {o' : Fin 2 → Nat} (h' : ∀ a, o' a = 0) (hi' : ∀ a, o' a + S2048x512.size a ≤ S2048x512.size a)
    (hz : ∀ a, (![0, 384] : Fin 2 → Nat) a + S2048x128.size a ≤ S2048x512.size a)
    (w : Vec F S2048x512 .bf16) (z : Vec F S2048x128 .bf16) (e : ∀ j, z j = zeroVal) :
    View.readCov M.view [(⟨Rect.unit (s := S2048x512) ![0, 384] S2048x128.size hz, z⟩ : View.Piece (Elt F) S2048x512 .bf16), ⟨Rect.unit (s := S2048x512) o S2048x512.size hi, w⟩]
      (Rect.unit (s := S2048x512) o' S2048x512.size hi').toLoadRect = narrowed w := by
  unfold View.readCov
  rw [View.readAt_eq_ld, View.ld_unit_zero (S := S2048x512) (by funext a; exact h' a)]
  exact narrowed_read M _ h hi hz w z e

section
variable (c : Dev nD) (t : Fin cfg0.N) (arg2 : Memref sig .tc .vmem S1024x2048 .bf16) (harg2 : arg2.IsWhole) (arg5 : Memref sig .tc .vmem S1024x512 .bf16) (harg5 : arg5.IsWhole)
  (x : Vec F S1024x2048 .bf16) (Wg : Held (F := F) c weightG) (Wu : Held (F := F) c weightU)

/-- What a point stores in the result's buffer. -/
abbrev stored (k : ℕ) : Vec F S1024x512 .bf16 := k0_pay4 x (tileVal weightG c Wg k) (tileVal weightU c Wu k)

omit [FloatOps F] in
theorem block_read : View.readAt (Elt F) arg2.view (Rect.unit (s := S1024x2048) ![0, 0] S1024x2048.size inb_S1024x2048_S1024x2048_0_0).toLoadRect (harg2.unread x) = x := by
  simp only [View.readAt_eq_ld, harg2.read_unread, View.ld_unit_zero (S := S1024x2048) (funext zero2)]
/-- The tile waited for, rounded. -/
theorem tile_here (M : Memref sig .tc .vmem S2x2048x512 .f32) (N : Memref sig .tc .hbm S1x2048x5504 .f32) (W : Held (F := F) c N) (h0 : First t) (h5 : Here t)
    (f : Held (F := F) c (slotM M (Ring.sl 2 (tilesDone t.val)))) {hi} :
    k0_pay5 (View.readAt (Elt F) M.view (Rect.unit (s := S2x2048x512) (k0_off17 (grid0.coords t)) S1x2048x512.size hi).toLoadRect
      (landed M N c W (Ring.sl 2 (tilesDone t.val)) (Ring.bk 10 (tilesDone t.val)) f)) = tileVal N c W (tilesDone t.val) := by
  unfold tileVal
  rw [if_pos (show tilesDone t.val < 10 by have := (here_iff t).mp h5; unfold tilesDone; have := (first_iff t).mp h0; omega)]
  exact congrArg k0_pay5 (landed_read M N c W _ _ (read_off t h0) _ _)

set_option maxHeartbeats 1000000 in
theorem runStart_out (f : arg5.view.ty.Contents (Elt F)) (h0 : First t) (h1 : Start t) (h2 : More t) (h3 : Whole t) (h4 : ¬Narrow t) (h5 : Here t) (h6 : ¬Tail t) (h8 : ¬Zeros t) :
    arg5.view.read (Elt F) (arg5.view.writes (Elt F) f (runStart c t arg2 harg2 arg5 harg5 h0 h1 h2 h3 h4 h5 h6 h8 x Wg Wu).1.1) = stored c x Wg Wu (tilesDone t.val) := by
  unfold runStart; dsimp only; sl_unfold_words
  rw [whole_read arg5 f zero2]
  rw [View.readCov_unit_lit workG.view _ _ zero2, View.readCov_unit_lit workU.view _ _ zero2]
  refine congr (congrArg₂ k0_pay4 (block_read arg2 harg2 x) ?_) ?_
  · exact tile_here c t stageG weightG Wg h0 h5 _
  · exact tile_here c t stageU weightU Wu h0 h5 _
theorem runStart_workG (f : workG.view.ty.Contents (Elt F)) (h0 : First t) (h1 : Start t) (h2 : More t) (h3 : Whole t) (h4 : ¬Narrow t) (h5 : Here t) (h6 : ¬Tail t) (h8 : ¬Zeros t) :
    workG.view.read (Elt F) (workG.view.writes (Elt F) f (runStart c t arg2 harg2 arg5 harg5 h0 h1 h2 h3 h4 h5 h6 h8 x Wg Wu).1.2.1) = tileVal weightG c Wg (tilesDone t.val) := by
  unfold runStart; dsimp only; sl_unfold_words
  rw [whole_read workG f zero2]
  exact tile_here c t stageG weightG Wg h0 h5 _
theorem runStart_workU (f : workU.view.ty.Contents (Elt F)) (h0 : First t) (h1 : Start t) (h2 : More t) (h3 : Whole t) (h4 : ¬Narrow t) (h5 : Here t) (h6 : ¬Tail t) (h8 : ¬Zeros t) :
    workU.view.read (Elt F) (workU.view.writes (Elt F) f (runStart c t arg2 harg2 arg5 harg5 h0 h1 h2 h3 h4 h5 h6 h8 x Wg Wu).1.2.2) = tileVal weightU c Wu (tilesDone t.val) := by
  unfold runStart; dsimp only; sl_unfold_words
  rw [whole_read workU f zero2]
  exact tile_here c t stageU weightU Wu h0 h5 _

set_option maxHeartbeats 1000000 in
theorem runMiddle_out (f : arg5.view.ty.Contents (Elt F)) (h0 : First t) (h1 : ¬Start t) (h2 : More t) (h3 : Whole t) (h4 : ¬Narrow t) (h5 : Here t) (h6 : ¬Tail t) (h8 : ¬Zeros t) :
    arg5.view.read (Elt F) (arg5.view.writes (Elt F) f (runMiddle c t arg2 harg2 arg5 harg5 h0 h1 h2 h3 h4 h5 h6 h8 x Wg Wu).1.1) = stored c x Wg Wu (tilesDone t.val) := by
  unfold runMiddle; dsimp only; sl_unfold_words
  rw [whole_read arg5 f zero2]
  rw [View.readCov_unit_lit workG.view _ _ zero2, View.readCov_unit_lit workU.view _ _ zero2]
  refine congr (congrArg₂ k0_pay4 (block_read arg2 harg2 x) ?_) ?_
  · exact tile_here c t stageG weightG Wg h0 h5 _
  · exact tile_here c t stageU weightU Wu h0 h5 _
theorem runMiddle_workG (f : workG.view.ty.Contents (Elt F)) (h0 : First t) (h1 : ¬Start t) (h2 : More t) (h3 : Whole t) (h4 : ¬Narrow t) (h5 : Here t) (h6 : ¬Tail t) (h8 : ¬Zeros t) :
    workG.view.read (Elt F) (workG.view.writes (Elt F) f (runMiddle c t arg2 harg2 arg5 harg5 h0 h1 h2 h3 h4 h5 h6 h8 x Wg Wu).1.2.1) = tileVal weightG c Wg (tilesDone t.val) := by
  unfold runMiddle; dsimp only; sl_unfold_words
  rw [whole_read workG f zero2]
  exact tile_here c t stageG weightG Wg h0 h5 _
theorem runMiddle_workU (f : workU.view.ty.Contents (Elt F)) (h0 : First t) (h1 : ¬Start t) (h2 : More t) (h3 : Whole t) (h4 : ¬Narrow t) (h5 : Here t) (h6 : ¬Tail t) (h8 : ¬Zeros t) :
    workU.view.read (Elt F) (workU.view.writes (Elt F) f (runMiddle c t arg2 harg2 arg5 harg5 h0 h1 h2 h3 h4 h5 h6 h8 x Wg Wu).1.2.2) = tileVal weightU c Wu (tilesDone t.val) := by
  unfold runMiddle; dsimp only; sl_unfold_words
  rw [whole_read workU f zero2]
  exact tile_here c t stageU weightU Wu h0 h5 _

set_option maxHeartbeats 1000000 in
theorem runAhead_out (f : arg5.view.ty.Contents (Elt F)) (h0 : First t) (h1 : ¬Start t) (h2 : More t) (h3 : ¬Whole t) (h4 : Narrow t) (h5 : Here t) (h6 : ¬Tail t) (h8 : ¬Zeros t) :
    arg5.view.read (Elt F) (arg5.view.writes (Elt F) f (runAhead c t arg2 harg2 arg5 harg5 h0 h1 h2 h3 h4 h5 h6 h8 x Wg Wu).1.1) = stored c x Wg Wu (tilesDone t.val) := by
  unfold runAhead; dsimp only; sl_unfold_words
  rw [whole_read arg5 f zero2]
  rw [View.readCov_unit_lit workG.view _ _ zero2, View.readCov_unit_lit workU.view _ _ zero2]
  refine congr (congrArg₂ k0_pay4 (block_read arg2 harg2 x) ?_) ?_
  · exact tile_here c t stageG weightG Wg h0 h5 _
  · exact tile_here c t stageU weightU Wu h0 h5 _
theorem runAhead_workG (f : workG.view.ty.Contents (Elt F)) (h0 : First t) (h1 : ¬Start t) (h2 : More t) (h3 : ¬Whole t) (h4 : Narrow t) (h5 : Here t) (h6 : ¬Tail t) (h8 : ¬Zeros t) :
    workG.view.read (Elt F) (workG.view.writes (Elt F) f (runAhead c t arg2 harg2 arg5 harg5 h0 h1 h2 h3 h4 h5 h6 h8 x Wg Wu).1.2.1) = tileVal weightG c Wg (tilesDone t.val) := by
  unfold runAhead; dsimp only; sl_unfold_words
  rw [whole_read workG f zero2]
  exact tile_here c t stageG weightG Wg h0 h5 _
theorem runAhead_workU (f : workU.view.ty.Contents (Elt F)) (h0 : First t) (h1 : ¬Start t) (h2 : More t) (h3 : ¬Whole t) (h4 : Narrow t) (h5 : Here t) (h6 : ¬Tail t) (h8 : ¬Zeros t) :
    workU.view.read (Elt F) (workU.view.writes (Elt F) f (runAhead c t arg2 harg2 arg5 harg5 h0 h1 h2 h3 h4 h5 h6 h8 x Wg Wu).1.2.2) = tileVal weightU c Wu (tilesDone t.val) := by
  unfold runAhead; dsimp only; sl_unfold_words
  rw [whole_read workU f zero2]
  exact tile_here c t stageU weightU Wu h0 h5 _

theorem last_tile (h6 : Tail t) (h0 : First t) : tilesDone t.val = 10 := by
  have := (tail_iff t).mp h6; have := (first_iff t).mp h0; have := lt_of_lt_of_eq t.isLt N_0; unfold tilesDone; omega
/-- The narrow tile waited for, rounded and filled up with zeros. -/
theorem tail_here (M : Memref sig .tc .vmem S2x2048x512 .f32) (N : Memref sig .tc .hbm S1x2048x5504 .f32) (W : Held (F := F) c N) (h0 : First t) (h6 : Tail t)
    (f : Held (F := F) c (slotM M 0)) {o : Fin 3 → Nat} (h : o = ![0, 0, 0]) {hi} :
    narrowed (k0_pay5 (View.readAt (Elt F) M.view (Rect.unit (s := S2x2048x512) o S1x2048x512.size hi).toLoadRect
      (landedTail M N c W f))) = tileVal N c W (tilesDone t.val) := by
  unfold tileVal
  rw [if_neg (show ¬tilesDone t.val < 10 by rw [last_tile t h6 h0]; decide)]
  exact narrowed_congr _ _ fun y hy => landedTail_read M N c W f h _ y hy
theorem last_off (h0 : First t) (h6 : Tail t) : k0_off17 (grid0.coords t) = ![0, 0, 0] := by
  rw [read_off t h0, last_tile t h6 h0]; rfl

set_option maxHeartbeats 1000000 in
theorem runLast_out (fg : Held (F := F) c (slotM stageG 0)) (fu : Held (F := F) c (slotM stageU 0)) (f : arg5.view.ty.Contents (Elt F)) (h0 : First t) (h1 : ¬Start t) (h2 : ¬More t) (h5 : ¬Here t) (h6 : Tail t) (h8 : Zeros t) :
    arg5.view.read (Elt F) (arg5.view.writes (Elt F) f (runLast c t arg2 harg2 arg5 harg5 h0 h1 h2 h5 h6 h8 x Wg Wu fg fu).1.1) = stored c x Wg Wu (tilesDone t.val) := by
  unfold runLast; dsimp only; sl_unfold_words
  rw [whole_read arg5 f zero2]
  refine congr (congrArg₂ k0_pay4 (block_read arg2 harg2 x) ?_) ?_
  · exact (narrowed_load workG zero2 _ zero2 _ _ _ _ fun _ => rfl).trans (tail_here c t stageG weightG Wg h0 h6 fg (last_off t h0 h6))
  · exact (narrowed_load workU zero2 _ zero2 _ _ _ _ fun _ => rfl).trans (tail_here c t stageU weightU Wu h0 h6 fu (last_off t h0 h6))
theorem runLast_workG (fg : Held (F := F) c (slotM stageG 0)) (fu : Held (F := F) c (slotM stageU 0)) (f : workG.view.ty.Contents (Elt F)) (h0 : First t) (h1 : ¬Start t) (h2 : ¬More t) (h5 : ¬Here t) (h6 : Tail t) (h8 : Zeros t) :
    workG.view.read (Elt F) (workG.view.writes (Elt F) f (runLast c t arg2 harg2 arg5 harg5 h0 h1 h2 h5 h6 h8 x Wg Wu fg fu).1.2.1) = tileVal weightG c Wg (tilesDone t.val) := by
  unfold runLast; dsimp only; sl_unfold_words
  exact (narrowed_read workG f zero2 _ _ _ _ fun _ => rfl).trans (tail_here c t stageG weightG Wg h0 h6 fg (last_off t h0 h6))
theorem runLast_workU (fg : Held (F := F) c (slotM stageG 0)) (fu : Held (F := F) c (slotM stageU 0)) (f : workU.view.ty.Contents (Elt F)) (h0 : First t) (h1 : ¬Start t) (h2 : ¬More t) (h5 : ¬Here t) (h6 : Tail t) (h8 : Zeros t) :
    workU.view.read (Elt F) (workU.view.writes (Elt F) f (runLast c t arg2 harg2 arg5 harg5 h0 h1 h2 h5 h6 h8 x Wg Wu fg fu).1.2.2) = tileVal weightU c Wu (tilesDone t.val) := by
  unfold runLast; dsimp only; sl_unfold_words
  exact (narrowed_read workU f zero2 _ _ _ _ fun _ => rfl).trans (tail_here c t stageU weightU Wu h0 h6 fu (last_off t h0 h6))

set_option maxHeartbeats 1000000 in
theorem runLater_out (wg wu : Vec F S2048x512 .bf16) (f : arg5.view.ty.Contents (Elt F)) (h0 : ¬First t) :
    arg5.view.read (Elt F) (arg5.view.writes (Elt F) f (runLater c t arg2 harg2 arg5 harg5 h0 x wg wu).1) = k0_pay4 x wg wu := by
  unfold runLater; dsimp only; sl_unfold_words
  rw [whole_read arg5 f zero2]
  refine congr (congrArg₂ k0_pay4 (block_read arg2 harg2 x) ?_) ?_
  · rw [View.readAt_eq_ld, View.ld_unit_zero (S := S2048x512) (funext zero2)]
    exact (Memref.isWhole_whole _ : (workG).IsWhole).read_unread _
  · rw [View.readAt_eq_ld, View.ld_unit_zero (S := S2048x512) (funext zero2)]
    exact (Memref.isWhole_whole _ : (workU).IsWhole).read_unread _
end

end Cert.Up

end
-- ==== Proof.UpFrame.lean ====
/- The run of the dense layer's first product, point by point: before each point the third and fourth scratch buffers hold the two tiles of the
   column block under way, and the first two hold the tiles as the two streams have them; each point leaves its product in the result's block.
   From this the whole run follows, and with it that the arguments end as they began. -/
module

public import proofs.«01_k».proof.Proof.UpVals
public import Idealize.ShloMosaic.Lib.Claim

@[expose] public section

set_option maxRecDepth 16384

noncomputable section

namespace Cert.Up

open Cert.Stream (tilesDone)
open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The streams, as the points find and leave them -/

section
variable (a : Fin 2) (M : Memref sig .tc .vmem S2x2048x512 .f32) (N : Memref sig .tc .hbm S1x2048x5504 .f32) (c : Dev nD) (W : Held (F := F) c N) (k : ℕ)

omit [FloatOps F] in
theorem slot_twice : Ring.sl 2 (k + 1 + 1) = Ring.sl 2 k := Fin.ext (by show (k + 1 + 1) % 2 = k % 2; omega)
omit [FloatOps F] in
theorem slot_val (s : Fin 2) (h : k % 2 = s.val) : Ring.sl 2 k = s := Fin.ext h
omit [FloatOps F] in
theorem stream_first (h : k = 0) : streamAt (F := F) a M N c W k = iprop(freeS a M N c W (Ring.sl 2 k) ∗ freeS a M N c W (Ring.sl 2 (k + 1))) := by
  unfold streamAt; rw [if_pos h]
omit [FloatOps F] in
theorem stream_here (h : 1 ≤ k) (h' : k < 10) : streamAt (F := F) a M N c W k = iprop(fullS a M N c W (Ring.sl 2 k) (Ring.bk 10 k) ∗ freeS a M N c W (Ring.sl 2 (k + 1))) := by
  unfold streamAt; rw [if_neg (by omega), if_pos h']
omit [FloatOps F] in
theorem stream_next (h : k + 1 < 10) : streamAt (F := F) a M N c W (k + 1) = iprop(fullS a M N c W (Ring.sl 2 (k + 1)) (Ring.bk 10 (k + 1)) ∗ freeS a M N c W (Ring.sl 2 k)) := by
  rw [stream_here a M N c W (k + 1) (by omega) h, slot_twice]
omit [FloatOps F] in
theorem stream_ninth (h : k = 9) : streamAt (F := F) a M N c W k = iprop(fullS a M N c W (Ring.sl 2 k) (Ring.bk 10 k) ∗ freeS a M N c W 0) := by
  rw [stream_here a M N c W k (by omega) (by omega), slot_val (k + 1) 0 (by rw [h]; rfl)]
omit [FloatOps F] in
theorem stream_tail (h : k = 9) : streamAt (F := F) a M N c W (k + 1) = iprop(tailS a M N c W ∗ freeS a M N c W (Ring.sl 2 k)) := by
  unfold streamAt; rw [if_neg (by omega), if_neg (by omega), if_pos (by omega), slot_twice]
omit [FloatOps F] in
theorem stream_last (h : k = 10) : streamAt (F := F) a M N c W k = iprop(tailS a M N c W ∗ freeS a M N c W 1) := by
  unfold streamAt; rw [if_neg (by omega), if_neg (by omega), if_pos h, slot_val (k + 1) 1 (by rw [h]; rfl)]
omit [FloatOps F] in
theorem stream_end (h : k = 10) : streamAt (F := F) a M N c W (k + 1) = iprop(freeS a M N c W 1 ∗ freeS a M N c W 0) := by
  unfold streamAt; rw [if_neg (by omega), if_neg (by omega), if_neg (by omega), slot_val (k + 1) 1 (by rw [h]; rfl), slot_val (k + 1 + 1) 0 (by rw [h]; rfl)]
end

/-! ## The invariant and what each point leaves -/

/-- The rounded tiles of the column block under way before point `k`. -/
def workAt (c : Dev nD) (k : ℕ) : sProp (Res F) :=
  if k = 0 then iprop((∃ d, owns (c : Thread nD τ) workG fullShare d) ∗ ∃ d, owns (c : Thread nD τ) workU fullShare d)
  else iprop(owns (c : Thread nD τ) workG fullShare (tileVal weightG c (V m c main_arg1) (tilesDone k - 1)) ∗ owns (c : Thread nD τ) workU fullShare (tileVal weightU c (V m c main_arg2) (tilesDone k - 1)))
/-- Before point `k`. -/
def stateAt (c : Dev nD) (k : ℕ) : sProp (Res F) :=
  iprop(workAt m c k ∗ (∃ r, prngReg c r) ∗ streamAt 0 stageG weightG c (V m c main_arg1) (tilesDone k) ∗ streamAt 1 stageU weightU c (V m c main_arg2) (tilesDone k))
/-- What point `t` leaves in the result's buffer. -/
def product (c : Dev nD) (t : Fin cfg0.N) : Vec F S1024x512 .bf16 :=
  stored c (iblk m c 0 t) (V m c main_arg1) (V m c main_arg2) (t.val / 8)
/-- The run's data: the arrays as found, the row block in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := stateAt m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = stateAt m c t.val := by
  dsimp only [data]; simp only [Fin.val_castSucc]
theorem state_after (c : Dev nD) (t : Fin cfg0.N) : (data m 0 c).Φ t.succ = stateAt m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (outM t) fullShare ((data m 0 c).before 1 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (outM t) fullShare ((data m 0 c).after 1 t))

theorem points : cfg0.N = 88 := N_0

set_option maxHeartbeats 3200000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0]
  rw [leaves_0, leaves_1]
  rw [state_before m c t, state_after m c t]
  unfold Dat.owesAt Pipeline.owesWithin
  rw [show (data m 0 c).owed t.castSucc = 0 from rfl, show (data m 0 c).owed t.succ = 0 from rfl]
  have hN : t.val < 88 := lt_of_lt_of_eq t.isLt points
  unfold stateAt workAt product
  rw [if_neg (show ¬(t.val + 1 = 0) by omega)]
  by_cases h0 : First t
  · have h9 := (first_iff t).mp h0
    have hn : tilesDone (t.val + 1) = tilesDone t.val + 1 := by unfold tilesDone; omega
    have hq : t.val / 8 = tilesDone t.val := by unfold tilesDone; omega
    rw [hn, hq, Nat.add_sub_cancel]
    by_cases h1 : Start t
    · have h7 := (start_iff t).mp h1
      have hk : tilesDone t.val = 0 := by unfold tilesDone; omega
      rw [if_pos (show t.val = 0 by omega)]
      have h2 : More t := (more_iff t).mpr (by omega)
      have h3 : Whole t := (whole_iff t).mpr (by omega)
      have h4 : ¬Narrow t := fun h => absurd ((narrow_iff t).mp h) (by omega)
      have h5 : Here t := (here_iff t).mpr (by omega)
      have h6 : ¬Tail t := fun h => absurd ((tail_iff t).mp h) (by omega)
      have h8 : ¬Zeros t := fun h => absurd ((zeros_iff t).mp h) (by omega)
      rw [stream_first 0 stageG weightG c _ (tilesDone t.val) hk, stream_first 1 stageU weightU c _ (tilesDone t.val) hk, stream_next 0 stageG weightG c _ (tilesDone t.val) (by omega), stream_next 1 stageU weightU c _ (tilesDone t.val) (by omega)]
      iintro ⟨⟨⟨HG, HU⟩, Hg, ⟨Hag, Hbg⟩, ⟨Hau, Hbu⟩⟩, ⟨%W, -, HW⟩, ⟨%d0, H0⟩, ⟨%d1, H1⟩⟩
      iapply ((runStart c t _ _ _ _ h0 h1 h2 h3 h4 h5 h6 h8 (iblk m c 0 t) (V m c main_arg1) (V m c main_arg2)).2 W _)
      isplitl [H0]; · iexact H0
      isplitl [H1]; · iexists _; iexact H1
      isplitl [HG]; · iexact HG
      isplitl [HU]; · iexact HU
      isplitl [Hag]; · iexact Hag
      isplitl [Hau]; · iexact Hau
      isplitl [Hbg]; · iexact Hbg
      isplitl [Hbu]; · iexact Hbu
      isplitl [HW]; · iexact HW
      iintro ⟨H0, ⟨%e1, H1⟩, ⟨%e2, HG⟩, ⟨%e3, HU⟩, Hfg, Hfu, Hkg, Hku, ⟨%W', HW'⟩⟩
      isplitl [HG HU Hg Hfg Hfu Hkg Hku]
      · isplitl [HG HU]
        · isplitl [HG]
          · unfold owns; iexists _; isplitr
            swap; · iexact HG
            ipureintro; exact runStart_workG c t _ _ _ _ _ _ _ _ h0 h1 h2 h3 h4 h5 h6 h8
          unfold owns; iexists _; isplitr
          swap; · iexact HU
          ipureintro; exact runStart_workU c t _ _ _ _ _ _ _ _ h0 h1 h2 h3 h4 h5 h6 h8
        isplitl [Hg]; · iexact Hg
        isplitl [Hfg Hkg]
        · isplitl [Hfg]; · iexact Hfg
          iexact Hkg
        isplitl [Hfu]; · iexact Hfu
        iexact Hku
      isplitl [HW']
      · iexists W'; isplitr; · ipureintro; exact fun _ _ => Or.inl trivial
        iexact HW'
      isplitl [H0]; · iexact H0
      unfold owns; iexists _; isplitr
      swap; · iexact H1
      ipureintro; exact runStart_out c t _ _ _ _ _ _ _ _ h0 h1 h2 h3 h4 h5 h6 h8
    · have h7 : ¬t.val < 8 := fun h => h1 ((start_iff t).mpr h)
      rw [if_neg (show ¬(t.val = 0) by omega)]
      by_cases h3 : Whole t
      · have h10 := (whole_iff t).mp h3
        have hk : 1 ≤ tilesDone t.val := by unfold tilesDone; omega
        have hB : tilesDone t.val + 1 < 10 := by unfold tilesDone; omega
        have h2 : More t := (more_iff t).mpr (by omega)
        have h4 : ¬Narrow t := fun h => absurd ((narrow_iff t).mp h) (by omega)
        have h5 : Here t := (here_iff t).mpr (by omega)
        have h6 : ¬Tail t := fun h => absurd ((tail_iff t).mp h) (by omega)
        have h8 : ¬Zeros t := fun h => absurd ((zeros_iff t).mp h) (by omega)
        rw [stream_here 0 stageG weightG c _ (tilesDone t.val) hk (by omega), stream_here 1 stageU weightU c _ (tilesDone t.val) hk (by omega), stream_next 0 stageG weightG c _ (tilesDone t.val) hB, stream_next 1 stageU weightU c _ (tilesDone t.val) hB]
        iintro ⟨⟨⟨HG, HU⟩, Hg, ⟨Hag, Hbg⟩, ⟨Hau, Hbu⟩⟩, ⟨%W, -, HW⟩, ⟨%d0, H0⟩, ⟨%d1, H1⟩⟩
        iapply ((runMiddle c t _ _ _ _ h0 h1 h2 h3 h4 h5 h6 h8 (iblk m c 0 t) (V m c main_arg1) (V m c main_arg2)).2 W _)
        isplitl [H0]; · iexact H0
        isplitl [H1]; · iexists _; iexact H1
        isplitl [HG]; · iexists _; iexact HG
        isplitl [HU]; · iexists _; iexact HU
        isplitl [Hag]; · iexact Hag
        isplitl [Hau]; · iexact Hau
        isplitl [Hbg]; · iexact Hbg
        isplitl [Hbu]; · iexact Hbu
        isplitl [HW]; · iexact HW
        iintro ⟨H0, ⟨%e1, H1⟩, ⟨%e2, HG⟩, ⟨%e3, HU⟩, Hfg, Hfu, Hkg, Hku, ⟨%W', HW'⟩⟩
        isplitl [HG HU Hg Hfg Hfu Hkg Hku]
        · isplitl [HG HU]
          · isplitl [HG]
            · unfold owns; iexists _; isplitr
              swap; · iexact HG
              ipureintro; exact runMiddle_workG c t _ _ _ _ _ _ _ _ h0 h1 h2 h3 h4 h5 h6 h8
            unfold owns; iexists _; isplitr
            swap; · iexact HU
            ipureintro; exact runMiddle_workU c t _ _ _ _ _ _ _ _ h0 h1 h2 h3 h4 h5 h6 h8
          isplitl [Hg]; · iexact Hg
          isplitl [Hfg Hkg]
          · isplitl [Hfg]; · iexact Hfg
            iexact Hkg
          isplitl [Hfu]; · iexact Hfu
          iexact Hku
        isplitl [HW']
        · iexists W'; isplitr; · ipureintro; exact fun _ _ => Or.inl trivial
          iexact HW'
        isplitl [H0]; · iexact H0
        unfold owns; iexists _; isplitr
        swap; · iexact H1
        ipureintro; exact runMiddle_out c t _ _ _ _ _ _ _ _ h0 h1 h2 h3 h4 h5 h6 h8
      · have h10 : ¬t.val < 72 := fun h => h3 ((whole_iff t).mpr h)
        by_cases h2 : More t
        · have h11 := (more_iff t).mp h2
          have hk : tilesDone t.val = 9 := by unfold tilesDone; omega
          have h4 : Narrow t := (narrow_iff t).mpr (by omega)
          have h5 : Here t := (here_iff t).mpr (by omega)
          have h6 : ¬Tail t := fun h => absurd ((tail_iff t).mp h) (by omega)
          have h8 : ¬Zeros t := fun h => absurd ((zeros_iff t).mp h) (by omega)
          rw [stream_ninth 0 stageG weightG c _ (tilesDone t.val) hk, stream_ninth 1 stageU weightU c _ (tilesDone t.val) hk, stream_tail 0 stageG weightG c _ (tilesDone t.val) hk, stream_tail 1 stageU weightU c _ (tilesDone t.val) hk]
          iintro ⟨⟨⟨HG, HU⟩, Hg, ⟨Hag, Hbg⟩, ⟨Hau, Hbu⟩⟩, ⟨%W, -, HW⟩, ⟨%d0, H0⟩, ⟨%d1, H1⟩⟩
          iapply ((runAhead c t _ _ _ _ h0 h1 h2 h3 h4 h5 h6 h8 (iblk m c 0 t) (V m c main_arg1) (V m c main_arg2)).2 W _)
          isplitl [H0]; · iexact H0
          isplitl [H1]; · iexists _; iexact H1
          isplitl [HG]; · iexists _; iexact HG
          isplitl [HU]; · iexists _; iexact HU
          isplitl [Hag]; · iexact Hag
          isplitl [Hau]; · iexact Hau
          isplitl [Hbg]; · iexact Hbg
          isplitl [Hbu]; · iexact Hbu
          isplitl [HW]; · iexact HW
          iintro ⟨H0, ⟨%e1, H1⟩, ⟨%e2, HG⟩, ⟨%e3, HU⟩, Hfg, Hfu, Hkg, Hku, ⟨%W', HW'⟩⟩
          isplitl [HG HU Hg Hfg Hfu Hkg Hku]
          · isplitl [HG HU]
            · isplitl [HG]
              · unfold owns; iexists _; isplitr
                swap; · iexact HG
                ipureintro; exact runAhead_workG c t _ _ _ _ _ _ _ _ h0 h1 h2 h3 h4 h5 h6 h8
              unfold owns; iexists _; isplitr
              swap; · iexact HU
              ipureintro; exact runAhead_workU c t _ _ _ _ _ _ _ _ h0 h1 h2 h3 h4 h5 h6 h8
            isplitl [Hg]; · iexact Hg
            isplitl [Hfg Hkg]
            · isplitl [Hfg]; · iexact Hfg
              iexact Hkg
            isplitl [Hfu]; · iexact Hfu
            iexact Hku
          isplitl [HW']
          · iexists W'; isplitr; · ipureintro; exact fun _ _ => Or.inl trivial
            iexact HW'
          isplitl [H0]; · iexact H0
          unfold owns; iexists _; isplitr
          swap; · iexact H1
          ipureintro; exact runAhead_out c t _ _ _ _ _ _ _ _ h0 h1 h2 h3 h4 h5 h6 h8
        · have h11 : ¬t.val < 80 := fun h => h2 ((more_iff t).mpr h)
          have hk : tilesDone t.val = 10 := by unfold tilesDone; omega
          have h5 : ¬Here t := fun h => absurd ((here_iff t).mp h) (by omega)
          have h6 : Tail t := (tail_iff t).mpr (by omega)
          have h8 : Zeros t := (zeros_iff t).mpr (by omega)
          rw [stream_last 0 stageG weightG c _ (tilesDone t.val) hk, stream_last 1 stageU weightU c _ (tilesDone t.val) hk, stream_end 0 stageG weightG c _ (tilesDone t.val) hk, stream_end 1 stageU weightU c _ (tilesDone t.val) hk]
          iintro ⟨⟨⟨HG, HU⟩, Hg, ⟨⟨%fg, Hfg, Hrg⟩, Hbg⟩, ⟨⟨%fu, Hfu, Hru⟩, Hbu⟩⟩, ⟨%W, -, HW⟩, ⟨%d0, H0⟩, ⟨%d1, H1⟩⟩
          iapply ((runLast c t _ _ _ _ h0 h1 h2 h5 h6 h8 (iblk m c 0 t) (V m c main_arg1) (V m c main_arg2) fg fu).2 W _)
          isplitl [H0]; · iexact H0
          isplitl [H1]; · iexists _; iexact H1
          isplitl [HG]; · iexists _; iexact HG
          isplitl [HU]; · iexists _; iexact HU
          isplitl [Hfg]; · iexact Hfg
          isplitl [Hrg]; · iexact Hrg
          isplitl [Hfu]; · iexact Hfu
          isplitl [Hru]; · iexact Hru
          isplitl [HW]; · iexact HW
          iintro ⟨H0, ⟨%e1, H1⟩, ⟨%e2, HG⟩, ⟨%e3, HU⟩, Hkg, Hku, ⟨%W', HW'⟩⟩
          isplitl [HG HU Hg Hbg Hbu Hkg Hku]
          · isplitl [HG HU]
            · isplitl [HG]
              · unfold owns; iexists _; isplitr
                swap; · iexact HG
                ipureintro; exact runLast_workG c t _ _ _ _ _ _ _ _ _ _ h0 h1 h2 h5 h6 h8
              unfold owns; iexists _; isplitr
              swap; · iexact HU
              ipureintro; exact runLast_workU c t _ _ _ _ _ _ _ _ _ _ h0 h1 h2 h5 h6 h8
            isplitl [Hg]; · iexact Hg
            isplitl [Hbg Hkg]
            · isplitl [Hbg]; · iexact Hbg
              iexact Hkg
            isplitl [Hbu]; · iexact Hbu
            iexact Hku
          isplitl [HW']
          · iexists W'; isplitr; · ipureintro; exact fun _ _ => Or.inl trivial
            iexact HW'
          isplitl [H0]; · iexact H0
          unfold owns; iexists _; isplitr
          swap; · iexact H1
          ipureintro; exact runLast_out c t _ _ _ _ _ _ _ _ _ _ h0 h1 h2 h5 h6 h8
  · have h9 : ¬t.val % 8 = 0 := fun h => h0 ((first_iff t).mpr h)
    have hn : tilesDone (t.val + 1) = tilesDone t.val := by unfold tilesDone; omega
    have hq : tilesDone t.val - 1 = t.val / 8 := by unfold tilesDone; omega
    rw [hn, hq, if_neg (show ¬(t.val = 0) by omega)]
    iintro ⟨⟨⟨HG, HU⟩, Hg, Hring⟩, ⟨%W, -, HW⟩, ⟨%d0, H0⟩, ⟨%d1, H1⟩⟩
    iapply ((runLater c t _ _ _ _ h0 (iblk m c 0 t) (tileVal weightG c (V m c main_arg1) (t.val / 8)) (tileVal weightU c (V m c main_arg2) (t.val / 8))).2 W _)
    isplitl [H0]; · iexact H0
    isplitl [H1]; · iexists _; iexact H1
    isplitl [HG]; · iexact HG
    isplitl [HU]; · iexact HU
    isplitl [HW]; · iexact HW
    iintro ⟨H0, ⟨%e1, H1⟩, HG, HU, ⟨%W', HW'⟩⟩
    isplitl [HG HU Hg Hring]
    · isplitl [HG HU]
      · isplitl [HG]; · iexact HG
        iexact HU
      isplitl [Hg]; · iexact Hg
      iexact Hring
    isplitl [HW']
    · iexists W'; isplitr; · ipureintro; exact fun _ _ => Or.inl trivial
      iexact HW'
    isplitl [H0]; · iexact H0
    unfold owns; iexists _; isplitr
    swap; · iexact H1
    ipureintro; exact runLater_out c t _ _ _ _ _ _ _ _ h0

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c ownCells [0, 1, 2, 3] (by decide) (by decide)]; rfl
theorem streamed_list (c : Dev nD) :
    (bigSep streamed (fun b => ((c : Thread nD τ).loc b) ↦{fullShare} V m c b) : sProp (Res F)) = iprop(heldWhole c weightG (V m c main_arg1) ∗ heldWhole c weightU (V m c main_arg2)) := by
  rw [BI.bigSep_eq_bigSepL_of_eq [main_arg1, main_arg2] (by decide) (by decide)]; rfl
theorem region_eq (c : Dev nD) :
    (Pipeline.ΦD ownCells spec0 streamed (V m) c : sProp (Res F))
      = iprop(iprop((∃ d, owns (c : Thread nD τ) stageG fullShare d) ∗ (∃ d, owns (c : Thread nD τ) stageU fullShare d) ∗ (∃ d, owns (c : Thread nD τ) workG fullShare d) ∗ (∃ d, owns (c : Thread nD τ) workU fullShare d)) ∗ (∃ r, prngReg c r)
        ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0)
        ∗ iprop(heldWhole c weightG (V m c main_arg1) ∗ heldWhole c weightU (V m c main_arg2))) := by
  rw [Pipeline.ΦD_eq, scopedRest0_eq, cells_list, streamed_list]; simp only [stageG, stageU, workG, workU, owns_whole]; try rfl

theorem region_in (c : Dev nD) : Pipeline.ΦD ownCells spec0 streamed (V m) c ⊢ (data m 0 c).Φ 0 := by
  rw [region_eq, show (data m 0 c).Φ 0 = stateAt m c 0 from rfl]
  unfold stateAt workAt
  rw [show tilesDone 0 = 0 from rfl, if_pos rfl]
  iintro ⟨⟨HG, HU, HwG, HwU⟩, Hg, ⟨Hq4, Hq5, Hq6, Hq7⟩, ⟨Hh1, Hh2⟩⟩
  ihave HG := (slots_in (F := F) stageG (Memref.isWhole_whole _) c) $$ HG
  ihave HU := (slots_in (F := F) stageU (Memref.isWhole_whole _) c) $$ HU
  isplitl [HwG HwU]
  · isplitl [HwG]; · iexact HwG
    iexact HwU
  isplitl [Hg]; · iexact Hg
  ihave Hq := (Entails.of_eq (cells_eq (F := F) c).symm) $$ [Hq4 Hq5 Hq6 Hq7]
  · isplitl [Hq4 Hq6]
    · isplitl [Hq4]; · iexact Hq4
      iexact Hq6
    isplitl [Hq5]; · iexact Hq5
    iexact Hq7
  icases Hq with ⟨Hqg, Hqu⟩
  isplitl [HG Hqg Hh1]
  · iapply (stream_in (F := F) 0 stageG weightG c (V m c main_arg1))
    isplitl [HG]; · iexact HG
    isplitl [Hqg]; · iexact Hqg
    iexact Hh1
  iapply (stream_in (F := F) 1 stageU weightU c (V m c main_arg2))
  isplitl [HU]; · iexact HU
  isplitl [Hqu]; · iexact Hqu
  iexact Hh2
theorem region_out (c : Dev nD) : (data m 0 c).Φ (Fin.last cfg0.N) ⊢ Pipeline.ΦD ownCells spec0 streamed (V m) c := by
  rw [region_eq, show (data m 0 c).Φ (Fin.last cfg0.N) = stateAt m c grid0.N from rfl]
  unfold stateAt workAt
  rw [show (tilesDone grid0.N) = 11 by rw [N_0]; rfl, if_neg (show ¬(grid0.N = 0) by rw [N_0]; decide)]
  iintro ⟨⟨HwG, HwU⟩, Hg, HRg, HRu⟩
  ihave HX := (stream_out (F := F) 0 stageG weightG c (V m c main_arg1)) $$ HRg
  icases HX with ⟨HG, Hqg, Hh1⟩
  ihave HX := (stream_out (F := F) 1 stageU weightU c (V m c main_arg2)) $$ HRu
  icases HX with ⟨HU, Hqu, Hh2⟩
  ihave HG := (slots_out (F := F) stageG (Memref.isWhole_whole _) c) $$ HG
  ihave HU := (slots_out (F := F) stageU (Memref.isWhole_whole _) c) $$ HU
  ihave Hq := (Entails.of_eq (cells_eq (F := F) c)) $$ [Hqg Hqu]
  · isplitl [Hqg]; · iexact Hqg
    iexact Hqu
  icases Hq with ⟨⟨Hq4, Hq6⟩, ⟨Hq5, Hq7⟩⟩
  isplitl [HG HU HwG HwU]
  · isplitl [HG]; · iexact HG
    isplitl [HU]; · iexact HU
    isplitl [HwG]; · iexists _; iexact HwG
    iexists _; iexact HwU
  isplitl [Hg]; · iexact Hg
  isplitl [Hq4 Hq5 Hq6 Hq7]
  · isplitl [Hq4]; · iexact Hq4
    isplitl [Hq5]; · iexact Hq5
    isplitl [Hq6]; · iexact Hq6
    iexact Hq7
  isplitl [Hh1]; · iexact Hh1
  iexact Hh2

theorem main_region (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_region m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((data m 0 c).arrAt_in 0 rfl _).trans (data_A m c 0)),
      (h.1 c).2 main_arg1 (Pipeline.mem_restRefs_of main_arg1 (by decide) (by decide)),
      (h.1 c).2 main_arg2 (Pipeline.mem_restRefs_of main_arg2 (by decide) (by decide))⟩, h.2⟩) (run_quiescent m ρ)

end Cert.Up

end
-- ==== Proof.UpValue.lean ====
/- The result of the dense layer's first product as the kernel leaves it: every block is its own columns, zeros past the weights' end, and the blocks cover the array. -/
module

public import proofs.«01_k».proof.Proof.UpFrame
public import proofs.«01_k».proof.Proof.Target

@[expose] public section

set_option maxRecDepth 16384

noncomputable section

namespace Cert.Up

open Cert.Kernel10Ideal Cert.Kernel10Ideal.Gen Cert.Lru
open Idealize.ShloMosaic Idealize.ShloMosaic.TcCoe Idealize.SL.Sem

variable (m : (ℓ : Loc nD τ sig) → Buf (Elt Ideal) ℓ) (ρ : Dev nD → PrngReg)

/-- The three arguments: the row block's input and the two weights. -/
structure UpArgs where
  x : Arr ⟨2, ![8192, 2048]⟩
  g : Arr ⟨3, ![1, 2048, 5504]⟩
  u : Arr ⟨3, ![1, 2048, 5504]⟩

/-- The kernel's arguments as launched. -/
def kargs (c : Dev nD) : UpArgs where
  x := m ((c : Thread nD τ).loc main_arg0)
  g := m ((c : Thread nD τ).loc main_arg1)
  u := m ((c : Thread nD τ).loc main_arg2)

/-- A row against a column of a weight. -/
def against (x : Arr ⟨2, ![8192, 2048]⟩) (w : Arr ⟨3, ![1, 2048, 5504]⟩) (r : Fin 8192) (q : Fin 5504) : EReal :=
  ∑ k : Fin 2048, x (ix2 r k) * w (ix3 0 k q)
/-- The gated product, `silu(y) z`. -/
def gated (y z : EReal) : EReal := y * Ideal.logistic y * z
/-- The array every result block is cut from: 5504 gated products to a row, then zeros. -/
def target (A : UpArgs) : Arr ⟨2, ![8192, 5632]⟩ := fun i =>
  if h : (i 1).val < 5504 then gated (against A.x A.g (i 0) ⟨(i 1).val, h⟩) (against A.x A.u (i 0) ⟨(i 1).val, h⟩) else 0

/-- A product's entry: the row of the block against the columns of the two tiles. -/
theorem pay_at (x : FVec Ideal S1024x2048 .bf16) (g u : FVec Ideal S2048x512 .bf16) (s : Fin 1024) (l : Fin 512) :
    k0_pay4 (F := Ideal) x g u (ix2 s l) = gated (∑ k : Fin 2048, x (ix2 s k) * g (ix2 k l)) (∑ k : Fin 2048, x (ix2 s k) * u (ix2 k l)) := by
  pointwise [k0_pay4]
  rw [lit_half, half_tanh]
  rfl

theorem zero_val : zeroVal (F := Ideal) = 0 := by
  unfold zeroVal; pointwise [k0_pay2]

theorem round_at (v : FVec Ideal S1x2048x512 .f32) (k : Fin 2048) (l : Fin 512) : k0_pay5 (F := Ideal) v (ix2 k l) = v (ix3 0 k l) := by
  pointwise [k0_pay5]

/-- A tile's entries are the weight's in its columns, as far as the weight goes; … -/
theorem tile_at (N : Memref sig .tc .hbm S1x2048x5504 .f32) (c : Dev nD) (W : Held (F := Ideal) c N) (k : ℕ) (hk : k < 11) (j : Fin 2048) (l : Fin 512) (h : 512 * k + l.val < 5504) :
    tileVal (F := Ideal) N c W k (ix2 j l) = N.view.read (Elt Ideal) W (ix3 0 j ⟨512 * k + l.val, h⟩) := by
  unfold tileVal
  by_cases h' : k < 10
  · rw [if_pos h', round_at]
    unfold tileBlock
    rw [View.readAt_apply]
    congr 1
    funext a
    apply Fin.ext
    match a with
    | ⟨0, _⟩ => rfl
    | ⟨1, _⟩ => show 0 + 1 * j.val = j.val; omega
    | ⟨2, _⟩ => show 512 * (k % 10) + 1 * l.val = 512 * k + l.val; omega
  · rw [if_neg h']
    unfold narrowed
    rw [if_pos (show (ix2 j l 1).val < 384 by show l.val < 384; omega), round_at]
    unfold tailBlock
    congr 1
    funext a
    apply Fin.ext
    match a with
    | ⟨0, _⟩ => rfl
    | ⟨1, _⟩ => rfl
    | ⟨2, _⟩ => show min (5120 + l.val) 5503 = 512 * k + l.val; omega
/-- … and zero past its end. -/
theorem tile_past (N : Memref sig .tc .hbm S1x2048x5504 .f32) (c : Dev nD) (W : Held (F := Ideal) c N) (k : ℕ) (hk : k < 11) (j : Fin 2048) (l : Fin 512) (h : ¬512 * k + l.val < 5504) :
    tileVal (F := Ideal) N c W k (ix2 j l) = 0 := by
  have := l.isLt
  unfold tileVal
  rw [if_neg (by omega)]
  unfold narrowed
  rw [if_neg (show ¬(ix2 j l 1).val < 384 by show ¬l.val < 384; omega), zero_val]

/-! ## The blocks of a grid point: row block `t mod 8`, column block `t / 8` -/

theorem point_lt (t : Fin cfg0.N) : t.val < 88 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

/-- What point `t` leaves, entry by entry. -/
theorem product_at (c : Dev nD) (t : Fin cfg0.N) (s : Fin 1024) (l : Fin 512) :
    product m c t (ix2 s l)
      = target (kargs m c) (ix2 (row t s) ⟨t.val / 8 * 512 + l.val, by have := point_lt t; omega⟩) := by
  have hk : t.val / 8 < 11 := by have := point_lt t; omega
  unfold product
  refine (pay_at _ _ _ s l).trans ?_
  unfold target
  by_cases h : 512 * (t.val / 8) + l.val < 5504
  · rw [dif_pos (show (ix2 (row t s) _ 1).val < 5504 by show t.val / 8 * 512 + l.val < 5504; omega)]
    have e : (⟨512 * (t.val / 8) + l.val, h⟩ : Fin 5504) = ⟨t.val / 8 * 512 + l.val, by omega⟩ := Fin.ext (by show 512 * (t.val / 8) + l.val = t.val / 8 * 512 + l.val; omega)
    refine congrArg₂ gated (Finset.sum_congr rfl fun k _ => ?_) (Finset.sum_congr rfl fun k _ => ?_)
    · rw [blk_0, tile_at weightG c _ _ hk k l h, e]; rfl
    · rw [blk_0, tile_at weightU c _ _ hk k l h, e]; rfl
  · rw [dif_neg (show ¬(ix2 (row t s) _ 1).val < 5504 by show ¬t.val / 8 * 512 + l.val < 5504; omega)]
    refine Eq.trans (congrArg (gated _) (Finset.sum_eq_zero fun k _ => ?_)) (mul_zero _)
    rw [tile_past weightU c _ _ hk k l h, mul_zero]

theorem written (c : Dev nD) (t : Fin cfg0.N) (_ : (cfg0.win 1).flush t = true) :
    (data m 0 c).flushed 1 t = ((cfg0.win 1).blk t).view.read (Elt Ideal) (target (kargs m c)) := by
  show (cfg0.win 1).cut (grid0.coords t) ((data m 0 c).after 1 t) = _
  rw [leaves_1]
  funext j
  rw [View.read_apply]
  obtain ⟨s, l, rfl⟩ : ∃ (s : Fin 1024) (l : Fin 512), j = ix2 s l :=
    ⟨j 0, j 1, by funext a; match a with | ⟨0, _⟩ => rfl | ⟨1, _⟩ => rfl⟩
  refine Eq.trans (product_at m c t s l) ?_
  refine congrArg (target (kargs m c)) ?_
  funext a
  apply Fin.ext
  match a with
  | ⟨0, _⟩ => show t.val % 8 * 1024 + s.val = win0_1.index t 0 * 1024 + 1 * s.val; rw [(idx_1 t).1]; omega
  | ⟨1, _⟩ => show t.val / 8 * 512 + l.val = win0_1.index t 1 * 512 + 1 * l.val; rw [(idx_1 t).2]; omega

/-- The blocks cover the array. -/
theorem final (c : Dev nD) : (data (F := Ideal) m 0 c).arrAt 1 cfg0.N = target (kargs m c) :=
  (data m 0 c).arrAt_eq_of_cover 1 (target (kargs m c)) (written m c) fun i => by
    have h0 : (i 0 : Nat) < 8192 := (i 0).isLt
    have h1 : (i 1 : Nat) < 5632 := (i 1).isLt
    have ht : (i 1 : Nat) / 512 * 8 + (i 0 : Nat) / 1024 < cfg0.N := by rw [show cfg0.N = 88 from N_0]; omega
    refine ⟨⟨_, ht⟩, flush0_1 _, ?_⟩
    show i ∈ ((View.whole main_v0).slice (win0_1.rect ⟨_, ht⟩)).set
    rw [View.set_slice_whole, Rect.mem_set_unit]
    intro a
    match a with
    | ⟨0, _⟩ =>
      show win0_1.index ⟨_, ht⟩ 0 * 1024 ≤ (i 0 : Nat) ∧ (i 0 : Nat) < win0_1.index ⟨_, ht⟩ 0 * 1024 + 1024
      rw [(idx_1 ⟨_, ht⟩).1]; dsimp only; omega
    | ⟨1, _⟩ =>
      show win0_1.index ⟨_, ht⟩ 1 * 512 ≤ (i 1 : Nat) ∧ (i 1 : Nat) < win0_1.index ⟨_, ht⟩ 1 * 512 + 512
      rw [(idx_1 ⟨_, ht⟩).2]; dsimp only; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v0) = target (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 1).trans (final m c),
      ((h c).1 0).trans (((data m 0 c).arrAt_in 0 rfl _).trans (data_A m c 0)),
      (h c).2 main_arg1 (Pipeline.mem_restRefs_of main_arg1 (by decide) (by decide)),
      (h c).2 main_arg2 (Pipeline.mem_restRefs_of main_arg2 (by decide) (by decide))⟩)
    (run_main m ρ)

end Cert.Up

end
-- ==== Proof.UpClaims.lean ====
/- The claims of the dense layer's first product: the frames of its three programs, and the equality of the results. -/
module

public import proofs.«01_k».proof.Defs
public import proofs.«01_k».proof.Proof.UpValue
public import proofs.«01_k».proof.Proof.Gen.Kernel10
public import proofs.«01_k».proof.Proof.Gen.Reference10Ideal.Run
public import Idealize.ShloMosaic.Lib.Quiescent
public import Idealize.ShloMosaic.Lib.Claim
public import Idealize.ShloMosaic.Lib.KernelVsHost

@[expose] public section

set_option maxRecDepth 16384

noncomputable section

namespace Cert.Up

open Idealize.ShloMosaic Idealize.ShloMosaic.TcCoe Idealize.SL.Sem Cert.Lru

/-! ## The reference -/

section
open Cert.Reference10Ideal

variable (m : (ℓ : Loc nD τ sig) → Buf (Elt Ideal) ℓ) (ρ : Dev nD → PrngReg)

/-- The reference's arguments as launched. -/
def rargs (c : Dev nD) : UpArgs where
  x := m ((c : Thread nD τ).loc main_arg0)
  g := m ((c : Thread nD τ).loc main_arg1)
  u := m ((c : Thread nD τ).loc main_arg2)

/-- Columns appended to an array: its own columns first, … -/
theorem pad_inside (x : FVec Ideal S8192x5504 .f32) (v : FVec Ideal S_ .f32) (r : Fin 8192) (l : Fin 5632) (h : l.val < 5504) :
    pad S8192x5632 ![0, 0] ![0, 128] ![0, 0] x v Gen.pads_S8192x5504_S8192x5632_000_01280 Gen.h_S_ (ix2 r l) = x (ix2 r ⟨l.val, h⟩) :=
  pad_apply_of_inside _ _ _ x v _ _ _ _ fun a => by
    match a with
    | ⟨0, _⟩ => show r.val = 0 + r.val * (0 + 1); omega
    | ⟨1, _⟩ => show l.val = 0 + l.val * (0 + 1); omega
/-- … then the appended value. -/
theorem pad_outside (x : FVec Ideal S8192x5504 .f32) (v : FVec Ideal S_ .f32) (r : Fin 8192) (l : Fin 5632) (h : ¬l.val < 5504) :
    pad S8192x5632 ![0, 0] ![0, 128] ![0, 0] x v Gen.pads_S8192x5504_S8192x5632_000_01280 Gen.h_S_ (ix2 r l) = v (Shape.Idx.first Gen.h_S_) :=
  pad_apply_of_not_inside _ _ _ x v _ _ _ 1 fun hin => h (by
    have : (l.val - 0) / (0 + 1) < 5504 := hin.2.2
    omega)

/-- A product's entry, the weight's leading axis of one dropped. -/
theorem against_at (x : FVec Ideal S8192x2048 .bf16) (w : FVec Ideal S1x2048x5504 .f32) (r : Fin 8192) (q : Fin 5504) :
    Host.dotGeneral dot_S8192x2048_S2048x5504_S8192x5504_1_0_0_1_n_n none (extf .f32 x Gen.bitsLt_bf16_f32)
      (shapeCast S2048x5504 w Gen.shapeCasts_S1x2048x5504_S2048x5504) (ix2 r q) = against x w r q := by
  have h : ∀ (k : Fin 2048), shapeCast S2048x5504 w Gen.shapeCasts_S1x2048x5504_S2048x5504 (ix2 k q) = w (ix3 0 k q) := fun k => by pointwise
  have d : ∀ (v : FVec Ideal S2048x5504 .f32), Host.dotGeneral dot_S8192x2048_S2048x5504_S8192x5504_1_0_0_1_n_n none (extf .f32 x Gen.bitsLt_bf16_f32) v (ix2 r q)
      = ∑ k : Fin 2048, x (ix2 r k) * v (ix2 k q) := fun v => by pointwise
  exact (d _).trans (Finset.sum_congr rfl fun k _ => congrArg _ (h k))
/-- The gated product's entry. -/
theorem gated_at (y z : FVec Ideal S8192x5504 .f32) (r : Fin 8192) (q : Fin 5504) :
    mulf (mulf y (Host.divf (broadcastInDim S8192x5504 ![] Gen.bcast_S_S8192x5504 (constant S_ .f32 0x3F800000#32))
      (addf (broadcastInDim S8192x5504 ![] Gen.bcast_S_S8192x5504 (constant S_ .f32 0x3F800000#32)) (Host.exp (Host.negf y))))) z (ix2 r q)
      = gated (y (ix2 r q)) (z (ix2 r q)) := by
  pointwise
  rfl

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v8) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  funext i
  obtain ⟨r, l, rfl⟩ : ∃ (r : Fin 8192) (l : Fin 5632), i = ix2 r l :=
    ⟨i 0, i 1, by funext a; match a with | ⟨0, _⟩ => rfl | ⟨1, _⟩ => rfl⟩
  unfold target
  by_cases hl : l.val < 5504
  · rw [dif_pos (show (ix2 r l 1).val < 5504 from hl)]
    refine Eq.trans (pad_inside _ _ r l hl) ?_
    exact (gated_at _ _ r ⟨l.val, hl⟩).trans (congrArg₂ gated (against_at _ _ r _) (against_at _ _ r _))
  · rw [dif_neg (show ¬(ix2 r l 1).val < 5504 from hl)]
    refine Eq.trans (pad_outside _ _ r l hl) ?_
    show ((((0#32 : BitVec 32).toInt : ℤ) : ℝ) : EReal) = 0
    simp

end

/-! ## The frames -/

/-- The two printings of the kernel have the same bodies, … -/
theorem bodies_eq {F : FTy → Type} [FloatOps F] : @Cert.Kernel10.defs₀ F _ _ = @Cert.Kernel10Ideal.defs₀ F _ _ := by
  unfold Cert.Kernel10.defs₀ Cert.Kernel10Ideal.defs₀
  refine congrArg Defs.onTc (funext fun l => funext fun p => ?_)
  match l, p with
  | 0, (t, s) => rfl
/-- … so the same definitions. -/
theorem defs_eq {F : FTy → Type} [FloatOps F] : @Cert.Kernel10.defs F _ _ = @Cert.Kernel10Ideal.defs F _ _ :=
  congrArg (Pipeline.defs Cert.Kernel10Ideal.pcfgs) bodies_eq

theorem frame : Cert.quiescent_Kernel10 := fun m ρ _ => by
  rw [defs_eq]; exact frame_any (F := Bits) m ρ

theorem frameIdeal : Cert.quiescent_Kernel10Ideal := fun m ρ _ => frame_any (F := Ideal) m ρ

theorem frameRef : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

/-- Both programs end at the target of arguments that agree. -/
theorem algebraic : Cert.algebraic_Kernel10Ideal_Reference10Ideal := by
  intro m ρ m' ρ' _ hagree
  refine ⟨fun c => target (kargs m c), run_target m ρ, ?_⟩
  have h : ∀ c, rargs m' c = kargs m c := fun c => by
    obtain ⟨h0, h1, h2⟩ := hagree c
    unfold rargs kargs
    rw [h0, h1, h2]
  exact (θ_run Cert.Reference10Ideal.defs _ _).mono (fun _ r c => ⟨(r c).1.trans (congrArg target (h c)), (r c).2⟩) (ref_target m' ρ')

end Cert.Up

end
-- ==== Proof.QueriesRing.lean ====
/- The streamed weight of the queries' projection: rows 0 … 2047 of the weight, in 2 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel11Ideal
public import proofs.«01_k».proof.Proof.Gen.Kernel11Ideal.Frame
public import proofs.«01_k».proof.Proof.Gen.Kernel11Ideal.Skeleton

@[expose] public section

set_option maxRecDepth 16384

noncomputable section

namespace Cert.Queries

open Cert.Kernel11Ideal Cert.Kernel11Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 8 :=
  (by decide +kernel : ∀ t : Fin grid0.N, More t ↔ t.val < 8)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .f32 := win0_0.stage (cfg0.slots t 0)
abbrev xMWhole (t : Fin cfg0.N) : (xM t).IsWhole := hstage0_0 ((cfg0.slots t 0).cast nbuf0_0)
abbrev cosM (t : Fin cfg0.N) : Memref sig .tc .vmem S1024x128 .f32 := win0_1.stage (cfg0.slots t 1)
abbrev cosMWhole (t : Fin cfg0.N) : (cosM t).IsWhole := hstage0_1 ((cfg0.slots t 1).cast nbuf0_1)
abbrev sinM (t : Fin cfg0.N) : Memref sig .tc .vmem S1024x128 .f32 := win0_2.stage (cfg0.slots t 2)
abbrev sinMWhole (t : Fin cfg0.N) : (sinM t).IsWhole := hstage0_2 ((cfg0.slots t 2).cast nbuf0_2)
abbrev outM (t : Fin cfg0.N) : Memref sig .tc .vmem S8x1024x128 .bf16 := win0_3.stage (cfg0.slots t 3)
abbrev outMWhole (t : Fin cfg0.N) : (outM t).IsWhole := hstage0_3 ((cfg0.slots t 3).cast nbuf0_3)

/-- The stream. -/
abbrev stream : Streamed sig 2 where
  stage := stageM
  stage_whole := Memref.isWhole_whole _
  weight := weightM
  cells := cc0_scratch2
  layer := 0
  off := 0
  layer_lt := by decide
  off_le := by decide

/-- The kernel's own two semaphore cells. -/
abbrev ownCells : Fin 2 → SemLoc sig := fun j => (![SemLoc.dma 8, SemLoc.dma 9] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 8 := by decide
theorem cellL_1 : stream.cellL 1 = SemLoc.dma 9 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![0, 0, 0] S1x1024x2048.size inb_S2x16464x2048_S1x1024x2048_0_0_0) (fun _ => rfl)).squeeze S1024x2048 squeezes_S1x1024x2048_S1024x2048 = stream.tileM (Ring.bk 2 (tilesDone t.val)) :=
  stream.tile_of ((by decide +kernel : ∀ t : Fin grid0.N, First t → Start t → (![0, 0, 0] : Fin 3 → Nat) = ![0, 1024 * (Ring.bk 2 (tilesDone t.val)).val + 0, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 2 (tilesDone t.val + 1)) :=
  stream.tile_of ((by decide +kernel : ∀ t : Fin grid0.N, First t → More t → k0_off3 (grid0.coords t) = ![0, 1024 * (Ring.bk 2 (tilesDone t.val + 1)).val + 0, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .f32) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole) :=
  cc0_proj_heads (F := F) (grid0.coords t) arg2 harg2 (Memref.whole main_v0) (Memref.isWhole_whole _) arg4 harg4 arg5 harg5 arg6 harg6 stageM (Memref.isWhole_whole _) workM
    (Memref.isWhole_whole _) cc0_scratch2

section
variable (c : Dev nD) (t : Fin cfg0.N) (arg2 : Memref sig .tc .vmem S1024x2048 .f32) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole)
variable (x : Vec F S1024x2048 .f32) (C D : Vec F S1024x128 .f32) (W : Stream.Held (τ := τ) F c weightM)

/-- What the body reads at a point and leaves alone: the row block and its rows of the two tables. -/
abbrev reads : sProp (Res F) :=
  iprop(owns (c : Thread nD τ) arg2 fullShare x ∗ owns (c : Thread nD τ) arg4 fullShare C ∗ owns (c : Thread nD τ) arg5 fullShare D)

def runStart (h0 : First t) (h1 : Start t) (h2 : More t) :
    Stream.StartRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_heads_eq_skeleton]; unfold cc0_proj_heads_skel
    simp only [k0_part1_eq_skeleton, k0_part2_eq_skeleton]; unfold k0_part1_skel k0_part2_skel
    have hcanon0 := slot_start t h0 h1
    have hcanon1 := cell_start t h0 h1
    have hcanon2 := tile_start t h0 h1
    unfold reads owns Ring.free Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_heads_eq_skeleton]; unfold cc0_proj_heads_skel
    simp only [k0_part1_eq_skeleton, k0_part2_eq_skeleton]; unfold k0_part1_skel k0_part2_skel
    unfold reads owns Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_heads_eq_skeleton]; unfold cc0_proj_heads_skel
    simp only [k0_part1_eq_skeleton, k0_part2_eq_skeleton]; unfold k0_part1_skel k0_part2_skel
    unfold reads owns Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨%ff, Hf, Hrf⟩, HW, Hk⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4 arg5 harg5 arg6 harg6) c (reads c arg2 arg4 arg5 x C D) arg6 w := by
  refine ⟨?_, fun Ws K => ?run⟩
  case run =>
    haveI : Fact (¬First t) := ⟨h0⟩
    simp only [body, cc0_proj_heads_eq_skeleton]; unfold cc0_proj_heads_skel
    simp only [k0_part1_eq_skeleton, k0_part2_eq_skeleton]; unfold k0_part1_skel k0_part2_skel
    unfold reads owns
    iintro ⟨⟨⟨%f0, %hf0, H0⟩, ⟨%fC, %hC, HC⟩, ⟨%fD, %hD, HD⟩⟩, ⟨%d1, %f1, -, H1⟩, ⟨%f2, %hf2, H2⟩, HW, Hk⟩
    obtain rfl := harg2.eq_unread hf0
    obtain rfl := harg4.eq_unread hC
    obtain rfl := harg5.eq_unread hD
    obtain rfl := (Memref.isWhole_whole _ : (workM).IsWhole).eq_unread hf2
    sl_exec (disch := first | sl_exact h0)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iapply owns_back workM (Memref.isWhole_whole _) c w; iexact H2
    iexists _; iexact HW

end

end Cert.Queries

end
-- ==== Proof.Heads.lean ====
/- The heads of a projection: a block of 1024 columns is eight heads of 128, each turned by two tables, and each stored as a slab of its own. -/
module

public import proofs.«01_k».proof.Proof.Stream
public import proofs.«01_k».proof.Proof.Proj

@[expose] public section

set_option maxRecDepth 16384

noncomputable section

namespace Cert.Heads

open Idealize.ShloMosaic Idealize.ShloMosaic.TcCoe Idealize.ShloMosaic.Tactic Cert.Stream Cert.Proj Cert.Lru

abbrev Block : Shape := ⟨2, ![1024, 1024]⟩
abbrev Table : Shape := ⟨2, ![1024, 128]⟩
abbrev Slab : Shape := ⟨3, ![1, 1024, 128]⟩
abbrev Slabs : Shape := ⟨3, ![8, 1024, 128]⟩

variable {F : FTy → Type} [FloatOps F]

theorem cut_inb : ∀ h : Fin 8, Block.Slices ![0, 128 * h.val] Table := by decide
/-- A head's columns, turned: times the first table, plus the same with its halves exchanged times the second. -/
def turned (y C D : FVec F Table .f32) : FVec F Slab .bf16 :=
  shapeCast Slab (truncf .bf16 (addf (mulf y C) (mulf (dynamicRotate 1 64#32 none y (by decide)) D)) (by decide)) (by decide)
/-- Head `h` of a block. -/
def head (a : FVec F Block .f32) (C D : FVec F Table .f32) (h : Fin 8) : FVec F Slab .bf16 :=
  turned (extractStridedSlice Table ![0, 128 * h.val] a (cut_inb h)) C D
/-- The eight heads of a block. -/
def heads (a : FVec F Block .f32) (C D : FVec F Table .f32) : FVec F Slabs .bf16 := fun i => head a C D (i 0) (ix3 0 (i 1) (i 2))

theorem slab_inb (h : Fin 8) : ∀ a, (![h.val, 0, 0] : Fin 3 → Nat) a + Slab.size a ≤ Slabs.size a := by revert h; decide
/-- The piece of head `h`. -/
abbrev piece (v : Fin 8 → FVec F Slab .bf16) (h : Fin 8) : View.Piece (Elt F) Slabs .bf16 := ⟨Rect.unit ![h.val, 0, 0] Slab.size (slab_inb h), v h⟩

/-- Eight slabs stored over anything read back as they are. -/
theorem slabs_read {sig : RefSig} (M : Memref sig .tc .vmem Slabs .bf16) (v : Fin 8 → FVec F Slab .bf16) :
    Leaves M [piece v 7, piece v 6, piece v 5, piece v 4, piece v 3, piece v 2, piece v 1, piece v 0] (fun i => v (i 0) (ix3 0 (i 1) (i 2))) := by
  intro f
  funext i
  have hi : (piece v (i 0)).1.emb (ix3 0 (i 1) (i 2)) = i := by
    funext a
    apply Fin.ext
    match a with
    | ⟨0, _⟩ => show (i 0).val + 1 * 0 = (i 0).val; omega
    | ⟨1, _⟩ => show 0 + 1 * (i 1).val = (i 1).val; omega
    | ⟨2, _⟩ => show 0 + 1 * (i 2).val = (i 2).val; omega
  have hL : ([piece v 7, piece v 6, piece v 5, piece v 4, piece v 3, piece v 2, piece v 1, piece v 0] : List (View.Piece (Elt F) Slabs .bf16))
      = ([7, 6, 5, 4, 3, 2, 1, 0] : List (Fin 8)).map (piece v) := rfl
  rw [hL]
  refine Eq.trans (congrArg _ hi.symm) (View.read_writes_of_unique M.view f (piece v (i 0)) (ix3 0 (i 1) (i 2)) _
    (List.mem_map_of_mem ((by decide : ∀ h : Fin 8, h ∈ ([7, 6, 5, 4, 3, 2, 1, 0] : List (Fin 8))) (i 0))) fun q hq hm => ?_)
  obtain ⟨h, -, rfl⟩ := List.mem_map.mp hq
  rw [hi, Rect.mem_set_unit] at hm
  have := hm 0
  exact congrArg (piece v) (Fin.ext (by have h1 : h.val ≤ (i 0).val := this.1; have h2 : (i 0).val < h.val + 1 := this.2; omega))

/-- The eight heads of a block of a projection, entry by entry. -/
theorem heads_at (a : FVec Ideal Block .f32) (C D : FVec Ideal Table .f32) (h : Fin 8) (s : Fin 1024) (l : Fin 128) :
    heads a C D (ix3 h s l) = a (ix2 s ⟨128 * h.val + l.val, by omega⟩) * C (ix2 s l)
      + a (ix2 s ⟨128 * h.val + (l.val + 64) % 128, by omega⟩) * D (ix2 s l) := by
  show head a C D h (ix3 0 s l) = _
  pointwise [head, turned]
  simp only [show l.val + 128 - 64 = l.val + 64 by omega]

/-! ## What the heads are -/

/-- The arguments: the layer's input, the in-projections' weights, and the two tables of the rotation. -/
structure HeadArgs extends ProjArgs where
  cos : Arr ⟨2, ![8192, 128]⟩
  sin : Arr ⟨2, ![8192, 128]⟩

/-- Heads of 128 columns of a layer's in-projection, from column `off` on, each row turned by the tables. -/
def rotated (layer : Fin 2) (off n : Nat) (hn : off + 128 * n ≤ 16464) (A : HeadArgs) : Arr ⟨3, ![n, 8192, 128]⟩ := fun i =>
  have h : (i 0).val < n := (i 0).isLt
  have l : (i 2).val < 128 := (i 2).isLt
  column A.toProjArgs layer (i 1) ⟨off + (128 * (i 0).val + (i 2).val), by omega⟩ * A.cos (ix2 (i 1) (i 2))
    + column A.toProjArgs layer (i 1) ⟨off + (128 * (i 0).val + ((i 2).val + 64) % 128), by omega⟩ * A.sin (ix2 (i 1) (i 2))

/-- The sixteen heads from the first column on, half by half. -/
theorem rotated_halves (layer : Fin 2) (A : HeadArgs) (h : Fin 16) (r : Fin 8192) (l : Fin 128) :
    (if hl : l.val < 64 then
      (∑ k : Fin 2048, A.x (ix2 r k) * A.w (ix3 layer k ⟨h.val * 128 + l.val, by omega⟩)) * A.cos (ix2 r l)
        + (∑ k : Fin 2048, A.x (ix2 r k) * A.w (ix3 layer k ⟨h.val * 128 + (64 + l.val), by omega⟩)) * A.sin (ix2 r l)
    else
      (∑ k : Fin 2048, A.x (ix2 r k) * A.w (ix3 layer k ⟨h.val * 128 + (64 + (l.val - 64)), by omega⟩)) * A.cos (ix2 r ⟨64 + (l.val - 64), by omega⟩)
        + (∑ k : Fin 2048, A.x (ix2 r k) * A.w (ix3 layer k ⟨h.val * 128 + (l.val - 64), by omega⟩)) * A.sin (ix2 r ⟨64 + (l.val - 64), by omega⟩))
      = rotated layer 0 16 (by omega) A (ix3 h r l) := by
  have col (p q : Fin 16464) (hpq : p.val = q.val) :
      (∑ k : Fin 2048, A.x (ix2 r k) * A.w (ix3 layer k p)) = column A.toProjArgs layer r q := by
    rw [Fin.ext hpq]; rfl
  unfold rotated
  split
  · refine congrArg₂ (· + ·) (congrArg (· * _) (col _ _ ?_)) (congrArg (· * _) (col _ _ ?_))
    · show h.val * 128 + l.val = 0 + (128 * h.val + l.val); omega
    · show h.val * 128 + (64 + l.val) = 0 + (128 * h.val + (l.val + 64) % 128); omega
  · have hq : (⟨64 + (l.val - 64), by omega⟩ : Fin 128) = l := Fin.ext (by show 64 + (l.val - 64) = l.val; omega)
    rw [hq]
    refine congrArg₂ (· + ·) (congrArg (· * _) (col _ _ ?_)) (congrArg (· * _) (col _ _ ?_))
    · show h.val * 128 + (64 + (l.val - 64)) = 0 + (128 * h.val + l.val); omega
    · show h.val * 128 + (l.val - 64) = 0 + (128 * h.val + (l.val + 64) % 128); omega

end Cert.Heads

end
-- ==== Proof.QueriesVals.lean ====
/- What the points of the queries' projection store: the tile the point waited for, rounded, and the heads of the product of the row block with it. -/
module

public import proofs.«01_k».proof.Proof.QueriesRing
public import proofs.«01_k».proof.Proof.Heads
public import Idealize.ShloMosaic.Lib.Pipeline.ValueKit.Acc

@[expose] public section

set_option maxHeartbeats 1000000
set_option maxRecDepth 16384

noncomputable section

namespace Cert.Queries

open Cert.Kernel11Ideal Cert.Kernel11Ideal.Gen Cert.Stream Cert.Heads
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 2) : Vec F S1024x2048 .bf16 := k0_pay4 (stream.tileBlock c W b)

/-- What a point stores: the eight heads of the product of the row block and the tile. -/
def turnedProduct (x : Vec F S1024x2048 .f32) (C D : Vec F S1024x128 .f32) (w : Vec F S1024x2048 .bf16) : Vec F S8x1024x128 .bf16 :=
  heads (k0_pay5 x w) C D

section
variable (c : Dev nD) (t : Fin cfg0.N) (arg2 : Memref sig .tc .vmem S1024x2048 .f32) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole)
  (x : Vec F S1024x2048 .f32) (C D : Vec F S1024x128 .f32) (W : Stream.Held (τ := τ) F c weightM)

/-- The tile of point `t`. -/
abbrev tileOf : Vec F S1024x2048 .bf16 := tileVal c W (Ring.bk 2 (tilesDone t.val))

theorem runStart_leaves (h0 : First t) (h1 : Start t) (h2 : More t) :
    Leaves arg6 (runStart c t arg2 harg2 arg4 harg4 arg5 harg5 arg6 harg6 x C D W h0 h1 h2).1.1 (turnedProduct x C D (tileOf c t W))
      ∧ Leaves workM (runStart c t arg2 harg2 arg4 harg4 arg5 harg5 arg6 harg6 x C D W h0 h1 h2).1.2 (tileOf c t W) := by
  unfold runStart; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runMiddle_leaves (h0 : First t) (h1 : ¬Start t) (h2 : More t) :
    Leaves arg6 (runMiddle c t arg2 harg2 arg4 harg4 arg5 harg5 arg6 harg6 x C D W h0 h1 h2).1.1 (turnedProduct x C D (tileOf c t W))
      ∧ Leaves workM (runMiddle c t arg2 harg2 arg4 harg4 arg5 harg5 arg6 harg6 x C D W h0 h1 h2).1.2 (tileOf c t W) := by
  unfold runMiddle; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runLast_leaves (h0 : First t) (h1 : ¬Start t) (h2 : ¬More t) :
    Leaves arg6 (runLast c t arg2 harg2 arg4 harg4 arg5 harg5 arg6 harg6 x C D W h0 h1 h2).1.1 (turnedProduct x C D (tileOf c t W))
      ∧ Leaves workM (runLast c t arg2 harg2 arg4 harg4 arg5 harg5 arg6 harg6 x C D W h0 h1 h2).1.2 (tileOf c t W) := by
  unfold runLast; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runLater_leaves (h0 : ¬First t) (w : Vec F S1024x2048 .bf16) : Leaves arg6 (runLater c t arg2 harg2 arg4 harg4 arg5 harg5 arg6 harg6 x C D h0 w).1 (turnedProduct x C D w) := by
  unfold runLater; dsimp only; sl_unfold_words
  intro f
  simp only [View.readAt_eq_ld, harg2.read_unread, harg4.read_unread, harg5.read_unread, View.ld_unit_zero (S := S1024x2048) (funext zero2), View.ld_unit_zero (S := S1024x128) (funext zero2), (Memref.isWhole_whole _ : (workM).IsWhole).read_unread]
  exact slabs_read arg6 (head (k0_pay5 x w) C D) f
end

end Cert.Queries

end
-- ==== Proof.QueriesFrame.lean ====
/- The run of the queries' projection, point by point: before each point the second scratch buffer holds the tile of the column block under
   way, and the first holds the tiles as the stream has them; each point leaves the heads of its product in the result's block. From this the
   whole run follows, and with it that the arguments end as they began. -/
module

public import proofs.«01_k».proof.Proof.QueriesVals
public import Idealize.ShloMosaic.Lib.Claim

@[expose] public section

set_option maxRecDepth 16384

noncomputable section

namespace Cert.Queries

open Cert.Kernel11Ideal Cert.Kernel11Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S8x1024x128 .bf16 :=
  turnedProduct (iblk m c 0 t) (iblk m c 1 t) (iblk m c 2 t) (tileVal c (V m c main_v0) (Ring.bk 2 (t.val / 8)))
/-- The run's data: the arrays as found, the row block and the tables in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = iblk m c 1 t := by dsimp only [data]
theorem leaves_2 (c : Dev nD) (t : Fin cfg0.N) : (data m 0 c).after 2 t = iblk m c 2 t := by dsimp only [data]
theorem leaves_3 (c : Dev nD) (t : Fin cfg0.N) : (data m 0 c).after 3 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)
theorem finds_1 (c : Dev nD) (t : Fin cfg0.N) (d) : (data m 0 c).before 1 t d = iblk m c 1 t :=
  ((data m 0 c).before_in_eq_fetched 1 rfl (fun _ => rfl) (fun _ _ _ => rfl)
      (fun t => by rw [leaves_1]; unfold Dat.blockOf iblk; rw [data_A]; try rfl) t d).trans
    (by unfold Dat.fetched Dat.blockOf iblk; rw [data_A]; try rfl)
theorem finds_2 (c : Dev nD) (t : Fin cfg0.N) (d) : (data m 0 c).before 2 t d = iblk m c 2 t :=
  ((data m 0 c).before_in_eq_fetched 2 rfl (fun _ => rfl) (fun _ _ _ => rfl)
      (fun t => by rw [leaves_2]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (cosM t) fullShare ((data m 0 c).before 1 t d))
    ∗ (∃ d, owns (c : Thread nD τ) (sinM t) fullShare ((data m 0 c).before 2 t d))
    ∗ (∃ d, owns (c : Thread nD τ) (outM t) fullShare ((data m 0 c).before 3 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (cosM t) fullShare ((data m 0 c).after 1 t)
    ∗ owns (c : Thread nD τ) (sinM t) fullShare ((data m 0 c).after 2 t)
    ∗ owns (c : Thread nD τ) (outM t) fullShare ((data m 0 c).after 3 t))

theorem points : cfg0.N = 16 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0, finds_1, finds_2]
  rw [leaves_0, leaves_1, leaves_2, leaves_3]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, ⟨%dC, HC⟩, ⟨%dD, HD⟩, H1⟩
  iapply (point stream workM (defs₀ (F := F)) (body t (xM t) (xMWhole t) (cosM t) (cosMWhole t) (sinM t) (sinMWhole t) (outM t) (outMWhole t)) c (reads c (xM t) (cosM t) (sinM t) (iblk m c 0 t) (iblk m c 1 t) (iblk m c 2 t)) (outM t) (V m c main_v0) (tileVal c (V m c main_v0))
    (turnedProduct (iblk m c 0 t) (iblk m c 1 t) (iblk m c 2 t)) (k := t.val) (lt_of_lt_of_eq t.isLt points) (by decide)
    (fun h1 h0 => ⟨_, runStart_leaves c t _ (xMWhole t) _ (cosMWhole t) _ (sinMWhole t) _ (outMWhole t) _ _ _ _ ((first_iff t).mpr h0) ((start_iff t).mpr h1) ((more_iff t).mpr (by omega))⟩)
    (fun h1 h0 h2 => ⟨_, runMiddle_leaves c t _ (xMWhole t) _ (cosMWhole t) _ (sinMWhole t) _ (outMWhole t) _ _ _ _ ((first_iff t).mpr h0) (fun h => h1 ((start_iff t).mp h)) ((more_iff t).mpr h2)⟩)
    (fun h1 h0 h2 => ⟨_, runLast_leaves c t _ (xMWhole t) _ (cosMWhole t) _ (sinMWhole t) _ (outMWhole t) _ _ _ _ ((first_iff t).mpr h0) (fun h => h1 ((start_iff t).mp h)) (fun h => h2 ((more_iff t).mp h))⟩)
    (fun h0 w => ⟨_, runLater_leaves c t _ (xMWhole t) _ (cosMWhole t) _ (sinMWhole t) _ (outMWhole t) _ _ _ (fun h => h0 ((first_iff t).mp h)) w⟩) Ws _)
  isplitl [HΦ]; · iexact HΦ
  isplitl [HW]; · iexact HW
  isplitl [H0 HC HD]
  · unfold reads
    isplitl [H0]; · iexact H0
    isplitl [HC]; · iexact HC
    iexact HD
  isplitl [H1]
  · icases H1 with ⟨%d1, H1⟩
    iexists _; iexact H1
  unfold reads
  iintro ⟨HΦ, ⟨H0, HC, HD⟩, H1, ⟨%W', HW'⟩⟩
  isplitl [HΦ]; · iexact HΦ
  isplitl [HW']
  · iexists W'; isplitr; · ipureintro; exact fun _ _ => Or.inl trivial
    iexact HW'
  isplitl [H0]; · iexact H0
  isplitl [HC]; · iexact HC
  isplitl [HD]; · iexact HD
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c),
      ((h.1 c).1 1).trans (((data m 0 c).arrAt_in 1 rfl _).trans ((data_A m c 1).trans (V_main_arg2 m c))),
      ((h.1 c).1 2).trans (((data m 0 c).arrAt_in 2 rfl _).trans ((data_A m c 2).trans (V_main_arg3 m c)))⟩, h.2⟩) (run_quiescent m ρ)

end Cert.Queries

end
-- ==== Proof.QueriesValue.lean ====
/- The result of the queries' projection as the kernel leaves it: every block is its own heads, and the blocks cover the array. -/
module

public import proofs.«01_k».proof.Proof.QueriesFrame
public import proofs.«01_k».proof.Proof.Heads

@[expose] public section

set_option maxRecDepth 16384

noncomputable section

namespace Cert.Queries

open Cert.Kernel11Ideal Cert.Kernel11Ideal.Gen Cert.Proj Cert.Lru Cert.Heads
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : HeadArgs where
  x := m ((c : Thread nD τ).loc main_arg0)
  w := m ((c : Thread nD τ).loc main_arg1)
  cos := m ((c : Thread nD τ).loc main_arg2)
  sin := m ((c : Thread nD τ).loc main_arg3)

/-- The array every result block is cut from. -/
def target (A : HeadArgs) : Arr ⟨3, ![16, 8192, 128]⟩ := rotated 0 0 16 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .f32) (w : FVec Ideal S1024x2048 .bf16) (s l : Fin 1024) :
    k0_pay5 (F := Ideal) x w (ix2 s l) = ∑ k : Fin 2048, x (ix2 s k) * w (ix2 l k) := by
  pointwise [k0_pay5]

theorem tile_at (c : Dev nD) (W : Stream.Held (τ := τ) Ideal c weightM) (b : Fin 2) (l : Fin 1024) (k : Fin 2048) :
    tileVal (F := Ideal) c W b (ix2 l k) = W (ix3 0 ⟨1024 * b.val + 0 + l.val, by have := b.isLt; omega⟩ k) := by
  refine Eq.trans ?_ (tileBlock_at stream c W b l k)
  unfold tileVal; pointwise [k0_pay4]

/-! ## The blocks of a grid point: row block `t mod 8`, column block `t / 8` -/

theorem point_lt (t : Fin cfg0.N) : t.val < 16 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx_2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

theorem blk_1 (c : Dev nD) (t : Fin cfg0.N) (s : Fin 1024) (l : Fin 128) :
    iblk m c 1 t (ix2 s l) = (kargs m c).cos (ix2 (row t s) l) := by
  unfold iblk
  rw [View.read_apply]
  show V m c main_arg2 _ = _
  rw [V_main_arg2]
  show (kargs m c).cos _ = _
  congr 1
  funext a
  apply Fin.ext
  match a with
  | ⟨0, _⟩ => show win0_1.index t 0 * 1024 + 1 * s.val = t.val % 8 * 1024 + s.val; rw [(idx_1 t).1]; omega
  | ⟨1, _⟩ => show win0_1.index t 1 * 128 + 1 * l.val = l.val; rw [(idx_1 t).2]; omega

theorem blk_2 (c : Dev nD) (t : Fin cfg0.N) (s : Fin 1024) (l : Fin 128) :
    iblk m c 2 t (ix2 s l) = (kargs m c).sin (ix2 (row t s) l) := by
  unfold iblk
  rw [View.read_apply]
  show V m c main_arg3 _ = _
  rw [V_main_arg3]
  show (kargs m c).sin _ = _
  congr 1
  funext a
  apply Fin.ext
  match a with
  | ⟨0, _⟩ => show win0_2.index t 0 * 1024 + 1 * s.val = t.val % 8 * 1024 + s.val; rw [(idx_2 t).1]; omega
  | ⟨1, _⟩ => show win0_2.index t 1 * 128 + 1 * l.val = l.val; rw [(idx_2 t).2]; omega

/-- A column of the product at point `t`. -/
theorem product_column (c : Dev nD) (t : Fin cfg0.N) (s l : Fin 1024) (q : Fin 16464) (hq : q.val = 0 + (t.val / 8 * 1024 + l.val)) :
    k0_pay5 (F := Ideal) (iblk m c 0 t) (tileVal c (V m c main_v0) (Ring.bk 2 (t.val / 8))) (ix2 s l) = column (kargs m c).toProjArgs 0 (row t s) q := by
  have hb : (Ring.bk 2 (t.val / 8)).val = t.val / 8 := by
    have := point_lt t; show t.val / 8 % 2 = t.val / 8; omega
  refine (pay_at _ _ s l).trans ?_
  unfold column
  refine Finset.sum_congr rfl fun k _ => ?_
  rw [blk_0, tile_at, entry_weight]
  refine congrArg (fun q => (kargs m c).x (ix2 (row t s) k) * (kargs m c).w (ix3 0 k q)) (Fin.ext ?_)
  show 1024 * (Ring.bk 2 (t.val / 8)).val + 0 + l.val = q.val
  rw [hb, hq]; omega

/-- What point `t` leaves, entry by entry. -/
theorem product_at (c : Dev nD) (t : Fin cfg0.N) (h : Fin 8) (s : Fin 1024) (l : Fin 128) :
    product m c t (ix3 h s l)
      = target (kargs m c) (ix3 ⟨t.val / 8 * 8 + h.val, by have := point_lt t; omega⟩ (row t s) l) := by
  unfold product turnedProduct
  refine (heads_at _ _ _ h s l).trans ?_
  rw [blk_1, blk_2]
  unfold target rotated
  refine congrArg₂ (· + ·) (congrArg (· * _) (product_column m c t s _ _ ?_)) (congrArg (· * _) (product_column m c t s _ _ ?_))
  · show 0 + (128 * (t.val / 8 * 8 + h.val) + l.val) = 0 + (t.val / 8 * 1024 + (128 * h.val + l.val)); omega
  · show 0 + (128 * (t.val / 8 * 8 + h.val) + (l.val + 64) % 128) = 0 + (t.val / 8 * 1024 + (128 * h.val + (l.val + 64) % 128)); omega

theorem written (c : Dev nD) (t : Fin cfg0.N) (_ : (cfg0.win 3).flush t = true) :
    (data m 0 c).flushed 3 t = ((cfg0.win 3).blk t).view.read (Elt Ideal) (target (kargs m c)) := by
  show (cfg0.win 3).cut (grid0.coords t) ((data m 0 c).after 3 t) = _
  rw [leaves_3]
  funext j
  rw [View.read_apply]
  obtain ⟨h, s, l, rfl⟩ : ∃ (h : Fin 8) (s : Fin 1024) (l : Fin 128), j = ix3 h s l :=
    ⟨j 0, j 1, j 2, by funext a; match a with | ⟨0, _⟩ => rfl | ⟨1, _⟩ => rfl | ⟨2, _⟩ => rfl⟩
  refine Eq.trans (product_at m c t h s l) ?_
  refine congrArg (target (kargs m c)) ?_
  funext a
  apply Fin.ext
  match a with
  | ⟨0, _⟩ => show t.val / 8 * 8 + h.val = win0_3.index t 0 * 8 + 1 * h.val; rw [(idx_3 t).1]; omega
  | ⟨1, _⟩ => show t.val % 8 * 1024 + s.val = win0_3.index t 1 * 1024 + 1 * s.val; rw [(idx_3 t).2.1]; omega
  | ⟨2, _⟩ => show l.val = win0_3.index t 2 * 128 + 1 * l.val; rw [(idx_3 t).2.2]; omega

/-- The blocks cover the array. -/
theorem final (c : Dev nD) : (data (F := Ideal) m 0 c).arrAt 3 cfg0.N = target (kargs m c) :=
  (data m 0 c).arrAt_eq_of_cover 3 (target (kargs m c)) (written m c) fun i => by
    have h0 : (i 0 : Nat) < 16 := (i 0).isLt
    have h1 : (i 1 : Nat) < 8192 := (i 1).isLt
    have h2 : (i 2 : Nat) < 128 := (i 2).isLt
    have ht : (i 0 : Nat) / 8 * 8 + (i 1 : Nat) / 1024 < cfg0.N := by rw [show cfg0.N = 16 from N_0]; omega
    refine ⟨⟨_, ht⟩, flush0_3 _, ?_⟩
    show i ∈ ((View.whole main_v1).slice (win0_3.rect ⟨_, ht⟩)).set
    rw [View.set_slice_whole, Rect.mem_set_unit]
    intro a
    match a with
    | ⟨0, _⟩ =>
      show win0_3.index ⟨_, ht⟩ 0 * 8 ≤ (i 0 : Nat) ∧ (i 0 : Nat) < win0_3.index ⟨_, ht⟩ 0 * 8 + 8
      rw [(idx_3 ⟨_, ht⟩).1]; dsimp only; omega
    | ⟨1, _⟩ =>
      show win0_3.index ⟨_, ht⟩ 1 * 1024 ≤ (i 1 : Nat) ∧ (i 1 : Nat) < win0_3.index ⟨_, ht⟩ 1 * 1024 + 1024
      rw [(idx_3 ⟨_, ht⟩).2.1]; dsimp only; omega
    | ⟨2, _⟩ =>
      show win0_3.index ⟨_, ht⟩ 2 * 128 ≤ (i 2 : Nat) ∧ (i 2 : Nat) < win0_3.index ⟨_, ht⟩ 2 * 128 + 128
      rw [(idx_3 ⟨_, ht⟩).2.2]; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c),
      ((h c).1 1).trans (((data m 0 c).arrAt_in 1 rfl _).trans ((data_A m c 1).trans (V_main_arg2 m c))),
      ((h c).1 2).trans (((data m 0 c).arrAt_in 2 rfl _).trans ((data_A m c 2).trans (V_main_arg3 m c)))⟩)
    (run_main m ρ)

end Cert.Queries

end
-- ==== Proof.QueriesClaims.lean ====
/- The claims of the queries' projection: the frames of its three programs, and the equality of the results. -/
module

public import proofs.«01_k».proof.Defs
public import proofs.«01_k».proof.Proof.QueriesValue
public import proofs.«01_k».proof.Proof.Gen.Kernel11
public import proofs.«01_k».proof.Proof.Gen.Reference11Ideal.Run
public import Idealize.ShloMosaic.Lib.Quiescent
public import Idealize.ShloMosaic.Lib.Claim

@[expose] public section

set_option maxRecDepth 16384

noncomputable section

namespace Cert.Queries

open Idealize.ShloMosaic Idealize.ShloMosaic.TcCoe Idealize.SL.Sem Cert.Proj Cert.Lru Cert.Heads

/-! ## The reference -/

section
open Cert.Reference11Ideal

variable (m : (ℓ : Loc nD τ sig) → Buf (Elt Ideal) ℓ) (ρ : Dev nD → PrngReg)

/-- The reference's arguments as launched. -/
def rargs (c : Dev nD) : HeadArgs where
  x := m ((c : Thread nD τ).loc main_arg0)
  w := m ((c : Thread nD τ).loc main_arg1)
  cos := m ((c : Thread nD τ).loc main_arg2)
  sin := m ((c : Thread nD τ).loc main_arg3)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v25) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  funext i
  obtain ⟨h, r, l, rfl⟩ : ∃ (h : Fin 16) (r : Fin 8192) (l : Fin 128), i = ix3 h r l :=
    ⟨i 0, i 1, i 2, by funext a; match a with | ⟨0, _⟩ => rfl | ⟨1, _⟩ => rfl | ⟨2, _⟩ => rfl⟩
  pointwise
  exact rotated_halves 0 (rargs m c) h r l

end

/-! ## The frames -/

/-- The two printings of the kernel have the same bodies, … -/
theorem bodies_eq {F : FTy → Type} [FloatOps F] : @Cert.Kernel11.defs₀ F _ _ = @Cert.Kernel11Ideal.defs₀ F _ _ := by
  unfold Cert.Kernel11.defs₀ Cert.Kernel11Ideal.defs₀
  refine congrArg Defs.onTc (funext fun l => funext fun p => ?_)
  match l, p with
  | 0, (t, s) => rfl
/-- … so the same definitions. -/
theorem defs_eq {F : FTy → Type} [FloatOps F] : @Cert.Kernel11.defs F _ _ = @Cert.Kernel11Ideal.defs F _ _ :=
  congrArg (Pipeline.defs Cert.Kernel11Ideal.pcfgs) bodies_eq

theorem frame : Cert.quiescent_Kernel11 := fun m ρ _ => by
  rw [defs_eq]; exact frame_any (F := Bits) m ρ

theorem frameIdeal : Cert.quiescent_Kernel11Ideal := fun m ρ _ => frame_any (F := Ideal) m ρ

theorem frameRef : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run m ρ)

/-- Both programs end at the target of arguments that agree. -/
theorem algebraic : Cert.algebraic_Kernel11Ideal_Reference11Ideal := by
  intro m ρ m' ρ' _ hagree
  refine ⟨fun c => target (kargs m c), run_target m ρ, ?_⟩
  have h : ∀ c, rargs m' c = kargs m c := fun c => by
    obtain ⟨h0, h1, h2, h3⟩ := hagree c
    unfold rargs kargs
    rw [h0, h1, h2, h3]
  exact (θ_run Cert.Reference11Ideal.defs _ _).mono (fun _ r c => ⟨(r c).1.trans (congrArg target (h c)), (r c).2⟩) (ref_target m' ρ')

end Cert.Queries

end
-- ==== Proof.Queries1Ring.lean ====
/- The streamed weight of the second layer's queries' projection: rows 0 … 2047 of the weight, in 2 tiles, by proof/Proof/Stream.lean. This module
   names the kernel's buffers, states its conditions on the grid point in closed form, says that the slices it computes are the stream's
   slots, tiles and cells, and runs the body at each of the four kinds of points. -/
module

public import proofs.«01_k».proof.Proof.Stream
public import proofs.«01_k».proof.Proof.Gen.Kernel12Ideal
public import proofs.«01_k».proof.Proof.Gen.Kernel12Ideal.Frame
public import proofs.«01_k».proof.Proof.Gen.Kernel12Ideal.Skeleton

@[expose] public section

set_option maxRecDepth 16384

noncomputable section

namespace Cert.Queries1

open Cert.Kernel12Ideal Cert.Kernel12Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the assertions speak of. -/
abbrev Res (F : FTy → Type) := Stream.Res nD τ sig F

/-! ## The conditions -/

/-- The row block is the first of its column block. -/
abbrev First (t : Fin cfg0.N) : Prop := k0_cond1 (grid0.coords t) = 1#1
/-- The column block is the first. -/
abbrev Start (t : Fin cfg0.N) : Prop := k0_cond2 (grid0.coords t) = 1#1
/-- A column block follows. -/
abbrev More (t : Fin cfg0.N) : Prop := k0_cond3 (grid0.coords t) = 1#1

theorem first_iff : ∀ t : Fin cfg0.N, First t ↔ t.val % 8 = 0 :=
  (by decide +kernel : ∀ t : Fin grid0.N, First t ↔ t.val % 8 = 0)
theorem start_iff : ∀ t : Fin cfg0.N, Start t ↔ t.val < 8 :=
  (by decide +kernel : ∀ t : Fin grid0.N, Start t ↔ t.val < 8)
theorem more_iff : ∀ t : Fin cfg0.N, More t ↔ t.val < 8 :=
  (by decide +kernel : ∀ t : Fin grid0.N, More t ↔ t.val < 8)

/-! ## The buffers -/

abbrev stageM : Memref sig .tc .vmem S2x1024x2048 .f32 := Memref.whole cc0_scratch0
abbrev workM : Memref sig .tc .vmem S1024x2048 .bf16 := Memref.whole cc0_scratch1
abbrev weightM : Memref sig .tc .hbm S2x16464x2048 .f32 := Memref.whole main_v0
abbrev xM (t : Fin cfg0.N) : Memref sig .tc .vmem S1024x2048 .bf16 := win0_0.stage (cfg0.slots t 0)
abbrev xMWhole (t : Fin cfg0.N) : (xM t).IsWhole := hstage0_0 ((cfg0.slots t 0).cast nbuf0_0)
abbrev cosM (t : Fin cfg0.N) : Memref sig .tc .vmem S1024x128 .f32 := win0_1.stage (cfg0.slots t 1)
abbrev cosMWhole (t : Fin cfg0.N) : (cosM t).IsWhole := hstage0_1 ((cfg0.slots t 1).cast nbuf0_1)
abbrev sinM (t : Fin cfg0.N) : Memref sig .tc .vmem S1024x128 .f32 := win0_2.stage (cfg0.slots t 2)
abbrev sinMWhole (t : Fin cfg0.N) : (sinM t).IsWhole := hstage0_2 ((cfg0.slots t 2).cast nbuf0_2)
abbrev outM (t : Fin cfg0.N) : Memref sig .tc .vmem S8x1024x128 .bf16 := win0_3.stage (cfg0.slots t 3)
abbrev outMWhole (t : Fin cfg0.N) : (outM t).IsWhole := hstage0_3 ((cfg0.slots t 3).cast nbuf0_3)

/-- The stream. -/
abbrev stream : Streamed sig 2 where
  stage := stageM
  stage_whole := Memref.isWhole_whole _
  weight := weightM
  cells := cc0_scratch2
  layer := 1
  off := 0
  layer_lt := by decide
  off_le := by decide

/-- The kernel's own two semaphore cells. -/
abbrev ownCells : Fin 2 → SemLoc sig := fun j => (![SemLoc.dma 8, SemLoc.dma 9] : Fin 2 → SemLoc sig) j
theorem ownCells_facts : Pipeline.OwnSemFacts spec0 ownCells := by decide
/-- The array left in main memory that the kernel copies from. -/
def streamed : Finset (Ref sig .tc) := {main_v0}
theorem streamed_sub : streamed ⊆ Pipeline.restRefs sig spec0 := by decide

instance : NeZero grid0.N := ⟨by rw [N_0]; decide⟩

theorem cellL_0 : stream.cellL 0 = SemLoc.dma 8 := by decide
theorem cellL_1 : stream.cellL 1 = SemLoc.dma 9 := by decide

/-! ## The slices the kernel computes -/

set_option synthInstance.maxSize 4096
set_option maxHeartbeats 1000000

/-- At the first point the first tile's slot, cell and rows are literals. -/
@[sl_canon] theorem slot_start (t : Fin cfg0.N) (h0 : First t) (h1 : Start t) :
    (stageM.slice (Rect.unit (s := S2x1024x2048) ![0, 0, 0] S1x1024x2048.size inb_S2x1024x2048_S1x1024x2048_0_0_0) (fun _ => rfl)).squeeze S1024x2048 squeezes_S1x1024x2048_S1024x2048 = stream.slotM (Ring.sl 2 (tilesDone t.val)) :=
  stream.slot_of ((by decide +kernel : ∀ t : Fin grid0.N, First t → Start t → (![0, 0, 0] : Fin 3 → Nat) = ![(Ring.sl 2 (tilesDone t.val)).val, 0, 0]) t h0 h1) _ _
@[sl_canon] theorem cell_start (t : Fin cfg0.N) (h0 : First t) (h1 : Start t) :
    (cc0_scratch2.slice (Rect.unit (s := S2) ![0] S1.size inb_S2_S1_0)).squeeze S_ squeezes_S1_S_ = stream.cellA (Ring.sl 2 (tilesDone t.val)) :=
  stream.cell_of ((by decide +kernel : ∀ t : Fin grid0.N, First t → Start t → (![0] : Fin 1 → Nat) = ![(Ring.sl 2 (tilesDone t.val)).val]) t h0 h1) _ _
@[sl_canon] theorem tile_start (t : Fin cfg0.N) (h0 : First t) (h1 : Start t) :
    (weightM.slice (Rect.unit (s := S2x16464x2048) ![1, 0, 0] S1x1024x2048.size inb_S2x16464x2048_S1x1024x2048_1_0_0) (fun _ => rfl)).squeeze S1024x2048 squeezes_S1x1024x2048_S1024x2048 = stream.tileM (Ring.bk 2 (tilesDone t.val)) :=
  stream.tile_of ((by decide +kernel : ∀ t : Fin grid0.N, First t → Start t → (![1, 0, 0] : Fin 3 → Nat) = ![1, 1024 * (Ring.bk 2 (tilesDone t.val)).val + 0, 0]) t h0 h1) _ _
/-- The slot, cell and rows of the tile the kernel copies ahead. -/
@[sl_canon] theorem slot_next (t : Fin cfg0.N) (h0 : First t) (h2 : More t) :
    (stageM.slice (Rect.unit (s := S2x1024x2048) (k0_off2 (grid0.coords t)) S1x1024x2048.size (k0_off2_inb (grid0.coords t) h0 h2)) (fun _ => rfl)).squeeze S1024x2048 squeezes_S1x1024x2048_S1024x2048 = stream.slotM (Ring.sl 2 (tilesDone t.val + 1)) :=
  stream.slot_of ((by decide +kernel : ∀ t : Fin grid0.N, First t → More t → k0_off2 (grid0.coords t) = ![(Ring.sl 2 (tilesDone t.val + 1)).val, 0, 0]) t h0 h2) _ _
@[sl_canon] theorem cell_next (t : Fin cfg0.N) (h0 : First t) (h2 : More t) :
    (cc0_scratch2.slice (Rect.unit (s := S2) (k0_off1 (grid0.coords t)) S1.size (k0_off1_inb (grid0.coords t) h0 h2))).squeeze S_ squeezes_S1_S_ = stream.cellA (Ring.sl 2 (tilesDone t.val + 1)) :=
  stream.cell_of ((by decide +kernel : ∀ t : Fin grid0.N, First t → More t → k0_off1 (grid0.coords t) = ![(Ring.sl 2 (tilesDone t.val + 1)).val]) t h0 h2) _ _
@[sl_canon] theorem tile_next (t : Fin cfg0.N) (h0 : First t) (h2 : More t) :
    (weightM.slice (Rect.unit (s := S2x16464x2048) (k0_off3 (grid0.coords t)) S1x1024x2048.size (k0_off3_inb (grid0.coords t) h0 h2)) (fun _ => rfl)).squeeze S1024x2048 squeezes_S1x1024x2048_S1024x2048 = stream.tileM (Ring.bk 2 (tilesDone t.val + 1)) :=
  stream.tile_of ((by decide +kernel : ∀ t : Fin grid0.N, First t → More t → k0_off3 (grid0.coords t) = ![1, 1024 * (Ring.bk 2 (tilesDone t.val + 1)).val + 0, 0]) t h0 h2) _ _
/-- The slot and cell of the tile the kernel waits for. -/
@[sl_canon] theorem slot_here (t : Fin cfg0.N) (h0 : First t) :
    (stageM.slice (Rect.unit (s := S2x1024x2048) (k0_off5 (grid0.coords t)) S1x1024x2048.size (k0_off5_inb (grid0.coords t) h0)) (fun _ => rfl)).squeeze S1024x2048 squeezes_S1x1024x2048_S1024x2048 = stream.slotM (Ring.sl 2 (tilesDone t.val)) :=
  stream.slot_of ((by decide +kernel : ∀ t : Fin grid0.N, First t → k0_off5 (grid0.coords t) = ![(Ring.sl 2 (tilesDone t.val)).val, 0, 0]) t h0) _ _
@[sl_canon] theorem cell_here (t : Fin cfg0.N) (h0 : First t) :
    (cc0_scratch2.slice (Rect.unit (s := S2) (k0_off4 (grid0.coords t)) S1.size (k0_off4_inb (grid0.coords t) h0))).squeeze S_ squeezes_S1_S_ = stream.cellA (Ring.sl 2 (tilesDone t.val)) :=
  stream.cell_of ((by decide +kernel : ∀ t : Fin grid0.N, First t → k0_off4 (grid0.coords t) = ![(Ring.sl 2 (tilesDone t.val)).val]) t h0) _ _
/-- The kernel reads the scratch at the slot it waited for. -/
theorem read_off : ∀ t : Fin grid0.N, First t → k0_off7 (grid0.coords t) = ![(Ring.sl 2 (tilesDone t.val)).val, 0, 0] := by decide +kernel
instance (priority := high) readOff (t : Fin grid0.N) [h0 : Fact (First t)] : ClosedOff (k0_off7 (grid0.coords t)) := ⟨![(Ring.sl 2 (tilesDone t.val)).val, 0, 0], read_off t h0.out⟩

/-! ## One point of the grid -/

/-- The body at point `t`. -/
abbrev body (t : Fin cfg0.N) (arg2 : Memref sig .tc .vmem S1024x2048 .bf16) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole) :=
  cc0_proj_heads (F := F) (grid0.coords t) arg2 harg2 (Memref.whole main_v0) (Memref.isWhole_whole _) arg4 harg4 arg5 harg5 arg6 harg6 stageM (Memref.isWhole_whole _) workM
    (Memref.isWhole_whole _) cc0_scratch2

section
variable (c : Dev nD) (t : Fin cfg0.N) (arg2 : Memref sig .tc .vmem S1024x2048 .bf16) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole)
variable (x : Vec F S1024x2048 .bf16) (C D : Vec F S1024x128 .f32) (W : Stream.Held (τ := τ) F c weightM)

/-- What the body reads at a point and leaves alone: the row block and its rows of the two tables. -/
abbrev reads : sProp (Res F) :=
  iprop(owns (c : Thread nD τ) arg2 fullShare x ∗ owns (c : Thread nD τ) arg4 fullShare C ∗ owns (c : Thread nD τ) arg5 fullShare D)

def runStart (h0 : First t) (h1 : Start t) (h2 : More t) :
    Stream.StartRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (Start t) := ⟨h1⟩
    haveI : Fact (More t) := ⟨h2⟩
    simp only [body, cc0_proj_heads_eq_skeleton]; unfold cc0_proj_heads_skel
    simp only [k0_part1_eq_skeleton, k0_part2_eq_skeleton]; unfold k0_part1_skel k0_part2_skel
    have hcanon0 := slot_start t h0 h1
    have hcanon1 := cell_start t h0 h1
    have hcanon2 := tile_start t h0 h1
    unfold reads owns Ring.free Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨Hc0, ⟨%fs0, Hs0, Hw0⟩⟩, ⟨Hc1, ⟨%fs1, Hs1, Hw1⟩⟩, HW, Hk⟩
    ihave Hsp0 := (stream.split_at c W (tilesDone t.val)).1 $$ Hw0
    icases Hsp0 with ⟨Hh0, Hr0⟩
    ihave Hsp1 := (stream.split_at c W (tilesDone t.val + 1)).1 $$ Hw1
    icases Hsp1 with ⟨Hh1, Hr1⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (stream.split_at c W (tilesDone t.val)).2; isplitl [Hh0]; · iexact Hh0
      iexact Hr0
    iexists _; iexact HW

def runMiddle (h0 : First t) (h1 : ¬Start t) (h2 : More t) :
    Stream.MiddleRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (¬Start t) := ⟨h1⟩
    haveI : Fact (More t) := ⟨h2⟩
    simp only [body, cc0_proj_heads_eq_skeleton]; unfold cc0_proj_heads_skel
    simp only [k0_part1_eq_skeleton, k0_part2_eq_skeleton]; unfold k0_part1_skel k0_part2_skel
    unfold reads owns Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨%ff, Hf, Hrf⟩, ⟨Hc1, ⟨%fs1, Hs1, Hw1⟩⟩, HW, Hk⟩
    ihave Hsp1 := (stream.split_at c W (tilesDone t.val + 1)).1 $$ Hw1
    icases Hsp1 with ⟨Hh1, Hr1⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLast (h0 : First t) (h1 : ¬Start t) (h2 : ¬More t) :
    Stream.LastRun stream workM (defs₀ (F := F)) (body t arg2 harg2 arg4 harg4 arg5 harg5 arg6 harg6) c (tilesDone t.val) (reads c arg2 arg4 arg5 x C D) arg6 W := by
  refine ⟨⟨?_, ?_⟩, fun Ws K => ?run⟩
  case run =>
    haveI : Fact (First t) := ⟨h0⟩
    haveI : Fact (¬Start t) := ⟨h1⟩
    haveI : Fact (¬More t) := ⟨h2⟩
    simp only [body, cc0_proj_heads_eq_skeleton]; unfold cc0_proj_heads_skel
    simp only [k0_part1_eq_skeleton, k0_part2_eq_skeleton]; unfold k0_part1_skel k0_part2_skel
    unfold reads owns Ring.inflight Ring.kept
    iintro ⟨⟨⟨%f0, %hf0, H0⟩, ⟨%fC, %hC, HC⟩, ⟨%fD, %hD, HD⟩⟩, ⟨%d1, %f1, -, H1⟩, ⟨%d2, %f2, -, H2⟩, ⟨%ff, Hf, Hrf⟩, HW, Hk⟩
    obtain rfl := harg2.eq_unread hf0
    obtain rfl := harg4.eq_unread hC
    obtain rfl := harg5.eq_unread hD
    sl_exec (disch := first | sl_exact h0 | sl_exact h1 | sl_exact h2)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iexists _; iexact H2
    isplitl [Hf Hf_dst Hf_src Hrf]
    · isplitl [Hf]; · iexact Hf
      iexists _; isplitl [Hf_dst]; · iexact Hf_dst
      iapply (stream.split_at c W (tilesDone t.val)).2; isplitl [Hf_src]; · iexact Hf_src
      iexact Hrf
    iexists _; iexact HW

def runLater (h0 : ¬First t) (w : Vec F S1024x2048 .bf16) :
    Stream.LaterRun workM (defs₀ (F := F)) (body t arg2 harg2 arg4 harg4 arg5 harg5 arg6 harg6) c (reads c arg2 arg4 arg5 x C D) arg6 w := by
  refine ⟨?_, fun Ws K => ?run⟩
  case run =>
    haveI : Fact (¬First t) := ⟨h0⟩
    simp only [body, cc0_proj_heads_eq_skeleton]; unfold cc0_proj_heads_skel
    simp only [k0_part1_eq_skeleton, k0_part2_eq_skeleton]; unfold k0_part1_skel k0_part2_skel
    unfold reads owns
    iintro ⟨⟨⟨%f0, %hf0, H0⟩, ⟨%fC, %hC, HC⟩, ⟨%fD, %hD, HD⟩⟩, ⟨%d1, %f1, -, H1⟩, ⟨%f2, %hf2, H2⟩, HW, Hk⟩
    obtain rfl := harg2.eq_unread hf0
    obtain rfl := harg4.eq_unread hC
    obtain rfl := harg5.eq_unread hD
    obtain rfl := (Memref.isWhole_whole _ : (workM).IsWhole).eq_unread hf2
    sl_exec (disch := first | sl_exact h0)
    sl_step
    iapply Hk
    isplitl [H0 HC HD]
    · isplitl [H0]; · iapply owns_back arg2 harg2 c x; iexact H0
      isplitl [HC]; · iapply owns_back arg4 harg4 c C; iexact HC
      iapply owns_back arg5 harg5 c D; iexact HD
    isplitl [H1]; · iexists _; iexact H1
    isplitl [H2]; · iapply owns_back workM (Memref.isWhole_whole _) c w; iexact H2
    iexists _; iexact HW

end

end Cert.Queries1

end
-- ==== Proof.Queries1Vals.lean ====
/- What the points of the second layer's queries' projection store: the tile the point waited for, rounded, and the heads of the product of the row block with it. -/
module

public import proofs.«01_k».proof.Proof.Queries1Ring
public import proofs.«01_k».proof.Proof.Heads
public import Idealize.ShloMosaic.Lib.Pipeline.ValueKit.Acc

@[expose] public section

set_option maxHeartbeats 1000000
set_option maxRecDepth 16384

noncomputable section

namespace Cert.Queries1

open Cert.Kernel12Ideal Cert.Kernel12Ideal.Gen Cert.Stream Cert.Heads
open Idealize.ShloMosaic Idealize.ShloMosaic.TcCoe Idealize.ShloMosaic.Tactic
open Idealize.SL Idealize.SL.RA Idealize.SL.BI

variable {F : FTy → Type} [FloatOps F]

theorem zero2 : ∀ a, (![0, 0] : Fin 2 → Nat) a = 0 := by decide

/-- Tile `b` as the points of its column block use it. -/
def tileVal (c : Dev nD) (W : Stream.Held (τ := τ) F c weightM) (b : Fin 2) : Vec F S1024x2048 .bf16 := k0_pay4 (stream.tileBlock c W b)

/-- What a point stores: the eight heads of the product of the row block and the tile. -/
def turnedProduct (x : Vec F S1024x2048 .bf16) (C D : Vec F S1024x128 .f32) (w : Vec F S1024x2048 .bf16) : Vec F S8x1024x128 .bf16 :=
  heads (k0_pay5 x w) C D

section
variable (c : Dev nD) (t : Fin cfg0.N) (arg2 : Memref sig .tc .vmem S1024x2048 .bf16) (harg2 : arg2.IsWhole) (arg4 : Memref sig .tc .vmem S1024x128 .f32) (harg4 : arg4.IsWhole)
  (arg5 : Memref sig .tc .vmem S1024x128 .f32) (harg5 : arg5.IsWhole) (arg6 : Memref sig .tc .vmem S8x1024x128 .bf16) (harg6 : arg6.IsWhole)
  (x : Vec F S1024x2048 .bf16) (C D : Vec F S1024x128 .f32) (W : Stream.Held (τ := τ) F c weightM)

/-- The tile of point `t`. -/
abbrev tileOf : Vec F S1024x2048 .bf16 := tileVal c W (Ring.bk 2 (tilesDone t.val))

theorem runStart_leaves (h0 : First t) (h1 : Start t) (h2 : More t) :
    Leaves arg6 (runStart c t arg2 harg2 arg4 harg4 arg5 harg5 arg6 harg6 x C D W h0 h1 h2).1.1 (turnedProduct x C D (tileOf c t W))
      ∧ Leaves workM (runStart c t arg2 harg2 arg4 harg4 arg5 harg5 arg6 harg6 x C D W h0 h1 h2).1.2 (tileOf c t W) := by
  unfold runStart; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runMiddle_leaves (h0 : First t) (h1 : ¬Start t) (h2 : More t) :
    Leaves arg6 (runMiddle c t arg2 harg2 arg4 harg4 arg5 harg5 arg6 harg6 x C D W h0 h1 h2).1.1 (turnedProduct x C D (tileOf c t W))
      ∧ Leaves workM (runMiddle c t arg2 harg2 arg4 harg4 arg5 harg5 arg6 harg6 x C D W h0 h1 h2).1.2 (tileOf c t W) := by
  unfold runMiddle; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runLast_leaves (h0 : First t) (h1 : ¬Start t) (h2 : ¬More t) :
    Leaves arg6 (runLast c t arg2 harg2 arg4 harg4 arg5 harg5 arg6 harg6 x C D W h0 h1 h2).1.1 (turnedProduct x C D (tileOf c t W))
      ∧ Leaves workM (runLast c t arg2 harg2 arg4 harg4 arg5 harg5 arg6 harg6 x C D W h0 h1 h2).1.2 (tileOf c t W) := by
  unfold runLast; dsimp only; sl_unfold_words
  refine ⟨fun f => ?_, fun f => ?_⟩
  · rw [View.readCov_unit_lit workM.view _ _ zero2]
    simp only [View.readAt_eq_ld, harg2.read_unread, harg4.read_unread, harg5.read_unread, View.ld_unit_zero (S := S1024x2048) (funext zero2), View.ld_unit_zero (S := S1024x128) (funext zero2)]
    refine (slabs_read arg6 (head (k0_pay5 x _) C D) f).trans ?_
    exact congrArg (turnedProduct x C D) (congrArg k0_pay4 (stream.landed_read c W _ _ (read_off t h0) _ _))
  · rw [whole_read workM f zero2]
    exact congrArg k0_pay4 (stream.landed_read c W _ _ (read_off t h0) _ _)
theorem runLater_leaves (h0 : ¬First t) (w : Vec F S1024x2048 .bf16) : Leaves arg6 (runLater c t arg2 harg2 arg4 harg4 arg5 harg5 arg6 harg6 x C D h0 w).1 (turnedProduct x C D w) := by
  unfold runLater; dsimp only; sl_unfold_words
  intro f
  simp only [View.readAt_eq_ld, harg2.read_unread, harg4.read_unread, harg5.read_unread, View.ld_unit_zero (S := S1024x2048) (funext zero2), View.ld_unit_zero (S := S1024x128) (funext zero2), (Memref.isWhole_whole _ : (workM).IsWhole).read_unread]
  exact slabs_read arg6 (head (k0_pay5 x w) C D) f
end

end Cert.Queries1

end
-- ==== Proof.Queries1Frame.lean ====
/- The run of the second layer's queries' projection, point by point: before each point the second scratch buffer holds the tile of the column block under
   way, and the first holds the tiles as the stream has them; each point leaves the heads of its product in the result's block. From this the
   whole run follows, and with it that the arguments end as they began. -/
module

public import proofs.«01_k».proof.Proof.Queries1Vals
public import Idealize.ShloMosaic.Lib.Claim

@[expose] public section

set_option maxRecDepth 16384

noncomputable section

namespace Cert.Queries1

open Cert.Kernel12Ideal Cert.Kernel12Ideal.Gen Cert.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The invariant and what each point leaves -/

/-- Before point `k`. -/
abbrev held (c : Dev nD) (k : ℕ) : sProp (Res F) := stateAt stream workM c (V m c main_v0) (tileVal c (V m c main_v0)) k
/-- What point `t` leaves in the result's buffer. -/
def product (c : Dev nD) (t : Fin cfg0.N) : Vec F S8x1024x128 .bf16 :=
  turnedProduct (iblk m c 0 t) (iblk m c 1 t) (iblk m c 2 t) (tileVal c (V m c main_v0) (Ring.bk 2 (t.val / 8)))
/-- The run's data: the arrays as found, the row block and the tables in place, the product, the invariant. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
  Φ t := held m c t.val
  q _ := fullShare
  owed _ := 0

theorem data_A (c : Dev nD) (w : Fin cfg0.W) : (data m 0 c).A w = V m c (Pipeline.arrRef spec0 w) := by dsimp only [data]
theorem state_before (c : Dev nD) (t : Fin cfg0.N) : (data m 0 c).Φ t.castSucc = held m c t.val := by
  dsimp only [data]; simp only [Fin.val_castSucc]
theorem state_after (c : Dev nD) (t : Fin cfg0.N) : (data m 0 c).Φ t.succ = held m c (t.val + 1) := by
  dsimp only [data]; simp only [Fin.val_succ]
theorem leaves_0 (c : Dev nD) (t : Fin cfg0.N) : (data m 0 c).after 0 t = iblk m c 0 t := by dsimp only [data]
theorem leaves_1 (c : Dev nD) (t : Fin cfg0.N) : (data m 0 c).after 1 t = iblk m c 1 t := by dsimp only [data]
theorem leaves_2 (c : Dev nD) (t : Fin cfg0.N) : (data m 0 c).after 2 t = iblk m c 2 t := by dsimp only [data]
theorem leaves_3 (c : Dev nD) (t : Fin cfg0.N) : (data m 0 c).after 3 t = product m c t := by dsimp only [data]
theorem finds_0 (c : Dev nD) (t : Fin cfg0.N) (d) : (data m 0 c).before 0 t d = iblk m c 0 t :=
  ((data m 0 c).before_in_eq_fetched 0 rfl (fun _ => rfl) (fun _ _ _ => rfl)
      (fun t => by rw [leaves_0]; unfold Dat.blockOf iblk; rw [data_A]; try rfl) t d).trans
    (by unfold Dat.fetched Dat.blockOf iblk; rw [data_A]; try rfl)
theorem finds_1 (c : Dev nD) (t : Fin cfg0.N) (d) : (data m 0 c).before 1 t d = iblk m c 1 t :=
  ((data m 0 c).before_in_eq_fetched 1 rfl (fun _ => rfl) (fun _ _ _ => rfl)
      (fun t => by rw [leaves_1]; unfold Dat.blockOf iblk; rw [data_A]; try rfl) t d).trans
    (by unfold Dat.fetched Dat.blockOf iblk; rw [data_A]; try rfl)
theorem finds_2 (c : Dev nD) (t : Fin cfg0.N) (d) : (data m 0 c).before 2 t d = iblk m c 2 t :=
  ((data m 0 c).before_in_eq_fetched 2 rfl (fun _ => rfl) (fun _ _ _ => rfl)
      (fun t => by rw [leaves_2]; unfold Dat.blockOf iblk; rw [data_A]; try rfl) t d).trans
    (by unfold Dat.fetched Dat.blockOf iblk; rw [data_A]; try rfl)

/-! ## One point -/

def pointPre (c : Dev nD) (t : Fin cfg0.N) : sProp (Res F) :=
  iprop((data m 0 c).Φ t.castSucc ∗ (data m 0 c).owesAt () t.castSucc
    ∗ (∃ d, owns (c : Thread nD τ) (xM t) fullShare ((data m 0 c).before 0 t d))
    ∗ (∃ d, owns (c : Thread nD τ) (cosM t) fullShare ((data m 0 c).before 1 t d))
    ∗ (∃ d, owns (c : Thread nD τ) (sinM t) fullShare ((data m 0 c).before 2 t d))
    ∗ (∃ d, owns (c : Thread nD τ) (outM t) fullShare ((data m 0 c).before 3 t d)))
def pointPost (c : Dev nD) (t : Fin cfg0.N) : sProp (Res F) :=
  iprop((data m 0 c).Φ t.succ ∗ (data m 0 c).owesAt () t.succ
    ∗ owns (c : Thread nD τ) (xM t) fullShare ((data m 0 c).after 0 t)
    ∗ owns (c : Thread nD τ) (cosM t) fullShare ((data m 0 c).after 1 t)
    ∗ owns (c : Thread nD τ) (sinM t) fullShare ((data m 0 c).after 2 t)
    ∗ owns (c : Thread nD τ) (outM t) fullShare ((data m 0 c).after 3 t))

theorem points : cfg0.N = 16 := N_0

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [finds_0, finds_1, finds_2]
  rw [leaves_0, leaves_1, leaves_2, leaves_3]
  rw [state_before m c t, state_after m c t]
  unfold Dat.owesAt Pipeline.owesWithin
  rw [show (data m 0 c).owed t.castSucc = 0 from rfl, show (data m 0 c).owed t.succ = 0 from rfl]
  unfold product
  iintro ⟨HΦ, ⟨%Ws, -, HW⟩, ⟨%d0, H0⟩, ⟨%dC, HC⟩, ⟨%dD, HD⟩, H1⟩
  iapply (point stream workM (defs₀ (F := F)) (body t (xM t) (xMWhole t) (cosM t) (cosMWhole t) (sinM t) (sinMWhole t) (outM t) (outMWhole t)) c (reads c (xM t) (cosM t) (sinM t) (iblk m c 0 t) (iblk m c 1 t) (iblk m c 2 t)) (outM t) (V m c main_v0) (tileVal c (V m c main_v0))
    (turnedProduct (iblk m c 0 t) (iblk m c 1 t) (iblk m c 2 t)) (k := t.val) (lt_of_lt_of_eq t.isLt points) (by decide)
    (fun h1 h0 => ⟨_, runStart_leaves c t _ (xMWhole t) _ (cosMWhole t) _ (sinMWhole t) _ (outMWhole t) _ _ _ _ ((first_iff t).mpr h0) ((start_iff t).mpr h1) ((more_iff t).mpr (by omega))⟩)
    (fun h1 h0 h2 => ⟨_, runMiddle_leaves c t _ (xMWhole t) _ (cosMWhole t) _ (sinMWhole t) _ (outMWhole t) _ _ _ _ ((first_iff t).mpr h0) (fun h => h1 ((start_iff t).mp h)) ((more_iff t).mpr h2)⟩)
    (fun h1 h0 h2 => ⟨_, runLast_leaves c t _ (xMWhole t) _ (cosMWhole t) _ (sinMWhole t) _ (outMWhole t) _ _ _ _ ((first_iff t).mpr h0) (fun h => h1 ((start_iff t).mp h)) (fun h => h2 ((more_iff t).mp h))⟩)
    (fun h0 w => ⟨_, runLater_leaves c t _ (xMWhole t) _ (cosMWhole t) _ (sinMWhole t) _ (outMWhole t) _ _ _ (fun h => h0 ((first_iff t).mp h)) w⟩) Ws _)
  isplitl [HΦ]; · iexact HΦ
  isplitl [HW]; · iexact HW
  isplitl [H0 HC HD]
  · unfold reads
    isplitl [H0]; · iexact H0
    isplitl [HC]; · iexact HC
    iexact HD
  isplitl [H1]
  · icases H1 with ⟨%d1, H1⟩
    iexists _; iexact H1
  unfold reads
  iintro ⟨HΦ, ⟨H0, HC, HD⟩, H1, ⟨%W', HW'⟩⟩
  isplitl [HΦ]; · iexact HΦ
  isplitl [HW']
  · iexists W'; isplitr; · ipureintro; exact fun _ _ => Or.inl trivial
    iexact HW'
  isplitl [H0]; · iexact H0
  isplitl [HC]; · iexact HC
  isplitl [HD]; · iexact HD
  iexact H1

theorem body_row (t : Fin cfg0.N) : defs₀ (F := F) .tc cfg0.body (cfg0.bodyArgs t (cfg0.slots t)) = bodyAt0 t := by
  unfold defs₀; rw [Defs.onTc_tc]
theorem body_sound (c : Dev nD) : BodyObligation (data (F := F) m 0 c) (defs₀ (F := F)) Variants.none () Set.univ := fun t => by
  rw [bigSep_W0, bigSep_W0, body_row]
  exact triple_restated (point_sound m c t) rfl .rfl fun _ => .rfl

/-! ## The run -/

theorem cells_list (c : Dev nD) :
    (Pipeline.ownSems0 (Ix := Unit) (Name := ℕ) (U := Pipeline.UD sig nD τ) (Lvl := ℕ) (Val := Elt F) (τ := τ) ownCells c : sProp (Res F))
      = iprop(stream.cellP c 0 ∗ stream.cellP c 1) := by
  simp only [Streamed.cellP, cellL_0, cellL_1]
  rw [Pipeline.ownSems0_eq_of_list c ownCells [0, 1] (by decide) (by decide)]; rfl
theorem streamed_list (c : Dev nD) :
    (bigSep streamed (fun b => ((c : Thread nD τ).loc b) ↦{fullShare} V m c b) : sProp (Res F)) = iprop(stream.heldWhole c (V m c main_v0)) := by
  rw [BI.bigSep_eq_bigSepL_of_eq [main_v0] (by decide) (by decide)]; rfl
theorem region_eq (c : Dev nD) :
    (Pipeline.ΦD ownCells spec0 streamed (V m) c : sProp (Res F))
      = iprop(iprop((∃ d, owns (c : Thread nD τ) stageM fullShare d) ∗ (∃ d, owns (c : Thread nD τ) workM fullShare d)) ∗ (∃ r, prngReg c r) ∗ iprop(stream.cellP c 0 ∗ stream.cellP c 1) ∗ iprop(stream.heldWhole c (V m c main_v0))) := by
  rw [Pipeline.ΦD_eq, scopedRest0_eq, cells_list, streamed_list]; simp only [stageM, workM, owns_whole]; try rfl

theorem region_in (c : Dev nD) : Pipeline.ΦD ownCells spec0 streamed (V m) c ⊢ (data m 0 c).Φ 0 := by
  rw [region_eq, show (data m 0 c).Φ 0 = held m c 0 from rfl]
  exact state_in stream workM c (V m c main_v0) _
theorem region_out (c : Dev nD) : (data m 0 c).Φ (Fin.last cfg0.N) ⊢ Pipeline.ΦD ownCells spec0 streamed (V m) c := by
  rw [region_eq, show (data m 0 c).Φ (Fin.last cfg0.N) = held m c grid0.N from rfl]
  exact state_out stream workM c (V m c main_v0) _ N_0

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array as the data says, and every counter at zero. -/
theorem run_quiescent : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownCells defs₀ Variants.none ownCells_facts streamed streamed_sub m ρ main
    (hbody := fun c => (body_sound m c).loose) (hshare := fun c => (data m 0 c).share_full fun _ => rfl)
    (howed := fun _ _ => rfl) (V := V m) (hmain := main_prefix m Variants.none) (hA := data_A m)
    (hin := region_in m) (hout := region_out m)
theorem run_main : θ_run defs (onTc (τ := τ) (main (F := F))) (s₀ m ρ) (Pipeline.FramePost cfgs (data m) 0 (V m)) :=
  (θ_run defs _ _).mono (fun _ h => h.1) (run_quiescent m ρ)

/-- The arguments end as they began, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c),
      ((h.1 c).1 1).trans (((data m 0 c).arrAt_in 1 rfl _).trans ((data_A m c 1).trans (V_main_arg2 m c))),
      ((h.1 c).1 2).trans (((data m 0 c).arrAt_in 2 rfl _).trans ((data_A m c 2).trans (V_main_arg3 m c)))⟩, h.2⟩) (run_quiescent m ρ)

end Cert.Queries1

end
-- ==== Proof.Queries1Value.lean ====
/- The result of the second layer's queries' projection as the kernel leaves it: every block is its own heads, and the blocks cover the array. -/
module

public import proofs.«01_k».proof.Proof.Queries1Frame
public import proofs.«01_k».proof.Proof.Heads

@[expose] public section

set_option maxRecDepth 16384

noncomputable section

namespace Cert.Queries1

open Cert.Kernel12Ideal Cert.Kernel12Ideal.Gen Cert.Proj Cert.Lru Cert.Heads
open Idealize.ShloMosaic Idealize.ShloMosaic.TcCoe Idealize.SL.Sem

variable (m : (ℓ : Loc nD τ sig) → Buf (Elt Ideal) ℓ) (ρ : Dev nD → PrngReg)

/-- The kernel's arguments as launched. -/
def kargs (c : Dev nD) : HeadArgs where
  x := m ((c : Thread nD τ).loc main_arg0)
  w := m ((c : Thread nD τ).loc main_arg1)
  cos := m ((c : Thread nD τ).loc main_arg2)
  sin := m ((c : Thread nD τ).loc main_arg3)

/-- The array every result block is cut from. -/
def target (A : HeadArgs) : Arr ⟨3, ![16, 8192, 128]⟩ := rotated 1 0 16 (by omega) A

theorem entry_weight (c : Dev nD) (l : Fin 2) (q : Fin 16464) (k : Fin 2048) :
    V m c main_v0 (ix3 l q k) = (kargs m c).w (ix3 l k q) := by
  entry_read; pointwise; rfl

/-- A product's entry: the row of the first block against the row of the tile. -/
theorem pay_at (x : FVec Ideal S1024x2048 .bf16) (w : FVec Ideal S1024x2048 .bf16) (s l : Fin 1024) :
    k0_pay5 (F := Ideal) x w (ix2 s l) = ∑ k : Fin 2048, x (ix2 s k) * w (ix2 l k) := by
  pointwise [k0_pay5]

theorem tile_at (c : Dev nD) (W : Stream.Held (τ := τ) Ideal c weightM) (b : Fin 2) (l : Fin 1024) (k : Fin 2048) :
    tileVal (F := Ideal) c W b (ix2 l k) = W (ix3 1 ⟨1024 * b.val + 0 + l.val, by have := b.isLt; omega⟩ k) := by
  refine Eq.trans ?_ (tileBlock_at stream c W b l k)
  unfold tileVal; pointwise [k0_pay4]

/-! ## The blocks of a grid point: row block `t mod 8`, column block `t / 8` -/

theorem point_lt (t : Fin cfg0.N) : t.val < 16 := lt_of_lt_of_eq t.isLt N_0
theorem idx_0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx_2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

/-- Row `s` of the block of point `t`. -/
def row (t : Fin cfg0.N) (s : Fin 1024) : Fin 8192 := ⟨t.val % 8 * 1024 + s.val, by omega⟩

theorem blk_0 (c : Dev nD) (t : Fin cfg0.N) (s : Fin 1024) (l : Fin 2048) :
    iblk m c 0 t (ix2 s l) = (kargs m c).x (ix2 (row t s) l) := by
  unfold iblk
  rw [View.read_apply]
  show V m c main_arg0 _ = _
  rw [V_main_arg0]
  show (kargs m c).x _ = _
  congr 1
  funext a
  apply Fin.ext
  match a with
  | ⟨0, _⟩ => show win0_0.index t 0 * 1024 + 1 * s.val = t.val % 8 * 1024 + s.val; rw [(idx_0 t).1]; omega
  | ⟨1, _⟩ => show win0_0.index t 1 * 2048 + 1 * l.val = l.val; rw [(idx_0 t).2]; omega

theorem blk_1 (c : Dev nD) (t : Fin cfg0.N) (s : Fin 1024) (l : Fin 128) :
    iblk m c 1 t (ix2 s l) = (kargs m c).cos (ix2 (row t s) l) := by
  unfold iblk
  rw [View.read_apply]
  show V m c main_arg2 _ = _
  rw [V_main_arg2]
  show (kargs m c).cos _ = _
  congr 1
  funext a
  apply Fin.ext
  match a with
  | ⟨0, _⟩ => show win0_1.index t 0 * 1024 + 1 * s.val = t.val % 8 * 1024 + s.val; rw [(idx_1 t).1]; omega
  | ⟨1, _⟩ => show win0_1.index t 1 * 128 + 1 * l.val = l.val; rw [(idx_1 t).2]; omega

theorem blk_2 (c : Dev nD) (t : Fin cfg0.N) (s : Fin 1024) (l : Fin 128) :
    iblk m c 2 t (ix2 s l) = (kargs m c).sin (ix2 (row t s) l) := by
  unfold iblk
  rw [View.read_apply]
  show V m c main_arg3 _ = _
  rw [V_main_arg3]
  show (kargs m c).sin _ = _
  congr 1
  funext a
  apply Fin.ext
  match a with
  | ⟨0, _⟩ => show win0_2.index t 0 * 1024 + 1 * s.val = t.val % 8 * 1024 + s.val; rw [(idx_2 t).1]; omega
  | ⟨1, _⟩ => show win0_2.index t 1 * 128 + 1 * l.val = l.val; rw [(idx_2 t).2]; omega

/-- A column of the product at point `t`. -/
theorem product_column (c : Dev nD) (t : Fin cfg0.N) (s l : Fin 1024) (q : Fin 16464) (hq : q.val = 0 + (t.val / 8 * 1024 + l.val)) :
    k0_pay5 (F := Ideal) (iblk m c 0 t) (tileVal c (V m c main_v0) (Ring.bk 2 (t.val / 8))) (ix2 s l) = column (kargs m c).toProjArgs 1 (row t s) q := by
  have hb : (Ring.bk 2 (t.val / 8)).val = t.val / 8 := by
    have := point_lt t; show t.val / 8 % 2 = t.val / 8; omega
  refine (pay_at _ _ s l).trans ?_
  unfold column
  refine Finset.sum_congr rfl fun k _ => ?_
  rw [blk_0, tile_at, entry_weight]
  refine congrArg (fun q => (kargs m c).x (ix2 (row t s) k) * (kargs m c).w (ix3 1 k q)) (Fin.ext ?_)
  show 1024 * (Ring.bk 2 (t.val / 8)).val + 0 + l.val = q.val
  rw [hb, hq]; omega

/-- What point `t` leaves, entry by entry. -/
theorem product_at (c : Dev nD) (t : Fin cfg0.N) (h : Fin 8) (s : Fin 1024) (l : Fin 128) :
    product m c t (ix3 h s l)
      = target (kargs m c) (ix3 ⟨t.val / 8 * 8 + h.val, by have := point_lt t; omega⟩ (row t s) l) := by
  unfold product turnedProduct
  refine (heads_at _ _ _ h s l).trans ?_
  rw [blk_1, blk_2]
  unfold target rotated
  refine congrArg₂ (· + ·) (congrArg (· * _) (product_column m c t s _ _ ?_)) (congrArg (· * _) (product_column m c t s _ _ ?_))
  · show 0 + (128 * (t.val / 8 * 8 + h.val) + l.val) = 0 + (t.val / 8 * 1024 + (128 * h.val + l.val)); omega
  · show 0 + (128 * (t.val / 8 * 8 + h.val) + (l.val + 64) % 128) = 0 + (t.val / 8 * 1024 + (128 * h.val + (l.val + 64) % 128)); omega

theorem written (c : Dev nD) (t : Fin cfg0.N) (_ : (cfg0.win 3).flush t = true) :
    (data m 0 c).flushed 3 t = ((cfg0.win 3).blk t).view.read (Elt Ideal) (target (kargs m c)) := by
  show (cfg0.win 3).cut (grid0.coords t) ((data m 0 c).after 3 t) = _
  rw [leaves_3]
  funext j
  rw [View.read_apply]
  obtain ⟨h, s, l, rfl⟩ : ∃ (h : Fin 8) (s : Fin 1024) (l : Fin 128), j = ix3 h s l :=
    ⟨j 0, j 1, j 2, by funext a; match a with | ⟨0, _⟩ => rfl | ⟨1, _⟩ => rfl | ⟨2, _⟩ => rfl⟩
  refine Eq.trans (product_at m c t h s l) ?_
  refine congrArg (target (kargs m c)) ?_
  funext a
  apply Fin.ext
  match a with
  | ⟨0, _⟩ => show t.val / 8 * 8 + h.val = win0_3.index t 0 * 8 + 1 * h.val; rw [(idx_3 t).1]; omega
  | ⟨1, _⟩ => show t.val % 8 * 1024 + s.val = win0_3.index t 1 * 1024 + 1 * s.val; rw [(idx_3 t).2.1]; omega
  | ⟨2, _⟩ => show l.val = win0_3.index t 2 * 128 + 1 * l.val; rw [(idx_3 t).2.2]; omega

/-- The blocks cover the array. -/
theorem final (c : Dev nD) : (data (F := Ideal) m 0 c).arrAt 3 cfg0.N = target (kargs m c) :=
  (data m 0 c).arrAt_eq_of_cover 3 (target (kargs m c)) (written m c) fun i => by
    have h0 : (i 0 : Nat) < 16 := (i 0).isLt
    have h1 : (i 1 : Nat) < 8192 := (i 1).isLt
    have h2 : (i 2 : Nat) < 128 := (i 2).isLt
    have ht : (i 0 : Nat) / 8 * 8 + (i 1 : Nat) / 1024 < cfg0.N := by rw [show cfg0.N = 16 from N_0]; omega
    refine ⟨⟨_, ht⟩, flush0_3 _, ?_⟩
    show i ∈ ((View.whole main_v1).slice (win0_3.rect ⟨_, ht⟩)).set
    rw [View.set_slice_whole, Rect.mem_set_unit]
    intro a
    match a with
    | ⟨0, _⟩ =>
      show win0_3.index ⟨_, ht⟩ 0 * 8 ≤ (i 0 : Nat) ∧ (i 0 : Nat) < win0_3.index ⟨_, ht⟩ 0 * 8 + 8
      rw [(idx_3 ⟨_, ht⟩).1]; dsimp only; omega
    | ⟨1, _⟩ =>
      show win0_3.index ⟨_, ht⟩ 1 * 1024 ≤ (i 1 : Nat) ∧ (i 1 : Nat) < win0_3.index ⟨_, ht⟩ 1 * 1024 + 1024
      rw [(idx_3 ⟨_, ht⟩).2.1]; dsimp only; omega
    | ⟨2, _⟩ =>
      show win0_3.index ⟨_, ht⟩ 2 * 128 ≤ (i 2 : Nat) ∧ (i 2 : Nat) < win0_3.index ⟨_, ht⟩ 2 * 128 + 128
      rw [(idx_3 ⟨_, ht⟩).2.2]; omega

/-- The run: the result at the target of the arguments, the arguments unchanged. -/
theorem run_target : θ_run defs (onTc (τ := τ) (main (F := Ideal))) ⟨m, fun _ => 0, ρ⟩ fun r => ∀ c : Dev nD,
      r.2.mem ((c : Thread nD τ).loc main_v1) = target (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c),
      ((h c).1 1).trans (((data m 0 c).arrAt_in 1 rfl _).trans ((data_A m c 1).trans (V_main_arg2 m c))),
      ((h c).1 2).trans (((data m 0 c).arrAt_in 2 rfl _).trans ((data_A m c 2).trans (V_main_arg3 m c)))⟩)
    (run_main m ρ)

end Cert.Queries1

end
-- ==== Proof.Queries1Claims.lean ====
/- The claims of the second layer's queries' projection: the frames of its three programs, and the equality of the results. -/
module

public import proofs.«01_k».proof.Defs
public import proofs.«01_k».proof.Proof.Queries1Value
public import proofs.«01_k».proof.Proof.Gen.Kernel12
public import proofs.«01_k».proof.Proof.Gen.Reference12Ideal.Run
public import Idealize.ShloMosaic.Lib.Quiescent
public import Idealize.ShloMosaic.Lib.Claim

@[expose] public section

set_option maxRecDepth 16384

noncomputable section

namespace Cert.Queries1

open Idealize.ShloMosaic Idealize.ShloMosaic.TcCoe Idealize.SL.Sem Cert.Proj Cert.Lru Cert.Heads

/-! ## The reference -/

section
open Cert.Reference12Ideal

variable (m : (ℓ : Loc nD τ sig) → Buf (Elt Ideal) ℓ) (ρ : Dev nD → PrngReg)

/-- The reference's arguments as launched. -/
def rargs (c : Dev nD) : HeadArgs where
  x := m ((c : Thread nD τ).loc main_arg0)
  w := m ((c : Thread nD τ).loc main_arg1)
  cos := m ((c : Thread nD τ).loc main_arg2)
  sin := m ((c : Thread nD τ).loc main_arg3)

/-- The reference's run: the result at the target of its arguments. -/
theorem ref_target : θ_run defs (onTc (τ := τ) (main (F := Ideal))) ⟨m, fun _ => 0, ρ⟩ fun r => ∀ c : Dev nD,
      r.2.mem ((c.tc : Thread nD τ).loc main_v26) = target (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  funext i
  obtain ⟨h, r, l, rfl⟩ : ∃ (h : Fin 16) (r : Fin 8192) (l : Fin 128), i = ix3 h r l :=
    ⟨i 0, i 1, i 2, by funext a; match a with | ⟨0, _⟩ => rfl | ⟨1, _⟩ => rfl | ⟨2, _⟩ => rfl⟩
  pointwise
  exact rotated_halves 1 (rargs m c) h r l

end

/-! ## The frames -/

/-- The two printings of the kernel have the same bodies, … -/
theorem bodies_eq {F : FTy → Type} [FloatOps F] : @Cert.Kernel12.defs₀ F _ _ = @Cert.Kernel12Ideal.defs₀ F _ _ := by
  unfold Cert.Kernel12.defs₀ Cert.Kernel12Ideal.defs₀
  refine congrArg Defs.onTc (funext fun l => funext fun p => ?_)
  match l, p with
  | 0, (t, s) => rfl
/-- … so the same definitions. -/
theorem defs_eq {F : FTy → Type} [FloatOps F] : @Cert.Kernel12.defs F _ _ = @Cert.Kernel12Ideal.defs F _ _ :=
  congrArg (Pipeline.defs Cert.Kernel12Ideal.pcfgs) bodies_eq

theorem frame : Cert.quiescent_Kernel12 := fun m ρ _ => by
  rw [defs_eq]; exact frame_any (F := Bits) m ρ

theorem frameIdeal : Cert.quiescent_Kernel12Ideal := fun m ρ _ => frame_any (F := Ideal) m ρ

theorem frameRef : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run m ρ)

/-- Both programs end at the target of arguments that agree. -/
theorem algebraic : Cert.algebraic_Kernel12Ideal_Reference12Ideal := by
  intro m ρ m' ρ' _ hagree
  refine ⟨fun c => target (kargs m c), run_target m ρ, ?_⟩
  have h : ∀ c, rargs m' c = kargs m c := fun c => by
    obtain ⟨h0, h1, h2, h3⟩ := hagree c
    unfold rargs kargs
    rw [h0, h1, h2, h3]
  exact (θ_run Cert.Reference12Ideal.defs _ _).mono (fun _ r c => ⟨(r c).1.trans (congrArg target (h c)), (r c).2⟩) (ref_target m' ρ')

end Cert.Queries1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Reference5Ideal
public import proofs.«01_k».proof.Proof.Gen.Reference5Ideal.Run
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Reference7Ideal
public import proofs.«01_k».proof.Proof.Gen.Reference7Ideal.Run
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Reference8Ideal
public import proofs.«01_k».proof.Proof.Gen.Reference8Ideal.Run
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Frame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Reference9Ideal
public import proofs.«01_k».proof.Proof.Gen.Reference9Ideal.Run
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Frame
public import proofs.«01_k».proof.Proof.Gen.Reference10Ideal
public import proofs.«01_k».proof.Proof.Gen.Reference10Ideal.Run
public import proofs.«01_k».proof.Proof.Gen.Kernel11Ideal
public import proofs.«01_k».proof.Proof.Gen.Kernel12Ideal
public import proofs.«01_k».proof.Proof.Gen.Kernel11Ideal.Skeleton
public import proofs.«01_k».proof.Proof.Gen.Kernel12Ideal.Skeleton
public import proofs.«01_k».proof.Proof.Gen.Kernel11Ideal.Launch
public import proofs.«01_k».proof.Proof.Gen.Kernel12Ideal.Launch
public import proofs.«01_k».proof.Proof.Gen.Kernel11Ideal.Frame
public import proofs.«01_k».proof.Proof.Gen.Kernel12Ideal.Frame
public import proofs.«01_k».proof.Proof.Gen.Kernel11
public import proofs.«01_k».proof.Proof.Gen.Kernel12
public import proofs.«01_k».proof.Proof.Gen.Kernel11.Skeleton
public import proofs.«01_k».proof.Proof.Gen.Kernel12.Skeleton
public import proofs.«01_k».proof.Proof.Gen.Kernel11.Launch
public import proofs.«01_k».proof.Proof.Gen.Kernel12.Launch
public import proofs.«01_k».proof.Proof.Gen.Kernel11.Frame
public import proofs.«01_k».proof.Proof.Gen.Kernel12.Frame
public import proofs.«01_k».proof.Proof.Gen.Reference11Ideal
public import proofs.«01_k».proof.Proof.Gen.Reference12Ideal
public import proofs.«01_k».proof.Proof.Gen.Reference11Ideal.Run
public import proofs.«01_k».proof.Proof.Gen.Reference12Ideal.Run
public import Idealize.ShloMosaic.Adequacy
public import proofs.«01_k».proof.Proof.Claims
public import proofs.«01_k».proof.Proof.OutProjClaims
public import proofs.«01_k».proof.Proof.DownClaims
public import proofs.«01_k».proof.Proof.GatesClaims
public import proofs.«01_k».proof.Proof.InputsClaims
public import proofs.«01_k».proof.Proof.GeluClaims
public import proofs.«01_k».proof.Proof.Gates1Claims
public import proofs.«01_k».proof.Proof.Inputs1Claims
public import proofs.«01_k».proof.Proof.Gelu1Claims
public import proofs.«01_k».proof.Proof.UpClaims
public import proofs.«01_k».proof.Proof.QueriesClaims
public import proofs.«01_k».proof.Proof.Queries1Claims
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  Cert.Lru.frame, Cert.Lru.frameIdeal, Cert.Lru.frameRef,
  Cert.OutProj.frame, Cert.OutProj.frameIdeal, Cert.OutProj.frameRef,
  Cert.Down.frame, Cert.Down.frameIdeal, Cert.Down.frameRef,
  Cert.Gates.frame, Cert.Gates.frameIdeal, Cert.Gates.frameRef,
  Cert.Inputs.frame, Cert.Inputs.frameIdeal, Cert.Inputs.frameRef,
  Cert.Gelu.frame, Cert.Gelu.frameIdeal, Cert.Gelu.frameRef,
  Cert.Gates1.frame, Cert.Gates1.frameIdeal, Cert.Gates1.frameRef,
  Cert.Inputs1.frame, Cert.Inputs1.frameIdeal, Cert.Inputs1.frameRef,
  Cert.Gelu1.frame, Cert.Gelu1.frameIdeal, Cert.Gelu1.frameRef,
  Cert.Up.frame, Cert.Up.frameIdeal, Cert.Up.frameRef,
  Cert.Queries.frame, Cert.Queries.frameIdeal, Cert.Queries.frameRef,
  Cert.Queries1.frame, Cert.Queries1.frameIdeal, Cert.Queries1.frameRef,
  trivial, Cert.Lru.algebraic, trivial, Cert.OutProj.algebraic, trivial, Cert.Down.algebraic, trivial, Cert.Gates.algebraic, trivial, Cert.Inputs.algebraic, trivial, Cert.Gelu.algebraic, trivial, Cert.Gates1.algebraic, trivial, Cert.Inputs1.algebraic, trivial, Cert.Gelu1.algebraic, trivial, Cert.Up.algebraic, trivial, Cert.Queries.algebraic, trivial, Cert.Queries1.algebraic⟩

end Cert.Proof

end
